-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_merge_inputs_finite [hPre_merge_inputs_finite : Cert.Pre_merge_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_merge_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_merge_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_merge_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_merge_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_merge_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_merge_inputs_finite [hPre_merge_inputs_finite : Cert.Pre_merge_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_merge_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_merge_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_merge_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_merge_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_merge_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_FfOutDx (m : (ℓ : Loc Cert.FfOutDx.nD Cert.FfOutDx.τ Cert.FfOutDx.sig) → Buf (Elt Bits) ℓ) : Prop :=
  True

def Pre_FfOutDxIdeal (m : (ℓ : Loc Cert.FfOutDxIdeal.nD Cert.FfOutDxIdeal.τ Cert.FfOutDxIdeal.sig) → Buf (Elt Ideal) ℓ) : Prop :=
  True

def Pre_FfOutDxRefIdeal (m : (ℓ : Loc Cert.FfOutDxRefIdeal.nD Cert.FfOutDxRefIdeal.τ Cert.FfOutDxRefIdeal.sig) → Buf (Elt Ideal) ℓ) : Prop :=
  True

def Pre_FfInDx (m : (ℓ : Loc Cert.FfInDx.nD Cert.FfInDx.τ Cert.FfInDx.sig) → Buf (Elt Bits) ℓ) : Prop :=
  True

def Pre_FfInDxIdeal (m : (ℓ : Loc Cert.FfInDxIdeal.nD Cert.FfInDxIdeal.τ Cert.FfInDxIdeal.sig) → Buf (Elt Ideal) ℓ) : Prop :=
  True

def Pre_FfInDxRefIdeal (m : (ℓ : Loc Cert.FfInDxRefIdeal.nD Cert.FfInDxRefIdeal.τ Cert.FfInDxRefIdeal.sig) → Buf (Elt Ideal) ℓ) : Prop :=
  True

def Pre_FfInDw (m : (ℓ : Loc Cert.FfInDw.nD Cert.FfInDw.τ Cert.FfInDw.sig) → Buf (Elt Bits) ℓ) : Prop :=
  True

def Pre_FfInDwIdeal (m : (ℓ : Loc Cert.FfInDwIdeal.nD Cert.FfInDwIdeal.τ Cert.FfInDwIdeal.sig) → Buf (Elt Ideal) ℓ) : Prop :=
  True

def Pre_FfInDwRefIdeal (m : (ℓ : Loc Cert.FfInDwRefIdeal.nD Cert.FfInDwRefIdeal.τ Cert.FfInDwRefIdeal.sig) → Buf (Elt Ideal) ℓ) : Prop :=
  True

def Pre_FfOutDw (m : (ℓ : Loc Cert.FfOutDw.nD Cert.FfOutDw.τ Cert.FfOutDw.sig) → Buf (Elt Bits) ℓ) : Prop :=
  True

def Pre_FfOutDwIdeal (m : (ℓ : Loc Cert.FfOutDwIdeal.nD Cert.FfOutDwIdeal.τ Cert.FfOutDwIdeal.sig) → Buf (Elt Ideal) ℓ) : Prop :=
  True

def Pre_FfOutDwIdeal_ff_out_dw_inputs_finite [hPre_ff_out_dw_inputs_finite : Cert.Pre_ff_out_dw_inputs_finite.Facts] (m : (ℓ : Loc Cert.FfOutDwIdeal.nD Cert.FfOutDwIdeal.τ Cert.FfOutDwIdeal.sig) → Buf (Elt Ideal) ℓ) : Prop :=
  ∀ c : Dev Cert.FfOutDwIdeal.nD,
    (Cert.Pre_ff_out_dw_inputs_finite.fn (F := Ideal) (m ((c.tc : Thread Cert.FfOutDwIdeal.nD Cert.FfOutDwIdeal.τ).loc Cert.FfOutDwIdeal.main_arg0)) (m ((c.tc : Thread Cert.FfOutDwIdeal.nD Cert.FfOutDwIdeal.τ).loc Cert.FfOutDwIdeal.main_arg1)) (m ((c.tc : Thread Cert.FfOutDwIdeal.nD Cert.FfOutDwIdeal.τ).loc Cert.FfOutDwIdeal.main_arg2)) (m ((c.tc : Thread Cert.FfOutDwIdeal.nD Cert.FfOutDwIdeal.τ).loc Cert.FfOutDwIdeal.main_arg3))).1 = (fun _ => 1#1)
    ∧ (Cert.Pre_ff_out_dw_inputs_finite.fn (F := Ideal) (m ((c.tc : Thread Cert.FfOutDwIdeal.nD Cert.FfOutDwIdeal.τ).loc Cert.FfOutDwIdeal.main_arg0)) (m ((c.tc : Thread Cert.FfOutDwIdeal.nD Cert.FfOutDwIdeal.τ).loc Cert.FfOutDwIdeal.main_arg1)) (m ((c.tc : Thread Cert.FfOutDwIdeal.nD Cert.FfOutDwIdeal.τ).loc Cert.FfOutDwIdeal.main_arg2)) (m ((c.tc : Thread Cert.FfOutDwIdeal.nD Cert.FfOutDwIdeal.τ).loc Cert.FfOutDwIdeal.main_arg3))).2.1 = (fun _ => 1#1)
    ∧ (Cert.Pre_ff_out_dw_inputs_finite.fn (F := Ideal) (m ((c.tc : Thread Cert.FfOutDwIdeal.nD Cert.FfOutDwIdeal.τ).loc Cert.FfOutDwIdeal.main_arg0)) (m ((c.tc : Thread Cert.FfOutDwIdeal.nD Cert.FfOutDwIdeal.τ).loc Cert.FfOutDwIdeal.main_arg1)) (m ((c.tc : Thread Cert.FfOutDwIdeal.nD Cert.FfOutDwIdeal.τ).loc Cert.FfOutDwIdeal.main_arg2)) (m ((c.tc : Thread Cert.FfOutDwIdeal.nD Cert.FfOutDwIdeal.τ).loc Cert.FfOutDwIdeal.main_arg3))).2.2.1 = (fun _ => 1#1)
    ∧ (Cert.Pre_ff_out_dw_inputs_finite.fn (F := Ideal) (m ((c.tc : Thread Cert.FfOutDwIdeal.nD Cert.FfOutDwIdeal.τ).loc Cert.FfOutDwIdeal.main_arg0)) (m ((c.tc : Thread Cert.FfOutDwIdeal.nD Cert.FfOutDwIdeal.τ).loc Cert.FfOutDwIdeal.main_arg1)) (m ((c.tc : Thread Cert.FfOutDwIdeal.nD Cert.FfOutDwIdeal.τ).loc Cert.FfOutDwIdeal.main_arg2)) (m ((c.tc : Thread Cert.FfOutDwIdeal.nD Cert.FfOutDwIdeal.τ).loc Cert.FfOutDwIdeal.main_arg3))).2.2.2 = (fun _ => 1#1)

def Pre_FfOutDwRefIdeal (m : (ℓ : Loc Cert.FfOutDwRefIdeal.nD Cert.FfOutDwRefIdeal.τ Cert.FfOutDwRefIdeal.sig) → Buf (Elt Ideal) ℓ) : Prop :=
  True

def Pre_FfOutDwRefIdeal_ff_out_dw_inputs_finite [hPre_ff_out_dw_inputs_finite : Cert.Pre_ff_out_dw_inputs_finite.Facts] (m : (ℓ : Loc Cert.FfOutDwRefIdeal.nD Cert.FfOutDwRefIdeal.τ Cert.FfOutDwRefIdeal.sig) → Buf (Elt Ideal) ℓ) : Prop :=
  ∀ c : Dev Cert.FfOutDwRefIdeal.nD,
    (Cert.Pre_ff_out_dw_inputs_finite.fn (F := Ideal) (m ((c.tc : Thread Cert.FfOutDwRefIdeal.nD Cert.FfOutDwRefIdeal.τ).loc Cert.FfOutDwRefIdeal.main_arg0)) (m ((c.tc : Thread Cert.FfOutDwRefIdeal.nD Cert.FfOutDwRefIdeal.τ).loc Cert.FfOutDwRefIdeal.main_arg1)) (m ((c.tc : Thread Cert.FfOutDwRefIdeal.nD Cert.FfOutDwRefIdeal.τ).loc Cert.FfOutDwRefIdeal.main_arg2)) (m ((c.tc : Thread Cert.FfOutDwRefIdeal.nD Cert.FfOutDwRefIdeal.τ).loc Cert.FfOutDwRefIdeal.main_arg3))).1 = (fun _ => 1#1)
    ∧ (Cert.Pre_ff_out_dw_inputs_finite.fn (F := Ideal) (m ((c.tc : Thread Cert.FfOutDwRefIdeal.nD Cert.FfOutDwRefIdeal.τ).loc Cert.FfOutDwRefIdeal.main_arg0)) (m ((c.tc : Thread Cert.FfOutDwRefIdeal.nD Cert.FfOutDwRefIdeal.τ).loc Cert.FfOutDwRefIdeal.main_arg1)) (m ((c.tc : Thread Cert.FfOutDwRefIdeal.nD Cert.FfOutDwRefIdeal.τ).loc Cert.FfOutDwRefIdeal.main_arg2)) (m ((c.tc : Thread Cert.FfOutDwRefIdeal.nD Cert.FfOutDwRefIdeal.τ).loc Cert.FfOutDwRefIdeal.main_arg3))).2.1 = (fun _ => 1#1)
    ∧ (Cert.Pre_ff_out_dw_inputs_finite.fn (F := Ideal) (m ((c.tc : Thread Cert.FfOutDwRefIdeal.nD Cert.FfOutDwRefIdeal.τ).loc Cert.FfOutDwRefIdeal.main_arg0)) (m ((c.tc : Thread Cert.FfOutDwRefIdeal.nD Cert.FfOutDwRefIdeal.τ).loc Cert.FfOutDwRefIdeal.main_arg1)) (m ((c.tc : Thread Cert.FfOutDwRefIdeal.nD Cert.FfOutDwRefIdeal.τ).loc Cert.FfOutDwRefIdeal.main_arg2)) (m ((c.tc : Thread Cert.FfOutDwRefIdeal.nD Cert.FfOutDwRefIdeal.τ).loc Cert.FfOutDwRefIdeal.main_arg3))).2.2.1 = (fun _ => 1#1)
    ∧ (Cert.Pre_ff_out_dw_inputs_finite.fn (F := Ideal) (m ((c.tc : Thread Cert.FfOutDwRefIdeal.nD Cert.FfOutDwRefIdeal.τ).loc Cert.FfOutDwRefIdeal.main_arg0)) (m ((c.tc : Thread Cert.FfOutDwRefIdeal.nD Cert.FfOutDwRefIdeal.τ).loc Cert.FfOutDwRefIdeal.main_arg1)) (m ((c.tc : Thread Cert.FfOutDwRefIdeal.nD Cert.FfOutDwRefIdeal.τ).loc Cert.FfOutDwRefIdeal.main_arg2)) (m ((c.tc : Thread Cert.FfOutDwRefIdeal.nD Cert.FfOutDwRefIdeal.τ).loc Cert.FfOutDwRefIdeal.main_arg3))).2.2.2 = (fun _ => 1#1)

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwIdeal_out_proj_dw_inputs_finite [hPre_out_proj_dw_inputs_finite : Cert.Pre_out_proj_dw_inputs_finite.Facts] (m : (ℓ : Loc Cert.OutProjDwIdeal.nD Cert.OutProjDwIdeal.τ Cert.OutProjDwIdeal.sig) → Buf (Elt Ideal) ℓ) : Prop :=
  ∀ c : Dev Cert.OutProjDwIdeal.nD,
    (Cert.Pre_out_proj_dw_inputs_finite.fn (F := Ideal) (m ((c.tc : Thread Cert.OutProjDwIdeal.nD Cert.OutProjDwIdeal.τ).loc Cert.OutProjDwIdeal.main_arg0)) (m ((c.tc : Thread Cert.OutProjDwIdeal.nD Cert.OutProjDwIdeal.τ).loc Cert.OutProjDwIdeal.main_arg1)) (m ((c.tc : Thread Cert.OutProjDwIdeal.nD Cert.OutProjDwIdeal.τ).loc Cert.OutProjDwIdeal.main_arg2)) (m ((c.tc : Thread Cert.OutProjDwIdeal.nD Cert.OutProjDwIdeal.τ).loc Cert.OutProjDwIdeal.main_arg3))).1 = (fun _ => 1#1)
    ∧ (Cert.Pre_out_proj_dw_inputs_finite.fn (F := Ideal) (m ((c.tc : Thread Cert.OutProjDwIdeal.nD Cert.OutProjDwIdeal.τ).loc Cert.OutProjDwIdeal.main_arg0)) (m ((c.tc : Thread Cert.OutProjDwIdeal.nD Cert.OutProjDwIdeal.τ).loc Cert.OutProjDwIdeal.main_arg1)) (m ((c.tc : Thread Cert.OutProjDwIdeal.nD Cert.OutProjDwIdeal.τ).loc Cert.OutProjDwIdeal.main_arg2)) (m ((c.tc : Thread Cert.OutProjDwIdeal.nD Cert.OutProjDwIdeal.τ).loc Cert.OutProjDwIdeal.main_arg3))).2.1 = (fun _ => 1#1)
    ∧ (Cert.Pre_out_proj_dw_inputs_finite.fn (F := Ideal) (m ((c.tc : Thread Cert.OutProjDwIdeal.nD Cert.OutProjDwIdeal.τ).loc Cert.OutProjDwIdeal.main_arg0)) (m ((c.tc : Thread Cert.OutProjDwIdeal.nD Cert.OutProjDwIdeal.τ).loc Cert.OutProjDwIdeal.main_arg1)) (m ((c.tc : Thread Cert.OutProjDwIdeal.nD Cert.OutProjDwIdeal.τ).loc Cert.OutProjDwIdeal.main_arg2)) (m ((c.tc : Thread Cert.OutProjDwIdeal.nD Cert.OutProjDwIdeal.τ).loc Cert.OutProjDwIdeal.main_arg3))).2.2.1 = (fun _ => 1#1)
    ∧ (Cert.Pre_out_proj_dw_inputs_finite.fn (F := Ideal) (m ((c.tc : Thread Cert.OutProjDwIdeal.nD Cert.OutProjDwIdeal.τ).loc Cert.OutProjDwIdeal.main_arg0)) (m ((c.tc : Thread Cert.OutProjDwIdeal.nD Cert.OutProjDwIdeal.τ).loc Cert.OutProjDwIdeal.main_arg1)) (m ((c.tc : Thread Cert.OutProjDwIdeal.nD Cert.OutProjDwIdeal.τ).loc Cert.OutProjDwIdeal.main_arg2)) (m ((c.tc : Thread Cert.OutProjDwIdeal.nD Cert.OutProjDwIdeal.τ).loc Cert.OutProjDwIdeal.main_arg3))).2.2.2 = (fun _ => 1#1)

def Pre_OutProjDwRefIdeal (m : (ℓ : Loc Cert.OutProjDwRefIdeal.nD Cert.OutProjDwRefIdeal.τ Cert.OutProjDwRefIdeal.sig) → Buf (Elt Ideal) ℓ) : Prop :=
  True

def Pre_OutProjDwRefIdeal_out_proj_dw_inputs_finite [hPre_out_proj_dw_inputs_finite : Cert.Pre_out_proj_dw_inputs_finite.Facts] (m : (ℓ : Loc Cert.OutProjDwRefIdeal.nD Cert.OutProjDwRefIdeal.τ Cert.OutProjDwRefIdeal.sig) → Buf (Elt Ideal) ℓ) : Prop :=
  ∀ c : Dev Cert.OutProjDwRefIdeal.nD,
    (Cert.Pre_out_proj_dw_inputs_finite.fn (F := Ideal) (m ((c.tc : Thread Cert.OutProjDwRefIdeal.nD Cert.OutProjDwRefIdeal.τ).loc Cert.OutProjDwRefIdeal.main_arg0)) (m ((c.tc : Thread Cert.OutProjDwRefIdeal.nD Cert.OutProjDwRefIdeal.τ).loc Cert.OutProjDwRefIdeal.main_arg1)) (m ((c.tc : Thread Cert.OutProjDwRefIdeal.nD Cert.OutProjDwRefIdeal.τ).loc Cert.OutProjDwRefIdeal.main_arg2)) (m ((c.tc : Thread Cert.OutProjDwRefIdeal.nD Cert.OutProjDwRefIdeal.τ).loc Cert.OutProjDwRefIdeal.main_arg3))).1 = (fun _ => 1#1)
    ∧ (Cert.Pre_out_proj_dw_inputs_finite.fn (F := Ideal) (m ((c.tc : Thread Cert.OutProjDwRefIdeal.nD Cert.OutProjDwRefIdeal.τ).loc Cert.OutProjDwRefIdeal.main_arg0)) (m ((c.tc : Thread Cert.OutProjDwRefIdeal.nD Cert.OutProjDwRefIdeal.τ).loc Cert.OutProjDwRefIdeal.main_arg1)) (m ((c.tc : Thread Cert.OutProjDwRefIdeal.nD Cert.OutProjDwRefIdeal.τ).loc Cert.OutProjDwRefIdeal.main_arg2)) (m ((c.tc : Thread Cert.OutProjDwRefIdeal.nD Cert.OutProjDwRefIdeal.τ).loc Cert.OutProjDwRefIdeal.main_arg3))).2.1 = (fun _ => 1#1)
    ∧ (Cert.Pre_out_proj_dw_inputs_finite.fn (F := Ideal) (m ((c.tc : Thread Cert.OutProjDwRefIdeal.nD Cert.OutProjDwRefIdeal.τ).loc Cert.OutProjDwRefIdeal.main_arg0)) (m ((c.tc : Thread Cert.OutProjDwRefIdeal.nD Cert.OutProjDwRefIdeal.τ).loc Cert.OutProjDwRefIdeal.main_arg1)) (m ((c.tc : Thread Cert.OutProjDwRefIdeal.nD Cert.OutProjDwRefIdeal.τ).loc Cert.OutProjDwRefIdeal.main_arg2)) (m ((c.tc : Thread Cert.OutProjDwRefIdeal.nD Cert.OutProjDwRefIdeal.τ).loc Cert.OutProjDwRefIdeal.main_arg3))).2.2.1 = (fun _ => 1#1)
    ∧ (Cert.Pre_out_proj_dw_inputs_finite.fn (F := Ideal) (m ((c.tc : Thread Cert.OutProjDwRefIdeal.nD Cert.OutProjDwRefIdeal.τ).loc Cert.OutProjDwRefIdeal.main_arg0)) (m ((c.tc : Thread Cert.OutProjDwRefIdeal.nD Cert.OutProjDwRefIdeal.τ).loc Cert.OutProjDwRefIdeal.main_arg1)) (m ((c.tc : Thread Cert.OutProjDwRefIdeal.nD Cert.OutProjDwRefIdeal.τ).loc Cert.OutProjDwRefIdeal.main_arg2)) (m ((c.tc : Thread Cert.OutProjDwRefIdeal.nD Cert.OutProjDwRefIdeal.τ).loc Cert.OutProjDwRefIdeal.main_arg3))).2.2.2 = (fun _ => 1#1)

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfIn (m : (ℓ : Loc Cert.FfIn.nD Cert.FfIn.τ Cert.FfIn.sig) → Buf (Elt Bits) ℓ) : Prop :=
  True

def Pre_FfInIdeal (m : (ℓ : Loc Cert.FfInIdeal.nD Cert.FfInIdeal.τ Cert.FfInIdeal.sig) → Buf (Elt Ideal) ℓ) : Prop :=
  True

def Pre_FfInRefIdeal (m : (ℓ : Loc Cert.FfInRefIdeal.nD Cert.FfInRefIdeal.τ Cert.FfInRefIdeal.sig) → Buf (Elt Ideal) ℓ) : Prop :=
  True

def Pre_FfOut (m : (ℓ : Loc Cert.FfOut.nD Cert.FfOut.τ Cert.FfOut.sig) → Buf (Elt Bits) ℓ) : Prop :=
  True

def Pre_FfOutIdeal (m : (ℓ : Loc Cert.FfOutIdeal.nD Cert.FfOutIdeal.τ Cert.FfOutIdeal.sig) → Buf (Elt Ideal) ℓ) : Prop :=
  True

def Pre_FfOutRefIdeal (m : (ℓ : Loc Cert.FfOutRefIdeal.nD Cert.FfOutRefIdeal.τ Cert.FfOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_bwd_inputs_finite [hPre_norm_bwd_inputs_finite : Cert.Pre_norm_bwd_inputs_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_bwd_inputs_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).1 = (fun _ => 1#1)
    ∧ (Cert.Pre_norm_bwd_inputs_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.1 = (fun _ => 1#1)
    ∧ (Cert.Pre_norm_bwd_inputs_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.1 = (fun _ => 1#1)
    ∧ (Cert.Pre_norm_bwd_inputs_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.1 = (fun _ => 1#1)
    ∧ (Cert.Pre_norm_bwd_inputs_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.2.1 = (fun _ => 1#1)
    ∧ (Cert.Pre_norm_bwd_inputs_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_bwd_inputs_finite [hPre_norm_bwd_inputs_finite : Cert.Pre_norm_bwd_inputs_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_bwd_inputs_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).1 = (fun _ => 1#1)
    ∧ (Cert.Pre_norm_bwd_inputs_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.1 = (fun _ => 1#1)
    ∧ (Cert.Pre_norm_bwd_inputs_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.1 = (fun _ => 1#1)
    ∧ (Cert.Pre_norm_bwd_inputs_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.2.1 = (fun _ => 1#1)
    ∧ (Cert.Pre_norm_bwd_inputs_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.2.2.1 = (fun _ => 1#1)
    ∧ (Cert.Pre_norm_bwd_inputs_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.2.2.2 = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_inputs_finite [hPre_loss_head_inputs_finite : Cert.Pre_loss_head_inputs_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_inputs_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_head_inputs_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_head_inputs_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_inputs_finite [hPre_loss_head_inputs_finite : Cert.Pre_loss_head_inputs_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_inputs_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_head_inputs_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_head_inputs_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_WadaAdamw (m : (ℓ : Loc Cert.WadaAdamw.nD Cert.WadaAdamw.τ Cert.WadaAdamw.sig) → Buf (Elt Bits) ℓ) : Prop :=
  True

def Pre_WadaAdamwIdeal (m : (ℓ : Loc Cert.WadaAdamwIdeal.nD Cert.WadaAdamwIdeal.τ Cert.WadaAdamwIdeal.sig) → Buf (Elt Ideal) ℓ) : Prop :=
  True

def Pre_WadaAdamwRefIdeal (m : (ℓ : Loc Cert.WadaAdamwRefIdeal.nD Cert.WadaAdamwRefIdeal.τ Cert.WadaAdamwRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwFfIn (m : (ℓ : Loc Cert.AdamwFfIn.nD Cert.AdamwFfIn.τ Cert.AdamwFfIn.sig) → Buf (Elt Bits) ℓ) : Prop :=
  True

def Pre_AdamwFfInIdeal (m : (ℓ : Loc Cert.AdamwFfInIdeal.nD Cert.AdamwFfInIdeal.τ Cert.AdamwFfInIdeal.sig) → Buf (Elt Ideal) ℓ) : Prop :=
  True

def Pre_AdamwFfInRefIdeal (m : (ℓ : Loc Cert.AdamwFfInRefIdeal.nD Cert.AdamwFfInRefIdeal.τ Cert.AdamwFfInRefIdeal.sig) → Buf (Elt Ideal) ℓ) : Prop :=
  True

def Pre_AdamwFfOut (m : (ℓ : Loc Cert.AdamwFfOut.nD Cert.AdamwFfOut.τ Cert.AdamwFfOut.sig) → Buf (Elt Bits) ℓ) : Prop :=
  True

def Pre_AdamwFfOutIdeal (m : (ℓ : Loc Cert.AdamwFfOutIdeal.nD Cert.AdamwFfOutIdeal.τ Cert.AdamwFfOutIdeal.sig) → Buf (Elt Ideal) ℓ) : Prop :=
  True

def Pre_AdamwFfOutRefIdeal (m : (ℓ : Loc Cert.AdamwFfOutRefIdeal.nD Cert.AdamwFfOutRefIdeal.τ Cert.AdamwFfOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_att_fwd_inputs_finite [hPre_att_fwd_inputs_finite : Cert.Pre_att_fwd_inputs_finite.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_att_fwd_inputs_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1))).1 = (fun _ => 1#1)
    ∧ (Cert.Pre_att_fwd_inputs_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1))).2 = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_att_fwd_inputs_finite [hPre_att_fwd_inputs_finite : Cert.Pre_att_fwd_inputs_finite.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_att_fwd_inputs_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1))).1 = (fun _ => 1#1)
    ∧ (Cert.Pre_att_fwd_inputs_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_merge_inputs_finite [hKernelIdeal : Cert.KernelIdeal.Facts] [hPre_merge_inputs_finite : Cert.Pre_merge_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_merge_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_merge_inputs_finite [hReferenceIdeal : Cert.ReferenceIdeal.Facts] [hPre_merge_inputs_finite : Cert.Pre_merge_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_merge_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfOutDx [hFfOutDx : Cert.FfOutDx.Facts] : Prop :=
  ∀ (m : (ℓ : Loc Cert.FfOutDx.nD Cert.FfOutDx.τ Cert.FfOutDx.sig) → Buf (Elt Bits) ℓ) (g : Dev Cert.FfOutDx.nD → PrngReg), Pre_FfOutDx m →
    θ_run (Cert.FfOutDx.defs (F := Bits)) (onTc (τ := Cert.FfOutDx.τ) (Cert.FfOutDx.main (F := Bits))) ⟨m, fun _ => 0, g⟩ (fun r => (∀ c : Dev Cert.FfOutDx.nD,
      r.2.mem ((c.tc : Thread Cert.FfOutDx.nD Cert.FfOutDx.τ).loc Cert.FfOutDx.main_arg0) = m ((c.tc : Thread Cert.FfOutDx.nD Cert.FfOutDx.τ).loc Cert.FfOutDx.main_arg0)
      ∧ r.2.mem ((c.tc : Thread Cert.FfOutDx.nD Cert.FfOutDx.τ).loc Cert.FfOutDx.main_arg1) = m ((c.tc : Thread Cert.FfOutDx.nD Cert.FfOutDx.τ).loc Cert.FfOutDx.main_arg1)
      ∧ r.2.mem ((c.tc : Thread Cert.FfOutDx.nD Cert.FfOutDx.τ).loc Cert.FfOutDx.main_arg2) = m ((c.tc : Thread Cert.FfOutDx.nD Cert.FfOutDx.τ).loc Cert.FfOutDx.main_arg2)
      ∧ r.2.mem ((c.tc : Thread Cert.FfOutDx.nD Cert.FfOutDx.τ).loc Cert.FfOutDx.main_arg3) = m ((c.tc : Thread Cert.FfOutDx.nD Cert.FfOutDx.τ).loc Cert.FfOutDx.main_arg3))
      ∧ r.2.sem = fun _ => 0)

def quiescent_FfOutDxIdeal [hFfOutDxIdeal : Cert.FfOutDxIdeal.Facts] : Prop :=
  ∀ (m : (ℓ : Loc Cert.FfOutDxIdeal.nD Cert.FfOutDxIdeal.τ Cert.FfOutDxIdeal.sig) → Buf (Elt Ideal) ℓ) (g : Dev Cert.FfOutDxIdeal.nD → PrngReg), Pre_FfOutDxIdeal m →
    θ_run (Cert.FfOutDxIdeal.defs (F := Ideal)) (onTc (τ := Cert.FfOutDxIdeal.τ) (Cert.FfOutDxIdeal.main (F := Ideal))) ⟨m, fun _ => 0, g⟩ (fun r => (∀ c : Dev Cert.FfOutDxIdeal.nD,
      r.2.mem ((c.tc : Thread Cert.FfOutDxIdeal.nD Cert.FfOutDxIdeal.τ).loc Cert.FfOutDxIdeal.main_arg0) = m ((c.tc : Thread Cert.FfOutDxIdeal.nD Cert.FfOutDxIdeal.τ).loc Cert.FfOutDxIdeal.main_arg0)
      ∧ r.2.mem ((c.tc : Thread Cert.FfOutDxIdeal.nD Cert.FfOutDxIdeal.τ).loc Cert.FfOutDxIdeal.main_arg1) = m ((c.tc : Thread Cert.FfOutDxIdeal.nD Cert.FfOutDxIdeal.τ).loc Cert.FfOutDxIdeal.main_arg1)
      ∧ r.2.mem ((c.tc : Thread Cert.FfOutDxIdeal.nD Cert.FfOutDxIdeal.τ).loc Cert.FfOutDxIdeal.main_arg2) = m ((c.tc : Thread Cert.FfOutDxIdeal.nD Cert.FfOutDxIdeal.τ).loc Cert.FfOutDxIdeal.main_arg2)
      ∧ r.2.mem ((c.tc : Thread Cert.FfOutDxIdeal.nD Cert.FfOutDxIdeal.τ).loc Cert.FfOutDxIdeal.main_arg3) = m ((c.tc : Thread Cert.FfOutDxIdeal.nD Cert.FfOutDxIdeal.τ).loc Cert.FfOutDxIdeal.main_arg3))
      ∧ r.2.sem = fun _ => 0)

def quiescent_FfOutDxRefIdeal [hFfOutDxRefIdeal : Cert.FfOutDxRefIdeal.Facts] : Prop :=
  ∀ (m : (ℓ : Loc Cert.FfOutDxRefIdeal.nD Cert.FfOutDxRefIdeal.τ Cert.FfOutDxRefIdeal.sig) → Buf (Elt Ideal) ℓ) (g : Dev Cert.FfOutDxRefIdeal.nD → PrngReg), Pre_FfOutDxRefIdeal m →
    θ_run (Cert.FfOutDxRefIdeal.defs (F := Ideal)) (onTc (τ := Cert.FfOutDxRefIdeal.τ) (Cert.FfOutDxRefIdeal.main (F := Ideal))) ⟨m, fun _ => 0, g⟩ (fun r => (∀ c : Dev Cert.FfOutDxRefIdeal.nD,
      r.2.mem ((c.tc : Thread Cert.FfOutDxRefIdeal.nD Cert.FfOutDxRefIdeal.τ).loc Cert.FfOutDxRefIdeal.main_arg0) = m ((c.tc : Thread Cert.FfOutDxRefIdeal.nD Cert.FfOutDxRefIdeal.τ).loc Cert.FfOutDxRefIdeal.main_arg0)
      ∧ r.2.mem ((c.tc : Thread Cert.FfOutDxRefIdeal.nD Cert.FfOutDxRefIdeal.τ).loc Cert.FfOutDxRefIdeal.main_arg1) = m ((c.tc : Thread Cert.FfOutDxRefIdeal.nD Cert.FfOutDxRefIdeal.τ).loc Cert.FfOutDxRefIdeal.main_arg1)
      ∧ r.2.mem ((c.tc : Thread Cert.FfOutDxRefIdeal.nD Cert.FfOutDxRefIdeal.τ).loc Cert.FfOutDxRefIdeal.main_arg2) = m ((c.tc : Thread Cert.FfOutDxRefIdeal.nD Cert.FfOutDxRefIdeal.τ).loc Cert.FfOutDxRefIdeal.main_arg2)
      ∧ r.2.mem ((c.tc : Thread Cert.FfOutDxRefIdeal.nD Cert.FfOutDxRefIdeal.τ).loc Cert.FfOutDxRefIdeal.main_arg3) = m ((c.tc : Thread Cert.FfOutDxRefIdeal.nD Cert.FfOutDxRefIdeal.τ).loc Cert.FfOutDxRefIdeal.main_arg3))
      ∧ r.2.sem = fun _ => 0)

def quiescent_FfInDx [hFfInDx : Cert.FfInDx.Facts] : Prop :=
  ∀ (m : (ℓ : Loc Cert.FfInDx.nD Cert.FfInDx.τ Cert.FfInDx.sig) → Buf (Elt Bits) ℓ) (g : Dev Cert.FfInDx.nD → PrngReg), Pre_FfInDx m →
    θ_run (Cert.FfInDx.defs (F := Bits)) (onTc (τ := Cert.FfInDx.τ) (Cert.FfInDx.main (F := Bits))) ⟨m, fun _ => 0, g⟩ (fun r => (∀ c : Dev Cert.FfInDx.nD,
      r.2.mem ((c.tc : Thread Cert.FfInDx.nD Cert.FfInDx.τ).loc Cert.FfInDx.main_arg0) = m ((c.tc : Thread Cert.FfInDx.nD Cert.FfInDx.τ).loc Cert.FfInDx.main_arg0)
      ∧ r.2.mem ((c.tc : Thread Cert.FfInDx.nD Cert.FfInDx.τ).loc Cert.FfInDx.main_arg1) = m ((c.tc : Thread Cert.FfInDx.nD Cert.FfInDx.τ).loc Cert.FfInDx.main_arg1))
      ∧ r.2.sem = fun _ => 0)

def quiescent_FfInDxIdeal [hFfInDxIdeal : Cert.FfInDxIdeal.Facts] : Prop :=
  ∀ (m : (ℓ : Loc Cert.FfInDxIdeal.nD Cert.FfInDxIdeal.τ Cert.FfInDxIdeal.sig) → Buf (Elt Ideal) ℓ) (g : Dev Cert.FfInDxIdeal.nD → PrngReg), Pre_FfInDxIdeal m →
    θ_run (Cert.FfInDxIdeal.defs (F := Ideal)) (onTc (τ := Cert.FfInDxIdeal.τ) (Cert.FfInDxIdeal.main (F := Ideal))) ⟨m, fun _ => 0, g⟩ (fun r => (∀ c : Dev Cert.FfInDxIdeal.nD,
      r.2.mem ((c.tc : Thread Cert.FfInDxIdeal.nD Cert.FfInDxIdeal.τ).loc Cert.FfInDxIdeal.main_arg0) = m ((c.tc : Thread Cert.FfInDxIdeal.nD Cert.FfInDxIdeal.τ).loc Cert.FfInDxIdeal.main_arg0)
      ∧ r.2.mem ((c.tc : Thread Cert.FfInDxIdeal.nD Cert.FfInDxIdeal.τ).loc Cert.FfInDxIdeal.main_arg1) = m ((c.tc : Thread Cert.FfInDxIdeal.nD Cert.FfInDxIdeal.τ).loc Cert.FfInDxIdeal.main_arg1))
      ∧ r.2.sem = fun _ => 0)

def quiescent_FfInDxRefIdeal [hFfInDxRefIdeal : Cert.FfInDxRefIdeal.Facts] : Prop :=
  ∀ (m : (ℓ : Loc Cert.FfInDxRefIdeal.nD Cert.FfInDxRefIdeal.τ Cert.FfInDxRefIdeal.sig) → Buf (Elt Ideal) ℓ) (g : Dev Cert.FfInDxRefIdeal.nD → PrngReg), Pre_FfInDxRefIdeal m →
    θ_run (Cert.FfInDxRefIdeal.defs (F := Ideal)) (onTc (τ := Cert.FfInDxRefIdeal.τ) (Cert.FfInDxRefIdeal.main (F := Ideal))) ⟨m, fun _ => 0, g⟩ (fun r => (∀ c : Dev Cert.FfInDxRefIdeal.nD,
      r.2.mem ((c.tc : Thread Cert.FfInDxRefIdeal.nD Cert.FfInDxRefIdeal.τ).loc Cert.FfInDxRefIdeal.main_arg0) = m ((c.tc : Thread Cert.FfInDxRefIdeal.nD Cert.FfInDxRefIdeal.τ).loc Cert.FfInDxRefIdeal.main_arg0)
      ∧ r.2.mem ((c.tc : Thread Cert.FfInDxRefIdeal.nD Cert.FfInDxRefIdeal.τ).loc Cert.FfInDxRefIdeal.main_arg1) = m ((c.tc : Thread Cert.FfInDxRefIdeal.nD Cert.FfInDxRefIdeal.τ).loc Cert.FfInDxRefIdeal.main_arg1))
      ∧ r.2.sem = fun _ => 0)

def quiescent_FfInDw [hFfInDw : Cert.FfInDw.Facts] : Prop :=
  ∀ (m : (ℓ : Loc Cert.FfInDw.nD Cert.FfInDw.τ Cert.FfInDw.sig) → Buf (Elt Bits) ℓ) (g : Dev Cert.FfInDw.nD → PrngReg), Pre_FfInDw m →
    θ_run (Cert.FfInDw.defs (F := Bits)) (onTc (τ := Cert.FfInDw.τ) (Cert.FfInDw.main (F := Bits))) ⟨m, fun _ => 0, g⟩ (fun r => (∀ c : Dev Cert.FfInDw.nD,
      r.2.mem ((c.tc : Thread Cert.FfInDw.nD Cert.FfInDw.τ).loc Cert.FfInDw.main_arg0) = m ((c.tc : Thread Cert.FfInDw.nD Cert.FfInDw.τ).loc Cert.FfInDw.main_arg0)
      ∧ r.2.mem ((c.tc : Thread Cert.FfInDw.nD Cert.FfInDw.τ).loc Cert.FfInDw.main_arg1) = m ((c.tc : Thread Cert.FfInDw.nD Cert.FfInDw.τ).loc Cert.FfInDw.main_arg1))
      ∧ r.2.sem = fun _ => 0)

def quiescent_FfInDwIdeal [hFfInDwIdeal : Cert.FfInDwIdeal.Facts] : Prop :=
  ∀ (m : (ℓ : Loc Cert.FfInDwIdeal.nD Cert.FfInDwIdeal.τ Cert.FfInDwIdeal.sig) → Buf (Elt Ideal) ℓ) (g : Dev Cert.FfInDwIdeal.nD → PrngReg), Pre_FfInDwIdeal m →
    θ_run (Cert.FfInDwIdeal.defs (F := Ideal)) (onTc (τ := Cert.FfInDwIdeal.τ) (Cert.FfInDwIdeal.main (F := Ideal))) ⟨m, fun _ => 0, g⟩ (fun r => (∀ c : Dev Cert.FfInDwIdeal.nD,
      r.2.mem ((c.tc : Thread Cert.FfInDwIdeal.nD Cert.FfInDwIdeal.τ).loc Cert.FfInDwIdeal.main_arg0) = m ((c.tc : Thread Cert.FfInDwIdeal.nD Cert.FfInDwIdeal.τ).loc Cert.FfInDwIdeal.main_arg0)
      ∧ r.2.mem ((c.tc : Thread Cert.FfInDwIdeal.nD Cert.FfInDwIdeal.τ).loc Cert.FfInDwIdeal.main_arg1) = m ((c.tc : Thread Cert.FfInDwIdeal.nD Cert.FfInDwIdeal.τ).loc Cert.FfInDwIdeal.main_arg1))
      ∧ r.2.sem = fun _ => 0)

def quiescent_FfInDwRefIdeal [hFfInDwRefIdeal : Cert.FfInDwRefIdeal.Facts] : Prop :=
  ∀ (m : (ℓ : Loc Cert.FfInDwRefIdeal.nD Cert.FfInDwRefIdeal.τ Cert.FfInDwRefIdeal.sig) → Buf (Elt Ideal) ℓ) (g : Dev Cert.FfInDwRefIdeal.nD → PrngReg), Pre_FfInDwRefIdeal m →
    θ_run (Cert.FfInDwRefIdeal.defs (F := Ideal)) (onTc (τ := Cert.FfInDwRefIdeal.τ) (Cert.FfInDwRefIdeal.main (F := Ideal))) ⟨m, fun _ => 0, g⟩ (fun r => (∀ c : Dev Cert.FfInDwRefIdeal.nD,
      r.2.mem ((c.tc : Thread Cert.FfInDwRefIdeal.nD Cert.FfInDwRefIdeal.τ).loc Cert.FfInDwRefIdeal.main_arg0) = m ((c.tc : Thread Cert.FfInDwRefIdeal.nD Cert.FfInDwRefIdeal.τ).loc Cert.FfInDwRefIdeal.main_arg0)
      ∧ r.2.mem ((c.tc : Thread Cert.FfInDwRefIdeal.nD Cert.FfInDwRefIdeal.τ).loc Cert.FfInDwRefIdeal.main_arg1) = m ((c.tc : Thread Cert.FfInDwRefIdeal.nD Cert.FfInDwRefIdeal.τ).loc Cert.FfInDwRefIdeal.main_arg1))
      ∧ r.2.sem = fun _ => 0)

def quiescent_FfOutDw [hFfOutDw : Cert.FfOutDw.Facts] : Prop :=
  ∀ (m : (ℓ : Loc Cert.FfOutDw.nD Cert.FfOutDw.τ Cert.FfOutDw.sig) → Buf (Elt Bits) ℓ) (g : Dev Cert.FfOutDw.nD → PrngReg), Pre_FfOutDw m →
    θ_run (Cert.FfOutDw.defs (F := Bits)) (onTc (τ := Cert.FfOutDw.τ) (Cert.FfOutDw.main (F := Bits))) ⟨m, fun _ => 0, g⟩ (fun r => (∀ c : Dev Cert.FfOutDw.nD,
      r.2.mem ((c.tc : Thread Cert.FfOutDw.nD Cert.FfOutDw.τ).loc Cert.FfOutDw.main_arg0) = m ((c.tc : Thread Cert.FfOutDw.nD Cert.FfOutDw.τ).loc Cert.FfOutDw.main_arg0)
      ∧ r.2.mem ((c.tc : Thread Cert.FfOutDw.nD Cert.FfOutDw.τ).loc Cert.FfOutDw.main_arg1) = m ((c.tc : Thread Cert.FfOutDw.nD Cert.FfOutDw.τ).loc Cert.FfOutDw.main_arg1)
      ∧ r.2.mem ((c.tc : Thread Cert.FfOutDw.nD Cert.FfOutDw.τ).loc Cert.FfOutDw.main_arg2) = m ((c.tc : Thread Cert.FfOutDw.nD Cert.FfOutDw.τ).loc Cert.FfOutDw.main_arg2)
      ∧ r.2.mem ((c.tc : Thread Cert.FfOutDw.nD Cert.FfOutDw.τ).loc Cert.FfOutDw.main_arg3) = m ((c.tc : Thread Cert.FfOutDw.nD Cert.FfOutDw.τ).loc Cert.FfOutDw.main_arg3))
      ∧ r.2.sem = fun _ => 0)

def quiescent_FfOutDwIdeal [hFfOutDwIdeal : Cert.FfOutDwIdeal.Facts] : Prop :=
  ∀ (m : (ℓ : Loc Cert.FfOutDwIdeal.nD Cert.FfOutDwIdeal.τ Cert.FfOutDwIdeal.sig) → Buf (Elt Ideal) ℓ) (g : Dev Cert.FfOutDwIdeal.nD → PrngReg), Pre_FfOutDwIdeal m →
    θ_run (Cert.FfOutDwIdeal.defs (F := Ideal)) (onTc (τ := Cert.FfOutDwIdeal.τ) (Cert.FfOutDwIdeal.main (F := Ideal))) ⟨m, fun _ => 0, g⟩ (fun r => (∀ c : Dev Cert.FfOutDwIdeal.nD,
      r.2.mem ((c.tc : Thread Cert.FfOutDwIdeal.nD Cert.FfOutDwIdeal.τ).loc Cert.FfOutDwIdeal.main_arg0) = m ((c.tc : Thread Cert.FfOutDwIdeal.nD Cert.FfOutDwIdeal.τ).loc Cert.FfOutDwIdeal.main_arg0)
      ∧ r.2.mem ((c.tc : Thread Cert.FfOutDwIdeal.nD Cert.FfOutDwIdeal.τ).loc Cert.FfOutDwIdeal.main_arg1) = m ((c.tc : Thread Cert.FfOutDwIdeal.nD Cert.FfOutDwIdeal.τ).loc Cert.FfOutDwIdeal.main_arg1)
      ∧ r.2.mem ((c.tc : Thread Cert.FfOutDwIdeal.nD Cert.FfOutDwIdeal.τ).loc Cert.FfOutDwIdeal.main_arg2) = m ((c.tc : Thread Cert.FfOutDwIdeal.nD Cert.FfOutDwIdeal.τ).loc Cert.FfOutDwIdeal.main_arg2)
      ∧ r.2.mem ((c.tc : Thread Cert.FfOutDwIdeal.nD Cert.FfOutDwIdeal.τ).loc Cert.FfOutDwIdeal.main_arg3) = m ((c.tc : Thread Cert.FfOutDwIdeal.nD Cert.FfOutDwIdeal.τ).loc Cert.FfOutDwIdeal.main_arg3))
      ∧ r.2.sem = fun _ => 0)

def quiescent_FfOutDwIdeal_pre_ff_out_dw_inputs_finite [hFfOutDwIdeal : Cert.FfOutDwIdeal.Facts] [hPre_ff_out_dw_inputs_finite : Cert.Pre_ff_out_dw_inputs_finite.Facts] : Prop :=
  ∀ (m : (ℓ : Loc Cert.FfOutDwIdeal.nD Cert.FfOutDwIdeal.τ Cert.FfOutDwIdeal.sig) → Buf (Elt Ideal) ℓ) (g : Dev Cert.FfOutDwIdeal.nD → PrngReg), Pre_FfOutDwIdeal_ff_out_dw_inputs_finite m →
    θ_run (Cert.FfOutDwIdeal.defs (F := Ideal)) (onTc (τ := Cert.FfOutDwIdeal.τ) (Cert.FfOutDwIdeal.main (F := Ideal))) ⟨m, fun _ => 0, g⟩ (fun r => (∀ c : Dev Cert.FfOutDwIdeal.nD,
      r.2.mem ((c.tc : Thread Cert.FfOutDwIdeal.nD Cert.FfOutDwIdeal.τ).loc Cert.FfOutDwIdeal.main_arg0) = m ((c.tc : Thread Cert.FfOutDwIdeal.nD Cert.FfOutDwIdeal.τ).loc Cert.FfOutDwIdeal.main_arg0)
      ∧ r.2.mem ((c.tc : Thread Cert.FfOutDwIdeal.nD Cert.FfOutDwIdeal.τ).loc Cert.FfOutDwIdeal.main_arg1) = m ((c.tc : Thread Cert.FfOutDwIdeal.nD Cert.FfOutDwIdeal.τ).loc Cert.FfOutDwIdeal.main_arg1)
      ∧ r.2.mem ((c.tc : Thread Cert.FfOutDwIdeal.nD Cert.FfOutDwIdeal.τ).loc Cert.FfOutDwIdeal.main_arg2) = m ((c.tc : Thread Cert.FfOutDwIdeal.nD Cert.FfOutDwIdeal.τ).loc Cert.FfOutDwIdeal.main_arg2)
      ∧ r.2.mem ((c.tc : Thread Cert.FfOutDwIdeal.nD Cert.FfOutDwIdeal.τ).loc Cert.FfOutDwIdeal.main_arg3) = m ((c.tc : Thread Cert.FfOutDwIdeal.nD Cert.FfOutDwIdeal.τ).loc Cert.FfOutDwIdeal.main_arg3))
      ∧ r.2.sem = fun _ => 0)

def quiescent_FfOutDwRefIdeal [hFfOutDwRefIdeal : Cert.FfOutDwRefIdeal.Facts] : Prop :=
  ∀ (m : (ℓ : Loc Cert.FfOutDwRefIdeal.nD Cert.FfOutDwRefIdeal.τ Cert.FfOutDwRefIdeal.sig) → Buf (Elt Ideal) ℓ) (g : Dev Cert.FfOutDwRefIdeal.nD → PrngReg), Pre_FfOutDwRefIdeal m →
    θ_run (Cert.FfOutDwRefIdeal.defs (F := Ideal)) (onTc (τ := Cert.FfOutDwRefIdeal.τ) (Cert.FfOutDwRefIdeal.main (F := Ideal))) ⟨m, fun _ => 0, g⟩ (fun r => (∀ c : Dev Cert.FfOutDwRefIdeal.nD,
      r.2.mem ((c.tc : Thread Cert.FfOutDwRefIdeal.nD Cert.FfOutDwRefIdeal.τ).loc Cert.FfOutDwRefIdeal.main_arg0) = m ((c.tc : Thread Cert.FfOutDwRefIdeal.nD Cert.FfOutDwRefIdeal.τ).loc Cert.FfOutDwRefIdeal.main_arg0)
      ∧ r.2.mem ((c.tc : Thread Cert.FfOutDwRefIdeal.nD Cert.FfOutDwRefIdeal.τ).loc Cert.FfOutDwRefIdeal.main_arg1) = m ((c.tc : Thread Cert.FfOutDwRefIdeal.nD Cert.FfOutDwRefIdeal.τ).loc Cert.FfOutDwRefIdeal.main_arg1)
      ∧ r.2.mem ((c.tc : Thread Cert.FfOutDwRefIdeal.nD Cert.FfOutDwRefIdeal.τ).loc Cert.FfOutDwRefIdeal.main_arg2) = m ((c.tc : Thread Cert.FfOutDwRefIdeal.nD Cert.FfOutDwRefIdeal.τ).loc Cert.FfOutDwRefIdeal.main_arg2)
      ∧ r.2.mem ((c.tc : Thread Cert.FfOutDwRefIdeal.nD Cert.FfOutDwRefIdeal.τ).loc Cert.FfOutDwRefIdeal.main_arg3) = m ((c.tc : Thread Cert.FfOutDwRefIdeal.nD Cert.FfOutDwRefIdeal.τ).loc Cert.FfOutDwRefIdeal.main_arg3))
      ∧ r.2.sem = fun _ => 0)

def quiescent_FfOutDwRefIdeal_pre_ff_out_dw_inputs_finite [hFfOutDwRefIdeal : Cert.FfOutDwRefIdeal.Facts] [hPre_ff_out_dw_inputs_finite : Cert.Pre_ff_out_dw_inputs_finite.Facts] : Prop :=
  ∀ (m : (ℓ : Loc Cert.FfOutDwRefIdeal.nD Cert.FfOutDwRefIdeal.τ Cert.FfOutDwRefIdeal.sig) → Buf (Elt Ideal) ℓ) (g : Dev Cert.FfOutDwRefIdeal.nD → PrngReg), Pre_FfOutDwRefIdeal_ff_out_dw_inputs_finite m →
    θ_run (Cert.FfOutDwRefIdeal.defs (F := Ideal)) (onTc (τ := Cert.FfOutDwRefIdeal.τ) (Cert.FfOutDwRefIdeal.main (F := Ideal))) ⟨m, fun _ => 0, g⟩ (fun r => (∀ c : Dev Cert.FfOutDwRefIdeal.nD,
      r.2.mem ((c.tc : Thread Cert.FfOutDwRefIdeal.nD Cert.FfOutDwRefIdeal.τ).loc Cert.FfOutDwRefIdeal.main_arg0) = m ((c.tc : Thread Cert.FfOutDwRefIdeal.nD Cert.FfOutDwRefIdeal.τ).loc Cert.FfOutDwRefIdeal.main_arg0)
      ∧ r.2.mem ((c.tc : Thread Cert.FfOutDwRefIdeal.nD Cert.FfOutDwRefIdeal.τ).loc Cert.FfOutDwRefIdeal.main_arg1) = m ((c.tc : Thread Cert.FfOutDwRefIdeal.nD Cert.FfOutDwRefIdeal.τ).loc Cert.FfOutDwRefIdeal.main_arg1)
      ∧ r.2.mem ((c.tc : Thread Cert.FfOutDwRefIdeal.nD Cert.FfOutDwRefIdeal.τ).loc Cert.FfOutDwRefIdeal.main_arg2) = m ((c.tc : Thread Cert.FfOutDwRefIdeal.nD Cert.FfOutDwRefIdeal.τ).loc Cert.FfOutDwRefIdeal.main_arg2)
      ∧ r.2.mem ((c.tc : Thread Cert.FfOutDwRefIdeal.nD Cert.FfOutDwRefIdeal.τ).loc Cert.FfOutDwRefIdeal.main_arg3) = m ((c.tc : Thread Cert.FfOutDwRefIdeal.nD Cert.FfOutDwRefIdeal.τ).loc Cert.FfOutDwRefIdeal.main_arg3))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3)
      ∧ r.2.mem ((c.tc : Thread Cert.InProjDx.nD Cert.InProjDx.τ).loc Cert.InProjDx.main_arg4) = m ((c.tc : Thread Cert.InProjDx.nD Cert.InProjDx.τ).loc Cert.InProjDx.main_arg4)
      ∧ r.2.mem ((c.tc : Thread Cert.InProjDx.nD Cert.InProjDx.τ).loc Cert.InProjDx.main_arg5) = m ((c.tc : Thread Cert.InProjDx.nD Cert.InProjDx.τ).loc Cert.InProjDx.main_arg5)
      ∧ r.2.mem ((c.tc : Thread Cert.InProjDx.nD Cert.InProjDx.τ).loc Cert.InProjDx.main_arg6) = m ((c.tc : Thread Cert.InProjDx.nD Cert.InProjDx.τ).loc Cert.InProjDx.main_arg6)
      ∧ r.2.mem ((c.tc : Thread Cert.InProjDx.nD Cert.InProjDx.τ).loc Cert.InProjDx.main_arg7) = m ((c.tc : Thread Cert.InProjDx.nD Cert.InProjDx.τ).loc Cert.InProjDx.main_arg7)
      ∧ r.2.mem ((c.tc : Thread Cert.InProjDx.nD Cert.InProjDx.τ).loc Cert.InProjDx.main_arg8) = m ((c.tc : Thread Cert.InProjDx.nD Cert.InProjDx.τ).loc Cert.InProjDx.main_arg8))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4)
      ∧ r.2.mem ((c.tc : Thread Cert.InProjDxIdeal.nD Cert.InProjDxIdeal.τ).loc Cert.InProjDxIdeal.main_arg5) = m ((c.tc : Thread Cert.InProjDxIdeal.nD Cert.InProjDxIdeal.τ).loc Cert.InProjDxIdeal.main_arg5)
      ∧ r.2.mem ((c.tc : Thread Cert.InProjDxIdeal.nD Cert.InProjDxIdeal.τ).loc Cert.InProjDxIdeal.main_arg6) = m ((c.tc : Thread Cert.InProjDxIdeal.nD Cert.InProjDxIdeal.τ).loc Cert.InProjDxIdeal.main_arg6)
      ∧ r.2.mem ((c.tc : Thread Cert.InProjDxIdeal.nD Cert.InProjDxIdeal.τ).loc Cert.InProjDxIdeal.main_arg7) = m ((c.tc : Thread Cert.InProjDxIdeal.nD Cert.InProjDxIdeal.τ).loc Cert.InProjDxIdeal.main_arg7)
      ∧ r.2.mem ((c.tc : Thread Cert.InProjDxIdeal.nD Cert.InProjDxIdeal.τ).loc Cert.InProjDxIdeal.main_arg8) = m ((c.tc : Thread Cert.InProjDxIdeal.nD Cert.InProjDxIdeal.τ).loc Cert.InProjDxIdeal.main_arg8))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4)
      ∧ r.2.mem ((c.tc : Thread Cert.InProjDxRefIdeal.nD Cert.InProjDxRefIdeal.τ).loc Cert.InProjDxRefIdeal.main_arg5) = m ((c.tc : Thread Cert.InProjDxRefIdeal.nD Cert.InProjDxRefIdeal.τ).loc Cert.InProjDxRefIdeal.main_arg5)
      ∧ r.2.mem ((c.tc : Thread Cert.InProjDxRefIdeal.nD Cert.InProjDxRefIdeal.τ).loc Cert.InProjDxRefIdeal.main_arg6) = m ((c.tc : Thread Cert.InProjDxRefIdeal.nD Cert.InProjDxRefIdeal.τ).loc Cert.InProjDxRefIdeal.main_arg6)
      ∧ r.2.mem ((c.tc : Thread Cert.InProjDxRefIdeal.nD Cert.InProjDxRefIdeal.τ).loc Cert.InProjDxRefIdeal.main_arg7) = m ((c.tc : Thread Cert.InProjDxRefIdeal.nD Cert.InProjDxRefIdeal.τ).loc Cert.InProjDxRefIdeal.main_arg7)
      ∧ r.2.mem ((c.tc : Thread Cert.InProjDxRefIdeal.nD Cert.InProjDxRefIdeal.τ).loc Cert.InProjDxRefIdeal.main_arg8) = m ((c.tc : Thread Cert.InProjDxRefIdeal.nD Cert.InProjDxRefIdeal.τ).loc Cert.InProjDxRefIdeal.main_arg8))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1)
      ∧ r.2.mem ((c.tc : Thread Cert.InProjDw.nD Cert.InProjDw.τ).loc Cert.InProjDw.main_arg2) = m ((c.tc : Thread Cert.InProjDw.nD Cert.InProjDw.τ).loc Cert.InProjDw.main_arg2)
      ∧ r.2.mem ((c.tc : Thread Cert.InProjDw.nD Cert.InProjDw.τ).loc Cert.InProjDw.main_arg3) = m ((c.tc : Thread Cert.InProjDw.nD Cert.InProjDw.τ).loc Cert.InProjDw.main_arg3)
      ∧ r.2.mem ((c.tc : Thread Cert.InProjDw.nD Cert.InProjDw.τ).loc Cert.InProjDw.main_arg4) = m ((c.tc : Thread Cert.InProjDw.nD Cert.InProjDw.τ).loc Cert.InProjDw.main_arg4)
      ∧ r.2.mem ((c.tc : Thread Cert.InProjDw.nD Cert.InProjDw.τ).loc Cert.InProjDw.main_arg5) = m ((c.tc : Thread Cert.InProjDw.nD Cert.InProjDw.τ).loc Cert.InProjDw.main_arg5)
      ∧ r.2.mem ((c.tc : Thread Cert.InProjDw.nD Cert.InProjDw.τ).loc Cert.InProjDw.main_arg6) = m ((c.tc : Thread Cert.InProjDw.nD Cert.InProjDw.τ).loc Cert.InProjDw.main_arg6)
      ∧ r.2.mem ((c.tc : Thread Cert.InProjDw.nD Cert.InProjDw.τ).loc Cert.InProjDw.main_arg7) = m ((c.tc : Thread Cert.InProjDw.nD Cert.InProjDw.τ).loc Cert.InProjDw.main_arg7)
      ∧ r.2.mem ((c.tc : Thread Cert.InProjDw.nD Cert.InProjDw.τ).loc Cert.InProjDw.main_arg8) = m ((c.tc : Thread Cert.InProjDw.nD Cert.InProjDw.τ).loc Cert.InProjDw.main_arg8))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
      ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2)
      ∧ r.2.mem ((c.tc : Thread Cert.InProjDwIdeal.nD Cert.InProjDwIdeal.τ).loc Cert.InProjDwIdeal.main_arg3) = m ((c.tc : Thread Cert.InProjDwIdeal.nD Cert.InProjDwIdeal.τ).loc Cert.InProjDwIdeal.main_arg3)
      ∧ r.2.mem ((c.tc : Thread Cert.InProjDwIdeal.nD Cert.InProjDwIdeal.τ).loc Cert.InProjDwIdeal.main_arg4) = m ((c.tc : Thread Cert.InProjDwIdeal.nD Cert.InProjDwIdeal.τ).loc Cert.InProjDwIdeal.main_arg4)
      ∧ r.2.mem ((c.tc : Thread Cert.InProjDwIdeal.nD Cert.InProjDwIdeal.τ).loc Cert.InProjDwIdeal.main_arg5) = m ((c.tc : Thread Cert.InProjDwIdeal.nD Cert.InProjDwIdeal.τ).loc Cert.InProjDwIdeal.main_arg5)
      ∧ r.2.mem ((c.tc : Thread Cert.InProjDwIdeal.nD Cert.InProjDwIdeal.τ).loc Cert.InProjDwIdeal.main_arg6) = m ((c.tc : Thread Cert.InProjDwIdeal.nD Cert.InProjDwIdeal.τ).loc Cert.InProjDwIdeal.main_arg6)
      ∧ r.2.mem ((c.tc : Thread Cert.InProjDwIdeal.nD Cert.InProjDwIdeal.τ).loc Cert.InProjDwIdeal.main_arg7) = m ((c.tc : Thread Cert.InProjDwIdeal.nD Cert.InProjDwIdeal.τ).loc Cert.InProjDwIdeal.main_arg7)
      ∧ r.2.mem ((c.tc : Thread Cert.InProjDwIdeal.nD Cert.InProjDwIdeal.τ).loc Cert.InProjDwIdeal.main_arg8) = m ((c.tc : Thread Cert.InProjDwIdeal.nD Cert.InProjDwIdeal.τ).loc Cert.InProjDwIdeal.main_arg8))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1)
      ∧ r.2.mem ((c.tc : Thread Cert.InProjDwRefIdeal.nD Cert.InProjDwRefIdeal.τ).loc Cert.InProjDwRefIdeal.main_arg2) = m ((c.tc : Thread Cert.InProjDwRefIdeal.nD Cert.InProjDwRefIdeal.τ).loc Cert.InProjDwRefIdeal.main_arg2)
      ∧ r.2.mem ((c.tc : Thread Cert.InProjDwRefIdeal.nD Cert.InProjDwRefIdeal.τ).loc Cert.InProjDwRefIdeal.main_arg3) = m ((c.tc : Thread Cert.InProjDwRefIdeal.nD Cert.InProjDwRefIdeal.τ).loc Cert.InProjDwRefIdeal.main_arg3)
      ∧ r.2.mem ((c.tc : Thread Cert.InProjDwRefIdeal.nD Cert.InProjDwRefIdeal.τ).loc Cert.InProjDwRefIdeal.main_arg4) = m ((c.tc : Thread Cert.InProjDwRefIdeal.nD Cert.InProjDwRefIdeal.τ).loc Cert.InProjDwRefIdeal.main_arg4)
      ∧ r.2.mem ((c.tc : Thread Cert.InProjDwRefIdeal.nD Cert.InProjDwRefIdeal.τ).loc Cert.InProjDwRefIdeal.main_arg5) = m ((c.tc : Thread Cert.InProjDwRefIdeal.nD Cert.InProjDwRefIdeal.τ).loc Cert.InProjDwRefIdeal.main_arg5)
      ∧ r.2.mem ((c.tc : Thread Cert.InProjDwRefIdeal.nD Cert.InProjDwRefIdeal.τ).loc Cert.InProjDwRefIdeal.main_arg6) = m ((c.tc : Thread Cert.InProjDwRefIdeal.nD Cert.InProjDwRefIdeal.τ).loc Cert.InProjDwRefIdeal.main_arg6)
      ∧ r.2.mem ((c.tc : Thread Cert.InProjDwRefIdeal.nD Cert.InProjDwRefIdeal.τ).loc Cert.InProjDwRefIdeal.main_arg7) = m ((c.tc : Thread Cert.InProjDwRefIdeal.nD Cert.InProjDwRefIdeal.τ).loc Cert.InProjDwRefIdeal.main_arg7)
      ∧ r.2.mem ((c.tc : Thread Cert.InProjDwRefIdeal.nD Cert.InProjDwRefIdeal.τ).loc Cert.InProjDwRefIdeal.main_arg8) = m ((c.tc : Thread Cert.InProjDwRefIdeal.nD Cert.InProjDwRefIdeal.τ).loc Cert.InProjDwRefIdeal.main_arg8))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1)
      ∧ r.2.mem ((c.tc : Thread Cert.OutProjDw.nD Cert.OutProjDw.τ).loc Cert.OutProjDw.main_arg2) = m ((c.tc : Thread Cert.OutProjDw.nD Cert.OutProjDw.τ).loc Cert.OutProjDw.main_arg2)
      ∧ r.2.mem ((c.tc : Thread Cert.OutProjDw.nD Cert.OutProjDw.τ).loc Cert.OutProjDw.main_arg3) = m ((c.tc : Thread Cert.OutProjDw.nD Cert.OutProjDw.τ).loc Cert.OutProjDw.main_arg3))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
      ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2)
      ∧ r.2.mem ((c.tc : Thread Cert.OutProjDwIdeal.nD Cert.OutProjDwIdeal.τ).loc Cert.OutProjDwIdeal.main_arg3) = m ((c.tc : Thread Cert.OutProjDwIdeal.nD Cert.OutProjDwIdeal.τ).loc Cert.OutProjDwIdeal.main_arg3))
      ∧ r.2.sem = fun _ => 0)

def quiescent_OutProjDwIdeal_pre_out_proj_dw_inputs_finite [hOutProjDwIdeal : Cert.OutProjDwIdeal.Facts] [hPre_out_proj_dw_inputs_finite : Cert.Pre_out_proj_dw_inputs_finite.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal_out_proj_dw_inputs_finite m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
      ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2)
      ∧ r.2.mem ((c.tc : Thread Cert.OutProjDwIdeal.nD Cert.OutProjDwIdeal.τ).loc Cert.OutProjDwIdeal.main_arg3) = m ((c.tc : Thread Cert.OutProjDwIdeal.nD Cert.OutProjDwIdeal.τ).loc Cert.OutProjDwIdeal.main_arg3))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1)
      ∧ r.2.mem ((c.tc : Thread Cert.OutProjDwRefIdeal.nD Cert.OutProjDwRefIdeal.τ).loc Cert.OutProjDwRefIdeal.main_arg2) = m ((c.tc : Thread Cert.OutProjDwRefIdeal.nD Cert.OutProjDwRefIdeal.τ).loc Cert.OutProjDwRefIdeal.main_arg2)
      ∧ r.2.mem ((c.tc : Thread Cert.OutProjDwRefIdeal.nD Cert.OutProjDwRefIdeal.τ).loc Cert.OutProjDwRefIdeal.main_arg3) = m ((c.tc : Thread Cert.OutProjDwRefIdeal.nD Cert.OutProjDwRefIdeal.τ).loc Cert.OutProjDwRefIdeal.main_arg3))
      ∧ r.2.sem = fun _ => 0)

def quiescent_OutProjDwRefIdeal_pre_out_proj_dw_inputs_finite [hOutProjDwRefIdeal : Cert.OutProjDwRefIdeal.Facts] [hPre_out_proj_dw_inputs_finite : Cert.Pre_out_proj_dw_inputs_finite.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal_out_proj_dw_inputs_finite m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1)
      ∧ r.2.mem ((c.tc : Thread Cert.OutProjDwRefIdeal.nD Cert.OutProjDwRefIdeal.τ).loc Cert.OutProjDwRefIdeal.main_arg2) = m ((c.tc : Thread Cert.OutProjDwRefIdeal.nD Cert.OutProjDwRefIdeal.τ).loc Cert.OutProjDwRefIdeal.main_arg2)
      ∧ r.2.mem ((c.tc : Thread Cert.OutProjDwRefIdeal.nD Cert.OutProjDwRefIdeal.τ).loc Cert.OutProjDwRefIdeal.main_arg3) = m ((c.tc : Thread Cert.OutProjDwRefIdeal.nD Cert.OutProjDwRefIdeal.τ).loc Cert.OutProjDwRefIdeal.main_arg3))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1)
      ∧ r.2.mem ((c.tc : Thread Cert.OutProjDx.nD Cert.OutProjDx.τ).loc Cert.OutProjDx.main_arg2) = m ((c.tc : Thread Cert.OutProjDx.nD Cert.OutProjDx.τ).loc Cert.OutProjDx.main_arg2))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)
      ∧ r.2.mem ((c.tc : Thread Cert.OutProjDxRefIdeal.nD Cert.OutProjDxRefIdeal.τ).loc Cert.OutProjDxRefIdeal.main_arg2) = m ((c.tc : Thread Cert.OutProjDxRefIdeal.nD Cert.OutProjDxRefIdeal.τ).loc Cert.OutProjDxRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfIn [hFfIn : Cert.FfIn.Facts] : Prop :=
  ∀ (m : (ℓ : Loc Cert.FfIn.nD Cert.FfIn.τ Cert.FfIn.sig) → Buf (Elt Bits) ℓ) (g : Dev Cert.FfIn.nD → PrngReg), Pre_FfIn m →
    θ_run (Cert.FfIn.defs (F := Bits)) (onTc (τ := Cert.FfIn.τ) (Cert.FfIn.main (F := Bits))) ⟨m, fun _ => 0, g⟩ (fun r => (∀ c : Dev Cert.FfIn.nD,
      r.2.mem ((c.tc : Thread Cert.FfIn.nD Cert.FfIn.τ).loc Cert.FfIn.main_arg0) = m ((c.tc : Thread Cert.FfIn.nD Cert.FfIn.τ).loc Cert.FfIn.main_arg0)
      ∧ r.2.mem ((c.tc : Thread Cert.FfIn.nD Cert.FfIn.τ).loc Cert.FfIn.main_arg1) = m ((c.tc : Thread Cert.FfIn.nD Cert.FfIn.τ).loc Cert.FfIn.main_arg1))
      ∧ r.2.sem = fun _ => 0)

def quiescent_FfInIdeal [hFfInIdeal : Cert.FfInIdeal.Facts] : Prop :=
  ∀ (m : (ℓ : Loc Cert.FfInIdeal.nD Cert.FfInIdeal.τ Cert.FfInIdeal.sig) → Buf (Elt Ideal) ℓ) (g : Dev Cert.FfInIdeal.nD → PrngReg), Pre_FfInIdeal m →
    θ_run (Cert.FfInIdeal.defs (F := Ideal)) (onTc (τ := Cert.FfInIdeal.τ) (Cert.FfInIdeal.main (F := Ideal))) ⟨m, fun _ => 0, g⟩ (fun r => (∀ c : Dev Cert.FfInIdeal.nD,
      r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
      ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ r.2.sem = fun _ => 0)

def quiescent_FfInRefIdeal [hFfInRefIdeal : Cert.FfInRefIdeal.Facts] : Prop :=
  ∀ (m : (ℓ : Loc Cert.FfInRefIdeal.nD Cert.FfInRefIdeal.τ Cert.FfInRefIdeal.sig) → Buf (Elt Ideal) ℓ) (g : Dev Cert.FfInRefIdeal.nD → PrngReg), Pre_FfInRefIdeal m →
    θ_run (Cert.FfInRefIdeal.defs (F := Ideal)) (onTc (τ := Cert.FfInRefIdeal.τ) (Cert.FfInRefIdeal.main (F := Ideal))) ⟨m, fun _ => 0, g⟩ (fun r => (∀ c : Dev Cert.FfInRefIdeal.nD,
      r.2.mem ((c.tc : Thread Cert.FfInRefIdeal.nD Cert.FfInRefIdeal.τ).loc Cert.FfInRefIdeal.main_arg0) = m ((c.tc : Thread Cert.FfInRefIdeal.nD Cert.FfInRefIdeal.τ).loc Cert.FfInRefIdeal.main_arg0)
      ∧ r.2.mem ((c.tc : Thread Cert.FfInRefIdeal.nD Cert.FfInRefIdeal.τ).loc Cert.FfInRefIdeal.main_arg1) = m ((c.tc : Thread Cert.FfInRefIdeal.nD Cert.FfInRefIdeal.τ).loc Cert.FfInRefIdeal.main_arg1))
      ∧ r.2.sem = fun _ => 0)

def quiescent_FfOut [hFfOut : Cert.FfOut.Facts] : Prop :=
  ∀ (m : (ℓ : Loc Cert.FfOut.nD Cert.FfOut.τ Cert.FfOut.sig) → Buf (Elt Bits) ℓ) (g : Dev Cert.FfOut.nD → PrngReg), Pre_FfOut m →
    θ_run (Cert.FfOut.defs (F := Bits)) (onTc (τ := Cert.FfOut.τ) (Cert.FfOut.main (F := Bits))) ⟨m, fun _ => 0, g⟩ (fun r => (∀ c : Dev Cert.FfOut.nD,
      r.2.mem ((c.tc : Thread Cert.FfOut.nD Cert.FfOut.τ).loc Cert.FfOut.main_arg0) = m ((c.tc : Thread Cert.FfOut.nD Cert.FfOut.τ).loc Cert.FfOut.main_arg0)
      ∧ r.2.mem ((c.tc : Thread Cert.FfOut.nD Cert.FfOut.τ).loc Cert.FfOut.main_arg1) = m ((c.tc : Thread Cert.FfOut.nD Cert.FfOut.τ).loc Cert.FfOut.main_arg1)
      ∧ r.2.mem ((c.tc : Thread Cert.FfOut.nD Cert.FfOut.τ).loc Cert.FfOut.main_arg2) = m ((c.tc : Thread Cert.FfOut.nD Cert.FfOut.τ).loc Cert.FfOut.main_arg2)
      ∧ r.2.mem ((c.tc : Thread Cert.FfOut.nD Cert.FfOut.τ).loc Cert.FfOut.main_arg3) = m ((c.tc : Thread Cert.FfOut.nD Cert.FfOut.τ).loc Cert.FfOut.main_arg3))
      ∧ r.2.sem = fun _ => 0)

def quiescent_FfOutIdeal [hFfOutIdeal : Cert.FfOutIdeal.Facts] : Prop :=
  ∀ (m : (ℓ : Loc Cert.FfOutIdeal.nD Cert.FfOutIdeal.τ Cert.FfOutIdeal.sig) → Buf (Elt Ideal) ℓ) (g : Dev Cert.FfOutIdeal.nD → PrngReg), Pre_FfOutIdeal m →
    θ_run (Cert.FfOutIdeal.defs (F := Ideal)) (onTc (τ := Cert.FfOutIdeal.τ) (Cert.FfOutIdeal.main (F := Ideal))) ⟨m, fun _ => 0, g⟩ (fun r => (∀ c : Dev Cert.FfOutIdeal.nD,
      r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
      ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
      ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
      ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ r.2.sem = fun _ => 0)

def quiescent_FfOutRefIdeal [hFfOutRefIdeal : Cert.FfOutRefIdeal.Facts] : Prop :=
  ∀ (m : (ℓ : Loc Cert.FfOutRefIdeal.nD Cert.FfOutRefIdeal.τ Cert.FfOutRefIdeal.sig) → Buf (Elt Ideal) ℓ) (g : Dev Cert.FfOutRefIdeal.nD → PrngReg), Pre_FfOutRefIdeal m →
    θ_run (Cert.FfOutRefIdeal.defs (F := Ideal)) (onTc (τ := Cert.FfOutRefIdeal.τ) (Cert.FfOutRefIdeal.main (F := Ideal))) ⟨m, fun _ => 0, g⟩ (fun r => (∀ c : Dev Cert.FfOutRefIdeal.nD,
      r.2.mem ((c.tc : Thread Cert.FfOutRefIdeal.nD Cert.FfOutRefIdeal.τ).loc Cert.FfOutRefIdeal.main_arg0) = m ((c.tc : Thread Cert.FfOutRefIdeal.nD Cert.FfOutRefIdeal.τ).loc Cert.FfOutRefIdeal.main_arg0)
      ∧ r.2.mem ((c.tc : Thread Cert.FfOutRefIdeal.nD Cert.FfOutRefIdeal.τ).loc Cert.FfOutRefIdeal.main_arg1) = m ((c.tc : Thread Cert.FfOutRefIdeal.nD Cert.FfOutRefIdeal.τ).loc Cert.FfOutRefIdeal.main_arg1)
      ∧ r.2.mem ((c.tc : Thread Cert.FfOutRefIdeal.nD Cert.FfOutRefIdeal.τ).loc Cert.FfOutRefIdeal.main_arg2) = m ((c.tc : Thread Cert.FfOutRefIdeal.nD Cert.FfOutRefIdeal.τ).loc Cert.FfOutRefIdeal.main_arg2)
      ∧ r.2.mem ((c.tc : Thread Cert.FfOutRefIdeal.nD Cert.FfOutRefIdeal.τ).loc Cert.FfOutRefIdeal.main_arg3) = m ((c.tc : Thread Cert.FfOutRefIdeal.nD Cert.FfOutRefIdeal.τ).loc Cert.FfOutRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdIdeal_pre_norm_bwd_inputs_finite [hNormBwdIdeal : Cert.NormBwdIdeal.Facts] [hPre_norm_bwd_inputs_finite : Cert.Pre_norm_bwd_inputs_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_bwd_inputs_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_NormBwdRefIdeal_pre_norm_bwd_inputs_finite [hNormBwdRefIdeal : Cert.NormBwdRefIdeal.Facts] [hPre_norm_bwd_inputs_finite : Cert.Pre_norm_bwd_inputs_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_bwd_inputs_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_head_inputs_finite [hLossHeadIdeal : Cert.LossHeadIdeal.Facts] [hPre_loss_head_inputs_finite : Cert.Pre_loss_head_inputs_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_inputs_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_head_inputs_finite [hLossHeadRefIdeal : Cert.LossHeadRefIdeal.Facts] [hPre_loss_head_inputs_finite : Cert.Pre_loss_head_inputs_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_inputs_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_WadaAdamw [hWadaAdamw : Cert.WadaAdamw.Facts] : Prop :=
  ∀ (m : (ℓ : Loc Cert.WadaAdamw.nD Cert.WadaAdamw.τ Cert.WadaAdamw.sig) → Buf (Elt Bits) ℓ) (g : Dev Cert.WadaAdamw.nD → PrngReg), Pre_WadaAdamw m →
    θ_run (Cert.WadaAdamw.defs (F := Bits)) (onTc (τ := Cert.WadaAdamw.τ) (Cert.WadaAdamw.main (F := Bits))) ⟨m, fun _ => 0, g⟩ (fun r => (∀ c : Dev Cert.WadaAdamw.nD,
      r.2.mem ((c.tc : Thread Cert.WadaAdamw.nD Cert.WadaAdamw.τ).loc Cert.WadaAdamw.main_arg0) = m ((c.tc : Thread Cert.WadaAdamw.nD Cert.WadaAdamw.τ).loc Cert.WadaAdamw.main_arg0)
      ∧ r.2.mem ((c.tc : Thread Cert.WadaAdamw.nD Cert.WadaAdamw.τ).loc Cert.WadaAdamw.main_arg1) = m ((c.tc : Thread Cert.WadaAdamw.nD Cert.WadaAdamw.τ).loc Cert.WadaAdamw.main_arg1)
      ∧ r.2.mem ((c.tc : Thread Cert.WadaAdamw.nD Cert.WadaAdamw.τ).loc Cert.WadaAdamw.main_arg2) = m ((c.tc : Thread Cert.WadaAdamw.nD Cert.WadaAdamw.τ).loc Cert.WadaAdamw.main_arg2)
      ∧ r.2.mem ((c.tc : Thread Cert.WadaAdamw.nD Cert.WadaAdamw.τ).loc Cert.WadaAdamw.main_arg3) = m ((c.tc : Thread Cert.WadaAdamw.nD Cert.WadaAdamw.τ).loc Cert.WadaAdamw.main_arg3)
      ∧ r.2.mem ((c.tc : Thread Cert.WadaAdamw.nD Cert.WadaAdamw.τ).loc Cert.WadaAdamw.main_arg4) = m ((c.tc : Thread Cert.WadaAdamw.nD Cert.WadaAdamw.τ).loc Cert.WadaAdamw.main_arg4))
      ∧ r.2.sem = fun _ => 0)

def quiescent_WadaAdamwIdeal [hWadaAdamwIdeal : Cert.WadaAdamwIdeal.Facts] : Prop :=
  ∀ (m : (ℓ : Loc Cert.WadaAdamwIdeal.nD Cert.WadaAdamwIdeal.τ Cert.WadaAdamwIdeal.sig) → Buf (Elt Ideal) ℓ) (g : Dev Cert.WadaAdamwIdeal.nD → PrngReg), Pre_WadaAdamwIdeal m →
    θ_run (Cert.WadaAdamwIdeal.defs (F := Ideal)) (onTc (τ := Cert.WadaAdamwIdeal.τ) (Cert.WadaAdamwIdeal.main (F := Ideal))) ⟨m, fun _ => 0, g⟩ (fun r => (∀ c : Dev Cert.WadaAdamwIdeal.nD,
      r.2.mem ((c.tc : Thread Cert.WadaAdamwIdeal.nD Cert.WadaAdamwIdeal.τ).loc Cert.WadaAdamwIdeal.main_arg0) = m ((c.tc : Thread Cert.WadaAdamwIdeal.nD Cert.WadaAdamwIdeal.τ).loc Cert.WadaAdamwIdeal.main_arg0)
      ∧ r.2.mem ((c.tc : Thread Cert.WadaAdamwIdeal.nD Cert.WadaAdamwIdeal.τ).loc Cert.WadaAdamwIdeal.main_arg1) = m ((c.tc : Thread Cert.WadaAdamwIdeal.nD Cert.WadaAdamwIdeal.τ).loc Cert.WadaAdamwIdeal.main_arg1)
      ∧ r.2.mem ((c.tc : Thread Cert.WadaAdamwIdeal.nD Cert.WadaAdamwIdeal.τ).loc Cert.WadaAdamwIdeal.main_arg2) = m ((c.tc : Thread Cert.WadaAdamwIdeal.nD Cert.WadaAdamwIdeal.τ).loc Cert.WadaAdamwIdeal.main_arg2)
      ∧ r.2.mem ((c.tc : Thread Cert.WadaAdamwIdeal.nD Cert.WadaAdamwIdeal.τ).loc Cert.WadaAdamwIdeal.main_arg3) = m ((c.tc : Thread Cert.WadaAdamwIdeal.nD Cert.WadaAdamwIdeal.τ).loc Cert.WadaAdamwIdeal.main_arg3)
      ∧ r.2.mem ((c.tc : Thread Cert.WadaAdamwIdeal.nD Cert.WadaAdamwIdeal.τ).loc Cert.WadaAdamwIdeal.main_arg4) = m ((c.tc : Thread Cert.WadaAdamwIdeal.nD Cert.WadaAdamwIdeal.τ).loc Cert.WadaAdamwIdeal.main_arg4))
      ∧ r.2.sem = fun _ => 0)

def quiescent_WadaAdamwRefIdeal [hWadaAdamwRefIdeal : Cert.WadaAdamwRefIdeal.Facts] : Prop :=
  ∀ (m : (ℓ : Loc Cert.WadaAdamwRefIdeal.nD Cert.WadaAdamwRefIdeal.τ Cert.WadaAdamwRefIdeal.sig) → Buf (Elt Ideal) ℓ) (g : Dev Cert.WadaAdamwRefIdeal.nD → PrngReg), Pre_WadaAdamwRefIdeal m →
    θ_run (Cert.WadaAdamwRefIdeal.defs (F := Ideal)) (onTc (τ := Cert.WadaAdamwRefIdeal.τ) (Cert.WadaAdamwRefIdeal.main (F := Ideal))) ⟨m, fun _ => 0, g⟩ (fun r => (∀ c : Dev Cert.WadaAdamwRefIdeal.nD,
      r.2.mem ((c.tc : Thread Cert.WadaAdamwRefIdeal.nD Cert.WadaAdamwRefIdeal.τ).loc Cert.WadaAdamwRefIdeal.main_arg0) = m ((c.tc : Thread Cert.WadaAdamwRefIdeal.nD Cert.WadaAdamwRefIdeal.τ).loc Cert.WadaAdamwRefIdeal.main_arg0)
      ∧ r.2.mem ((c.tc : Thread Cert.WadaAdamwRefIdeal.nD Cert.WadaAdamwRefIdeal.τ).loc Cert.WadaAdamwRefIdeal.main_arg1) = m ((c.tc : Thread Cert.WadaAdamwRefIdeal.nD Cert.WadaAdamwRefIdeal.τ).loc Cert.WadaAdamwRefIdeal.main_arg1)
      ∧ r.2.mem ((c.tc : Thread Cert.WadaAdamwRefIdeal.nD Cert.WadaAdamwRefIdeal.τ).loc Cert.WadaAdamwRefIdeal.main_arg2) = m ((c.tc : Thread Cert.WadaAdamwRefIdeal.nD Cert.WadaAdamwRefIdeal.τ).loc Cert.WadaAdamwRefIdeal.main_arg2)
      ∧ r.2.mem ((c.tc : Thread Cert.WadaAdamwRefIdeal.nD Cert.WadaAdamwRefIdeal.τ).loc Cert.WadaAdamwRefIdeal.main_arg3) = m ((c.tc : Thread Cert.WadaAdamwRefIdeal.nD Cert.WadaAdamwRefIdeal.τ).loc Cert.WadaAdamwRefIdeal.main_arg3)
      ∧ r.2.mem ((c.tc : Thread Cert.WadaAdamwRefIdeal.nD Cert.WadaAdamwRefIdeal.τ).loc Cert.WadaAdamwRefIdeal.main_arg4) = m ((c.tc : Thread Cert.WadaAdamwRefIdeal.nD Cert.WadaAdamwRefIdeal.τ).loc Cert.WadaAdamwRefIdeal.main_arg4))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4)
      ∧ r.2.mem ((c.tc : Thread Cert.AdamwIn.nD Cert.AdamwIn.τ).loc Cert.AdamwIn.main_arg5) = m ((c.tc : Thread Cert.AdamwIn.nD Cert.AdamwIn.τ).loc Cert.AdamwIn.main_arg5)
      ∧ r.2.mem ((c.tc : Thread Cert.AdamwIn.nD Cert.AdamwIn.τ).loc Cert.AdamwIn.main_arg6) = m ((c.tc : Thread Cert.AdamwIn.nD Cert.AdamwIn.τ).loc Cert.AdamwIn.main_arg6))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
      ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
      ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4)
      ∧ r.2.mem ((c.tc : Thread Cert.AdamwInRefIdeal.nD Cert.AdamwInRefIdeal.τ).loc Cert.AdamwInRefIdeal.main_arg5) = m ((c.tc : Thread Cert.AdamwInRefIdeal.nD Cert.AdamwInRefIdeal.τ).loc Cert.AdamwInRefIdeal.main_arg5)
      ∧ r.2.mem ((c.tc : Thread Cert.AdamwInRefIdeal.nD Cert.AdamwInRefIdeal.τ).loc Cert.AdamwInRefIdeal.main_arg6) = m ((c.tc : Thread Cert.AdamwInRefIdeal.nD Cert.AdamwInRefIdeal.τ).loc Cert.AdamwInRefIdeal.main_arg6))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4)
      ∧ r.2.mem ((c.tc : Thread Cert.AdamwOut.nD Cert.AdamwOut.τ).loc Cert.AdamwOut.main_arg5) = m ((c.tc : Thread Cert.AdamwOut.nD Cert.AdamwOut.τ).loc Cert.AdamwOut.main_arg5)
      ∧ r.2.mem ((c.tc : Thread Cert.AdamwOut.nD Cert.AdamwOut.τ).loc Cert.AdamwOut.main_arg6) = m ((c.tc : Thread Cert.AdamwOut.nD Cert.AdamwOut.τ).loc Cert.AdamwOut.main_arg6))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
      ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5)
      ∧ r.2.mem ((c.tc : Thread Cert.AdamwOutIdeal.nD Cert.AdamwOutIdeal.τ).loc Cert.AdamwOutIdeal.main_arg6) = m ((c.tc : Thread Cert.AdamwOutIdeal.nD Cert.AdamwOutIdeal.τ).loc Cert.AdamwOutIdeal.main_arg6))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3)
      ∧ r.2.mem ((c.tc : Thread Cert.AdamwOutRefIdeal.nD Cert.AdamwOutRefIdeal.τ).loc Cert.AdamwOutRefIdeal.main_arg4) = m ((c.tc : Thread Cert.AdamwOutRefIdeal.nD Cert.AdamwOutRefIdeal.τ).loc Cert.AdamwOutRefIdeal.main_arg4)
      ∧ r.2.mem ((c.tc : Thread Cert.AdamwOutRefIdeal.nD Cert.AdamwOutRefIdeal.τ).loc Cert.AdamwOutRefIdeal.main_arg5) = m ((c.tc : Thread Cert.AdamwOutRefIdeal.nD Cert.AdamwOutRefIdeal.τ).loc Cert.AdamwOutRefIdeal.main_arg5)
      ∧ r.2.mem ((c.tc : Thread Cert.AdamwOutRefIdeal.nD Cert.AdamwOutRefIdeal.τ).loc Cert.AdamwOutRefIdeal.main_arg6) = m ((c.tc : Thread Cert.AdamwOutRefIdeal.nD Cert.AdamwOutRefIdeal.τ).loc Cert.AdamwOutRefIdeal.main_arg6))
      ∧ r.2.sem = fun _ => 0)

def quiescent_AdamwFfIn [hAdamwFfIn : Cert.AdamwFfIn.Facts] : Prop :=
  ∀ (m : (ℓ : Loc Cert.AdamwFfIn.nD Cert.AdamwFfIn.τ Cert.AdamwFfIn.sig) → Buf (Elt Bits) ℓ) (g : Dev Cert.AdamwFfIn.nD → PrngReg), Pre_AdamwFfIn m →
    θ_run (Cert.AdamwFfIn.defs (F := Bits)) (onTc (τ := Cert.AdamwFfIn.τ) (Cert.AdamwFfIn.main (F := Bits))) ⟨m, fun _ => 0, g⟩ (fun r => (∀ c : Dev Cert.AdamwFfIn.nD,
      r.2.mem ((c.tc : Thread Cert.AdamwFfIn.nD Cert.AdamwFfIn.τ).loc Cert.AdamwFfIn.main_arg0) = m ((c.tc : Thread Cert.AdamwFfIn.nD Cert.AdamwFfIn.τ).loc Cert.AdamwFfIn.main_arg0)
      ∧ r.2.mem ((c.tc : Thread Cert.AdamwFfIn.nD Cert.AdamwFfIn.τ).loc Cert.AdamwFfIn.main_arg1) = m ((c.tc : Thread Cert.AdamwFfIn.nD Cert.AdamwFfIn.τ).loc Cert.AdamwFfIn.main_arg1)
      ∧ r.2.mem ((c.tc : Thread Cert.AdamwFfIn.nD Cert.AdamwFfIn.τ).loc Cert.AdamwFfIn.main_arg2) = m ((c.tc : Thread Cert.AdamwFfIn.nD Cert.AdamwFfIn.τ).loc Cert.AdamwFfIn.main_arg2)
      ∧ r.2.mem ((c.tc : Thread Cert.AdamwFfIn.nD Cert.AdamwFfIn.τ).loc Cert.AdamwFfIn.main_arg3) = m ((c.tc : Thread Cert.AdamwFfIn.nD Cert.AdamwFfIn.τ).loc Cert.AdamwFfIn.main_arg3)
      ∧ r.2.mem ((c.tc : Thread Cert.AdamwFfIn.nD Cert.AdamwFfIn.τ).loc Cert.AdamwFfIn.main_arg4) = m ((c.tc : Thread Cert.AdamwFfIn.nD Cert.AdamwFfIn.τ).loc Cert.AdamwFfIn.main_arg4)
      ∧ r.2.mem ((c.tc : Thread Cert.AdamwFfIn.nD Cert.AdamwFfIn.τ).loc Cert.AdamwFfIn.main_arg5) = m ((c.tc : Thread Cert.AdamwFfIn.nD Cert.AdamwFfIn.τ).loc Cert.AdamwFfIn.main_arg5)
      ∧ r.2.mem ((c.tc : Thread Cert.AdamwFfIn.nD Cert.AdamwFfIn.τ).loc Cert.AdamwFfIn.main_arg6) = m ((c.tc : Thread Cert.AdamwFfIn.nD Cert.AdamwFfIn.τ).loc Cert.AdamwFfIn.main_arg6))
      ∧ r.2.sem = fun _ => 0)

def quiescent_AdamwFfInIdeal [hAdamwFfInIdeal : Cert.AdamwFfInIdeal.Facts] : Prop :=
  ∀ (m : (ℓ : Loc Cert.AdamwFfInIdeal.nD Cert.AdamwFfInIdeal.τ Cert.AdamwFfInIdeal.sig) → Buf (Elt Ideal) ℓ) (g : Dev Cert.AdamwFfInIdeal.nD → PrngReg), Pre_AdamwFfInIdeal m →
    θ_run (Cert.AdamwFfInIdeal.defs (F := Ideal)) (onTc (τ := Cert.AdamwFfInIdeal.τ) (Cert.AdamwFfInIdeal.main (F := Ideal))) ⟨m, fun _ => 0, g⟩ (fun r => (∀ c : Dev Cert.AdamwFfInIdeal.nD,
      r.2.mem ((c.tc : Thread Cert.AdamwFfInIdeal.nD Cert.AdamwFfInIdeal.τ).loc Cert.AdamwFfInIdeal.main_arg0) = m ((c.tc : Thread Cert.AdamwFfInIdeal.nD Cert.AdamwFfInIdeal.τ).loc Cert.AdamwFfInIdeal.main_arg0)
      ∧ r.2.mem ((c.tc : Thread Cert.AdamwFfInIdeal.nD Cert.AdamwFfInIdeal.τ).loc Cert.AdamwFfInIdeal.main_arg1) = m ((c.tc : Thread Cert.AdamwFfInIdeal.nD Cert.AdamwFfInIdeal.τ).loc Cert.AdamwFfInIdeal.main_arg1)
      ∧ r.2.mem ((c.tc : Thread Cert.AdamwFfInIdeal.nD Cert.AdamwFfInIdeal.τ).loc Cert.AdamwFfInIdeal.main_arg2) = m ((c.tc : Thread Cert.AdamwFfInIdeal.nD Cert.AdamwFfInIdeal.τ).loc Cert.AdamwFfInIdeal.main_arg2)
      ∧ r.2.mem ((c.tc : Thread Cert.AdamwFfInIdeal.nD Cert.AdamwFfInIdeal.τ).loc Cert.AdamwFfInIdeal.main_arg3) = m ((c.tc : Thread Cert.AdamwFfInIdeal.nD Cert.AdamwFfInIdeal.τ).loc Cert.AdamwFfInIdeal.main_arg3)
      ∧ r.2.mem ((c.tc : Thread Cert.AdamwFfInIdeal.nD Cert.AdamwFfInIdeal.τ).loc Cert.AdamwFfInIdeal.main_arg4) = m ((c.tc : Thread Cert.AdamwFfInIdeal.nD Cert.AdamwFfInIdeal.τ).loc Cert.AdamwFfInIdeal.main_arg4)
      ∧ r.2.mem ((c.tc : Thread Cert.AdamwFfInIdeal.nD Cert.AdamwFfInIdeal.τ).loc Cert.AdamwFfInIdeal.main_arg5) = m ((c.tc : Thread Cert.AdamwFfInIdeal.nD Cert.AdamwFfInIdeal.τ).loc Cert.AdamwFfInIdeal.main_arg5)
      ∧ r.2.mem ((c.tc : Thread Cert.AdamwFfInIdeal.nD Cert.AdamwFfInIdeal.τ).loc Cert.AdamwFfInIdeal.main_arg6) = m ((c.tc : Thread Cert.AdamwFfInIdeal.nD Cert.AdamwFfInIdeal.τ).loc Cert.AdamwFfInIdeal.main_arg6))
      ∧ r.2.sem = fun _ => 0)

def quiescent_AdamwFfInRefIdeal [hAdamwFfInRefIdeal : Cert.AdamwFfInRefIdeal.Facts] : Prop :=
  ∀ (m : (ℓ : Loc Cert.AdamwFfInRefIdeal.nD Cert.AdamwFfInRefIdeal.τ Cert.AdamwFfInRefIdeal.sig) → Buf (Elt Ideal) ℓ) (g : Dev Cert.AdamwFfInRefIdeal.nD → PrngReg), Pre_AdamwFfInRefIdeal m →
    θ_run (Cert.AdamwFfInRefIdeal.defs (F := Ideal)) (onTc (τ := Cert.AdamwFfInRefIdeal.τ) (Cert.AdamwFfInRefIdeal.main (F := Ideal))) ⟨m, fun _ => 0, g⟩ (fun r => (∀ c : Dev Cert.AdamwFfInRefIdeal.nD,
      r.2.mem ((c.tc : Thread Cert.AdamwFfInRefIdeal.nD Cert.AdamwFfInRefIdeal.τ).loc Cert.AdamwFfInRefIdeal.main_arg0) = m ((c.tc : Thread Cert.AdamwFfInRefIdeal.nD Cert.AdamwFfInRefIdeal.τ).loc Cert.AdamwFfInRefIdeal.main_arg0)
      ∧ r.2.mem ((c.tc : Thread Cert.AdamwFfInRefIdeal.nD Cert.AdamwFfInRefIdeal.τ).loc Cert.AdamwFfInRefIdeal.main_arg1) = m ((c.tc : Thread Cert.AdamwFfInRefIdeal.nD Cert.AdamwFfInRefIdeal.τ).loc Cert.AdamwFfInRefIdeal.main_arg1)
      ∧ r.2.mem ((c.tc : Thread Cert.AdamwFfInRefIdeal.nD Cert.AdamwFfInRefIdeal.τ).loc Cert.AdamwFfInRefIdeal.main_arg2) = m ((c.tc : Thread Cert.AdamwFfInRefIdeal.nD Cert.AdamwFfInRefIdeal.τ).loc Cert.AdamwFfInRefIdeal.main_arg2)
      ∧ r.2.mem ((c.tc : Thread Cert.AdamwFfInRefIdeal.nD Cert.AdamwFfInRefIdeal.τ).loc Cert.AdamwFfInRefIdeal.main_arg3) = m ((c.tc : Thread Cert.AdamwFfInRefIdeal.nD Cert.AdamwFfInRefIdeal.τ).loc Cert.AdamwFfInRefIdeal.main_arg3)
      ∧ r.2.mem ((c.tc : Thread Cert.AdamwFfInRefIdeal.nD Cert.AdamwFfInRefIdeal.τ).loc Cert.AdamwFfInRefIdeal.main_arg4) = m ((c.tc : Thread Cert.AdamwFfInRefIdeal.nD Cert.AdamwFfInRefIdeal.τ).loc Cert.AdamwFfInRefIdeal.main_arg4)
      ∧ r.2.mem ((c.tc : Thread Cert.AdamwFfInRefIdeal.nD Cert.AdamwFfInRefIdeal.τ).loc Cert.AdamwFfInRefIdeal.main_arg5) = m ((c.tc : Thread Cert.AdamwFfInRefIdeal.nD Cert.AdamwFfInRefIdeal.τ).loc Cert.AdamwFfInRefIdeal.main_arg5)
      ∧ r.2.mem ((c.tc : Thread Cert.AdamwFfInRefIdeal.nD Cert.AdamwFfInRefIdeal.τ).loc Cert.AdamwFfInRefIdeal.main_arg6) = m ((c.tc : Thread Cert.AdamwFfInRefIdeal.nD Cert.AdamwFfInRefIdeal.τ).loc Cert.AdamwFfInRefIdeal.main_arg6))
      ∧ r.2.sem = fun _ => 0)

def quiescent_AdamwFfOut [hAdamwFfOut : Cert.AdamwFfOut.Facts] : Prop :=
  ∀ (m : (ℓ : Loc Cert.AdamwFfOut.nD Cert.AdamwFfOut.τ Cert.AdamwFfOut.sig) → Buf (Elt Bits) ℓ) (g : Dev Cert.AdamwFfOut.nD → PrngReg), Pre_AdamwFfOut m →
    θ_run (Cert.AdamwFfOut.defs (F := Bits)) (onTc (τ := Cert.AdamwFfOut.τ) (Cert.AdamwFfOut.main (F := Bits))) ⟨m, fun _ => 0, g⟩ (fun r => (∀ c : Dev Cert.AdamwFfOut.nD,
      r.2.mem ((c.tc : Thread Cert.AdamwFfOut.nD Cert.AdamwFfOut.τ).loc Cert.AdamwFfOut.main_arg0) = m ((c.tc : Thread Cert.AdamwFfOut.nD Cert.AdamwFfOut.τ).loc Cert.AdamwFfOut.main_arg0)
      ∧ r.2.mem ((c.tc : Thread Cert.AdamwFfOut.nD Cert.AdamwFfOut.τ).loc Cert.AdamwFfOut.main_arg1) = m ((c.tc : Thread Cert.AdamwFfOut.nD Cert.AdamwFfOut.τ).loc Cert.AdamwFfOut.main_arg1)
      ∧ r.2.mem ((c.tc : Thread Cert.AdamwFfOut.nD Cert.AdamwFfOut.τ).loc Cert.AdamwFfOut.main_arg2) = m ((c.tc : Thread Cert.AdamwFfOut.nD Cert.AdamwFfOut.τ).loc Cert.AdamwFfOut.main_arg2)
      ∧ r.2.mem ((c.tc : Thread Cert.AdamwFfOut.nD Cert.AdamwFfOut.τ).loc Cert.AdamwFfOut.main_arg3) = m ((c.tc : Thread Cert.AdamwFfOut.nD Cert.AdamwFfOut.τ).loc Cert.AdamwFfOut.main_arg3)
      ∧ r.2.mem ((c.tc : Thread Cert.AdamwFfOut.nD Cert.AdamwFfOut.τ).loc Cert.AdamwFfOut.main_arg4) = m ((c.tc : Thread Cert.AdamwFfOut.nD Cert.AdamwFfOut.τ).loc Cert.AdamwFfOut.main_arg4)
      ∧ r.2.mem ((c.tc : Thread Cert.AdamwFfOut.nD Cert.AdamwFfOut.τ).loc Cert.AdamwFfOut.main_arg5) = m ((c.tc : Thread Cert.AdamwFfOut.nD Cert.AdamwFfOut.τ).loc Cert.AdamwFfOut.main_arg5)
      ∧ r.2.mem ((c.tc : Thread Cert.AdamwFfOut.nD Cert.AdamwFfOut.τ).loc Cert.AdamwFfOut.main_arg6) = m ((c.tc : Thread Cert.AdamwFfOut.nD Cert.AdamwFfOut.τ).loc Cert.AdamwFfOut.main_arg6))
      ∧ r.2.sem = fun _ => 0)

def quiescent_AdamwFfOutIdeal [hAdamwFfOutIdeal : Cert.AdamwFfOutIdeal.Facts] : Prop :=
  ∀ (m : (ℓ : Loc Cert.AdamwFfOutIdeal.nD Cert.AdamwFfOutIdeal.τ Cert.AdamwFfOutIdeal.sig) → Buf (Elt Ideal) ℓ) (g : Dev Cert.AdamwFfOutIdeal.nD → PrngReg), Pre_AdamwFfOutIdeal m →
    θ_run (Cert.AdamwFfOutIdeal.defs (F := Ideal)) (onTc (τ := Cert.AdamwFfOutIdeal.τ) (Cert.AdamwFfOutIdeal.main (F := Ideal))) ⟨m, fun _ => 0, g⟩ (fun r => (∀ c : Dev Cert.AdamwFfOutIdeal.nD,
      r.2.mem ((c.tc : Thread Cert.AdamwFfOutIdeal.nD Cert.AdamwFfOutIdeal.τ).loc Cert.AdamwFfOutIdeal.main_arg0) = m ((c.tc : Thread Cert.AdamwFfOutIdeal.nD Cert.AdamwFfOutIdeal.τ).loc Cert.AdamwFfOutIdeal.main_arg0)
      ∧ r.2.mem ((c.tc : Thread Cert.AdamwFfOutIdeal.nD Cert.AdamwFfOutIdeal.τ).loc Cert.AdamwFfOutIdeal.main_arg1) = m ((c.tc : Thread Cert.AdamwFfOutIdeal.nD Cert.AdamwFfOutIdeal.τ).loc Cert.AdamwFfOutIdeal.main_arg1)
      ∧ r.2.mem ((c.tc : Thread Cert.AdamwFfOutIdeal.nD Cert.AdamwFfOutIdeal.τ).loc Cert.AdamwFfOutIdeal.main_arg2) = m ((c.tc : Thread Cert.AdamwFfOutIdeal.nD Cert.AdamwFfOutIdeal.τ).loc Cert.AdamwFfOutIdeal.main_arg2)
      ∧ r.2.mem ((c.tc : Thread Cert.AdamwFfOutIdeal.nD Cert.AdamwFfOutIdeal.τ).loc Cert.AdamwFfOutIdeal.main_arg3) = m ((c.tc : Thread Cert.AdamwFfOutIdeal.nD Cert.AdamwFfOutIdeal.τ).loc Cert.AdamwFfOutIdeal.main_arg3)
      ∧ r.2.mem ((c.tc : Thread Cert.AdamwFfOutIdeal.nD Cert.AdamwFfOutIdeal.τ).loc Cert.AdamwFfOutIdeal.main_arg4) = m ((c.tc : Thread Cert.AdamwFfOutIdeal.nD Cert.AdamwFfOutIdeal.τ).loc Cert.AdamwFfOutIdeal.main_arg4)
      ∧ r.2.mem ((c.tc : Thread Cert.AdamwFfOutIdeal.nD Cert.AdamwFfOutIdeal.τ).loc Cert.AdamwFfOutIdeal.main_arg5) = m ((c.tc : Thread Cert.AdamwFfOutIdeal.nD Cert.AdamwFfOutIdeal.τ).loc Cert.AdamwFfOutIdeal.main_arg5)
      ∧ r.2.mem ((c.tc : Thread Cert.AdamwFfOutIdeal.nD Cert.AdamwFfOutIdeal.τ).loc Cert.AdamwFfOutIdeal.main_arg6) = m ((c.tc : Thread Cert.AdamwFfOutIdeal.nD Cert.AdamwFfOutIdeal.τ).loc Cert.AdamwFfOutIdeal.main_arg6))
      ∧ r.2.sem = fun _ => 0)

def quiescent_AdamwFfOutRefIdeal [hAdamwFfOutRefIdeal : Cert.AdamwFfOutRefIdeal.Facts] : Prop :=
  ∀ (m : (ℓ : Loc Cert.AdamwFfOutRefIdeal.nD Cert.AdamwFfOutRefIdeal.τ Cert.AdamwFfOutRefIdeal.sig) → Buf (Elt Ideal) ℓ) (g : Dev Cert.AdamwFfOutRefIdeal.nD → PrngReg), Pre_AdamwFfOutRefIdeal m →
    θ_run (Cert.AdamwFfOutRefIdeal.defs (F := Ideal)) (onTc (τ := Cert.AdamwFfOutRefIdeal.τ) (Cert.AdamwFfOutRefIdeal.main (F := Ideal))) ⟨m, fun _ => 0, g⟩ (fun r => (∀ c : Dev Cert.AdamwFfOutRefIdeal.nD,
      r.2.mem ((c.tc : Thread Cert.AdamwFfOutRefIdeal.nD Cert.AdamwFfOutRefIdeal.τ).loc Cert.AdamwFfOutRefIdeal.main_arg0) = m ((c.tc : Thread Cert.AdamwFfOutRefIdeal.nD Cert.AdamwFfOutRefIdeal.τ).loc Cert.AdamwFfOutRefIdeal.main_arg0)
      ∧ r.2.mem ((c.tc : Thread Cert.AdamwFfOutRefIdeal.nD Cert.AdamwFfOutRefIdeal.τ).loc Cert.AdamwFfOutRefIdeal.main_arg1) = m ((c.tc : Thread Cert.AdamwFfOutRefIdeal.nD Cert.AdamwFfOutRefIdeal.τ).loc Cert.AdamwFfOutRefIdeal.main_arg1)
      ∧ r.2.mem ((c.tc : Thread Cert.AdamwFfOutRefIdeal.nD Cert.AdamwFfOutRefIdeal.τ).loc Cert.AdamwFfOutRefIdeal.main_arg2) = m ((c.tc : Thread Cert.AdamwFfOutRefIdeal.nD Cert.AdamwFfOutRefIdeal.τ).loc Cert.AdamwFfOutRefIdeal.main_arg2)
      ∧ r.2.mem ((c.tc : Thread Cert.AdamwFfOutRefIdeal.nD Cert.AdamwFfOutRefIdeal.τ).loc Cert.AdamwFfOutRefIdeal.main_arg3) = m ((c.tc : Thread Cert.AdamwFfOutRefIdeal.nD Cert.AdamwFfOutRefIdeal.τ).loc Cert.AdamwFfOutRefIdeal.main_arg3)
      ∧ r.2.mem ((c.tc : Thread Cert.AdamwFfOutRefIdeal.nD Cert.AdamwFfOutRefIdeal.τ).loc Cert.AdamwFfOutRefIdeal.main_arg4) = m ((c.tc : Thread Cert.AdamwFfOutRefIdeal.nD Cert.AdamwFfOutRefIdeal.τ).loc Cert.AdamwFfOutRefIdeal.main_arg4)
      ∧ r.2.mem ((c.tc : Thread Cert.AdamwFfOutRefIdeal.nD Cert.AdamwFfOutRefIdeal.τ).loc Cert.AdamwFfOutRefIdeal.main_arg5) = m ((c.tc : Thread Cert.AdamwFfOutRefIdeal.nD Cert.AdamwFfOutRefIdeal.τ).loc Cert.AdamwFfOutRefIdeal.main_arg5)
      ∧ r.2.mem ((c.tc : Thread Cert.AdamwFfOutRefIdeal.nD Cert.AdamwFfOutRefIdeal.τ).loc Cert.AdamwFfOutRefIdeal.main_arg6) = m ((c.tc : Thread Cert.AdamwFfOutRefIdeal.nD Cert.AdamwFfOutRefIdeal.τ).loc Cert.AdamwFfOutRefIdeal.main_arg6))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttFwdIdeal_pre_att_fwd_inputs_finite [hAttFwdIdeal : Cert.AttFwdIdeal.Facts] [hPre_att_fwd_inputs_finite : Cert.Pre_att_fwd_inputs_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_att_fwd_inputs_finite m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1))
      ∧ r.2.sem = fun _ => 0)

def quiescent_AttFwdRefIdeal_pre_att_fwd_inputs_finite [hAttFwdRefIdeal : Cert.AttFwdRefIdeal.Facts] [hPre_att_fwd_inputs_finite : Cert.Pre_att_fwd_inputs_finite.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_att_fwd_inputs_finite m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1))
      ∧ r.2.sem = fun _ => 0)

def preserves_Kernel_KernelIdeal : Prop :=
  True

def algebraic_KernelIdeal_ReferenceIdeal_pre_merge_inputs_finite [hKernelIdeal : Cert.KernelIdeal.Facts] [hReferenceIdeal : Cert.ReferenceIdeal.Facts] [hPre_merge_inputs_finite : Cert.Pre_merge_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_merge_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v77) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfOutDx_FfOutDxIdeal : Prop :=
  True

def algebraic_FfOutDxIdeal_FfOutDxRefIdeal [hFfOutDxIdeal : Cert.FfOutDxIdeal.Facts] [hFfOutDxRefIdeal : Cert.FfOutDxRefIdeal.Facts] : Prop :=
  ∀ (m : (ℓ : Loc Cert.FfOutDxIdeal.nD Cert.FfOutDxIdeal.τ Cert.FfOutDxIdeal.sig) → Buf (Elt Ideal) ℓ) (g : Dev Cert.FfOutDxIdeal.nD → PrngReg)
    (m' : (ℓ : Loc Cert.FfOutDxRefIdeal.nD Cert.FfOutDxRefIdeal.τ Cert.FfOutDxRefIdeal.sig) → Buf (Elt Ideal) ℓ) (g' : Dev Cert.FfOutDxRefIdeal.nD → PrngReg), Pre_FfOutDxIdeal m →
    (∀ c : Dev Cert.FfOutDxIdeal.nD,
      m' ((c.tc : Thread Cert.FfOutDxRefIdeal.nD Cert.FfOutDxRefIdeal.τ).loc Cert.FfOutDxRefIdeal.main_arg0) = m ((c.tc : Thread Cert.FfOutDxIdeal.nD Cert.FfOutDxIdeal.τ).loc Cert.FfOutDxIdeal.main_arg0)
      ∧ m' ((c.tc : Thread Cert.FfOutDxRefIdeal.nD Cert.FfOutDxRefIdeal.τ).loc Cert.FfOutDxRefIdeal.main_arg1) = m ((c.tc : Thread Cert.FfOutDxIdeal.nD Cert.FfOutDxIdeal.τ).loc Cert.FfOutDxIdeal.main_arg1)
      ∧ m' ((c.tc : Thread Cert.FfOutDxRefIdeal.nD Cert.FfOutDxRefIdeal.τ).loc Cert.FfOutDxRefIdeal.main_arg2) = m ((c.tc : Thread Cert.FfOutDxIdeal.nD Cert.FfOutDxIdeal.τ).loc Cert.FfOutDxIdeal.main_arg2)
      ∧ m' ((c.tc : Thread Cert.FfOutDxRefIdeal.nD Cert.FfOutDxRefIdeal.τ).loc Cert.FfOutDxRefIdeal.main_arg3) = m ((c.tc : Thread Cert.FfOutDxIdeal.nD Cert.FfOutDxIdeal.τ).loc Cert.FfOutDxIdeal.main_arg3)) →
    ∃ (v0 : (c : Dev Cert.FfOutDxIdeal.nD) → Buf (Elt Ideal) ((c.tc : Thread Cert.FfOutDxIdeal.nD Cert.FfOutDxIdeal.τ).loc Cert.FfOutDxIdeal.main_v0)),
      θ_run (Cert.FfOutDxIdeal.defs (F := Ideal)) (onTc (τ := Cert.FfOutDxIdeal.τ) (Cert.FfOutDxIdeal.main (F := Ideal))) ⟨m, fun _ => 0, g⟩ (fun r => ∀ c : Dev Cert.FfOutDxIdeal.nD,
          r.2.mem ((c.tc : Thread Cert.FfOutDxIdeal.nD Cert.FfOutDxIdeal.τ).loc Cert.FfOutDxIdeal.main_v0) = v0 c
          ∧ r.2.mem ((c.tc : Thread Cert.FfOutDxIdeal.nD Cert.FfOutDxIdeal.τ).loc Cert.FfOutDxIdeal.main_arg0) = m ((c.tc : Thread Cert.FfOutDxIdeal.nD Cert.FfOutDxIdeal.τ).loc Cert.FfOutDxIdeal.main_arg0)
          ∧ r.2.mem ((c.tc : Thread Cert.FfOutDxIdeal.nD Cert.FfOutDxIdeal.τ).loc Cert.FfOutDxIdeal.main_arg1) = m ((c.tc : Thread Cert.FfOutDxIdeal.nD Cert.FfOutDxIdeal.τ).loc Cert.FfOutDxIdeal.main_arg1)
          ∧ r.2.mem ((c.tc : Thread Cert.FfOutDxIdeal.nD Cert.FfOutDxIdeal.τ).loc Cert.FfOutDxIdeal.main_arg2) = m ((c.tc : Thread Cert.FfOutDxIdeal.nD Cert.FfOutDxIdeal.τ).loc Cert.FfOutDxIdeal.main_arg2)
          ∧ r.2.mem ((c.tc : Thread Cert.FfOutDxIdeal.nD Cert.FfOutDxIdeal.τ).loc Cert.FfOutDxIdeal.main_arg3) = m ((c.tc : Thread Cert.FfOutDxIdeal.nD Cert.FfOutDxIdeal.τ).loc Cert.FfOutDxIdeal.main_arg3))
      ∧ θ_run (Cert.FfOutDxRefIdeal.defs (F := Ideal)) (onTc (τ := Cert.FfOutDxRefIdeal.τ) (Cert.FfOutDxRefIdeal.main (F := Ideal))) ⟨m', fun _ => 0, g'⟩ (fun r => ∀ c : Dev Cert.FfOutDxRefIdeal.nD,
          r.2.mem ((c.tc : Thread Cert.FfOutDxRefIdeal.nD Cert.FfOutDxRefIdeal.τ).loc Cert.FfOutDxRefIdeal.main_v17) = v0 c
          ∧ r.2.mem ((c.tc : Thread Cert.FfOutDxRefIdeal.nD Cert.FfOutDxRefIdeal.τ).loc Cert.FfOutDxRefIdeal.main_arg0) = m' ((c.tc : Thread Cert.FfOutDxRefIdeal.nD Cert.FfOutDxRefIdeal.τ).loc Cert.FfOutDxRefIdeal.main_arg0)
          ∧ r.2.mem ((c.tc : Thread Cert.FfOutDxRefIdeal.nD Cert.FfOutDxRefIdeal.τ).loc Cert.FfOutDxRefIdeal.main_arg1) = m' ((c.tc : Thread Cert.FfOutDxRefIdeal.nD Cert.FfOutDxRefIdeal.τ).loc Cert.FfOutDxRefIdeal.main_arg1)
          ∧ r.2.mem ((c.tc : Thread Cert.FfOutDxRefIdeal.nD Cert.FfOutDxRefIdeal.τ).loc Cert.FfOutDxRefIdeal.main_arg2) = m' ((c.tc : Thread Cert.FfOutDxRefIdeal.nD Cert.FfOutDxRefIdeal.τ).loc Cert.FfOutDxRefIdeal.main_arg2)
          ∧ r.2.mem ((c.tc : Thread Cert.FfOutDxRefIdeal.nD Cert.FfOutDxRefIdeal.τ).loc Cert.FfOutDxRefIdeal.main_arg3) = m' ((c.tc : Thread Cert.FfOutDxRefIdeal.nD Cert.FfOutDxRefIdeal.τ).loc Cert.FfOutDxRefIdeal.main_arg3))

def preserves_FfInDx_FfInDxIdeal : Prop :=
  True

def algebraic_FfInDxIdeal_FfInDxRefIdeal [hFfInDxIdeal : Cert.FfInDxIdeal.Facts] [hFfInDxRefIdeal : Cert.FfInDxRefIdeal.Facts] : Prop :=
  ∀ (m : (ℓ : Loc Cert.FfInDxIdeal.nD Cert.FfInDxIdeal.τ Cert.FfInDxIdeal.sig) → Buf (Elt Ideal) ℓ) (g : Dev Cert.FfInDxIdeal.nD → PrngReg)
    (m' : (ℓ : Loc Cert.FfInDxRefIdeal.nD Cert.FfInDxRefIdeal.τ Cert.FfInDxRefIdeal.sig) → Buf (Elt Ideal) ℓ) (g' : Dev Cert.FfInDxRefIdeal.nD → PrngReg), Pre_FfInDxIdeal m →
    (∀ c : Dev Cert.FfInDxIdeal.nD,
      m' ((c.tc : Thread Cert.FfInDxRefIdeal.nD Cert.FfInDxRefIdeal.τ).loc Cert.FfInDxRefIdeal.main_arg0) = m ((c.tc : Thread Cert.FfInDxIdeal.nD Cert.FfInDxIdeal.τ).loc Cert.FfInDxIdeal.main_arg0)
      ∧ m' ((c.tc : Thread Cert.FfInDxRefIdeal.nD Cert.FfInDxRefIdeal.τ).loc Cert.FfInDxRefIdeal.main_arg1) = m ((c.tc : Thread Cert.FfInDxIdeal.nD Cert.FfInDxIdeal.τ).loc Cert.FfInDxIdeal.main_arg1)) →
    ∃ (v0 : (c : Dev Cert.FfInDxIdeal.nD) → Buf (Elt Ideal) ((c.tc : Thread Cert.FfInDxIdeal.nD Cert.FfInDxIdeal.τ).loc Cert.FfInDxIdeal.main_v0)),
      θ_run (Cert.FfInDxIdeal.defs (F := Ideal)) (onTc (τ := Cert.FfInDxIdeal.τ) (Cert.FfInDxIdeal.main (F := Ideal))) ⟨m, fun _ => 0, g⟩ (fun r => ∀ c : Dev Cert.FfInDxIdeal.nD,
          r.2.mem ((c.tc : Thread Cert.FfInDxIdeal.nD Cert.FfInDxIdeal.τ).loc Cert.FfInDxIdeal.main_v0) = v0 c
          ∧ r.2.mem ((c.tc : Thread Cert.FfInDxIdeal.nD Cert.FfInDxIdeal.τ).loc Cert.FfInDxIdeal.main_arg0) = m ((c.tc : Thread Cert.FfInDxIdeal.nD Cert.FfInDxIdeal.τ).loc Cert.FfInDxIdeal.main_arg0)
          ∧ r.2.mem ((c.tc : Thread Cert.FfInDxIdeal.nD Cert.FfInDxIdeal.τ).loc Cert.FfInDxIdeal.main_arg1) = m ((c.tc : Thread Cert.FfInDxIdeal.nD Cert.FfInDxIdeal.τ).loc Cert.FfInDxIdeal.main_arg1))
      ∧ θ_run (Cert.FfInDxRefIdeal.defs (F := Ideal)) (onTc (τ := Cert.FfInDxRefIdeal.τ) (Cert.FfInDxRefIdeal.main (F := Ideal))) ⟨m', fun _ => 0, g'⟩ (fun r => ∀ c : Dev Cert.FfInDxRefIdeal.nD,
          r.2.mem ((c.tc : Thread Cert.FfInDxRefIdeal.nD Cert.FfInDxRefIdeal.τ).loc Cert.FfInDxRefIdeal.main_v4) = v0 c
          ∧ r.2.mem ((c.tc : Thread Cert.FfInDxRefIdeal.nD Cert.FfInDxRefIdeal.τ).loc Cert.FfInDxRefIdeal.main_arg0) = m' ((c.tc : Thread Cert.FfInDxRefIdeal.nD Cert.FfInDxRefIdeal.τ).loc Cert.FfInDxRefIdeal.main_arg0)
          ∧ r.2.mem ((c.tc : Thread Cert.FfInDxRefIdeal.nD Cert.FfInDxRefIdeal.τ).loc Cert.FfInDxRefIdeal.main_arg1) = m' ((c.tc : Thread Cert.FfInDxRefIdeal.nD Cert.FfInDxRefIdeal.τ).loc Cert.FfInDxRefIdeal.main_arg1))

def preserves_FfInDw_FfInDwIdeal : Prop :=
  True

def algebraic_FfInDwIdeal_FfInDwRefIdeal [hFfInDwIdeal : Cert.FfInDwIdeal.Facts] [hFfInDwRefIdeal : Cert.FfInDwRefIdeal.Facts] : Prop :=
  ∀ (m : (ℓ : Loc Cert.FfInDwIdeal.nD Cert.FfInDwIdeal.τ Cert.FfInDwIdeal.sig) → Buf (Elt Ideal) ℓ) (g : Dev Cert.FfInDwIdeal.nD → PrngReg)
    (m' : (ℓ : Loc Cert.FfInDwRefIdeal.nD Cert.FfInDwRefIdeal.τ Cert.FfInDwRefIdeal.sig) → Buf (Elt Ideal) ℓ) (g' : Dev Cert.FfInDwRefIdeal.nD → PrngReg), Pre_FfInDwIdeal m →
    (∀ c : Dev Cert.FfInDwIdeal.nD,
      m' ((c.tc : Thread Cert.FfInDwRefIdeal.nD Cert.FfInDwRefIdeal.τ).loc Cert.FfInDwRefIdeal.main_arg0) = m ((c.tc : Thread Cert.FfInDwIdeal.nD Cert.FfInDwIdeal.τ).loc Cert.FfInDwIdeal.main_arg0)
      ∧ m' ((c.tc : Thread Cert.FfInDwRefIdeal.nD Cert.FfInDwRefIdeal.τ).loc Cert.FfInDwRefIdeal.main_arg1) = m ((c.tc : Thread Cert.FfInDwIdeal.nD Cert.FfInDwIdeal.τ).loc Cert.FfInDwIdeal.main_arg1)) →
    ∃ (v0 : (c : Dev Cert.FfInDwIdeal.nD) → Buf (Elt Ideal) ((c.tc : Thread Cert.FfInDwIdeal.nD Cert.FfInDwIdeal.τ).loc Cert.FfInDwIdeal.main_v0)),
      θ_run (Cert.FfInDwIdeal.defs (F := Ideal)) (onTc (τ := Cert.FfInDwIdeal.τ) (Cert.FfInDwIdeal.main (F := Ideal))) ⟨m, fun _ => 0, g⟩ (fun r => ∀ c : Dev Cert.FfInDwIdeal.nD,
          r.2.mem ((c.tc : Thread Cert.FfInDwIdeal.nD Cert.FfInDwIdeal.τ).loc Cert.FfInDwIdeal.main_v0) = v0 c
          ∧ r.2.mem ((c.tc : Thread Cert.FfInDwIdeal.nD Cert.FfInDwIdeal.τ).loc Cert.FfInDwIdeal.main_arg0) = m ((c.tc : Thread Cert.FfInDwIdeal.nD Cert.FfInDwIdeal.τ).loc Cert.FfInDwIdeal.main_arg0)
          ∧ r.2.mem ((c.tc : Thread Cert.FfInDwIdeal.nD Cert.FfInDwIdeal.τ).loc Cert.FfInDwIdeal.main_arg1) = m ((c.tc : Thread Cert.FfInDwIdeal.nD Cert.FfInDwIdeal.τ).loc Cert.FfInDwIdeal.main_arg1))
      ∧ θ_run (Cert.FfInDwRefIdeal.defs (F := Ideal)) (onTc (τ := Cert.FfInDwRefIdeal.τ) (Cert.FfInDwRefIdeal.main (F := Ideal))) ⟨m', fun _ => 0, g'⟩ (fun r => ∀ c : Dev Cert.FfInDwRefIdeal.nD,
          r.2.mem ((c.tc : Thread Cert.FfInDwRefIdeal.nD Cert.FfInDwRefIdeal.τ).loc Cert.FfInDwRefIdeal.main_v6) = v0 c
          ∧ r.2.mem ((c.tc : Thread Cert.FfInDwRefIdeal.nD Cert.FfInDwRefIdeal.τ).loc Cert.FfInDwRefIdeal.main_arg0) = m' ((c.tc : Thread Cert.FfInDwRefIdeal.nD Cert.FfInDwRefIdeal.τ).loc Cert.FfInDwRefIdeal.main_arg0)
          ∧ r.2.mem ((c.tc : Thread Cert.FfInDwRefIdeal.nD Cert.FfInDwRefIdeal.τ).loc Cert.FfInDwRefIdeal.main_arg1) = m' ((c.tc : Thread Cert.FfInDwRefIdeal.nD Cert.FfInDwRefIdeal.τ).loc Cert.FfInDwRefIdeal.main_arg1))

def preserves_FfOutDw_FfOutDwIdeal : Prop :=
  True

def algebraic_FfOutDwIdeal_FfOutDwRefIdeal_pre_ff_out_dw_inputs_finite [hFfOutDwIdeal : Cert.FfOutDwIdeal.Facts] [hFfOutDwRefIdeal : Cert.FfOutDwRefIdeal.Facts] [hPre_ff_out_dw_inputs_finite : Cert.Pre_ff_out_dw_inputs_finite.Facts] : Prop :=
  ∀ (m : (ℓ : Loc Cert.FfOutDwIdeal.nD Cert.FfOutDwIdeal.τ Cert.FfOutDwIdeal.sig) → Buf (Elt Ideal) ℓ) (g : Dev Cert.FfOutDwIdeal.nD → PrngReg)
    (m' : (ℓ : Loc Cert.FfOutDwRefIdeal.nD Cert.FfOutDwRefIdeal.τ Cert.FfOutDwRefIdeal.sig) → Buf (Elt Ideal) ℓ) (g' : Dev Cert.FfOutDwRefIdeal.nD → PrngReg), Pre_FfOutDwIdeal_ff_out_dw_inputs_finite m →
    (∀ c : Dev Cert.FfOutDwIdeal.nD,
      m' ((c.tc : Thread Cert.FfOutDwRefIdeal.nD Cert.FfOutDwRefIdeal.τ).loc Cert.FfOutDwRefIdeal.main_arg0) = m ((c.tc : Thread Cert.FfOutDwIdeal.nD Cert.FfOutDwIdeal.τ).loc Cert.FfOutDwIdeal.main_arg0)
      ∧ m' ((c.tc : Thread Cert.FfOutDwRefIdeal.nD Cert.FfOutDwRefIdeal.τ).loc Cert.FfOutDwRefIdeal.main_arg1) = m ((c.tc : Thread Cert.FfOutDwIdeal.nD Cert.FfOutDwIdeal.τ).loc Cert.FfOutDwIdeal.main_arg1)
      ∧ m' ((c.tc : Thread Cert.FfOutDwRefIdeal.nD Cert.FfOutDwRefIdeal.τ).loc Cert.FfOutDwRefIdeal.main_arg2) = m ((c.tc : Thread Cert.FfOutDwIdeal.nD Cert.FfOutDwIdeal.τ).loc Cert.FfOutDwIdeal.main_arg2)
      ∧ m' ((c.tc : Thread Cert.FfOutDwRefIdeal.nD Cert.FfOutDwRefIdeal.τ).loc Cert.FfOutDwRefIdeal.main_arg3) = m ((c.tc : Thread Cert.FfOutDwIdeal.nD Cert.FfOutDwIdeal.τ).loc Cert.FfOutDwIdeal.main_arg3)) →
    ∃ (v0 : (c : Dev Cert.FfOutDwIdeal.nD) → Buf (Elt Ideal) ((c.tc : Thread Cert.FfOutDwIdeal.nD Cert.FfOutDwIdeal.τ).loc Cert.FfOutDwIdeal.main_v0_0)) (v1 : (c : Dev Cert.FfOutDwIdeal.nD) → Buf (Elt Ideal) ((c.tc : Thread Cert.FfOutDwIdeal.nD Cert.FfOutDwIdeal.τ).loc Cert.FfOutDwIdeal.main_v0_1)),
      θ_run (Cert.FfOutDwIdeal.defs (F := Ideal)) (onTc (τ := Cert.FfOutDwIdeal.τ) (Cert.FfOutDwIdeal.main (F := Ideal))) ⟨m, fun _ => 0, g⟩ (fun r => ∀ c : Dev Cert.FfOutDwIdeal.nD,
          r.2.mem ((c.tc : Thread Cert.FfOutDwIdeal.nD Cert.FfOutDwIdeal.τ).loc Cert.FfOutDwIdeal.main_v0_0) = v0 c
          ∧ r.2.mem ((c.tc : Thread Cert.FfOutDwIdeal.nD Cert.FfOutDwIdeal.τ).loc Cert.FfOutDwIdeal.main_v0_1) = v1 c
          ∧ r.2.mem ((c.tc : Thread Cert.FfOutDwIdeal.nD Cert.FfOutDwIdeal.τ).loc Cert.FfOutDwIdeal.main_arg0) = m ((c.tc : Thread Cert.FfOutDwIdeal.nD Cert.FfOutDwIdeal.τ).loc Cert.FfOutDwIdeal.main_arg0)
          ∧ r.2.mem ((c.tc : Thread Cert.FfOutDwIdeal.nD Cert.FfOutDwIdeal.τ).loc Cert.FfOutDwIdeal.main_arg1) = m ((c.tc : Thread Cert.FfOutDwIdeal.nD Cert.FfOutDwIdeal.τ).loc Cert.FfOutDwIdeal.main_arg1)
          ∧ r.2.mem ((c.tc : Thread Cert.FfOutDwIdeal.nD Cert.FfOutDwIdeal.τ).loc Cert.FfOutDwIdeal.main_arg2) = m ((c.tc : Thread Cert.FfOutDwIdeal.nD Cert.FfOutDwIdeal.τ).loc Cert.FfOutDwIdeal.main_arg2)
          ∧ r.2.mem ((c.tc : Thread Cert.FfOutDwIdeal.nD Cert.FfOutDwIdeal.τ).loc Cert.FfOutDwIdeal.main_arg3) = m ((c.tc : Thread Cert.FfOutDwIdeal.nD Cert.FfOutDwIdeal.τ).loc Cert.FfOutDwIdeal.main_arg3))
      ∧ θ_run (Cert.FfOutDwRefIdeal.defs (F := Ideal)) (onTc (τ := Cert.FfOutDwRefIdeal.τ) (Cert.FfOutDwRefIdeal.main (F := Ideal))) ⟨m', fun _ => 0, g'⟩ (fun r => ∀ c : Dev Cert.FfOutDwRefIdeal.nD,
          r.2.mem ((c.tc : Thread Cert.FfOutDwRefIdeal.nD Cert.FfOutDwRefIdeal.τ).loc Cert.FfOutDwRefIdeal.main_v12) = v0 c
          ∧ r.2.mem ((c.tc : Thread Cert.FfOutDwRefIdeal.nD Cert.FfOutDwRefIdeal.τ).loc Cert.FfOutDwRefIdeal.main_v9) = v1 c
          ∧ r.2.mem ((c.tc : Thread Cert.FfOutDwRefIdeal.nD Cert.FfOutDwRefIdeal.τ).loc Cert.FfOutDwRefIdeal.main_arg0) = m' ((c.tc : Thread Cert.FfOutDwRefIdeal.nD Cert.FfOutDwRefIdeal.τ).loc Cert.FfOutDwRefIdeal.main_arg0)
          ∧ r.2.mem ((c.tc : Thread Cert.FfOutDwRefIdeal.nD Cert.FfOutDwRefIdeal.τ).loc Cert.FfOutDwRefIdeal.main_arg1) = m' ((c.tc : Thread Cert.FfOutDwRefIdeal.nD Cert.FfOutDwRefIdeal.τ).loc Cert.FfOutDwRefIdeal.main_arg1)
          ∧ r.2.mem ((c.tc : Thread Cert.FfOutDwRefIdeal.nD Cert.FfOutDwRefIdeal.τ).loc Cert.FfOutDwRefIdeal.main_arg2) = m' ((c.tc : Thread Cert.FfOutDwRefIdeal.nD Cert.FfOutDwRefIdeal.τ).loc Cert.FfOutDwRefIdeal.main_arg2)
          ∧ r.2.mem ((c.tc : Thread Cert.FfOutDwRefIdeal.nD Cert.FfOutDwRefIdeal.τ).loc Cert.FfOutDwRefIdeal.main_arg3) = m' ((c.tc : Thread Cert.FfOutDwRefIdeal.nD Cert.FfOutDwRefIdeal.τ).loc Cert.FfOutDwRefIdeal.main_arg3))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)
      ∧ m' ((c.tc : Thread Cert.InProjDxRefIdeal.nD Cert.InProjDxRefIdeal.τ).loc Cert.InProjDxRefIdeal.main_arg4) = m ((c.tc : Thread Cert.InProjDxIdeal.nD Cert.InProjDxIdeal.τ).loc Cert.InProjDxIdeal.main_arg4)
      ∧ m' ((c.tc : Thread Cert.InProjDxRefIdeal.nD Cert.InProjDxRefIdeal.τ).loc Cert.InProjDxRefIdeal.main_arg5) = m ((c.tc : Thread Cert.InProjDxIdeal.nD Cert.InProjDxIdeal.τ).loc Cert.InProjDxIdeal.main_arg5)
      ∧ m' ((c.tc : Thread Cert.InProjDxRefIdeal.nD Cert.InProjDxRefIdeal.τ).loc Cert.InProjDxRefIdeal.main_arg6) = m ((c.tc : Thread Cert.InProjDxIdeal.nD Cert.InProjDxIdeal.τ).loc Cert.InProjDxIdeal.main_arg6)
      ∧ m' ((c.tc : Thread Cert.InProjDxRefIdeal.nD Cert.InProjDxRefIdeal.τ).loc Cert.InProjDxRefIdeal.main_arg7) = m ((c.tc : Thread Cert.InProjDxIdeal.nD Cert.InProjDxIdeal.τ).loc Cert.InProjDxIdeal.main_arg7)
      ∧ m' ((c.tc : Thread Cert.InProjDxRefIdeal.nD Cert.InProjDxRefIdeal.τ).loc Cert.InProjDxRefIdeal.main_arg8) = m ((c.tc : Thread Cert.InProjDxIdeal.nD Cert.InProjDxIdeal.τ).loc Cert.InProjDxIdeal.main_arg8)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
          ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4)
          ∧ r.2.mem ((c.tc : Thread Cert.InProjDxIdeal.nD Cert.InProjDxIdeal.τ).loc Cert.InProjDxIdeal.main_arg5) = m ((c.tc : Thread Cert.InProjDxIdeal.nD Cert.InProjDxIdeal.τ).loc Cert.InProjDxIdeal.main_arg5)
          ∧ r.2.mem ((c.tc : Thread Cert.InProjDxIdeal.nD Cert.InProjDxIdeal.τ).loc Cert.InProjDxIdeal.main_arg6) = m ((c.tc : Thread Cert.InProjDxIdeal.nD Cert.InProjDxIdeal.τ).loc Cert.InProjDxIdeal.main_arg6)
          ∧ r.2.mem ((c.tc : Thread Cert.InProjDxIdeal.nD Cert.InProjDxIdeal.τ).loc Cert.InProjDxIdeal.main_arg7) = m ((c.tc : Thread Cert.InProjDxIdeal.nD Cert.InProjDxIdeal.τ).loc Cert.InProjDxIdeal.main_arg7)
          ∧ r.2.mem ((c.tc : Thread Cert.InProjDxIdeal.nD Cert.InProjDxIdeal.τ).loc Cert.InProjDxIdeal.main_arg8) = m ((c.tc : Thread Cert.InProjDxIdeal.nD Cert.InProjDxIdeal.τ).loc Cert.InProjDxIdeal.main_arg8))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v34) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3)
          ∧ r.2.mem ((c.tc : Thread Cert.InProjDxRefIdeal.nD Cert.InProjDxRefIdeal.τ).loc Cert.InProjDxRefIdeal.main_arg4) = m' ((c.tc : Thread Cert.InProjDxRefIdeal.nD Cert.InProjDxRefIdeal.τ).loc Cert.InProjDxRefIdeal.main_arg4)
          ∧ r.2.mem ((c.tc : Thread Cert.InProjDxRefIdeal.nD Cert.InProjDxRefIdeal.τ).loc Cert.InProjDxRefIdeal.main_arg5) = m' ((c.tc : Thread Cert.InProjDxRefIdeal.nD Cert.InProjDxRefIdeal.τ).loc Cert.InProjDxRefIdeal.main_arg5)
          ∧ r.2.mem ((c.tc : Thread Cert.InProjDxRefIdeal.nD Cert.InProjDxRefIdeal.τ).loc Cert.InProjDxRefIdeal.main_arg6) = m' ((c.tc : Thread Cert.InProjDxRefIdeal.nD Cert.InProjDxRefIdeal.τ).loc Cert.InProjDxRefIdeal.main_arg6)
          ∧ r.2.mem ((c.tc : Thread Cert.InProjDxRefIdeal.nD Cert.InProjDxRefIdeal.τ).loc Cert.InProjDxRefIdeal.main_arg7) = m' ((c.tc : Thread Cert.InProjDxRefIdeal.nD Cert.InProjDxRefIdeal.τ).loc Cert.InProjDxRefIdeal.main_arg7)
          ∧ r.2.mem ((c.tc : Thread Cert.InProjDxRefIdeal.nD Cert.InProjDxRefIdeal.τ).loc Cert.InProjDxRefIdeal.main_arg8) = m' ((c.tc : Thread Cert.InProjDxRefIdeal.nD Cert.InProjDxRefIdeal.τ).loc Cert.InProjDxRefIdeal.main_arg8))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)
      ∧ m' ((c.tc : Thread Cert.InProjDwRefIdeal.nD Cert.InProjDwRefIdeal.τ).loc Cert.InProjDwRefIdeal.main_arg2) = m ((c.tc : Thread Cert.InProjDwIdeal.nD Cert.InProjDwIdeal.τ).loc Cert.InProjDwIdeal.main_arg2)
      ∧ m' ((c.tc : Thread Cert.InProjDwRefIdeal.nD Cert.InProjDwRefIdeal.τ).loc Cert.InProjDwRefIdeal.main_arg3) = m ((c.tc : Thread Cert.InProjDwIdeal.nD Cert.InProjDwIdeal.τ).loc Cert.InProjDwIdeal.main_arg3)
      ∧ m' ((c.tc : Thread Cert.InProjDwRefIdeal.nD Cert.InProjDwRefIdeal.τ).loc Cert.InProjDwRefIdeal.main_arg4) = m ((c.tc : Thread Cert.InProjDwIdeal.nD Cert.InProjDwIdeal.τ).loc Cert.InProjDwIdeal.main_arg4)
      ∧ m' ((c.tc : Thread Cert.InProjDwRefIdeal.nD Cert.InProjDwRefIdeal.τ).loc Cert.InProjDwRefIdeal.main_arg5) = m ((c.tc : Thread Cert.InProjDwIdeal.nD Cert.InProjDwIdeal.τ).loc Cert.InProjDwIdeal.main_arg5)
      ∧ m' ((c.tc : Thread Cert.InProjDwRefIdeal.nD Cert.InProjDwRefIdeal.τ).loc Cert.InProjDwRefIdeal.main_arg6) = m ((c.tc : Thread Cert.InProjDwIdeal.nD Cert.InProjDwIdeal.τ).loc Cert.InProjDwIdeal.main_arg6)
      ∧ m' ((c.tc : Thread Cert.InProjDwRefIdeal.nD Cert.InProjDwRefIdeal.τ).loc Cert.InProjDwRefIdeal.main_arg7) = m ((c.tc : Thread Cert.InProjDwIdeal.nD Cert.InProjDwIdeal.τ).loc Cert.InProjDwIdeal.main_arg7)
      ∧ m' ((c.tc : Thread Cert.InProjDwRefIdeal.nD Cert.InProjDwRefIdeal.τ).loc Cert.InProjDwRefIdeal.main_arg8) = m ((c.tc : Thread Cert.InProjDwIdeal.nD Cert.InProjDwIdeal.τ).loc Cert.InProjDwIdeal.main_arg8)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
          ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2)
          ∧ r.2.mem ((c.tc : Thread Cert.InProjDwIdeal.nD Cert.InProjDwIdeal.τ).loc Cert.InProjDwIdeal.main_arg3) = m ((c.tc : Thread Cert.InProjDwIdeal.nD Cert.InProjDwIdeal.τ).loc Cert.InProjDwIdeal.main_arg3)
          ∧ r.2.mem ((c.tc : Thread Cert.InProjDwIdeal.nD Cert.InProjDwIdeal.τ).loc Cert.InProjDwIdeal.main_arg4) = m ((c.tc : Thread Cert.InProjDwIdeal.nD Cert.InProjDwIdeal.τ).loc Cert.InProjDwIdeal.main_arg4)
          ∧ r.2.mem ((c.tc : Thread Cert.InProjDwIdeal.nD Cert.InProjDwIdeal.τ).loc Cert.InProjDwIdeal.main_arg5) = m ((c.tc : Thread Cert.InProjDwIdeal.nD Cert.InProjDwIdeal.τ).loc Cert.InProjDwIdeal.main_arg5)
          ∧ r.2.mem ((c.tc : Thread Cert.InProjDwIdeal.nD Cert.InProjDwIdeal.τ).loc Cert.InProjDwIdeal.main_arg6) = m ((c.tc : Thread Cert.InProjDwIdeal.nD Cert.InProjDwIdeal.τ).loc Cert.InProjDwIdeal.main_arg6)
          ∧ r.2.mem ((c.tc : Thread Cert.InProjDwIdeal.nD Cert.InProjDwIdeal.τ).loc Cert.InProjDwIdeal.main_arg7) = m ((c.tc : Thread Cert.InProjDwIdeal.nD Cert.InProjDwIdeal.τ).loc Cert.InProjDwIdeal.main_arg7)
          ∧ r.2.mem ((c.tc : Thread Cert.InProjDwIdeal.nD Cert.InProjDwIdeal.τ).loc Cert.InProjDwIdeal.main_arg8) = m ((c.tc : Thread Cert.InProjDwIdeal.nD Cert.InProjDwIdeal.τ).loc Cert.InProjDwIdeal.main_arg8))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v37) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1)
          ∧ r.2.mem ((c.tc : Thread Cert.InProjDwRefIdeal.nD Cert.InProjDwRefIdeal.τ).loc Cert.InProjDwRefIdeal.main_arg2) = m' ((c.tc : Thread Cert.InProjDwRefIdeal.nD Cert.InProjDwRefIdeal.τ).loc Cert.InProjDwRefIdeal.main_arg2)
          ∧ r.2.mem ((c.tc : Thread Cert.InProjDwRefIdeal.nD Cert.InProjDwRefIdeal.τ).loc Cert.InProjDwRefIdeal.main_arg3) = m' ((c.tc : Thread Cert.InProjDwRefIdeal.nD Cert.InProjDwRefIdeal.τ).loc Cert.InProjDwRefIdeal.main_arg3)
          ∧ r.2.mem ((c.tc : Thread Cert.InProjDwRefIdeal.nD Cert.InProjDwRefIdeal.τ).loc Cert.InProjDwRefIdeal.main_arg4) = m' ((c.tc : Thread Cert.InProjDwRefIdeal.nD Cert.InProjDwRefIdeal.τ).loc Cert.InProjDwRefIdeal.main_arg4)
          ∧ r.2.mem ((c.tc : Thread Cert.InProjDwRefIdeal.nD Cert.InProjDwRefIdeal.τ).loc Cert.InProjDwRefIdeal.main_arg5) = m' ((c.tc : Thread Cert.InProjDwRefIdeal.nD Cert.InProjDwRefIdeal.τ).loc Cert.InProjDwRefIdeal.main_arg5)
          ∧ r.2.mem ((c.tc : Thread Cert.InProjDwRefIdeal.nD Cert.InProjDwRefIdeal.τ).loc Cert.InProjDwRefIdeal.main_arg6) = m' ((c.tc : Thread Cert.InProjDwRefIdeal.nD Cert.InProjDwRefIdeal.τ).loc Cert.InProjDwRefIdeal.main_arg6)
          ∧ r.2.mem ((c.tc : Thread Cert.InProjDwRefIdeal.nD Cert.InProjDwRefIdeal.τ).loc Cert.InProjDwRefIdeal.main_arg7) = m' ((c.tc : Thread Cert.InProjDwRefIdeal.nD Cert.InProjDwRefIdeal.τ).loc Cert.InProjDwRefIdeal.main_arg7)
          ∧ r.2.mem ((c.tc : Thread Cert.InProjDwRefIdeal.nD Cert.InProjDwRefIdeal.τ).loc Cert.InProjDwRefIdeal.main_arg8) = m' ((c.tc : Thread Cert.InProjDwRefIdeal.nD Cert.InProjDwRefIdeal.τ).loc Cert.InProjDwRefIdeal.main_arg8))

def preserves_OutProjDw_OutProjDwIdeal : Prop :=
  True

def algebraic_OutProjDwIdeal_OutProjDwRefIdeal_pre_out_proj_dw_inputs_finite [hOutProjDwIdeal : Cert.OutProjDwIdeal.Facts] [hOutProjDwRefIdeal : Cert.OutProjDwRefIdeal.Facts] [hPre_out_proj_dw_inputs_finite : Cert.Pre_out_proj_dw_inputs_finite.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal_out_proj_dw_inputs_finite m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)
      ∧ m' ((c.tc : Thread Cert.OutProjDwRefIdeal.nD Cert.OutProjDwRefIdeal.τ).loc Cert.OutProjDwRefIdeal.main_arg2) = m ((c.tc : Thread Cert.OutProjDwIdeal.nD Cert.OutProjDwIdeal.τ).loc Cert.OutProjDwIdeal.main_arg2)
      ∧ m' ((c.tc : Thread Cert.OutProjDwRefIdeal.nD Cert.OutProjDwRefIdeal.τ).loc Cert.OutProjDwRefIdeal.main_arg3) = m ((c.tc : Thread Cert.OutProjDwIdeal.nD Cert.OutProjDwIdeal.τ).loc Cert.OutProjDwIdeal.main_arg3)) →
    ∃ (v0 : (c : Dev Cert.OutProjDwIdeal.nD) → Buf (Elt Ideal) ((c.tc : Thread Cert.OutProjDwIdeal.nD Cert.OutProjDwIdeal.τ).loc Cert.OutProjDwIdeal.main_v0_0)) (v1 : (c : Dev Cert.OutProjDwIdeal.nD) → Buf (Elt Ideal) ((c.tc : Thread Cert.OutProjDwIdeal.nD Cert.OutProjDwIdeal.τ).loc Cert.OutProjDwIdeal.main_v0_1)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0_0) = v0 c
          ∧ r.2.mem ((c.tc : Thread Cert.OutProjDwIdeal.nD Cert.OutProjDwIdeal.τ).loc Cert.OutProjDwIdeal.main_v0_1) = v1 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
          ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2)
          ∧ r.2.mem ((c.tc : Thread Cert.OutProjDwIdeal.nD Cert.OutProjDwIdeal.τ).loc Cert.OutProjDwIdeal.main_arg3) = m ((c.tc : Thread Cert.OutProjDwIdeal.nD Cert.OutProjDwIdeal.τ).loc Cert.OutProjDwIdeal.main_arg3))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v11) = v0 c
          ∧ r.2.mem ((c.tc : Thread Cert.OutProjDwRefIdeal.nD Cert.OutProjDwRefIdeal.τ).loc Cert.OutProjDwRefIdeal.main_v8) = v1 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1)
          ∧ r.2.mem ((c.tc : Thread Cert.OutProjDwRefIdeal.nD Cert.OutProjDwRefIdeal.τ).loc Cert.OutProjDwRefIdeal.main_arg2) = m' ((c.tc : Thread Cert.OutProjDwRefIdeal.nD Cert.OutProjDwRefIdeal.τ).loc Cert.OutProjDwRefIdeal.main_arg2)
          ∧ r.2.mem ((c.tc : Thread Cert.OutProjDwRefIdeal.nD Cert.OutProjDwRefIdeal.τ).loc Cert.OutProjDwRefIdeal.main_arg3) = m' ((c.tc : Thread Cert.OutProjDwRefIdeal.nD Cert.OutProjDwRefIdeal.τ).loc Cert.OutProjDwRefIdeal.main_arg3))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)
      ∧ m' ((c.tc : Thread Cert.OutProjDxRefIdeal.nD Cert.OutProjDxRefIdeal.τ).loc Cert.OutProjDxRefIdeal.main_arg2) = m ((c.tc : Thread Cert.OutProjDxIdeal.nD Cert.OutProjDxIdeal.τ).loc Cert.OutProjDxIdeal.main_arg2)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
          ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v7) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1)
          ∧ r.2.mem ((c.tc : Thread Cert.OutProjDxRefIdeal.nD Cert.OutProjDxRefIdeal.τ).loc Cert.OutProjDxRefIdeal.main_arg2) = m' ((c.tc : Thread Cert.OutProjDxRefIdeal.nD Cert.OutProjDxRefIdeal.τ).loc Cert.OutProjDxRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfIn_FfInIdeal : Prop :=
  True

def algebraic_FfInIdeal_FfInRefIdeal [hFfInIdeal : Cert.FfInIdeal.Facts] [hFfInRefIdeal : Cert.FfInRefIdeal.Facts] : Prop :=
  ∀ (m : (ℓ : Loc Cert.FfInIdeal.nD Cert.FfInIdeal.τ Cert.FfInIdeal.sig) → Buf (Elt Ideal) ℓ) (g : Dev Cert.FfInIdeal.nD → PrngReg)
    (m' : (ℓ : Loc Cert.FfInRefIdeal.nD Cert.FfInRefIdeal.τ Cert.FfInRefIdeal.sig) → Buf (Elt Ideal) ℓ) (g' : Dev Cert.FfInRefIdeal.nD → PrngReg), Pre_FfInIdeal m →
    (∀ c : Dev Cert.FfInIdeal.nD,
      m' ((c.tc : Thread Cert.FfInRefIdeal.nD Cert.FfInRefIdeal.τ).loc Cert.FfInRefIdeal.main_arg0) = m ((c.tc : Thread Cert.FfInIdeal.nD Cert.FfInIdeal.τ).loc Cert.FfInIdeal.main_arg0)
      ∧ m' ((c.tc : Thread Cert.FfInRefIdeal.nD Cert.FfInRefIdeal.τ).loc Cert.FfInRefIdeal.main_arg1) = m ((c.tc : Thread Cert.FfInIdeal.nD Cert.FfInIdeal.τ).loc Cert.FfInIdeal.main_arg1)) →
    ∃ (v0 : (c : Dev Cert.FfInIdeal.nD) → Buf (Elt Ideal) ((c.tc : Thread Cert.FfInIdeal.nD Cert.FfInIdeal.τ).loc Cert.FfInIdeal.main_v0_0)) (v1 : (c : Dev Cert.FfInIdeal.nD) → Buf (Elt Ideal) ((c.tc : Thread Cert.FfInIdeal.nD Cert.FfInIdeal.τ).loc Cert.FfInIdeal.main_v0_1)),
      θ_run (Cert.FfInIdeal.defs (F := Ideal)) (onTc (τ := Cert.FfInIdeal.τ) (Cert.FfInIdeal.main (F := Ideal))) ⟨m, fun _ => 0, g⟩ (fun r => ∀ c : Dev Cert.FfInIdeal.nD,
          r.2.mem ((c.tc : Thread Cert.FfInIdeal.nD Cert.FfInIdeal.τ).loc Cert.FfInIdeal.main_v0_0) = v0 c
          ∧ r.2.mem ((c.tc : Thread Cert.FfInIdeal.nD Cert.FfInIdeal.τ).loc Cert.FfInIdeal.main_v0_1) = v1 c
          ∧ r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
          ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ θ_run (Cert.FfInRefIdeal.defs (F := Ideal)) (onTc (τ := Cert.FfInRefIdeal.τ) (Cert.FfInRefIdeal.main (F := Ideal))) ⟨m', fun _ => 0, g'⟩ (fun r => ∀ c : Dev Cert.FfInRefIdeal.nD,
          r.2.mem ((c.tc : Thread Cert.FfInRefIdeal.nD Cert.FfInRefIdeal.τ).loc Cert.FfInRefIdeal.main_v2) = v0 c
          ∧ r.2.mem ((c.tc : Thread Cert.FfInRefIdeal.nD Cert.FfInRefIdeal.τ).loc Cert.FfInRefIdeal.main_v5) = v1 c
          ∧ r.2.mem ((c.tc : Thread Cert.FfInRefIdeal.nD Cert.FfInRefIdeal.τ).loc Cert.FfInRefIdeal.main_arg0) = m' ((c.tc : Thread Cert.FfInRefIdeal.nD Cert.FfInRefIdeal.τ).loc Cert.FfInRefIdeal.main_arg0)
          ∧ r.2.mem ((c.tc : Thread Cert.FfInRefIdeal.nD Cert.FfInRefIdeal.τ).loc Cert.FfInRefIdeal.main_arg1) = m' ((c.tc : Thread Cert.FfInRefIdeal.nD Cert.FfInRefIdeal.τ).loc Cert.FfInRefIdeal.main_arg1))

def preserves_FfOut_FfOutIdeal : Prop :=
  True

def algebraic_FfOutIdeal_FfOutRefIdeal [hFfOutIdeal : Cert.FfOutIdeal.Facts] [hFfOutRefIdeal : Cert.FfOutRefIdeal.Facts] : Prop :=
  ∀ (m : (ℓ : Loc Cert.FfOutIdeal.nD Cert.FfOutIdeal.τ Cert.FfOutIdeal.sig) → Buf (Elt Ideal) ℓ) (g : Dev Cert.FfOutIdeal.nD → PrngReg)
    (m' : (ℓ : Loc Cert.FfOutRefIdeal.nD Cert.FfOutRefIdeal.τ Cert.FfOutRefIdeal.sig) → Buf (Elt Ideal) ℓ) (g' : Dev Cert.FfOutRefIdeal.nD → PrngReg), Pre_FfOutIdeal m →
    (∀ c : Dev Cert.FfOutIdeal.nD,
      m' ((c.tc : Thread Cert.FfOutRefIdeal.nD Cert.FfOutRefIdeal.τ).loc Cert.FfOutRefIdeal.main_arg0) = m ((c.tc : Thread Cert.FfOutIdeal.nD Cert.FfOutIdeal.τ).loc Cert.FfOutIdeal.main_arg0)
      ∧ m' ((c.tc : Thread Cert.FfOutRefIdeal.nD Cert.FfOutRefIdeal.τ).loc Cert.FfOutRefIdeal.main_arg1) = m ((c.tc : Thread Cert.FfOutIdeal.nD Cert.FfOutIdeal.τ).loc Cert.FfOutIdeal.main_arg1)
      ∧ m' ((c.tc : Thread Cert.FfOutRefIdeal.nD Cert.FfOutRefIdeal.τ).loc Cert.FfOutRefIdeal.main_arg2) = m ((c.tc : Thread Cert.FfOutIdeal.nD Cert.FfOutIdeal.τ).loc Cert.FfOutIdeal.main_arg2)
      ∧ m' ((c.tc : Thread Cert.FfOutRefIdeal.nD Cert.FfOutRefIdeal.τ).loc Cert.FfOutRefIdeal.main_arg3) = m ((c.tc : Thread Cert.FfOutIdeal.nD Cert.FfOutIdeal.τ).loc Cert.FfOutIdeal.main_arg3)) →
    ∃ (v0 : (c : Dev Cert.FfOutIdeal.nD) → Buf (Elt Ideal) ((c.tc : Thread Cert.FfOutIdeal.nD Cert.FfOutIdeal.τ).loc Cert.FfOutIdeal.main_v0)),
      θ_run (Cert.FfOutIdeal.defs (F := Ideal)) (onTc (τ := Cert.FfOutIdeal.τ) (Cert.FfOutIdeal.main (F := Ideal))) ⟨m, fun _ => 0, g⟩ (fun r => ∀ c : Dev Cert.FfOutIdeal.nD,
          r.2.mem ((c.tc : Thread Cert.FfOutIdeal.nD Cert.FfOutIdeal.τ).loc Cert.FfOutIdeal.main_v0) = v0 c
          ∧ r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
          ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
          ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
          ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3))
      ∧ θ_run (Cert.FfOutRefIdeal.defs (F := Ideal)) (onTc (τ := Cert.FfOutRefIdeal.τ) (Cert.FfOutRefIdeal.main (F := Ideal))) ⟨m', fun _ => 0, g'⟩ (fun r => ∀ c : Dev Cert.FfOutRefIdeal.nD,
          r.2.mem ((c.tc : Thread Cert.FfOutRefIdeal.nD Cert.FfOutRefIdeal.τ).loc Cert.FfOutRefIdeal.main_v5) = v0 c
          ∧ r.2.mem ((c.tc : Thread Cert.FfOutRefIdeal.nD Cert.FfOutRefIdeal.τ).loc Cert.FfOutRefIdeal.main_arg0) = m' ((c.tc : Thread Cert.FfOutRefIdeal.nD Cert.FfOutRefIdeal.τ).loc Cert.FfOutRefIdeal.main_arg0)
          ∧ r.2.mem ((c.tc : Thread Cert.FfOutRefIdeal.nD Cert.FfOutRefIdeal.τ).loc Cert.FfOutRefIdeal.main_arg1) = m' ((c.tc : Thread Cert.FfOutRefIdeal.nD Cert.FfOutRefIdeal.τ).loc Cert.FfOutRefIdeal.main_arg1)
          ∧ r.2.mem ((c.tc : Thread Cert.FfOutRefIdeal.nD Cert.FfOutRefIdeal.τ).loc Cert.FfOutRefIdeal.main_arg2) = m' ((c.tc : Thread Cert.FfOutRefIdeal.nD Cert.FfOutRefIdeal.τ).loc Cert.FfOutRefIdeal.main_arg2)
          ∧ r.2.mem ((c.tc : Thread Cert.FfOutRefIdeal.nD Cert.FfOutRefIdeal.τ).loc Cert.FfOutRefIdeal.main_arg3) = m' ((c.tc : Thread Cert.FfOutRefIdeal.nD Cert.FfOutRefIdeal.τ).loc Cert.FfOutRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v25) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_NormBwd_NormBwdIdeal : Prop :=
  True

def algebraic_NormBwdIdeal_NormBwdRefIdeal_pre_norm_bwd_inputs_finite [hNormBwdIdeal : Cert.NormBwdIdeal.Facts] [hNormBwdRefIdeal : Cert.NormBwdRefIdeal.Facts] [hPre_norm_bwd_inputs_finite : Cert.Pre_norm_bwd_inputs_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_bwd_inputs_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v57) = v0 c
          ∧ r.2.mem ((c.tc : Thread Cert.NormBwdRefIdeal.nD Cert.NormBwdRefIdeal.τ).loc Cert.NormBwdRefIdeal.main_v58) = v1 c
          ∧ r.2.mem ((c.tc : Thread Cert.NormBwdRefIdeal.nD Cert.NormBwdRefIdeal.τ).loc Cert.NormBwdRefIdeal.main_v59) = v2 c
          ∧ r.2.mem ((c.tc : Thread Cert.NormBwdRefIdeal.nD Cert.NormBwdRefIdeal.τ).loc Cert.NormBwdRefIdeal.main_v60) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v20) = v0 c
          ∧ r.2.mem ((c.tc : Thread Cert.NormFwdRefIdeal.nD Cert.NormFwdRefIdeal.τ).loc Cert.NormFwdRefIdeal.main_v22) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v32) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_LossHead_LossHeadIdeal : Prop :=
  True

def algebraic_LossHeadIdeal_LossHeadRefIdeal_pre_loss_head_inputs_finite [hLossHeadIdeal : Cert.LossHeadIdeal.Facts] [hLossHeadRefIdeal : Cert.LossHeadRefIdeal.Facts] [hPre_loss_head_inputs_finite : Cert.Pre_loss_head_inputs_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_inputs_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v52) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_WadaAdamw_WadaAdamwIdeal : Prop :=
  True

def algebraic_WadaAdamwIdeal_WadaAdamwRefIdeal [hWadaAdamwIdeal : Cert.WadaAdamwIdeal.Facts] [hWadaAdamwRefIdeal : Cert.WadaAdamwRefIdeal.Facts] : Prop :=
  ∀ (m : (ℓ : Loc Cert.WadaAdamwIdeal.nD Cert.WadaAdamwIdeal.τ Cert.WadaAdamwIdeal.sig) → Buf (Elt Ideal) ℓ) (g : Dev Cert.WadaAdamwIdeal.nD → PrngReg)
    (m' : (ℓ : Loc Cert.WadaAdamwRefIdeal.nD Cert.WadaAdamwRefIdeal.τ Cert.WadaAdamwRefIdeal.sig) → Buf (Elt Ideal) ℓ) (g' : Dev Cert.WadaAdamwRefIdeal.nD → PrngReg), Pre_WadaAdamwIdeal m →
    (∀ c : Dev Cert.WadaAdamwIdeal.nD,
      m' ((c.tc : Thread Cert.WadaAdamwRefIdeal.nD Cert.WadaAdamwRefIdeal.τ).loc Cert.WadaAdamwRefIdeal.main_arg0) = m ((c.tc : Thread Cert.WadaAdamwIdeal.nD Cert.WadaAdamwIdeal.τ).loc Cert.WadaAdamwIdeal.main_arg0)
      ∧ m' ((c.tc : Thread Cert.WadaAdamwRefIdeal.nD Cert.WadaAdamwRefIdeal.τ).loc Cert.WadaAdamwRefIdeal.main_arg1) = m ((c.tc : Thread Cert.WadaAdamwIdeal.nD Cert.WadaAdamwIdeal.τ).loc Cert.WadaAdamwIdeal.main_arg1)
      ∧ m' ((c.tc : Thread Cert.WadaAdamwRefIdeal.nD Cert.WadaAdamwRefIdeal.τ).loc Cert.WadaAdamwRefIdeal.main_arg2) = m ((c.tc : Thread Cert.WadaAdamwIdeal.nD Cert.WadaAdamwIdeal.τ).loc Cert.WadaAdamwIdeal.main_arg2)
      ∧ m' ((c.tc : Thread Cert.WadaAdamwRefIdeal.nD Cert.WadaAdamwRefIdeal.τ).loc Cert.WadaAdamwRefIdeal.main_arg3) = m ((c.tc : Thread Cert.WadaAdamwIdeal.nD Cert.WadaAdamwIdeal.τ).loc Cert.WadaAdamwIdeal.main_arg3)
      ∧ m' ((c.tc : Thread Cert.WadaAdamwRefIdeal.nD Cert.WadaAdamwRefIdeal.τ).loc Cert.WadaAdamwRefIdeal.main_arg4) = m ((c.tc : Thread Cert.WadaAdamwIdeal.nD Cert.WadaAdamwIdeal.τ).loc Cert.WadaAdamwIdeal.main_arg4)) →
    ∃ (v0 : (c : Dev Cert.WadaAdamwIdeal.nD) → Buf (Elt Ideal) ((c.tc : Thread Cert.WadaAdamwIdeal.nD Cert.WadaAdamwIdeal.τ).loc Cert.WadaAdamwIdeal.main_v0_0)) (v1 : (c : Dev Cert.WadaAdamwIdeal.nD) → Buf (Elt Ideal) ((c.tc : Thread Cert.WadaAdamwIdeal.nD Cert.WadaAdamwIdeal.τ).loc Cert.WadaAdamwIdeal.main_v0_1)) (v2 : (c : Dev Cert.WadaAdamwIdeal.nD) → Buf (Elt Ideal) ((c.tc : Thread Cert.WadaAdamwIdeal.nD Cert.WadaAdamwIdeal.τ).loc Cert.WadaAdamwIdeal.main_v0_2)) (v3 : (c : Dev Cert.WadaAdamwIdeal.nD) → Buf (Elt Ideal) ((c.tc : Thread Cert.WadaAdamwIdeal.nD Cert.WadaAdamwIdeal.τ).loc Cert.WadaAdamwIdeal.main_v0_3)),
      θ_run (Cert.WadaAdamwIdeal.defs (F := Ideal)) (onTc (τ := Cert.WadaAdamwIdeal.τ) (Cert.WadaAdamwIdeal.main (F := Ideal))) ⟨m, fun _ => 0, g⟩ (fun r => ∀ c : Dev Cert.WadaAdamwIdeal.nD,
          r.2.mem ((c.tc : Thread Cert.WadaAdamwIdeal.nD Cert.WadaAdamwIdeal.τ).loc Cert.WadaAdamwIdeal.main_v0_0) = v0 c
          ∧ r.2.mem ((c.tc : Thread Cert.WadaAdamwIdeal.nD Cert.WadaAdamwIdeal.τ).loc Cert.WadaAdamwIdeal.main_v0_1) = v1 c
          ∧ r.2.mem ((c.tc : Thread Cert.WadaAdamwIdeal.nD Cert.WadaAdamwIdeal.τ).loc Cert.WadaAdamwIdeal.main_v0_2) = v2 c
          ∧ r.2.mem ((c.tc : Thread Cert.WadaAdamwIdeal.nD Cert.WadaAdamwIdeal.τ).loc Cert.WadaAdamwIdeal.main_v0_3) = v3 c
          ∧ r.2.mem ((c.tc : Thread Cert.WadaAdamwIdeal.nD Cert.WadaAdamwIdeal.τ).loc Cert.WadaAdamwIdeal.main_arg0) = m ((c.tc : Thread Cert.WadaAdamwIdeal.nD Cert.WadaAdamwIdeal.τ).loc Cert.WadaAdamwIdeal.main_arg0)
          ∧ r.2.mem ((c.tc : Thread Cert.WadaAdamwIdeal.nD Cert.WadaAdamwIdeal.τ).loc Cert.WadaAdamwIdeal.main_arg1) = m ((c.tc : Thread Cert.WadaAdamwIdeal.nD Cert.WadaAdamwIdeal.τ).loc Cert.WadaAdamwIdeal.main_arg1)
          ∧ r.2.mem ((c.tc : Thread Cert.WadaAdamwIdeal.nD Cert.WadaAdamwIdeal.τ).loc Cert.WadaAdamwIdeal.main_arg2) = m ((c.tc : Thread Cert.WadaAdamwIdeal.nD Cert.WadaAdamwIdeal.τ).loc Cert.WadaAdamwIdeal.main_arg2)
          ∧ r.2.mem ((c.tc : Thread Cert.WadaAdamwIdeal.nD Cert.WadaAdamwIdeal.τ).loc Cert.WadaAdamwIdeal.main_arg3) = m ((c.tc : Thread Cert.WadaAdamwIdeal.nD Cert.WadaAdamwIdeal.τ).loc Cert.WadaAdamwIdeal.main_arg3)
          ∧ r.2.mem ((c.tc : Thread Cert.WadaAdamwIdeal.nD Cert.WadaAdamwIdeal.τ).loc Cert.WadaAdamwIdeal.main_arg4) = m ((c.tc : Thread Cert.WadaAdamwIdeal.nD Cert.WadaAdamwIdeal.τ).loc Cert.WadaAdamwIdeal.main_arg4))
      ∧ θ_run (Cert.WadaAdamwRefIdeal.defs (F := Ideal)) (onTc (τ := Cert.WadaAdamwRefIdeal.τ) (Cert.WadaAdamwRefIdeal.main (F := Ideal))) ⟨m', fun _ => 0, g'⟩ (fun r => ∀ c : Dev Cert.WadaAdamwRefIdeal.nD,
          r.2.mem ((c.tc : Thread Cert.WadaAdamwRefIdeal.nD Cert.WadaAdamwRefIdeal.τ).loc Cert.WadaAdamwRefIdeal.main_v6) = v0 c
          ∧ r.2.mem ((c.tc : Thread Cert.WadaAdamwRefIdeal.nD Cert.WadaAdamwRefIdeal.τ).loc Cert.WadaAdamwRefIdeal.main_v30) = v1 c
          ∧ r.2.mem ((c.tc : Thread Cert.WadaAdamwRefIdeal.nD Cert.WadaAdamwRefIdeal.τ).loc Cert.WadaAdamwRefIdeal.main_v11) = v2 c
          ∧ r.2.mem ((c.tc : Thread Cert.WadaAdamwRefIdeal.nD Cert.WadaAdamwRefIdeal.τ).loc Cert.WadaAdamwRefIdeal.main_v17) = v3 c
          ∧ r.2.mem ((c.tc : Thread Cert.WadaAdamwRefIdeal.nD Cert.WadaAdamwRefIdeal.τ).loc Cert.WadaAdamwRefIdeal.main_arg0) = m' ((c.tc : Thread Cert.WadaAdamwRefIdeal.nD Cert.WadaAdamwRefIdeal.τ).loc Cert.WadaAdamwRefIdeal.main_arg0)
          ∧ r.2.mem ((c.tc : Thread Cert.WadaAdamwRefIdeal.nD Cert.WadaAdamwRefIdeal.τ).loc Cert.WadaAdamwRefIdeal.main_arg1) = m' ((c.tc : Thread Cert.WadaAdamwRefIdeal.nD Cert.WadaAdamwRefIdeal.τ).loc Cert.WadaAdamwRefIdeal.main_arg1)
          ∧ r.2.mem ((c.tc : Thread Cert.WadaAdamwRefIdeal.nD Cert.WadaAdamwRefIdeal.τ).loc Cert.WadaAdamwRefIdeal.main_arg2) = m' ((c.tc : Thread Cert.WadaAdamwRefIdeal.nD Cert.WadaAdamwRefIdeal.τ).loc Cert.WadaAdamwRefIdeal.main_arg2)
          ∧ r.2.mem ((c.tc : Thread Cert.WadaAdamwRefIdeal.nD Cert.WadaAdamwRefIdeal.τ).loc Cert.WadaAdamwRefIdeal.main_arg3) = m' ((c.tc : Thread Cert.WadaAdamwRefIdeal.nD Cert.WadaAdamwRefIdeal.τ).loc Cert.WadaAdamwRefIdeal.main_arg3)
          ∧ r.2.mem ((c.tc : Thread Cert.WadaAdamwRefIdeal.nD Cert.WadaAdamwRefIdeal.τ).loc Cert.WadaAdamwRefIdeal.main_arg4) = m' ((c.tc : Thread Cert.WadaAdamwRefIdeal.nD Cert.WadaAdamwRefIdeal.τ).loc Cert.WadaAdamwRefIdeal.main_arg4))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)
      ∧ m' ((c.tc : Thread Cert.AdamwInRefIdeal.nD Cert.AdamwInRefIdeal.τ).loc Cert.AdamwInRefIdeal.main_arg5) = m ((c.tc : Thread Cert.AdamwInIdeal.nD Cert.AdamwInIdeal.τ).loc Cert.AdamwInIdeal.main_arg5)
      ∧ m' ((c.tc : Thread Cert.AdamwInRefIdeal.nD Cert.AdamwInRefIdeal.τ).loc Cert.AdamwInRefIdeal.main_arg6) = m ((c.tc : Thread Cert.AdamwInIdeal.nD Cert.AdamwInIdeal.τ).loc Cert.AdamwInIdeal.main_arg6)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
          ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5)
          ∧ r.2.mem ((c.tc : Thread Cert.AdamwInIdeal.nD Cert.AdamwInIdeal.τ).loc Cert.AdamwInIdeal.main_arg6) = m ((c.tc : Thread Cert.AdamwInIdeal.nD Cert.AdamwInIdeal.τ).loc Cert.AdamwInIdeal.main_arg6))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v8) = v0 c
          ∧ r.2.mem ((c.tc : Thread Cert.AdamwInRefIdeal.nD Cert.AdamwInRefIdeal.τ).loc Cert.AdamwInRefIdeal.main_v32) = v1 c
          ∧ r.2.mem ((c.tc : Thread Cert.AdamwInRefIdeal.nD Cert.AdamwInRefIdeal.τ).loc Cert.AdamwInRefIdeal.main_v13) = v2 c
          ∧ r.2.mem ((c.tc : Thread Cert.AdamwInRefIdeal.nD Cert.AdamwInRefIdeal.τ).loc Cert.AdamwInRefIdeal.main_v19) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4)
          ∧ r.2.mem ((c.tc : Thread Cert.AdamwInRefIdeal.nD Cert.AdamwInRefIdeal.τ).loc Cert.AdamwInRefIdeal.main_arg5) = m' ((c.tc : Thread Cert.AdamwInRefIdeal.nD Cert.AdamwInRefIdeal.τ).loc Cert.AdamwInRefIdeal.main_arg5)
          ∧ r.2.mem ((c.tc : Thread Cert.AdamwInRefIdeal.nD Cert.AdamwInRefIdeal.τ).loc Cert.AdamwInRefIdeal.main_arg6) = m' ((c.tc : Thread Cert.AdamwInRefIdeal.nD Cert.AdamwInRefIdeal.τ).loc Cert.AdamwInRefIdeal.main_arg6))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)
      ∧ m' ((c.tc : Thread Cert.AdamwOutRefIdeal.nD Cert.AdamwOutRefIdeal.τ).loc Cert.AdamwOutRefIdeal.main_arg4) = m ((c.tc : Thread Cert.AdamwOutIdeal.nD Cert.AdamwOutIdeal.τ).loc Cert.AdamwOutIdeal.main_arg4)
      ∧ m' ((c.tc : Thread Cert.AdamwOutRefIdeal.nD Cert.AdamwOutRefIdeal.τ).loc Cert.AdamwOutRefIdeal.main_arg5) = m ((c.tc : Thread Cert.AdamwOutIdeal.nD Cert.AdamwOutIdeal.τ).loc Cert.AdamwOutIdeal.main_arg5)
      ∧ m' ((c.tc : Thread Cert.AdamwOutRefIdeal.nD Cert.AdamwOutRefIdeal.τ).loc Cert.AdamwOutRefIdeal.main_arg6) = m ((c.tc : Thread Cert.AdamwOutIdeal.nD Cert.AdamwOutIdeal.τ).loc Cert.AdamwOutIdeal.main_arg6)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
          ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5)
          ∧ r.2.mem ((c.tc : Thread Cert.AdamwOutIdeal.nD Cert.AdamwOutIdeal.τ).loc Cert.AdamwOutIdeal.main_arg6) = m ((c.tc : Thread Cert.AdamwOutIdeal.nD Cert.AdamwOutIdeal.τ).loc Cert.AdamwOutIdeal.main_arg6))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v8) = v0 c
          ∧ r.2.mem ((c.tc : Thread Cert.AdamwOutRefIdeal.nD Cert.AdamwOutRefIdeal.τ).loc Cert.AdamwOutRefIdeal.main_v32) = v1 c
          ∧ r.2.mem ((c.tc : Thread Cert.AdamwOutRefIdeal.nD Cert.AdamwOutRefIdeal.τ).loc Cert.AdamwOutRefIdeal.main_v13) = v2 c
          ∧ r.2.mem ((c.tc : Thread Cert.AdamwOutRefIdeal.nD Cert.AdamwOutRefIdeal.τ).loc Cert.AdamwOutRefIdeal.main_v19) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3)
          ∧ r.2.mem ((c.tc : Thread Cert.AdamwOutRefIdeal.nD Cert.AdamwOutRefIdeal.τ).loc Cert.AdamwOutRefIdeal.main_arg4) = m' ((c.tc : Thread Cert.AdamwOutRefIdeal.nD Cert.AdamwOutRefIdeal.τ).loc Cert.AdamwOutRefIdeal.main_arg4)
          ∧ r.2.mem ((c.tc : Thread Cert.AdamwOutRefIdeal.nD Cert.AdamwOutRefIdeal.τ).loc Cert.AdamwOutRefIdeal.main_arg5) = m' ((c.tc : Thread Cert.AdamwOutRefIdeal.nD Cert.AdamwOutRefIdeal.τ).loc Cert.AdamwOutRefIdeal.main_arg5)
          ∧ r.2.mem ((c.tc : Thread Cert.AdamwOutRefIdeal.nD Cert.AdamwOutRefIdeal.τ).loc Cert.AdamwOutRefIdeal.main_arg6) = m' ((c.tc : Thread Cert.AdamwOutRefIdeal.nD Cert.AdamwOutRefIdeal.τ).loc Cert.AdamwOutRefIdeal.main_arg6))

def preserves_AdamwFfIn_AdamwFfInIdeal : Prop :=
  True

def algebraic_AdamwFfInIdeal_AdamwFfInRefIdeal [hAdamwFfInIdeal : Cert.AdamwFfInIdeal.Facts] [hAdamwFfInRefIdeal : Cert.AdamwFfInRefIdeal.Facts] : Prop :=
  ∀ (m : (ℓ : Loc Cert.AdamwFfInIdeal.nD Cert.AdamwFfInIdeal.τ Cert.AdamwFfInIdeal.sig) → Buf (Elt Ideal) ℓ) (g : Dev Cert.AdamwFfInIdeal.nD → PrngReg)
    (m' : (ℓ : Loc Cert.AdamwFfInRefIdeal.nD Cert.AdamwFfInRefIdeal.τ Cert.AdamwFfInRefIdeal.sig) → Buf (Elt Ideal) ℓ) (g' : Dev Cert.AdamwFfInRefIdeal.nD → PrngReg), Pre_AdamwFfInIdeal m →
    (∀ c : Dev Cert.AdamwFfInIdeal.nD,
      m' ((c.tc : Thread Cert.AdamwFfInRefIdeal.nD Cert.AdamwFfInRefIdeal.τ).loc Cert.AdamwFfInRefIdeal.main_arg0) = m ((c.tc : Thread Cert.AdamwFfInIdeal.nD Cert.AdamwFfInIdeal.τ).loc Cert.AdamwFfInIdeal.main_arg0)
      ∧ m' ((c.tc : Thread Cert.AdamwFfInRefIdeal.nD Cert.AdamwFfInRefIdeal.τ).loc Cert.AdamwFfInRefIdeal.main_arg1) = m ((c.tc : Thread Cert.AdamwFfInIdeal.nD Cert.AdamwFfInIdeal.τ).loc Cert.AdamwFfInIdeal.main_arg1)
      ∧ m' ((c.tc : Thread Cert.AdamwFfInRefIdeal.nD Cert.AdamwFfInRefIdeal.τ).loc Cert.AdamwFfInRefIdeal.main_arg2) = m ((c.tc : Thread Cert.AdamwFfInIdeal.nD Cert.AdamwFfInIdeal.τ).loc Cert.AdamwFfInIdeal.main_arg2)
      ∧ m' ((c.tc : Thread Cert.AdamwFfInRefIdeal.nD Cert.AdamwFfInRefIdeal.τ).loc Cert.AdamwFfInRefIdeal.main_arg3) = m ((c.tc : Thread Cert.AdamwFfInIdeal.nD Cert.AdamwFfInIdeal.τ).loc Cert.AdamwFfInIdeal.main_arg3)
      ∧ m' ((c.tc : Thread Cert.AdamwFfInRefIdeal.nD Cert.AdamwFfInRefIdeal.τ).loc Cert.AdamwFfInRefIdeal.main_arg4) = m ((c.tc : Thread Cert.AdamwFfInIdeal.nD Cert.AdamwFfInIdeal.τ).loc Cert.AdamwFfInIdeal.main_arg4)
      ∧ m' ((c.tc : Thread Cert.AdamwFfInRefIdeal.nD Cert.AdamwFfInRefIdeal.τ).loc Cert.AdamwFfInRefIdeal.main_arg5) = m ((c.tc : Thread Cert.AdamwFfInIdeal.nD Cert.AdamwFfInIdeal.τ).loc Cert.AdamwFfInIdeal.main_arg5)
      ∧ m' ((c.tc : Thread Cert.AdamwFfInRefIdeal.nD Cert.AdamwFfInRefIdeal.τ).loc Cert.AdamwFfInRefIdeal.main_arg6) = m ((c.tc : Thread Cert.AdamwFfInIdeal.nD Cert.AdamwFfInIdeal.τ).loc Cert.AdamwFfInIdeal.main_arg6)) →
    ∃ (v0 : (c : Dev Cert.AdamwFfInIdeal.nD) → Buf (Elt Ideal) ((c.tc : Thread Cert.AdamwFfInIdeal.nD Cert.AdamwFfInIdeal.τ).loc Cert.AdamwFfInIdeal.main_v0_0)) (v1 : (c : Dev Cert.AdamwFfInIdeal.nD) → Buf (Elt Ideal) ((c.tc : Thread Cert.AdamwFfInIdeal.nD Cert.AdamwFfInIdeal.τ).loc Cert.AdamwFfInIdeal.main_v0_1)) (v2 : (c : Dev Cert.AdamwFfInIdeal.nD) → Buf (Elt Ideal) ((c.tc : Thread Cert.AdamwFfInIdeal.nD Cert.AdamwFfInIdeal.τ).loc Cert.AdamwFfInIdeal.main_v0_2)) (v3 : (c : Dev Cert.AdamwFfInIdeal.nD) → Buf (Elt Ideal) ((c.tc : Thread Cert.AdamwFfInIdeal.nD Cert.AdamwFfInIdeal.τ).loc Cert.AdamwFfInIdeal.main_v0_3)),
      θ_run (Cert.AdamwFfInIdeal.defs (F := Ideal)) (onTc (τ := Cert.AdamwFfInIdeal.τ) (Cert.AdamwFfInIdeal.main (F := Ideal))) ⟨m, fun _ => 0, g⟩ (fun r => ∀ c : Dev Cert.AdamwFfInIdeal.nD,
          r.2.mem ((c.tc : Thread Cert.AdamwFfInIdeal.nD Cert.AdamwFfInIdeal.τ).loc Cert.AdamwFfInIdeal.main_v0_0) = v0 c
          ∧ r.2.mem ((c.tc : Thread Cert.AdamwFfInIdeal.nD Cert.AdamwFfInIdeal.τ).loc Cert.AdamwFfInIdeal.main_v0_1) = v1 c
          ∧ r.2.mem ((c.tc : Thread Cert.AdamwFfInIdeal.nD Cert.AdamwFfInIdeal.τ).loc Cert.AdamwFfInIdeal.main_v0_2) = v2 c
          ∧ r.2.mem ((c.tc : Thread Cert.AdamwFfInIdeal.nD Cert.AdamwFfInIdeal.τ).loc Cert.AdamwFfInIdeal.main_v0_3) = v3 c
          ∧ r.2.mem ((c.tc : Thread Cert.AdamwFfInIdeal.nD Cert.AdamwFfInIdeal.τ).loc Cert.AdamwFfInIdeal.main_arg0) = m ((c.tc : Thread Cert.AdamwFfInIdeal.nD Cert.AdamwFfInIdeal.τ).loc Cert.AdamwFfInIdeal.main_arg0)
          ∧ r.2.mem ((c.tc : Thread Cert.AdamwFfInIdeal.nD Cert.AdamwFfInIdeal.τ).loc Cert.AdamwFfInIdeal.main_arg1) = m ((c.tc : Thread Cert.AdamwFfInIdeal.nD Cert.AdamwFfInIdeal.τ).loc Cert.AdamwFfInIdeal.main_arg1)
          ∧ r.2.mem ((c.tc : Thread Cert.AdamwFfInIdeal.nD Cert.AdamwFfInIdeal.τ).loc Cert.AdamwFfInIdeal.main_arg2) = m ((c.tc : Thread Cert.AdamwFfInIdeal.nD Cert.AdamwFfInIdeal.τ).loc Cert.AdamwFfInIdeal.main_arg2)
          ∧ r.2.mem ((c.tc : Thread Cert.AdamwFfInIdeal.nD Cert.AdamwFfInIdeal.τ).loc Cert.AdamwFfInIdeal.main_arg3) = m ((c.tc : Thread Cert.AdamwFfInIdeal.nD Cert.AdamwFfInIdeal.τ).loc Cert.AdamwFfInIdeal.main_arg3)
          ∧ r.2.mem ((c.tc : Thread Cert.AdamwFfInIdeal.nD Cert.AdamwFfInIdeal.τ).loc Cert.AdamwFfInIdeal.main_arg4) = m ((c.tc : Thread Cert.AdamwFfInIdeal.nD Cert.AdamwFfInIdeal.τ).loc Cert.AdamwFfInIdeal.main_arg4)
          ∧ r.2.mem ((c.tc : Thread Cert.AdamwFfInIdeal.nD Cert.AdamwFfInIdeal.τ).loc Cert.AdamwFfInIdeal.main_arg5) = m ((c.tc : Thread Cert.AdamwFfInIdeal.nD Cert.AdamwFfInIdeal.τ).loc Cert.AdamwFfInIdeal.main_arg5)
          ∧ r.2.mem ((c.tc : Thread Cert.AdamwFfInIdeal.nD Cert.AdamwFfInIdeal.τ).loc Cert.AdamwFfInIdeal.main_arg6) = m ((c.tc : Thread Cert.AdamwFfInIdeal.nD Cert.AdamwFfInIdeal.τ).loc Cert.AdamwFfInIdeal.main_arg6))
      ∧ θ_run (Cert.AdamwFfInRefIdeal.defs (F := Ideal)) (onTc (τ := Cert.AdamwFfInRefIdeal.τ) (Cert.AdamwFfInRefIdeal.main (F := Ideal))) ⟨m', fun _ => 0, g'⟩ (fun r => ∀ c : Dev Cert.AdamwFfInRefIdeal.nD,
          r.2.mem ((c.tc : Thread Cert.AdamwFfInRefIdeal.nD Cert.AdamwFfInRefIdeal.τ).loc Cert.AdamwFfInRefIdeal.main_v8) = v0 c
          ∧ r.2.mem ((c.tc : Thread Cert.AdamwFfInRefIdeal.nD Cert.AdamwFfInRefIdeal.τ).loc Cert.AdamwFfInRefIdeal.main_v32) = v1 c
          ∧ r.2.mem ((c.tc : Thread Cert.AdamwFfInRefIdeal.nD Cert.AdamwFfInRefIdeal.τ).loc Cert.AdamwFfInRefIdeal.main_v13) = v2 c
          ∧ r.2.mem ((c.tc : Thread Cert.AdamwFfInRefIdeal.nD Cert.AdamwFfInRefIdeal.τ).loc Cert.AdamwFfInRefIdeal.main_v19) = v3 c
          ∧ r.2.mem ((c.tc : Thread Cert.AdamwFfInRefIdeal.nD Cert.AdamwFfInRefIdeal.τ).loc Cert.AdamwFfInRefIdeal.main_arg0) = m' ((c.tc : Thread Cert.AdamwFfInRefIdeal.nD Cert.AdamwFfInRefIdeal.τ).loc Cert.AdamwFfInRefIdeal.main_arg0)
          ∧ r.2.mem ((c.tc : Thread Cert.AdamwFfInRefIdeal.nD Cert.AdamwFfInRefIdeal.τ).loc Cert.AdamwFfInRefIdeal.main_arg1) = m' ((c.tc : Thread Cert.AdamwFfInRefIdeal.nD Cert.AdamwFfInRefIdeal.τ).loc Cert.AdamwFfInRefIdeal.main_arg1)
          ∧ r.2.mem ((c.tc : Thread Cert.AdamwFfInRefIdeal.nD Cert.AdamwFfInRefIdeal.τ).loc Cert.AdamwFfInRefIdeal.main_arg2) = m' ((c.tc : Thread Cert.AdamwFfInRefIdeal.nD Cert.AdamwFfInRefIdeal.τ).loc Cert.AdamwFfInRefIdeal.main_arg2)
          ∧ r.2.mem ((c.tc : Thread Cert.AdamwFfInRefIdeal.nD Cert.AdamwFfInRefIdeal.τ).loc Cert.AdamwFfInRefIdeal.main_arg3) = m' ((c.tc : Thread Cert.AdamwFfInRefIdeal.nD Cert.AdamwFfInRefIdeal.τ).loc Cert.AdamwFfInRefIdeal.main_arg3)
          ∧ r.2.mem ((c.tc : Thread Cert.AdamwFfInRefIdeal.nD Cert.AdamwFfInRefIdeal.τ).loc Cert.AdamwFfInRefIdeal.main_arg4) = m' ((c.tc : Thread Cert.AdamwFfInRefIdeal.nD Cert.AdamwFfInRefIdeal.τ).loc Cert.AdamwFfInRefIdeal.main_arg4)
          ∧ r.2.mem ((c.tc : Thread Cert.AdamwFfInRefIdeal.nD Cert.AdamwFfInRefIdeal.τ).loc Cert.AdamwFfInRefIdeal.main_arg5) = m' ((c.tc : Thread Cert.AdamwFfInRefIdeal.nD Cert.AdamwFfInRefIdeal.τ).loc Cert.AdamwFfInRefIdeal.main_arg5)
          ∧ r.2.mem ((c.tc : Thread Cert.AdamwFfInRefIdeal.nD Cert.AdamwFfInRefIdeal.τ).loc Cert.AdamwFfInRefIdeal.main_arg6) = m' ((c.tc : Thread Cert.AdamwFfInRefIdeal.nD Cert.AdamwFfInRefIdeal.τ).loc Cert.AdamwFfInRefIdeal.main_arg6))

def preserves_AdamwFfOut_AdamwFfOutIdeal : Prop :=
  True

def algebraic_AdamwFfOutIdeal_AdamwFfOutRefIdeal [hAdamwFfOutIdeal : Cert.AdamwFfOutIdeal.Facts] [hAdamwFfOutRefIdeal : Cert.AdamwFfOutRefIdeal.Facts] : Prop :=
  ∀ (m : (ℓ : Loc Cert.AdamwFfOutIdeal.nD Cert.AdamwFfOutIdeal.τ Cert.AdamwFfOutIdeal.sig) → Buf (Elt Ideal) ℓ) (g : Dev Cert.AdamwFfOutIdeal.nD → PrngReg)
    (m' : (ℓ : Loc Cert.AdamwFfOutRefIdeal.nD Cert.AdamwFfOutRefIdeal.τ Cert.AdamwFfOutRefIdeal.sig) → Buf (Elt Ideal) ℓ) (g' : Dev Cert.AdamwFfOutRefIdeal.nD → PrngReg), Pre_AdamwFfOutIdeal m →
    (∀ c : Dev Cert.AdamwFfOutIdeal.nD,
      m' ((c.tc : Thread Cert.AdamwFfOutRefIdeal.nD Cert.AdamwFfOutRefIdeal.τ).loc Cert.AdamwFfOutRefIdeal.main_arg0) = m ((c.tc : Thread Cert.AdamwFfOutIdeal.nD Cert.AdamwFfOutIdeal.τ).loc Cert.AdamwFfOutIdeal.main_arg0)
      ∧ m' ((c.tc : Thread Cert.AdamwFfOutRefIdeal.nD Cert.AdamwFfOutRefIdeal.τ).loc Cert.AdamwFfOutRefIdeal.main_arg1) = m ((c.tc : Thread Cert.AdamwFfOutIdeal.nD Cert.AdamwFfOutIdeal.τ).loc Cert.AdamwFfOutIdeal.main_arg1)
      ∧ m' ((c.tc : Thread Cert.AdamwFfOutRefIdeal.nD Cert.AdamwFfOutRefIdeal.τ).loc Cert.AdamwFfOutRefIdeal.main_arg2) = m ((c.tc : Thread Cert.AdamwFfOutIdeal.nD Cert.AdamwFfOutIdeal.τ).loc Cert.AdamwFfOutIdeal.main_arg2)
      ∧ m' ((c.tc : Thread Cert.AdamwFfOutRefIdeal.nD Cert.AdamwFfOutRefIdeal.τ).loc Cert.AdamwFfOutRefIdeal.main_arg3) = m ((c.tc : Thread Cert.AdamwFfOutIdeal.nD Cert.AdamwFfOutIdeal.τ).loc Cert.AdamwFfOutIdeal.main_arg3)
      ∧ m' ((c.tc : Thread Cert.AdamwFfOutRefIdeal.nD Cert.AdamwFfOutRefIdeal.τ).loc Cert.AdamwFfOutRefIdeal.main_arg4) = m ((c.tc : Thread Cert.AdamwFfOutIdeal.nD Cert.AdamwFfOutIdeal.τ).loc Cert.AdamwFfOutIdeal.main_arg4)
      ∧ m' ((c.tc : Thread Cert.AdamwFfOutRefIdeal.nD Cert.AdamwFfOutRefIdeal.τ).loc Cert.AdamwFfOutRefIdeal.main_arg5) = m ((c.tc : Thread Cert.AdamwFfOutIdeal.nD Cert.AdamwFfOutIdeal.τ).loc Cert.AdamwFfOutIdeal.main_arg5)
      ∧ m' ((c.tc : Thread Cert.AdamwFfOutRefIdeal.nD Cert.AdamwFfOutRefIdeal.τ).loc Cert.AdamwFfOutRefIdeal.main_arg6) = m ((c.tc : Thread Cert.AdamwFfOutIdeal.nD Cert.AdamwFfOutIdeal.τ).loc Cert.AdamwFfOutIdeal.main_arg6)) →
    ∃ (v0 : (c : Dev Cert.AdamwFfOutIdeal.nD) → Buf (Elt Ideal) ((c.tc : Thread Cert.AdamwFfOutIdeal.nD Cert.AdamwFfOutIdeal.τ).loc Cert.AdamwFfOutIdeal.main_v0_0)) (v1 : (c : Dev Cert.AdamwFfOutIdeal.nD) → Buf (Elt Ideal) ((c.tc : Thread Cert.AdamwFfOutIdeal.nD Cert.AdamwFfOutIdeal.τ).loc Cert.AdamwFfOutIdeal.main_v0_1)) (v2 : (c : Dev Cert.AdamwFfOutIdeal.nD) → Buf (Elt Ideal) ((c.tc : Thread Cert.AdamwFfOutIdeal.nD Cert.AdamwFfOutIdeal.τ).loc Cert.AdamwFfOutIdeal.main_v0_2)) (v3 : (c : Dev Cert.AdamwFfOutIdeal.nD) → Buf (Elt Ideal) ((c.tc : Thread Cert.AdamwFfOutIdeal.nD Cert.AdamwFfOutIdeal.τ).loc Cert.AdamwFfOutIdeal.main_v0_3)),
      θ_run (Cert.AdamwFfOutIdeal.defs (F := Ideal)) (onTc (τ := Cert.AdamwFfOutIdeal.τ) (Cert.AdamwFfOutIdeal.main (F := Ideal))) ⟨m, fun _ => 0, g⟩ (fun r => ∀ c : Dev Cert.AdamwFfOutIdeal.nD,
          r.2.mem ((c.tc : Thread Cert.AdamwFfOutIdeal.nD Cert.AdamwFfOutIdeal.τ).loc Cert.AdamwFfOutIdeal.main_v0_0) = v0 c
          ∧ r.2.mem ((c.tc : Thread Cert.AdamwFfOutIdeal.nD Cert.AdamwFfOutIdeal.τ).loc Cert.AdamwFfOutIdeal.main_v0_1) = v1 c
          ∧ r.2.mem ((c.tc : Thread Cert.AdamwFfOutIdeal.nD Cert.AdamwFfOutIdeal.τ).loc Cert.AdamwFfOutIdeal.main_v0_2) = v2 c
          ∧ r.2.mem ((c.tc : Thread Cert.AdamwFfOutIdeal.nD Cert.AdamwFfOutIdeal.τ).loc Cert.AdamwFfOutIdeal.main_v0_3) = v3 c
          ∧ r.2.mem ((c.tc : Thread Cert.AdamwFfOutIdeal.nD Cert.AdamwFfOutIdeal.τ).loc Cert.AdamwFfOutIdeal.main_arg0) = m ((c.tc : Thread Cert.AdamwFfOutIdeal.nD Cert.AdamwFfOutIdeal.τ).loc Cert.AdamwFfOutIdeal.main_arg0)
          ∧ r.2.mem ((c.tc : Thread Cert.AdamwFfOutIdeal.nD Cert.AdamwFfOutIdeal.τ).loc Cert.AdamwFfOutIdeal.main_arg1) = m ((c.tc : Thread Cert.AdamwFfOutIdeal.nD Cert.AdamwFfOutIdeal.τ).loc Cert.AdamwFfOutIdeal.main_arg1)
          ∧ r.2.mem ((c.tc : Thread Cert.AdamwFfOutIdeal.nD Cert.AdamwFfOutIdeal.τ).loc Cert.AdamwFfOutIdeal.main_arg2) = m ((c.tc : Thread Cert.AdamwFfOutIdeal.nD Cert.AdamwFfOutIdeal.τ).loc Cert.AdamwFfOutIdeal.main_arg2)
          ∧ r.2.mem ((c.tc : Thread Cert.AdamwFfOutIdeal.nD Cert.AdamwFfOutIdeal.τ).loc Cert.AdamwFfOutIdeal.main_arg3) = m ((c.tc : Thread Cert.AdamwFfOutIdeal.nD Cert.AdamwFfOutIdeal.τ).loc Cert.AdamwFfOutIdeal.main_arg3)
          ∧ r.2.mem ((c.tc : Thread Cert.AdamwFfOutIdeal.nD Cert.AdamwFfOutIdeal.τ).loc Cert.AdamwFfOutIdeal.main_arg4) = m ((c.tc : Thread Cert.AdamwFfOutIdeal.nD Cert.AdamwFfOutIdeal.τ).loc Cert.AdamwFfOutIdeal.main_arg4)
          ∧ r.2.mem ((c.tc : Thread Cert.AdamwFfOutIdeal.nD Cert.AdamwFfOutIdeal.τ).loc Cert.AdamwFfOutIdeal.main_arg5) = m ((c.tc : Thread Cert.AdamwFfOutIdeal.nD Cert.AdamwFfOutIdeal.τ).loc Cert.AdamwFfOutIdeal.main_arg5)
          ∧ r.2.mem ((c.tc : Thread Cert.AdamwFfOutIdeal.nD Cert.AdamwFfOutIdeal.τ).loc Cert.AdamwFfOutIdeal.main_arg6) = m ((c.tc : Thread Cert.AdamwFfOutIdeal.nD Cert.AdamwFfOutIdeal.τ).loc Cert.AdamwFfOutIdeal.main_arg6))
      ∧ θ_run (Cert.AdamwFfOutRefIdeal.defs (F := Ideal)) (onTc (τ := Cert.AdamwFfOutRefIdeal.τ) (Cert.AdamwFfOutRefIdeal.main (F := Ideal))) ⟨m', fun _ => 0, g'⟩ (fun r => ∀ c : Dev Cert.AdamwFfOutRefIdeal.nD,
          r.2.mem ((c.tc : Thread Cert.AdamwFfOutRefIdeal.nD Cert.AdamwFfOutRefIdeal.τ).loc Cert.AdamwFfOutRefIdeal.main_v8) = v0 c
          ∧ r.2.mem ((c.tc : Thread Cert.AdamwFfOutRefIdeal.nD Cert.AdamwFfOutRefIdeal.τ).loc Cert.AdamwFfOutRefIdeal.main_v32) = v1 c
          ∧ r.2.mem ((c.tc : Thread Cert.AdamwFfOutRefIdeal.nD Cert.AdamwFfOutRefIdeal.τ).loc Cert.AdamwFfOutRefIdeal.main_v13) = v2 c
          ∧ r.2.mem ((c.tc : Thread Cert.AdamwFfOutRefIdeal.nD Cert.AdamwFfOutRefIdeal.τ).loc Cert.AdamwFfOutRefIdeal.main_v19) = v3 c
          ∧ r.2.mem ((c.tc : Thread Cert.AdamwFfOutRefIdeal.nD Cert.AdamwFfOutRefIdeal.τ).loc Cert.AdamwFfOutRefIdeal.main_arg0) = m' ((c.tc : Thread Cert.AdamwFfOutRefIdeal.nD Cert.AdamwFfOutRefIdeal.τ).loc Cert.AdamwFfOutRefIdeal.main_arg0)
          ∧ r.2.mem ((c.tc : Thread Cert.AdamwFfOutRefIdeal.nD Cert.AdamwFfOutRefIdeal.τ).loc Cert.AdamwFfOutRefIdeal.main_arg1) = m' ((c.tc : Thread Cert.AdamwFfOutRefIdeal.nD Cert.AdamwFfOutRefIdeal.τ).loc Cert.AdamwFfOutRefIdeal.main_arg1)
          ∧ r.2.mem ((c.tc : Thread Cert.AdamwFfOutRefIdeal.nD Cert.AdamwFfOutRefIdeal.τ).loc Cert.AdamwFfOutRefIdeal.main_arg2) = m' ((c.tc : Thread Cert.AdamwFfOutRefIdeal.nD Cert.AdamwFfOutRefIdeal.τ).loc Cert.AdamwFfOutRefIdeal.main_arg2)
          ∧ r.2.mem ((c.tc : Thread Cert.AdamwFfOutRefIdeal.nD Cert.AdamwFfOutRefIdeal.τ).loc Cert.AdamwFfOutRefIdeal.main_arg3) = m' ((c.tc : Thread Cert.AdamwFfOutRefIdeal.nD Cert.AdamwFfOutRefIdeal.τ).loc Cert.AdamwFfOutRefIdeal.main_arg3)
          ∧ r.2.mem ((c.tc : Thread Cert.AdamwFfOutRefIdeal.nD Cert.AdamwFfOutRefIdeal.τ).loc Cert.AdamwFfOutRefIdeal.main_arg4) = m' ((c.tc : Thread Cert.AdamwFfOutRefIdeal.nD Cert.AdamwFfOutRefIdeal.τ).loc Cert.AdamwFfOutRefIdeal.main_arg4)
          ∧ r.2.mem ((c.tc : Thread Cert.AdamwFfOutRefIdeal.nD Cert.AdamwFfOutRefIdeal.τ).loc Cert.AdamwFfOutRefIdeal.main_arg5) = m' ((c.tc : Thread Cert.AdamwFfOutRefIdeal.nD Cert.AdamwFfOutRefIdeal.τ).loc Cert.AdamwFfOutRefIdeal.main_arg5)
          ∧ r.2.mem ((c.tc : Thread Cert.AdamwFfOutRefIdeal.nD Cert.AdamwFfOutRefIdeal.τ).loc Cert.AdamwFfOutRefIdeal.main_arg6) = m' ((c.tc : Thread Cert.AdamwFfOutRefIdeal.nD Cert.AdamwFfOutRefIdeal.τ).loc Cert.AdamwFfOutRefIdeal.main_arg6))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v1_0)) (v1 : (c : Dev Cert.AdamwSmallIdeal.nD) → Buf (Elt Ideal) ((c.tc : Thread Cert.AdamwSmallIdeal.nD Cert.AdamwSmallIdeal.τ).loc Cert.AdamwSmallIdeal.main_v1_1)) (v2 : (c : Dev Cert.AdamwSmallIdeal.nD) → Buf (Elt Ideal) ((c.tc : Thread Cert.AdamwSmallIdeal.nD Cert.AdamwSmallIdeal.τ).loc Cert.AdamwSmallIdeal.main_v1_2)) (v3 : (c : Dev Cert.AdamwSmallIdeal.nD) → Buf (Elt Ideal) ((c.tc : Thread Cert.AdamwSmallIdeal.nD Cert.AdamwSmallIdeal.τ).loc Cert.AdamwSmallIdeal.main_v1_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v1_0) = v0 c
          ∧ r.2.mem ((c.tc : Thread Cert.AdamwSmallIdeal.nD Cert.AdamwSmallIdeal.τ).loc Cert.AdamwSmallIdeal.main_v1_1) = v1 c
          ∧ r.2.mem ((c.tc : Thread Cert.AdamwSmallIdeal.nD Cert.AdamwSmallIdeal.τ).loc Cert.AdamwSmallIdeal.main_v1_2) = v2 c
          ∧ r.2.mem ((c.tc : Thread Cert.AdamwSmallIdeal.nD Cert.AdamwSmallIdeal.τ).loc Cert.AdamwSmallIdeal.main_v1_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_arg0) = v0 c
          ∧ r.2.mem ((c.tc : Thread Cert.AdamwSmallRefIdeal.nD Cert.AdamwSmallRefIdeal.τ).loc Cert.AdamwSmallRefIdeal.main_v23) = v1 c
          ∧ r.2.mem ((c.tc : Thread Cert.AdamwSmallRefIdeal.nD Cert.AdamwSmallRefIdeal.τ).loc Cert.AdamwSmallRefIdeal.main_v4) = v2 c
          ∧ r.2.mem ((c.tc : Thread Cert.AdamwSmallRefIdeal.nD Cert.AdamwSmallRefIdeal.τ).loc Cert.AdamwSmallRefIdeal.main_v10) = v3 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v1) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v5) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_AttFwd_AttFwdIdeal : Prop :=
  True

def algebraic_AttFwdIdeal_AttFwdRefIdeal_pre_att_fwd_inputs_finite [hAttFwdIdeal : Cert.AttFwdIdeal.Facts] [hAttFwdRefIdeal : Cert.AttFwdRefIdeal.Facts] [hPre_att_fwd_inputs_finite : Cert.Pre_att_fwd_inputs_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_att_fwd_inputs_finite m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)) →
    ∃ (v0 : (c : Dev Cert.AttFwdIdeal.nD) → Buf (Elt Ideal) ((c.tc : Thread Cert.AttFwdIdeal.nD Cert.AttFwdIdeal.τ).loc Cert.AttFwdIdeal.main_v0_0)) (v1 : (c : Dev Cert.AttFwdIdeal.nD) → Buf (Elt Ideal) ((c.tc : Thread Cert.AttFwdIdeal.nD Cert.AttFwdIdeal.τ).loc Cert.AttFwdIdeal.main_v0_1)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v0_0) = v0 c
          ∧ r.2.mem ((c.tc : Thread Cert.AttFwdIdeal.nD Cert.AttFwdIdeal.τ).loc Cert.AttFwdIdeal.main_v0_1) = v1 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v59) = v0 c
          ∧ r.2.mem ((c.tc : Thread Cert.AttFwdRefIdeal.nD Cert.AttFwdRefIdeal.τ).loc Cert.AttFwdRefIdeal.main_v62) = v1 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1))

def Claim : Prop :=
  ∃ (hKernel : Cert.Kernel.Facts) (hKernelIdeal : Cert.KernelIdeal.Facts) (hReferenceIdeal : Cert.ReferenceIdeal.Facts) (hFfOutDx : Cert.FfOutDx.Facts) (hFfOutDxIdeal : Cert.FfOutDxIdeal.Facts) (hFfOutDxRefIdeal : Cert.FfOutDxRefIdeal.Facts) (hFfInDx : Cert.FfInDx.Facts) (hFfInDxIdeal : Cert.FfInDxIdeal.Facts) (hFfInDxRefIdeal : Cert.FfInDxRefIdeal.Facts) (hFfInDw : Cert.FfInDw.Facts) (hFfInDwIdeal : Cert.FfInDwIdeal.Facts) (hFfInDwRefIdeal : Cert.FfInDwRefIdeal.Facts) (hFfOutDw : Cert.FfOutDw.Facts) (hFfOutDwIdeal : Cert.FfOutDwIdeal.Facts) (hFfOutDwRefIdeal : Cert.FfOutDwRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hOutProjDw : Cert.OutProjDw.Facts) (hOutProjDwIdeal : Cert.OutProjDwIdeal.Facts) (hOutProjDwRefIdeal : Cert.OutProjDwRefIdeal.Facts) (hOutProjDx : Cert.OutProjDx.Facts) (hOutProjDxIdeal : Cert.OutProjDxIdeal.Facts) (hOutProjDxRefIdeal : Cert.OutProjDxRefIdeal.Facts) (hInProj : Cert.InProj.Facts) (hInProjIdeal : Cert.InProjIdeal.Facts) (hInProjRefIdeal : Cert.InProjRefIdeal.Facts) (hFfIn : Cert.FfIn.Facts) (hFfInIdeal : Cert.FfInIdeal.Facts) (hFfInRefIdeal : Cert.FfInRefIdeal.Facts) (hFfOut : Cert.FfOut.Facts) (hFfOutIdeal : Cert.FfOutIdeal.Facts) (hFfOutRefIdeal : Cert.FfOutRefIdeal.Facts) (hOutProj : Cert.OutProj.Facts) (hOutProjIdeal : Cert.OutProjIdeal.Facts) (hOutProjRefIdeal : Cert.OutProjRefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts) (hMergeFwd : Cert.MergeFwd.Facts) (hMergeFwdIdeal : Cert.MergeFwdIdeal.Facts) (hMergeFwdRefIdeal : Cert.MergeFwdRefIdeal.Facts) (hLossHead : Cert.LossHead.Facts) (hLossHeadIdeal : Cert.LossHeadIdeal.Facts) (hLossHeadRefIdeal : Cert.LossHeadRefIdeal.Facts) (hWadaAdamw : Cert.WadaAdamw.Facts) (hWadaAdamwIdeal : Cert.WadaAdamwIdeal.Facts) (hWadaAdamwRefIdeal : Cert.WadaAdamwRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hAdamwFfIn : Cert.AdamwFfIn.Facts) (hAdamwFfInIdeal : Cert.AdamwFfInIdeal.Facts) (hAdamwFfInRefIdeal : Cert.AdamwFfInRefIdeal.Facts) (hAdamwFfOut : Cert.AdamwFfOut.Facts) (hAdamwFfOutIdeal : Cert.AdamwFfOutIdeal.Facts) (hAdamwFfOutRefIdeal : Cert.AdamwFfOutRefIdeal.Facts) (hAdamwSmall : Cert.AdamwSmall.Facts) (hAdamwSmallIdeal : Cert.AdamwSmallIdeal.Facts) (hAdamwSmallRefIdeal : Cert.AdamwSmallRefIdeal.Facts) (hSumSmall : Cert.SumSmall.Facts) (hSumSmallIdeal : Cert.SumSmallIdeal.Facts) (hSumSmallRefIdeal : Cert.SumSmallRefIdeal.Facts) (hAdaMod : Cert.AdaMod.Facts) (hAdaModIdeal : Cert.AdaModIdeal.Facts) (hAdaModRefIdeal : Cert.AdaModRefIdeal.Facts) (hAttFwd : Cert.AttFwd.Facts) (hAttFwdIdeal : Cert.AttFwdIdeal.Facts) (hAttFwdRefIdeal : Cert.AttFwdRefIdeal.Facts) (hPre_merge_inputs_finite : Cert.Pre_merge_inputs_finite.Facts) (hPre_ff_out_dw_inputs_finite : Cert.Pre_ff_out_dw_inputs_finite.Facts) (hPre_out_proj_dw_inputs_finite : Cert.Pre_out_proj_dw_inputs_finite.Facts) (hPre_norm_bwd_inputs_finite : Cert.Pre_norm_bwd_inputs_finite.Facts) (hPre_loss_head_inputs_finite : Cert.Pre_loss_head_inputs_finite.Facts) (hPre_att_fwd_inputs_finite : Cert.Pre_att_fwd_inputs_finite.Facts),
    quiescent_Kernel (hKernel := hKernel)
    ∧ quiescent_KernelIdeal (hKernelIdeal := hKernelIdeal)
    ∧ quiescent_KernelIdeal_pre_merge_inputs_finite (hKernelIdeal := hKernelIdeal) (hPre_merge_inputs_finite := hPre_merge_inputs_finite)
    ∧ quiescent_ReferenceIdeal (hReferenceIdeal := hReferenceIdeal)
    ∧ quiescent_ReferenceIdeal_pre_merge_inputs_finite (hReferenceIdeal := hReferenceIdeal) (hPre_merge_inputs_finite := hPre_merge_inputs_finite)
    ∧ quiescent_FfOutDx (hFfOutDx := hFfOutDx)
    ∧ quiescent_FfOutDxIdeal (hFfOutDxIdeal := hFfOutDxIdeal)
    ∧ quiescent_FfOutDxRefIdeal (hFfOutDxRefIdeal := hFfOutDxRefIdeal)
    ∧ quiescent_FfInDx (hFfInDx := hFfInDx)
    ∧ quiescent_FfInDxIdeal (hFfInDxIdeal := hFfInDxIdeal)
    ∧ quiescent_FfInDxRefIdeal (hFfInDxRefIdeal := hFfInDxRefIdeal)
    ∧ quiescent_FfInDw (hFfInDw := hFfInDw)
    ∧ quiescent_FfInDwIdeal (hFfInDwIdeal := hFfInDwIdeal)
    ∧ quiescent_FfInDwRefIdeal (hFfInDwRefIdeal := hFfInDwRefIdeal)
    ∧ quiescent_FfOutDw (hFfOutDw := hFfOutDw)
    ∧ quiescent_FfOutDwIdeal (hFfOutDwIdeal := hFfOutDwIdeal)
    ∧ quiescent_FfOutDwIdeal_pre_ff_out_dw_inputs_finite (hFfOutDwIdeal := hFfOutDwIdeal) (hPre_ff_out_dw_inputs_finite := hPre_ff_out_dw_inputs_finite)
    ∧ quiescent_FfOutDwRefIdeal (hFfOutDwRefIdeal := hFfOutDwRefIdeal)
    ∧ quiescent_FfOutDwRefIdeal_pre_ff_out_dw_inputs_finite (hFfOutDwRefIdeal := hFfOutDwRefIdeal) (hPre_ff_out_dw_inputs_finite := hPre_ff_out_dw_inputs_finite)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_OutProjDw (hOutProjDw := hOutProjDw)
    ∧ quiescent_OutProjDwIdeal (hOutProjDwIdeal := hOutProjDwIdeal)
    ∧ quiescent_OutProjDwIdeal_pre_out_proj_dw_inputs_finite (hOutProjDwIdeal := hOutProjDwIdeal) (hPre_out_proj_dw_inputs_finite := hPre_out_proj_dw_inputs_finite)
    ∧ quiescent_OutProjDwRefIdeal (hOutProjDwRefIdeal := hOutProjDwRefIdeal)
    ∧ quiescent_OutProjDwRefIdeal_pre_out_proj_dw_inputs_finite (hOutProjDwRefIdeal := hOutProjDwRefIdeal) (hPre_out_proj_dw_inputs_finite := hPre_out_proj_dw_inputs_finite)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfIn (hFfIn := hFfIn)
    ∧ quiescent_FfInIdeal (hFfInIdeal := hFfInIdeal)
    ∧ quiescent_FfInRefIdeal (hFfInRefIdeal := hFfInRefIdeal)
    ∧ quiescent_FfOut (hFfOut := hFfOut)
    ∧ quiescent_FfOutIdeal (hFfOutIdeal := hFfOutIdeal)
    ∧ quiescent_FfOutRefIdeal (hFfOutRefIdeal := hFfOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NormBwd (hNormBwd := hNormBwd)
    ∧ quiescent_NormBwdIdeal (hNormBwdIdeal := hNormBwdIdeal)
    ∧ quiescent_NormBwdIdeal_pre_norm_bwd_inputs_finite (hNormBwdIdeal := hNormBwdIdeal) (hPre_norm_bwd_inputs_finite := hPre_norm_bwd_inputs_finite)
    ∧ quiescent_NormBwdRefIdeal (hNormBwdRefIdeal := hNormBwdRefIdeal)
    ∧ quiescent_NormBwdRefIdeal_pre_norm_bwd_inputs_finite (hNormBwdRefIdeal := hNormBwdRefIdeal) (hPre_norm_bwd_inputs_finite := hPre_norm_bwd_inputs_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_LossHead (hLossHead := hLossHead)
    ∧ quiescent_LossHeadIdeal (hLossHeadIdeal := hLossHeadIdeal)
    ∧ quiescent_LossHeadIdeal_pre_loss_head_inputs_finite (hLossHeadIdeal := hLossHeadIdeal) (hPre_loss_head_inputs_finite := hPre_loss_head_inputs_finite)
    ∧ quiescent_LossHeadRefIdeal (hLossHeadRefIdeal := hLossHeadRefIdeal)
    ∧ quiescent_LossHeadRefIdeal_pre_loss_head_inputs_finite (hLossHeadRefIdeal := hLossHeadRefIdeal) (hPre_loss_head_inputs_finite := hPre_loss_head_inputs_finite)
    ∧ quiescent_WadaAdamw (hWadaAdamw := hWadaAdamw)
    ∧ quiescent_WadaAdamwIdeal (hWadaAdamwIdeal := hWadaAdamwIdeal)
    ∧ quiescent_WadaAdamwRefIdeal (hWadaAdamwRefIdeal := hWadaAdamwRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwFfIn (hAdamwFfIn := hAdamwFfIn)
    ∧ quiescent_AdamwFfInIdeal (hAdamwFfInIdeal := hAdamwFfInIdeal)
    ∧ quiescent_AdamwFfInRefIdeal (hAdamwFfInRefIdeal := hAdamwFfInRefIdeal)
    ∧ quiescent_AdamwFfOut (hAdamwFfOut := hAdamwFfOut)
    ∧ quiescent_AdamwFfOutIdeal (hAdamwFfOutIdeal := hAdamwFfOutIdeal)
    ∧ quiescent_AdamwFfOutRefIdeal (hAdamwFfOutRefIdeal := hAdamwFfOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AttFwd (hAttFwd := hAttFwd)
    ∧ quiescent_AttFwdIdeal (hAttFwdIdeal := hAttFwdIdeal)
    ∧ quiescent_AttFwdIdeal_pre_att_fwd_inputs_finite (hAttFwdIdeal := hAttFwdIdeal) (hPre_att_fwd_inputs_finite := hPre_att_fwd_inputs_finite)
    ∧ quiescent_AttFwdRefIdeal (hAttFwdRefIdeal := hAttFwdRefIdeal)
    ∧ quiescent_AttFwdRefIdeal_pre_att_fwd_inputs_finite (hAttFwdRefIdeal := hAttFwdRefIdeal) (hPre_att_fwd_inputs_finite := hPre_att_fwd_inputs_finite)
    ∧ preserves_Kernel_KernelIdeal
    ∧ algebraic_KernelIdeal_ReferenceIdeal_pre_merge_inputs_finite (hKernelIdeal := hKernelIdeal) (hReferenceIdeal := hReferenceIdeal) (hPre_merge_inputs_finite := hPre_merge_inputs_finite)
    ∧ preserves_FfOutDx_FfOutDxIdeal
    ∧ algebraic_FfOutDxIdeal_FfOutDxRefIdeal (hFfOutDxIdeal := hFfOutDxIdeal) (hFfOutDxRefIdeal := hFfOutDxRefIdeal)
    ∧ preserves_FfInDx_FfInDxIdeal
    ∧ algebraic_FfInDxIdeal_FfInDxRefIdeal (hFfInDxIdeal := hFfInDxIdeal) (hFfInDxRefIdeal := hFfInDxRefIdeal)
    ∧ preserves_FfInDw_FfInDwIdeal
    ∧ algebraic_FfInDwIdeal_FfInDwRefIdeal (hFfInDwIdeal := hFfInDwIdeal) (hFfInDwRefIdeal := hFfInDwRefIdeal)
    ∧ preserves_FfOutDw_FfOutDwIdeal
    ∧ algebraic_FfOutDwIdeal_FfOutDwRefIdeal_pre_ff_out_dw_inputs_finite (hFfOutDwIdeal := hFfOutDwIdeal) (hFfOutDwRefIdeal := hFfOutDwRefIdeal) (hPre_ff_out_dw_inputs_finite := hPre_ff_out_dw_inputs_finite)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_OutProjDw_OutProjDwIdeal
    ∧ algebraic_OutProjDwIdeal_OutProjDwRefIdeal_pre_out_proj_dw_inputs_finite (hOutProjDwIdeal := hOutProjDwIdeal) (hOutProjDwRefIdeal := hOutProjDwRefIdeal) (hPre_out_proj_dw_inputs_finite := hPre_out_proj_dw_inputs_finite)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_InProj_InProjIdeal
    ∧ algebraic_InProjIdeal_InProjRefIdeal (hInProjIdeal := hInProjIdeal) (hInProjRefIdeal := hInProjRefIdeal)
    ∧ preserves_FfIn_FfInIdeal
    ∧ algebraic_FfInIdeal_FfInRefIdeal (hFfInIdeal := hFfInIdeal) (hFfInRefIdeal := hFfInRefIdeal)
    ∧ preserves_FfOut_FfOutIdeal
    ∧ algebraic_FfOutIdeal_FfOutRefIdeal (hFfOutIdeal := hFfOutIdeal) (hFfOutRefIdeal := hFfOutRefIdeal)
    ∧ preserves_OutProj_OutProjIdeal
    ∧ algebraic_OutProjIdeal_OutProjRefIdeal (hOutProjIdeal := hOutProjIdeal) (hOutProjRefIdeal := hOutProjRefIdeal)
    ∧ preserves_NormBwd_NormBwdIdeal
    ∧ algebraic_NormBwdIdeal_NormBwdRefIdeal_pre_norm_bwd_inputs_finite (hNormBwdIdeal := hNormBwdIdeal) (hNormBwdRefIdeal := hNormBwdRefIdeal) (hPre_norm_bwd_inputs_finite := hPre_norm_bwd_inputs_finite)
    ∧ preserves_NormFwd_NormFwdIdeal
    ∧ algebraic_NormFwdIdeal_NormFwdRefIdeal (hNormFwdIdeal := hNormFwdIdeal) (hNormFwdRefIdeal := hNormFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_LossHead_LossHeadIdeal
    ∧ algebraic_LossHeadIdeal_LossHeadRefIdeal_pre_loss_head_inputs_finite (hLossHeadIdeal := hLossHeadIdeal) (hLossHeadRefIdeal := hLossHeadRefIdeal) (hPre_loss_head_inputs_finite := hPre_loss_head_inputs_finite)
    ∧ preserves_WadaAdamw_WadaAdamwIdeal
    ∧ algebraic_WadaAdamwIdeal_WadaAdamwRefIdeal (hWadaAdamwIdeal := hWadaAdamwIdeal) (hWadaAdamwRefIdeal := hWadaAdamwRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwFfIn_AdamwFfInIdeal
    ∧ algebraic_AdamwFfInIdeal_AdamwFfInRefIdeal (hAdamwFfInIdeal := hAdamwFfInIdeal) (hAdamwFfInRefIdeal := hAdamwFfInRefIdeal)
    ∧ preserves_AdamwFfOut_AdamwFfOutIdeal
    ∧ algebraic_AdamwFfOutIdeal_AdamwFfOutRefIdeal (hAdamwFfOutIdeal := hAdamwFfOutIdeal) (hAdamwFfOutRefIdeal := hAdamwFfOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdaMod_AdaModIdeal
    ∧ algebraic_AdaModIdeal_AdaModRefIdeal (hAdaModIdeal := hAdaModIdeal) (hAdaModRefIdeal := hAdaModRefIdeal)
    ∧ preserves_AttFwd_AttFwdIdeal
    ∧ algebraic_AttFwdIdeal_AttFwdRefIdeal_pre_att_fwd_inputs_finite (hAttFwdIdeal := hAttFwdIdeal) (hAttFwdRefIdeal := hAttFwdRefIdeal) (hPre_att_fwd_inputs_finite := hPre_att_fwd_inputs_finite)
-- ==== Pre_att_fwd_inputs_finite.lean ====
abbrev S8192x9728 : Shape := ⟨2, ![8192, 9728]⟩
abbrev S24x256x768 : Shape := ⟨3, ![24, 256, 768]⟩
abbrev S_ : Shape := ⟨0, ![]⟩

class Facts : Prop where
  bcast_S_S8192x9728 : S_.BroadcastsInDim S8192x9728 (![] : Fin 0 → Fin S8192x9728.rank)
  bcast_S_S24x256x768 : S_.BroadcastsInDim S24x256x768 (![] : Fin 0 → Fin S24x256x768.rank)

variable [Facts]

def fn {F : FTy → Type} [FloatOps F] (main_arg0 : FVec F S8192x9728 .f32) (main_arg1 : FVec F S24x256x768 .f32) : IVec S8192x9728 1 × IVec S24x256x768 1 :=
  let main_v0 : FVec F S8192x9728 .f32 := Host.absf main_arg0
  let main_cst : FVec F S_ .f32 := constant S_ .f32 0x7F800000#32
  let main_v1 : FVec F S8192x9728 .f32 := broadcastInDim S8192x9728 ![] bcast_S_S8192x9728 main_cst
  let main_v2 : IVec S8192x9728 1 := cmpf .olt main_v0 main_v1
  let main_v3 : FVec F S24x256x768 .f32 := Host.absf main_arg1
  let main_cst_0 : FVec F S_ .f32 := constant S_ .f32 0x7F800000#32
  let main_v4 : FVec F S24x256x768 .f32 := broadcastInDim S24x256x768 ![] bcast_S_S24x256x768 main_cst_0
  let main_v5 : IVec S24x256x768 1 := cmpf .olt main_v3 main_v4
  (main_v2, main_v5)
-- ==== Pre_ff_out_dw_inputs_finite.lean ====
abbrev S8192x4096 : Shape := ⟨2, ![8192, 4096]⟩
abbrev S8192x1024 : Shape := ⟨2, ![8192, 1024]⟩
abbrev S1x1024 : Shape := ⟨2, ![1, 1024]⟩
abbrev S4096x1024 : Shape := ⟨2, ![4096, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S8192x4096 .bf16) (main_arg1 : FVec F S8192x1024 .f32) (main_arg2 : FVec F S1x1024 .f32) (main_arg3 : FVec F S4096x1024 .bf16) : IVec S8192x4096 1 × IVec S8192x1024 1 × IVec S1x1024 1 × IVec S4096x1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : FVec F S4096x1024 .f32 := (extf .f32 · bitsLt_bf16_f32) main_arg3
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  (main_v3, main_v6, main_v9, main_v13)
-- ==== Pre_loss_head_inputs_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) : IVec S8192x1024 1 × IVec S8192x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_merge_inputs_finite.lean ====
abbrev S8192x1024 : Shape := ⟨2, ![8192, 1024]⟩
abbrev S8x8192x128 : Shape := ⟨3, ![8, 8192, 128]⟩
abbrev S8192x9728 : Shape := ⟨2, ![8192, 9728]⟩
abbrev S1x128 : Shape := ⟨2, ![1, 128]⟩
abbrev S_ : Shape := ⟨0, ![]⟩

class Facts : Prop where
  bcast_S_S8192x1024 : S_.BroadcastsInDim S8192x1024 (![] : Fin 0 → Fin S8192x1024.rank)
  bcast_S_S8x8192x128 : S_.BroadcastsInDim S8x8192x128 (![] : Fin 0 → Fin S8x8192x128.rank)
  bcast_S_S8192x9728 : S_.BroadcastsInDim S8192x9728 (![] : Fin 0 → Fin S8192x9728.rank)
  bcast_S_S1x128 : S_.BroadcastsInDim S1x128 (![] : Fin 0 → Fin S1x128.rank)

variable [Facts]

def fn {F : FTy → Type} [FloatOps F] (main_arg0 : FVec F S8192x1024 .f32) (main_arg1 : FVec F S8x8192x128 .f32) (main_arg2 : FVec F S8192x9728 .f32) (main_arg3 : FVec F S8192x1024 .f32) (main_arg4 : FVec F S1x128 .f32) : IVec S8192x1024 1 × IVec S8x8192x128 1 × IVec S8192x9728 1 × IVec S8192x1024 1 × IVec S1x128 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8x8192x128 .f32 := Host.absf main_arg1
  let main_cst_0 : FVec F S_ .f32 := constant S_ .f32 0x7F800000#32
  let main_v4 : FVec F S8x8192x128 .f32 := broadcastInDim S8x8192x128 ![] bcast_S_S8x8192x128 main_cst_0
  let main_v5 : IVec S8x8192x128 1 := cmpf .olt main_v3 main_v4
  let main_v6 : FVec F S8192x9728 .f32 := Host.absf main_arg2
  let main_cst_1 : FVec F S_ .f32 := constant S_ .f32 0x7F800000#32
  let main_v7 : FVec F S8192x9728 .f32 := broadcastInDim S8192x9728 ![] bcast_S_S8192x9728 main_cst_1
  let main_v8 : IVec S8192x9728 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S1x128 .f32 := Host.absf main_arg4
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  (main_v2, main_v5, main_v8, main_v11, main_v14)
-- ==== Pre_norm_bwd_inputs_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S8192x1024 .f32) : IVec S8192x1024 1 × IVec S8192x1024 1 × IVec S1x1024 1 × IVec S1x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_out_proj_dw_inputs_finite.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S8192x1024 .f32) (main_arg2 : FVec F S1x1024 .f32) (main_arg3 : FVec F S1024x1024 .bf16) : IVec S8192x1024 1 × IVec S8192x1024 1 × IVec S1x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x1024 .f32 := (extf .f32 · bitsLt_bf16_f32) main_arg3
  let main_v10 : FVec F S1024x1024 .f32 := Host.absf main_v9
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  (main_v2, main_v5, main_v8, main_v12)
-- ==== Kernel.lean ====
abbrev S8192x1024 : Shape := ⟨2, ![8192, 1024]⟩
abbrev S8x8192x128 : Shape := ⟨3, ![8, 8192, 128]⟩
abbrev S8192x9728 : Shape := ⟨2, ![8192, 9728]⟩
abbrev S1x128 : Shape := ⟨2, ![1, 128]⟩
abbrev S256x1024 : Shape := ⟨2, ![256, 1024]⟩
abbrev S8x256x128 : Shape := ⟨3, ![8, 256, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S128 : Shape := ⟨1, ![128]⟩

abbrev nBuf : Space → Nat
  | .hbm => 11
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8x8192x128, .f32⟩
  | .hbm, ⟨2, _⟩ => ⟨S8192x9728, .f32⟩
  | .hbm, ⟨3, _⟩ => ⟨S8192x1024, .f32⟩
  | .hbm, ⟨4, _⟩ => ⟨S1x128, .f32⟩
  | .hbm, ⟨5, _⟩ => ⟨S8x8192x128, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S8x256x128, .f32⟩
  | .local _ .vmem, ⟨3, _⟩ => ⟨S8x256x128, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S8x256x128, .f32⟩
  | .local _ .vmem, ⟨14, _⟩ => ⟨S8x256x128, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S8x8192x128 : Shape := ⟨3, ![8, 8192, 128]⟩
abbrev S8192x9728 : Shape := ⟨2, ![8192, 9728]⟩
abbrev S1x128 : Shape := ⟨2, ![1, 128]⟩
abbrev S8192x2048 : Shape := ⟨2, ![8192, 2048]⟩
abbrev S128 : Shape := ⟨1, ![128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x8192x128, .f32⟩
  | .hbm, ⟨2, _⟩ => ⟨S8192x9728, .f32⟩
  | .hbm, ⟨3, _⟩ => ⟨S8192x1024, .f32⟩
  | .hbm, ⟨4, _⟩ => ⟨S1x128, .f32⟩
  | .hbm, ⟨5, _⟩ => ⟨S8192x1024, .f32⟩
  | .hbm, ⟨6, _⟩ => ⟨S8192x2048, .f32⟩
  | .hbm, ⟨7, _⟩ => ⟨S128, .f32⟩
  | .hbm, ⟨8, _⟩ => ⟨S8192x8x128, .f32⟩
  | .hbm, ⟨9, _⟩ => ⟨S8192x8x128, .f32⟩
  | .hbm, ⟨10, _⟩ => ⟨S_, .f32⟩
  | .hbm, ⟨11, _⟩ => ⟨S8192x8, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S_, .f32⟩
  | .hbm, ⟨22, _⟩ => ⟨S8192x8x1, .f32⟩
  | .hbm, ⟨23, _⟩ => ⟨S8192x8x1, .f32⟩
  | .hbm, ⟨24, _⟩ => ⟨S8192x8x128, .f32⟩
  | .hbm, ⟨25, _⟩ => ⟨S8192x8x128, .f32⟩
  | .hbm, ⟨26, _⟩ => ⟨S1x1x128, .f32⟩
  | .hbm, ⟨27, _⟩ => ⟨S8192x8x128, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S_, .f32⟩
  | .hbm, ⟨33, _⟩ => ⟨S8192x8x128, .f32⟩
  | .hbm, ⟨34, _⟩ => ⟨S8192x8x128, .f32⟩
  | .hbm, ⟨35, _⟩ => ⟨S_, .f32⟩
  | .hbm, ⟨36, _⟩ => ⟨S8192x8x128, .f32⟩
  | .hbm, ⟨37, _⟩ => ⟨S8192x8x128, .f32⟩
  | .hbm, ⟨38, _⟩ => ⟨S_, .f32⟩
  | .hbm, ⟨39, _⟩ => ⟨S8192x8x128, .f32⟩
  | .hbm, ⟨40, _⟩ => ⟨S8192x8x128, .f32⟩
  | .hbm, ⟨41, _⟩ => ⟨S8192x8x128, .f32⟩
  | .hbm, ⟨42, _⟩ => ⟨S8192x8x128, .f32⟩
  | .hbm, ⟨43, _⟩ => ⟨S8192x8x128, .f32⟩
  | .hbm, ⟨44, _⟩ => ⟨S8192x1024, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x2048, .f32⟩
  | .hbm, ⟨69, _⟩ => ⟨S8192x2048, .f32⟩
  | .hbm, ⟨70, _⟩ => ⟨S8192x8x128, .f32⟩
  | .hbm, ⟨71, _⟩ => ⟨S8192x8x128, .f32⟩
  | .hbm, ⟨72, _⟩ => ⟨S8192x8x128, .f32⟩
  | .hbm, ⟨73, _⟩ => ⟨S8192x8x128, .f32⟩
  | .hbm, ⟨74, _⟩ => ⟨S8192x8x128, .f32⟩
  | .hbm, ⟨75, _⟩ => ⟨S8192x8x128, .f32⟩
  | .hbm, ⟨76, _⟩ => ⟨S8192x8x128, .f32⟩
  | .hbm, ⟨77, _⟩ => ⟨S8192x1024, .f32⟩
  | .hbm, ⟨78, _⟩ => ⟨S8192x8x128, .f32⟩
  | .hbm, ⟨79, _⟩ => ⟨S_, .f32⟩
  | .hbm, ⟨80, _⟩ => ⟨S128, .f32⟩
  | .hbm, ⟨81, _⟩ => ⟨S1x1x128, .f32⟩
  | .hbm, ⟨82, _⟩ => ⟨S8192x8x128, .f32⟩
  | .hbm, ⟨83, _⟩ => ⟨S8192x8x128, .f32⟩
  | .hbm, ⟨84, _⟩ => ⟨S_, .f32⟩
  | .hbm, ⟨85, _⟩ => ⟨S128, .f32⟩
  | .hbm, ⟨86, _⟩ => ⟨S8192x8x128, .f32⟩
  | .hbm, ⟨87, _⟩ => ⟨S_, .f32⟩
  | .hbm, ⟨88, _⟩ => ⟨S8192x8, .f32⟩
  | .hbm, ⟨89, _⟩ => ⟨S8192x8x1, .f32⟩
  | .hbm, ⟨90, _⟩ => ⟨S8192x8x128, .f32⟩
  | .hbm, ⟨91, _⟩ => ⟨S8192x8x128, .f32⟩
  | .hbm, ⟨92, _⟩ => ⟨S8192x8x1, .f32⟩
  | .hbm, ⟨93, _⟩ => ⟨S_, .f32⟩
  | .hbm, ⟨94, _⟩ => ⟨S8192x8x1, .f32⟩
  | .hbm, ⟨95, _⟩ => ⟨S8192x8x1, .f32⟩
  | .hbm, ⟨96, _⟩ => ⟨S_, .f32⟩
  | .hbm, ⟨97, _⟩ => ⟨S8192x8, .f32⟩
  | .hbm, ⟨98, _⟩ => ⟨S8192x8x128, .f32⟩
  | .hbm, ⟨99, _⟩ => ⟨S8192x8x128, .f32⟩
  | .hbm, ⟨100, _⟩ => ⟨S8192x8x128, .f32⟩
  | .hbm, ⟨101, _⟩ => ⟨S8192x8x128, .f32⟩
  | .hbm, ⟨102, _⟩ => ⟨S8192x8x128, .f32⟩
  | .hbm, ⟨103, _⟩ => ⟨S8x8192x128, .f32⟩
  | .hbm, ⟨104, _⟩ => ⟨S8192x1024, .bf16⟩
  | .hbm, ⟨105, _⟩ => ⟨S8192x1024, .f32⟩
  | .hbm, ⟨106, _⟩ => ⟨S8192x1024, .bf16⟩
  | .hbm, ⟨107, _⟩ => ⟨S8192x1024, .f32⟩
  | .hbm, ⟨108, _⟩ => ⟨S8192x1024, .bf16⟩
  | .hbm, ⟨109, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_9 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== FfOutDx.lean ====
abbrev S8192x1024 : Shape := ⟨2, ![8192, 1024]⟩
abbrev S4096x1024 : Shape := ⟨2, ![4096, 1024]⟩
abbrev S1x1024 : Shape := ⟨2, ![1, 1024]⟩
abbrev S8192x4096 : Shape := ⟨2, ![8192, 4096]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S1x1024, .f32⟩
  | .hbm, ⟨3, _⟩ => ⟨S8192x4096, .f32⟩
  | .hbm, ⟨4, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfOutDxRefIdeal.lean ====
abbrev S8192x1024 : Shape := ⟨2, ![8192, 1024]⟩
abbrev S4096x1024 : Shape := ⟨2, ![4096, 1024]⟩
abbrev S1x1024 : Shape := ⟨2, ![1, 1024]⟩
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S1x1024, .f32⟩
  | .hbm, ⟨3, _⟩ => ⟨S8192x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== FfInDx.lean ====
abbrev S8192x4096 : Shape := ⟨2, ![8192, 4096]⟩
abbrev S1024x4096 : Shape := ⟨2, ![1024, 4096]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInDxRefIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1024x4096, .f32⟩
  | .hbm, ⟨3, _⟩ => ⟨S_, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfInDw.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInDwRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfOutDw.lean ====
abbrev S8192x4096 : Shape := ⟨2, ![8192, 4096]⟩
abbrev S8192x1024 : Shape := ⟨2, ![8192, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S4096x1024, .bf16⟩
  | .hbm, ⟨4, _⟩ => ⟨S4096x1024, .bf16⟩
  | .hbm, ⟨5, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![1, 4, 8], ![false, false, false]⟩

def k0_cond4 (i : grid0.Coords) : BitVec 1 :=
  let arg2 : BitVec 32 := BitVec.ofNat 32 (i 2).val
  let c7_i32_9 : BitVec 32 := 7#32
  let v18 : BitVec 1 := Scalar.cmpi .eq arg2 c7_i32_9
  let v19 : BitVec 32 := Scalar.extui v18
  let c0_i32_10 : BitVec 32 := 0#32
  let v20 : BitVec 1 := Scalar.cmpi .ne v19 c0_i32_10
  v20

def k0_cond3 (i : grid0.Coords) : BitVec 1 :=
  let arg2 : BitVec 32 := BitVec.ofNat 32 (i 2).val
  let c0_i32_6 : BitVec 32 := 0#32
  let v13 : BitVec 1 := Scalar.cmpi .eq arg2 c0_i32_6
  let arg1 : BitVec 32 := BitVec.ofNat 32 (i 1).val
  let c0_i32_7 : BitVec 32 := 0#32
  let v14 : BitVec 1 := Scalar.cmpi .eq arg1 c0_i32_7
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]
-- ==== FfOutDwRefIdeal.lean ====
abbrev S8192x4096 : Shape := ⟨2, ![8192, 4096]⟩
abbrev S8192x1024 : Shape := ⟨2, ![8192, 1024]⟩
abbrev S1x1024 : Shape := ⟨2, ![1, 1024]⟩
abbrev S4096x1024 : Shape := ⟨2, ![4096, 1024]⟩
abbrev S_ : Shape := ⟨0, ![]⟩
abbrev S1024 : Shape := ⟨1, ![1024]⟩
abbrev S1024x4096 : Shape := ⟨2, ![1024, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S1x1024, .f32⟩
  | .hbm, ⟨3, _⟩ => ⟨S4096x1024, .bf16⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S1024x4096, .f32⟩
  | .hbm, ⟨16, _⟩ => ⟨S4096x1024, .f32⟩
  | .hbm, ⟨17, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InProjDx.lean ====
abbrev S8192x3072 : Shape := ⟨2, ![8192, 3072]⟩
abbrev S8192x1024 : Shape := ⟨2, ![8192, 1024]⟩
abbrev S8192x512 : Shape := ⟨2, ![8192, 512]⟩
abbrev S1024x9728 : Shape := ⟨2, ![1024, 9728]⟩
abbrev S1024x512 : Shape := ⟨2, ![1024, 512]⟩
abbrev S1024x1024 : Shape := ⟨2, ![1024, 1024]⟩

abbrev nBuf : Space → Nat
  | .hbm => 10
  | .vmem => 21
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x512, .bf16⟩
  | .hbm, ⟨8, _⟩ => ⟨S1024x9728, .bf16⟩
  | .hbm, ⟨9, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 19], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c6_i32 : BitVec 32 := 6#32
  let v1 : BitVec 1 := Scalar.cmpi .slt arg1 c6_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def k0_cond5 (i : grid0.Coords) : BitVec 1 :=
  let arg1 : BitVec 32 := BitVec.ofNat 32 (i 1).val
  let c6_i32_1 : BitVec 32 := 6#32
  let v5 : BitVec 1 := Scalar.cmpi .sge arg1 c6_i32_1
  let c8_i32 : BitVec 32 := 8#32
  let v6 : BitVec 1 := Scalar.cmpi .slt arg1 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond8 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def k0_cond9 (i : grid0.Coords) : BitVec 1 :=
  let arg1 : BitVec 32 := BitVec.ofNat 32 (i 1).val
  let c8_i32_3 : BitVec 32 := 8#32
  let v10 : BitVec 1 := Scalar.cmpi .sge arg1 c8_i32_3
  let c10_i32 : BitVec 32 := 10#32
  let v11 : BitVec 1 := Scalar.cmpi .slt arg1 c10_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond12 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def k0_cond13 (i : grid0.Coords) : BitVec 1 :=
  let arg1 : BitVec 32 := BitVec.ofNat 32 (i 1).val
  let c10_i32_5 : BitVec 32 := 10#32
  let v15 : BitVec 1 := Scalar.cmpi .sge arg1 c10_i32_5
  let c12_i32 : BitVec 32 := 12#32
  let v16 : BitVec 1 := Scalar.cmpi .slt arg1 c12_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond16 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def k0_cond17 (i : grid0.Coords) : BitVec 1 :=
  let arg1 : BitVec 32 := BitVec.ofNat 32 (i 1).val
  let c12_i32_7 : BitVec 32 := 12#32
  let v20 : BitVec 1 := Scalar.cmpi .sge arg1 c12_i32_7
  let c14_i32 : BitVec 32 := 14#32
  let v21 : BitVec 1 := Scalar.cmpi .slt arg1 c14_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond20 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def k0_cond21 (i : grid0.Coords) : BitVec 1 :=
  let arg1 : BitVec 32 := BitVec.ofNat 32 (i 1).val
  let c14_i32_9 : BitVec 32 := 14#32
  let v25 : BitVec 1 := Scalar.cmpi .sge arg1 c14_i32_9
  let c16_i32 : BitVec 32 := 16#32
  let v26 : BitVec 1 := Scalar.cmpi .slt arg1 c16_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond24 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def k0_cond25 (i : grid0.Coords) : BitVec 1 :=
  let arg1 : BitVec 32 := BitVec.ofNat 32 (i 1).val
  let c16_i32_11 : BitVec 32 := 16#32
  let v30 : BitVec 1 := Scalar.cmpi .sge arg1 c16_i32_11
  let c18_i32 : BitVec 32 := 18#32
  let v31 : BitVec 1 := Scalar.cmpi .slt arg1 c18_i32
  let v32 : BitVec 1 := Scalar.andi v30 v31
  let v33 : BitVec 32 := Scalar.extui v32
  let c0_i32_12 : BitVec 32 := 0#32
  let v34 : BitVec 1 := Scalar.cmpi .ne v33 c0_i32_12
  v34

def k0_cond28 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def k0_cond29 (i : grid0.Coords) : BitVec 1 :=
  let arg1 : BitVec 32 := BitVec.ofNat 32 (i 1).val
  let c18_i32_13 : BitVec 32 := 18#32
  let v35 : BitVec 1 := Scalar.cmpi .sge arg1 c18_i32_13
  let c19_i32 : BitVec 32 := 19#32
  let v36 : BitVec 1 := Scalar.cmpi .slt arg1 c19_i32
  let v37 : BitVec 1 := Scalar.andi v35 v36
  let v38 : BitVec 32 := Scalar.extui v37
  let c0_i32_14 : BitVec 32 := 0#32
  let v39 : BitVec 1 := Scalar.cmpi .ne v38 c0_i32_14
  v39

def k0_cond32 (i : grid0.Coords) : BitVec 1 :=
  let arg1 : BitVec 32 := BitVec.ofNat 32 (i 1).val
  let c18_i32_23 : BitVec 32 := 18#32
  let v51 : BitVec 1 := Scalar.cmpi .eq arg1 c18_i32_23
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c6_i32 : BitVec 32 := 6#32
  let v1 : BitVec 1 := Scalar.cmpi .slt arg1 c6_i32
  let v2 : BitVec 1 := Scalar.andi v0 v1
  let c0_i32_0 : BitVec 32 := 0#32
  let v3 : BitVec 32 := Scalar.select v2 arg0 c0_i32_0
  let c0_i32_1 : BitVec 32 := 0#32
  let v4 : BitVec 32 := Scalar.subi arg1 c0_i32_1
  let c0_i32_2 : BitVec 32 := 0#32
  let v5 : BitVec 32 := Scalar.select v2 v4 c0_i32_2
  let c0_i32_3 : BitVec 32 := 0#32
  ![v3.toNat, v5.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg1 c6_i32
  let c8_i32 : BitVec 32 := 8#32
  let v1 : BitVec 1 := Scalar.cmpi .slt arg1 c8_i32
  let v2 : BitVec 1 := Scalar.andi v0 v1
  let c0_i32 : BitVec 32 := 0#32
  let v3 : BitVec 32 := Scalar.select v2 arg0 c0_i32
  let c6_i32_0 : BitVec 32 := 6#32
  let v4 : BitVec 32 := Scalar.subi arg1 c6_i32_0
  let c0_i32_1 : BitVec 32 := 0#32
  let v5 : BitVec 32 := Scalar.select v2 v4 c0_i32_1
  let c0_i32_2 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c10_i32 : BitVec 32 := 10#32
  let v1 : BitVec 1 := Scalar.cmpi .slt arg1 c10_i32
  let v2 : BitVec 1 := Scalar.andi v0 v1
  let c0_i32 : BitVec 32 := 0#32
  let v3 : BitVec 32 := Scalar.select v2 arg0 c0_i32
  let c8_i32_0 : BitVec 32 := 8#32
  let v4 : BitVec 32 := Scalar.subi arg1 c8_i32_0
  let c0_i32_1 : BitVec 32 := 0#32
  let v5 : BitVec 32 := Scalar.select v2 v4 c0_i32_1
  let c0_i32_2 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg1 c10_i32
  let c12_i32 : BitVec 32 := 12#32
  let v1 : BitVec 1 := Scalar.cmpi .slt arg1 c12_i32
  let v2 : BitVec 1 := Scalar.andi v0 v1
  let c0_i32 : BitVec 32 := 0#32
  let v3 : BitVec 32 := Scalar.select v2 arg0 c0_i32
  let c10_i32_0 : BitVec 32 := 10#32
  let v4 : BitVec 32 := Scalar.subi arg1 c10_i32_0
  let c0_i32_1 : BitVec 32 := 0#32
  let v5 : BitVec 32 := Scalar.select v2 v4 c0_i32_1
  let c0_i32_2 : BitVec 32 := 0#32
  ![v3.toNat, v5.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .sge arg1 c12_i32
  let c14_i32 : BitVec 32 := 14#32
  let v1 : BitVec 1 := Scalar.cmpi .slt arg1 c14_i32
  let v2 : BitVec 1 := Scalar.andi v0 v1
  let c0_i32 : BitVec 32 := 0#32
  let v3 : BitVec 32 := Scalar.select v2 arg0 c0_i32
  let c12_i32_0 : BitVec 32 := 12#32
  let v4 : BitVec 32 := Scalar.subi arg1 c12_i32_0
  let c0_i32_1 : BitVec 32 := 0#32
  let v5 : BitVec 32 := Scalar.select v2 v4 c0_i32_1
  let c0_i32_2 : BitVec 32 := 0#32
  ![v3.toNat, v5.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .sge arg1 c14_i32
  let c16_i32 : BitVec 32 := 16#32
  let v1 : BitVec 1 := Scalar.cmpi .slt arg1 c16_i32
  let v2 : BitVec 1 := Scalar.andi v0 v1
  let c0_i32 : BitVec 32 := 0#32
  let v3 : BitVec 32 := Scalar.select v2 arg0 c0_i32
  let c14_i32_0 : BitVec 32 := 14#32
  let v4 : BitVec 32 := Scalar.subi arg1 c14_i32_0
  let c0_i32_1 : BitVec 32 := 0#32
  let v5 : BitVec 32 := Scalar.select v2 v4 c0_i32_1
  let c0_i32_2 : BitVec 32 := 0#32
  ![v3.toNat, v5.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c18_i32 : BitVec 32 := 18#32
  let v1 : BitVec 1 := Scalar.cmpi .slt arg1 c18_i32
  let v2 : BitVec 1 := Scalar.andi v0 v1
  let c0_i32 : BitVec 32 := 0#32
  let v3 : BitVec 32 := Scalar.select v2 arg0 c0_i32
  let c16_i32_0 : BitVec 32 := 16#32
  let v4 : BitVec 32 := Scalar.subi arg1 c16_i32_0
  let c0_i32_1 : BitVec 32 := 0#32
  let v5 : BitVec 32 := Scalar.select v2 v4 c0_i32_1
  let c0_i32_2 : BitVec 32 := 0#32
  ![v3.toNat, v5.toNat]

def cc0_transform_7 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 1 := Scalar.cmpi .sge arg1 c18_i32
  let c19_i32 : BitVec 32 := 19#32
  let v1 : BitVec 1 := Scalar.cmpi .slt arg1 c19_i32
  let v2 : BitVec 1 := Scalar.andi v0 v1
  let c0_i32 : BitVec 32 := 0#32
  let v3 : BitVec 32 := Scalar.select v2 arg0 c0_i32
  let c18_i32_0 : BitVec 32 := 18#32
  let v4 : BitVec 32 := Scalar.subi arg1 c18_i32_0
  let c0_i32_1 : BitVec 32 := 0#32
  let v5 : BitVec 32 := Scalar.select v2 v4 c0_i32_1
  let c0_i32_2 : BitVec 32 := 0#32
  ![v3.toNat, v5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjDxRefIdeal.lean ====
abbrev S8192x3072 : Shape := ⟨2, ![8192, 3072]⟩
abbrev S8192x1024 : Shape := ⟨2, ![8192, 1024]⟩
abbrev S8192x512 : Shape := ⟨2, ![8192, 512]⟩
abbrev S1024x9728 : Shape := ⟨2, ![1024, 9728]⟩
abbrev S_ : Shape := ⟨0, ![]⟩
abbrev S8192x9728 : Shape := ⟨2, ![8192, 9728]⟩

abbrev nBuf : Space → Nat
  | .hbm => 53
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x512, .bf16⟩
  | .hbm, ⟨8, _⟩ => ⟨S1024x9728, .bf16⟩
  | .hbm, ⟨9, _⟩ => ⟨S1024x9728, .f32⟩
  | .hbm, ⟨10, _⟩ => ⟨S8192x3072, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x512, .f32⟩
  | .hbm, ⟨18, _⟩ => ⟨S_, .f32⟩
  | .hbm, ⟨19, _⟩ => ⟨S8192x1024, .f32⟩
  | .hbm, ⟨20, _⟩ => ⟨S8192x9728, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x512, .f32⟩
  | .hbm, ⟨29, _⟩ => ⟨S_, .f32⟩
  | .hbm, ⟨30, _⟩ => ⟨S8192x9728, .f32⟩
  | .hbm, ⟨31, _⟩ => ⟨S_, .f32⟩
  | .hbm, ⟨32, _⟩ => ⟨S8192x9728, .f32⟩
  | .hbm, ⟨33, _⟩ => ⟨S8192x9728, .f32⟩
  | .hbm, ⟨34, _⟩ => ⟨S_, .f32⟩
  | .hbm, ⟨35, _⟩ => ⟨S8192x9728, .f32⟩
  | .hbm, ⟨36, _⟩ => ⟨S8192x9728, .f32⟩
  | .hbm, ⟨37, _⟩ => ⟨S_, .f32⟩
  | .hbm, ⟨38, _⟩ => ⟨S8192x9728, .f32⟩
  | .hbm, ⟨39, _⟩ => ⟨S8192x9728, .f32⟩
  | .hbm, ⟨40, _⟩ => ⟨S_, .f32⟩
  | .hbm, ⟨41, _⟩ => ⟨S8192x9728, .f32⟩
  | .hbm, ⟨42, _⟩ => ⟨S8192x9728, .f32⟩
  | .hbm, ⟨43, _⟩ => ⟨S_, .f32⟩
  | .hbm, ⟨44, _⟩ => ⟨S8192x9728, .f32⟩
  | .hbm, ⟨45, _⟩ => ⟨S8192x9728, .f32⟩
  | .hbm, ⟨46, _⟩ => ⟨S_, .f32⟩
  | .hbm, ⟨47, _⟩ => ⟨S8192x9728, .f32⟩
  | .hbm, ⟨48, _⟩ => ⟨S8192x9728, .f32⟩
  | .hbm, ⟨49, _⟩ => ⟨S_, .f32⟩
  | .hbm, ⟨50, _⟩ => ⟨S8192x9728, .f32⟩
  | .hbm, ⟨51, _⟩ => ⟨S8192x9728, .f32⟩
  | .hbm, ⟨52, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== InProjDw.lean ====
abbrev S1024x8192 : Shape := ⟨2, ![1024, 8192]⟩
abbrev S8192x3072 : Shape := ⟨2, ![8192, 3072]⟩
abbrev S8192x1024 : Shape := ⟨2, ![8192, 1024]⟩
abbrev S8192x512 : Shape := ⟨2, ![8192, 512]⟩
abbrev S1024x9728 : Shape := ⟨2, ![1024, 9728]⟩
abbrev S1024x1024 : Shape := ⟨2, ![1024, 1024]⟩
abbrev S1024x512 : Shape := ⟨2, ![1024, 512]⟩

abbrev nBuf : Space → Nat
  | .hbm => 10
  | .vmem => 21
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x512, .bf16⟩
  | .hbm, ⟨9, _⟩ => ⟨S1024x9728, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![19, 8], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def k0_cond5 (i : grid0.Coords) : BitVec 1 :=
  let arg0 : BitVec 32 := BitVec.ofNat 32 (i 0).val
  let c6_i32_1 : BitVec 32 := 6#32
  let v5 : BitVec 1 := Scalar.cmpi .sge arg0 c6_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond8 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def k0_cond9 (i : grid0.Coords) : BitVec 1 :=
  let arg0 : BitVec 32 := BitVec.ofNat 32 (i 0).val
  let c8_i32_3 : BitVec 32 := 8#32
  let v10 : BitVec 1 := Scalar.cmpi .sge arg0 c8_i32_3
  let c10_i32 : BitVec 32 := 10#32
  let v11 : BitVec 1 := Scalar.cmpi .slt arg0 c10_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond12 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def k0_cond13 (i : grid0.Coords) : BitVec 1 :=
  let arg0 : BitVec 32 := BitVec.ofNat 32 (i 0).val
  let c10_i32_5 : BitVec 32 := 10#32
  let v15 : BitVec 1 := Scalar.cmpi .sge arg0 c10_i32_5
  let c12_i32 : BitVec 32 := 12#32
  let v16 : BitVec 1 := Scalar.cmpi .slt arg0 c12_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond16 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def k0_cond17 (i : grid0.Coords) : BitVec 1 :=
  let arg0 : BitVec 32 := BitVec.ofNat 32 (i 0).val
  let c12_i32_7 : BitVec 32 := 12#32
  let v20 : BitVec 1 := Scalar.cmpi .sge arg0 c12_i32_7
  let c14_i32 : BitVec 32 := 14#32
  let v21 : BitVec 1 := Scalar.cmpi .slt arg0 c14_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond20 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def k0_cond21 (i : grid0.Coords) : BitVec 1 :=
  let arg0 : BitVec 32 := BitVec.ofNat 32 (i 0).val
  let c14_i32_9 : BitVec 32 := 14#32
  let v25 : BitVec 1 := Scalar.cmpi .sge arg0 c14_i32_9
  let c16_i32 : BitVec 32 := 16#32
  let v26 : BitVec 1 := Scalar.cmpi .slt arg0 c16_i32
  let v27 : BitVec 1 := Scalar.andi v25 v26
  let v28 : BitVec 32 := Scalar.extui v27
  let c0_i32_10 : BitVec 32 := 0#32
  let v29 : BitVec 1 := Scalar.cmpi .ne v28 c0_i32_10
  v29

def k0_cond24 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def k0_cond25 (i : grid0.Coords) : BitVec 1 :=
  let arg0 : BitVec 32 := BitVec.ofNat 32 (i 0).val
  let c16_i32_11 : BitVec 32 := 16#32
  let v30 : BitVec 1 := Scalar.cmpi .sge arg0 c16_i32_11
  let c18_i32 : BitVec 32 := 18#32
  let v31 : BitVec 1 := Scalar.cmpi .slt arg0 c18_i32
  let v32 : BitVec 1 := Scalar.andi v30 v31
  let v33 : BitVec 32 := Scalar.extui v32
  let c0_i32_12 : BitVec 32 := 0#32
  let v34 : BitVec 1 := Scalar.cmpi .ne v33 c0_i32_12
  v34

def k0_cond28 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def k0_cond29 (i : grid0.Coords) : BitVec 1 :=
  let arg0 : BitVec 32 := BitVec.ofNat 32 (i 0).val
  let c18_i32_13 : BitVec 32 := 18#32
  let v35 : BitVec 1 := Scalar.cmpi .sge arg0 c18_i32_13
  let c19_i32 : BitVec 32 := 19#32
  let v36 : BitVec 1 := Scalar.cmpi .slt arg0 c19_i32
  let v37 : BitVec 1 := Scalar.andi v35 v36
  let v38 : BitVec 32 := Scalar.extui v37
  let c0_i32_14 : BitVec 32 := 0#32
  let v39 : BitVec 1 := Scalar.cmpi .ne v38 c0_i32_14
  v39

def k0_cond32 (i : grid0.Coords) : BitVec 1 :=
  let arg1 : BitVec 32 := BitVec.ofNat 32 (i 1).val
  let c7_i32_22 : BitVec 32 := 7#32
  let v51 : BitVec 1 := Scalar.cmpi .eq arg1 c7_i32_22
  let v52 : BitVec 32 := Scalar.extui v51
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let v5 : BitVec 32 := Scalar.select v2 v4 c0_i32_2
  let c0_i32_3 : BitVec 32 := 0#32
  ![v3.toNat, v5.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .sge arg0 c6_i32
  let c8_i32 : BitVec 32 := 8#32
  let v1 : BitVec 1 := Scalar.cmpi .slt arg0 c8_i32
  let v2 : BitVec 1 := Scalar.andi v0 v1
  let c0_i32 : BitVec 32 := 0#32
  let v3 : BitVec 32 := Scalar.select v2 arg1 c0_i32
  let c6_i32_0 : BitVec 32 := 6#32
  let v4 : BitVec 32 := Scalar.subi arg0 c6_i32_0
  let c0_i32_1 : BitVec 32 := 0#32
  let v5 : BitVec 32 := Scalar.select v2 v4 c0_i32_1
  let c0_i32_2 : BitVec 32 := 0#32
  ![v3.toNat, v5.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg0 c8_i32
  let c10_i32 : BitVec 32 := 10#32
  let v1 : BitVec 1 := Scalar.cmpi .slt arg0 c10_i32
  let v2 : BitVec 1 := Scalar.andi v0 v1
  let c0_i32 : BitVec 32 := 0#32
  let v3 : BitVec 32 := Scalar.select v2 arg1 c0_i32
  let c8_i32_0 : BitVec 32 := 8#32
  let v4 : BitVec 32 := Scalar.subi arg0 c8_i32_0
  let c0_i32_1 : BitVec 32 := 0#32
  let v5 : BitVec 32 := Scalar.select v2 v4 c0_i32_1
  let c0_i32_2 : BitVec 32 := 0#32
  ![v3.toNat, v5.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .sge arg0 c10_i32
  let c12_i32 : BitVec 32 := 12#32
  let v1 : BitVec 1 := Scalar.cmpi .slt arg0 c12_i32
  let v2 : BitVec 1 := Scalar.andi v0 v1
  let c0_i32 : BitVec 32 := 0#32
  let v3 : BitVec 32 := Scalar.select v2 arg1 c0_i32
  let c10_i32_0 : BitVec 32 := 10#32
  let v4 : BitVec 32 := Scalar.subi arg0 c10_i32_0
  let c0_i32_1 : BitVec 32 := 0#32
  let v5 : BitVec 32 := Scalar.select v2 v4 c0_i32_1
  let c0_i32_2 : BitVec 32 := 0#32
  ![v3.toNat, v5.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .sge arg0 c12_i32
  let c14_i32 : BitVec 32 := 14#32
  let v1 : BitVec 1 := Scalar.cmpi .slt arg0 c14_i32
  let v2 : BitVec 1 := Scalar.andi v0 v1
  let c0_i32 : BitVec 32 := 0#32
  let v3 : BitVec 32 := Scalar.select v2 arg1 c0_i32
  let c12_i32_0 : BitVec 32 := 12#32
  let v4 : BitVec 32 := Scalar.subi arg0 c12_i32_0
  let c0_i32_1 : BitVec 32 := 0#32
  let v5 : BitVec 32 := Scalar.select v2 v4 c0_i32_1
  let c0_i32_2 : BitVec 32 := 0#32
  ![v3.toNat, v5.toNat]

def cc0_transform_6 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 1 := Scalar.cmpi .sge arg0 c14_i32
  let c16_i32 : BitVec 32 := 16#32
  let v1 : BitVec 1 := Scalar.cmpi .slt arg0 c16_i32
  let v2 : BitVec 1 := Scalar.andi v0 v1
  let c0_i32 : BitVec 32 := 0#32
  let v3 : BitVec 32 := Scalar.select v2 arg1 c0_i32
  let c14_i32_0 : BitVec 32 := 14#32
  let v4 : BitVec 32 := Scalar.subi arg0 c14_i32_0
  let c0_i32_1 : BitVec 32 := 0#32
  let v5 : BitVec 32 := Scalar.select v2 v4 c0_i32_1
  let c0_i32_2 : BitVec 32 := 0#32
  ![v3.toNat, v5.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg0 c16_i32
  let c18_i32 : BitVec 32 := 18#32
  let v1 : BitVec 1 := Scalar.cmpi .slt arg0 c18_i32
  let v2 : BitVec 1 := Scalar.andi v0 v1
  let c0_i32 : BitVec 32 := 0#32
  let v3 : BitVec 32 := Scalar.select v2 arg1 c0_i32
  let c16_i32_0 : BitVec 32 := 16#32
  let v4 : BitVec 32 := Scalar.subi arg0 c16_i32_0
  let c0_i32_1 : BitVec 32 := 0#32
  let v5 : BitVec 32 := Scalar.select v2 v4 c0_i32_1
  let c0_i32_2 : BitVec 32 := 0#32
  ![v3.toNat, v5.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 1 := Scalar.cmpi .sge arg0 c18_i32
  let c19_i32 : BitVec 32 := 19#32
  let v1 : BitVec 1 := Scalar.cmpi .slt arg0 c19_i32
  let v2 : BitVec 1 := Scalar.andi v0 v1
  let c0_i32 : BitVec 32 := 0#32
  let v3 : BitVec 32 := Scalar.select v2 arg1 c0_i32
  let c18_i32_0 : BitVec 32 := 18#32
  let v4 : BitVec 32 := Scalar.subi arg0 c18_i32_0
  let c0_i32_1 : BitVec 32 := 0#32
  let v5 : BitVec 32 := Scalar.select v2 v4 c0_i32_1
  let c0_i32_2 : BitVec 32 := 0#32
  ![v3.toNat, v5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjDwRefIdeal.lean ====
abbrev S1024x8192 : Shape := ⟨2, ![1024, 8192]⟩
abbrev S8192x3072 : Shape := ⟨2, ![8192, 3072]⟩
abbrev S8192x1024 : Shape := ⟨2, ![8192, 1024]⟩
abbrev S8192x512 : Shape := ⟨2, ![8192, 512]⟩
abbrev S_ : Shape := ⟨0, ![]⟩
abbrev S1024x9728 : Shape := ⟨2, ![1024, 9728]⟩
abbrev S8192x9728 : Shape := ⟨2, ![8192, 9728]⟩
abbrev S9728x1024 : Shape := ⟨2, ![9728, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x512, .bf16⟩
  | .hbm, ⟨9, _⟩ => ⟨S1024x8192, .f32⟩
  | .hbm, ⟨10, _⟩ => ⟨S8192x1024, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x512, .f32⟩
  | .hbm, ⟨19, _⟩ => ⟨S_, .f32⟩
  | .hbm, ⟨20, _⟩ => ⟨S1024x9728, .f32⟩
  | .hbm, ⟨21, _⟩ => ⟨S8192x9728, .f32⟩
  | .hbm, ⟨22, _⟩ => ⟨S8192x3072, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x512, .f32⟩
  | .hbm, ⟨30, _⟩ => ⟨S_, .f32⟩
  | .hbm, ⟨31, _⟩ => ⟨S8192x9728, .f32⟩
  | .hbm, ⟨32, _⟩ => ⟨S_, .f32⟩
  | .hbm, ⟨33, _⟩ => ⟨S8192x9728, .f32⟩
  | .hbm, ⟨34, _⟩ => ⟨S8192x9728, .f32⟩
  | .hbm, ⟨35, _⟩ => ⟨S_, .f32⟩
  | .hbm, ⟨36, _⟩ => ⟨S8192x9728, .f32⟩
  | .hbm, ⟨37, _⟩ => ⟨S8192x9728, .f32⟩
  | .hbm, ⟨38, _⟩ => ⟨S_, .f32⟩
  | .hbm, ⟨39, _⟩ => ⟨S8192x9728, .f32⟩
  | .hbm, ⟨40, _⟩ => ⟨S8192x9728, .f32⟩
  | .hbm, ⟨41, _⟩ => ⟨S_, .f32⟩
  | .hbm, ⟨42, _⟩ => ⟨S8192x9728, .f32⟩
  | .hbm, ⟨43, _⟩ => ⟨S8192x9728, .f32⟩
  | .hbm, ⟨44, _⟩ => ⟨S_, .f32⟩
  | .hbm, ⟨45, _⟩ => ⟨S8192x9728, .f32⟩
  | .hbm, ⟨46, _⟩ => ⟨S8192x9728, .f32⟩
  | .hbm, ⟨47, _⟩ => ⟨S_, .f32⟩
  | .hbm, ⟨48, _⟩ => ⟨S8192x9728, .f32⟩
  | .hbm, ⟨49, _⟩ => ⟨S8192x9728, .f32⟩
  | .hbm, ⟨50, _⟩ => ⟨S_, .f32⟩
  | .hbm, ⟨51, _⟩ => ⟨S8192x9728, .f32⟩
  | .hbm, ⟨52, _⟩ => ⟨S8192x9728, .f32⟩
  | .hbm, ⟨53, _⟩ => ⟨S9728x1024, .f32⟩
  | .hbm, ⟨54, _⟩ => ⟨S1024x9728, .f32⟩
  | .hbm, ⟨55, _⟩ => ⟨S1024x9728, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]
-- ==== OutProjDw.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨3, ![1, 1, 8], ![false, false, false]⟩

def k0_cond4 (i : grid0.Coords) : BitVec 1 :=
  let arg2 : BitVec 32 := BitVec.ofNat 32 (i 2).val
  let c7_i32_9 : BitVec 32 := 7#32
  let v19 : BitVec 1 := Scalar.cmpi .eq arg2 c7_i32_9
  let v20 : BitVec 32 := Scalar.extui v19
  let c0_i32_10 : BitVec 32 := 0#32
  let v21 : BitVec 1 := Scalar.cmpi .ne v20 c0_i32_10
  v21

def k0_cond3 (i : grid0.Coords) : BitVec 1 :=
  let arg2 : BitVec 32 := BitVec.ofNat 32 (i 2).val
  let c0_i32_6 : BitVec 32 := 0#32
  let v14 : BitVec 1 := Scalar.cmpi .eq arg2 c0_i32_6
  let arg1 : BitVec 32 := BitVec.ofNat 32 (i 1).val
  let c0_i32_7 : BitVec 32 := 0#32
  let v15 : BitVec 1 := Scalar.cmpi .eq arg1 c0_i32_7
  let v16 : BitVec 1 := Scalar.andi v14 v15
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]
-- ==== OutProjDwRefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== OutProjDx.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjDxRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== InProj.lean ====
abbrev S8192x1024 : Shape := ⟨2, ![8192, 1024]⟩
abbrev S1024x9728 : Shape := ⟨2, ![1024, 9728]⟩
abbrev S8192x9728 : Shape := ⟨2, ![8192, 9728]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x9728, .bf16⟩
  | .hbm, ⟨2, _⟩ => ⟨S8192x9728, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x1024 : Shape := ⟨2, ![8192, 1024]⟩
abbrev S1024x9728 : Shape := ⟨2, ![1024, 9728]⟩
abbrev S8192x9728 : Shape := ⟨2, ![8192, 9728]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9728, .bf16⟩
  | .hbm, ⟨2, _⟩ => ⟨S8192x1024, .f32⟩
  | .hbm, ⟨3, _⟩ => ⟨S1024x9728, .f32⟩
  | .hbm, ⟨4, _⟩ => ⟨S8192x9728, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfIn.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfInRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfOut.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfOutRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== OutProjRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S1x1024, .f32⟩
  | .hbm, ⟨80, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== NormFwd.lean ====
abbrev S8192x1024 : Shape := ⟨2, ![8192, 1024]⟩
abbrev S1x1024 : Shape := ⟨2, ![1, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .hbm, ⟨5, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x512, .bf16⟩
  | .local _ .vmem, ⟨8, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormFwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | .hbm, ⟨29, _⟩ => ⟨S1024x8192, .f32⟩
  | .hbm, ⟨30, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== MergeFwd.lean ====
abbrev S8x8192x128 : Shape := ⟨3, ![8, 8192, 128]⟩
abbrev S8192x9728 : Shape := ⟨2, ![8192, 9728]⟩
abbrev S8192x1024 : Shape := ⟨2, ![8192, 1024]⟩
abbrev S1x128 : Shape := ⟨2, ![1, 128]⟩
abbrev S8x256x128 : Shape := ⟨3, ![8, 256, 128]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 13
  | .smem => 0
  | _ => 0

abbrev bufTy : (tb : Table) → Fin (tcTables nBuf tb) → BufTy
  | .hbm, ⟨0, _⟩ => ⟨S8x8192x128, .f32⟩
  | .hbm, ⟨1, _⟩ => ⟨S8192x9728, .f32⟩
  | .hbm, ⟨2, _⟩ => ⟨S8192x1024, .f32⟩
  | .hbm, ⟨3, _⟩ => ⟨S1x128, .f32⟩
  | .hbm, ⟨4, _⟩ => ⟨S8192x1024, .bf16⟩
  | .local _ .vmem, ⟨0, _⟩ => ⟨S8x256x128, .f32⟩
  | .local _ .vmem, ⟨1, _⟩ => ⟨S8x256x128, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x128, .f32⟩
  | .local _ .vmem, ⟨11, _⟩ => ⟨S256x1024, .bf16⟩
  | .local _ .vmem, ⟨12, _⟩ => ⟨S256x1024, .bf16⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S8x8192x128 : Shape := ⟨3, ![8, 8192, 128]⟩
abbrev S8192x9728 : Shape := ⟨2, ![8192, 9728]⟩
abbrev S8192x1024 : Shape := ⟨2, ![8192, 1024]⟩
abbrev S1x128 : Shape := ⟨2, ![1, 128]⟩
abbrev S8192x2048 : Shape := ⟨2, ![8192, 2048]⟩
abbrev S128 : Shape := ⟨1, ![128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8192x9728, .f32⟩
  | .hbm, ⟨2, _⟩ => ⟨S8192x1024, .f32⟩
  | .hbm, ⟨3, _⟩ => ⟨S1x128, .f32⟩
  | .hbm, ⟨4, _⟩ => ⟨S8192x1024, .f32⟩
  | .hbm, ⟨5, _⟩ => ⟨S8192x2048, .f32⟩
  | .hbm, ⟨6, _⟩ => ⟨S128, .f32⟩
  | .hbm, ⟨7, _⟩ => ⟨S8192x8x128, .f32⟩
  | .hbm, ⟨8, _⟩ => ⟨S8192x8x128, .f32⟩
  | .hbm, ⟨9, _⟩ => ⟨S_, .f32⟩
  | .hbm, ⟨10, _⟩ => ⟨S8192x8, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S_, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S8192x8x128, .f32⟩
  | .hbm, ⟨20, _⟩ => ⟨S8192x8x128, .f32⟩
  | .hbm, ⟨21, _⟩ => ⟨S1x1x128, .f32⟩
  | .hbm, ⟨22, _⟩ => ⟨S8192x8x128, .f32⟩
  | .hbm, ⟨23, _⟩ => ⟨S8192x8x128, .f32⟩
  | .hbm, ⟨24, _⟩ => ⟨S8192x8x128, .f32⟩
  | .hbm, ⟨25, _⟩ => ⟨S8192x8x128, .f32⟩
  | .hbm, ⟨26, _⟩ => ⟨S8192x8x128, .f32⟩
  | .hbm, ⟨27, _⟩ => ⟨S_, .f32⟩
  | .hbm, ⟨28, _⟩ => ⟨S8192x8x128, .f32⟩
  | .hbm, ⟨29, _⟩ => ⟨S8192x8x128, .f32⟩
  | .hbm, ⟨30, _⟩ => ⟨S_, .f32⟩
  | .hbm, ⟨31, _⟩ => ⟨S8192x8x128, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S8192x1024, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x128, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== WadaAdamw.lean ====
abbrev S1024x8 : Shape := ⟨2, ![1024, 8]⟩
abbrev S4x8x768 : Shape := ⟨3, ![4, 8, 768]⟩
abbrev S4x1024x768 : Shape := ⟨3, ![4, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 9
  | .vmem => 17
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S4x1024x768, .f32⟩
  | .hbm, ⟨6, _⟩ => ⟨S4x1024x768, .f32⟩
  | .hbm, ⟨7, _⟩ => ⟨S4x1024x768, .f32⟩
  | .hbm, ⟨8, _⟩ => ⟨S4x1024x768, .f32⟩
  | .local _ .vmem, ⟨0, _⟩ => ⟨S1024x8, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | .local _ .vmem, ⟨8, _⟩ => ⟨S1x1024x768, .f32⟩
  | .local _ .vmem, ⟨9, _⟩ => ⟨S1x1024x768, .f32⟩
  | .local _ .vmem, ⟨10, _⟩ => ⟨S1x1024x768, .f32⟩
  | .local _ .vmem, ⟨11, _⟩ => ⟨S1x1024x768, .f32⟩
  | .local _ .vmem, ⟨12, _⟩ => ⟨S1x1024x768, .f32⟩
  | .local _ .vmem, ⟨13, _⟩ => ⟨S1x1024x768, .f32⟩
  | .local _ .vmem, ⟨14, _⟩ => ⟨S1x1024x768, .f32⟩
  | .local _ .vmem, ⟨15, _⟩ => ⟨S1x1024x768, .f32⟩
  | .local _ .vmem, ⟨16, _⟩ => ⟨S1x1024x768, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WadaAdamwRefIdeal.lean ====
abbrev S1024x8 : Shape := ⟨2, ![1024, 8]⟩
abbrev S4x8x768 : Shape := ⟨3, ![4, 8, 768]⟩
abbrev S4x1024x768 : Shape := ⟨3, ![4, 1024, 768]⟩
abbrev S8x1024 : Shape := ⟨2, ![8, 1024]⟩
abbrev S_ : Shape := ⟨0, ![]⟩
abbrev S4x768x8 : Shape := ⟨3, ![4, 768, 8]⟩
abbrev S4x768x1024 : Shape := ⟨3, ![4, 768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x768, .f32⟩
  | .hbm, ⟨2, _⟩ => ⟨S4x1024x768, .f32⟩
  | .hbm, ⟨3, _⟩ => ⟨S4x1024x768, .f32⟩
  | .hbm, ⟨4, _⟩ => ⟨S4x1024x768, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S4x768x8, .f32⟩
  | .hbm, ⟨16, _⟩ => ⟨S4x8x768, .f32⟩
  | .hbm, ⟨17, _⟩ => ⟨S4x768x8, .f32⟩
  | .hbm, ⟨18, _⟩ => ⟨S4x768x1024, .f32⟩
  | .hbm, ⟨19, _⟩ => ⟨S4x1024x768, .f32⟩
  | .hbm, ⟨20, _⟩ => ⟨S_, .f32⟩
  | .hbm, ⟨21, _⟩ => ⟨S4x1024x768, .f32⟩
  | .hbm, ⟨22, _⟩ => ⟨S4x1024x768, .f32⟩
  | .hbm, ⟨23, _⟩ => ⟨S_, .f32⟩
  | .hbm, ⟨24, _⟩ => ⟨S4x1024x768, .f32⟩
  | .hbm, ⟨25, _⟩ => ⟨S4x1024x768, .f32⟩
  | .hbm, ⟨26, _⟩ => ⟨S4x1024x768, .f32⟩
  | .hbm, ⟨27, _⟩ => ⟨S_, .f32⟩
  | .hbm, ⟨28, _⟩ => ⟨S4x1024x768, .f32⟩
  | .hbm, ⟨29, _⟩ => ⟨S4x1024x768, .f32⟩
  | .hbm, ⟨30, _⟩ => ⟨S4x1024x768, .f32⟩
  | .hbm, ⟨31, _⟩ => ⟨S_, .f32⟩
  | .hbm, ⟨32, _⟩ => ⟨S4x1024x768, .f32⟩
  | .hbm, ⟨33, _⟩ => ⟨S4x1024x768, .f32⟩
  | .hbm, ⟨34, _⟩ => ⟨S4x1024x768, .f32⟩
  | .hbm, ⟨35, _⟩ => ⟨S_, .f32⟩
  | .hbm, ⟨36, _⟩ => ⟨S4x1024x768, .f32⟩
  | .hbm, ⟨37, _⟩ => ⟨S4x1024x768, .f32⟩
  | .hbm, ⟨38, _⟩ => ⟨S_, .f32⟩
  | .hbm, ⟨39, _⟩ => ⟨S4x1024x768, .f32⟩
  | .hbm, ⟨40, _⟩ => ⟨S4x1024x768, .f32⟩
  | .hbm, ⟨41, _⟩ => ⟨S4x1024x768, .f32⟩
  | .hbm, ⟨42, _⟩ => ⟨S_, .f32⟩
  | .hbm, ⟨43, _⟩ => ⟨S4x1024x768, .f32⟩
  | .hbm, ⟨44, _⟩ => ⟨S4x1024x768, .f32⟩
  | .hbm, ⟨45, _⟩ => ⟨S4x1024x768, .f32⟩
  | .hbm, ⟨46, _⟩ => ⟨S_, .f32⟩
  | .hbm, ⟨47, _⟩ => ⟨S4x1024x768, .f32⟩
  | .hbm, ⟨48, _⟩ => ⟨S4x1024x768, .f32⟩
  | .hbm, ⟨49, _⟩ => ⟨S4x1024x768, .f32⟩
  | .hbm, ⟨50, _⟩ => ⟨S_, .f32⟩
  | .hbm, ⟨51, _⟩ => ⟨S4x1024x768, .f32⟩
  | .hbm, ⟨52, _⟩ => ⟨S4x1024x768, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== AdamwIn.lean ====
abbrev S8x1024x1154 : Shape := ⟨3, ![8, 1024, 1154]⟩
abbrev S4096x1154 : Shape := ⟨2, ![4096, 1154]⟩
abbrev S8x128x1154 : Shape := ⟨3, ![8, 128, 1154]⟩
abbrev S128x1154 : Shape := ⟨2, ![128, 1154]⟩
abbrev S1x128x1154 : Shape := ⟨3, ![1, 128, 1154]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x1154, .bf16⟩
  | .hbm, ⟨1, _⟩ => ⟨S8x1024x1154, .bf16⟩
  | .hbm, ⟨2, _⟩ => ⟨S8x1024x1154, .bf16⟩
  | .hbm, ⟨3, _⟩ => ⟨S8x1024x1154, .bf16⟩
  | .hbm, ⟨4, _⟩ => ⟨S4096x1154, .f32⟩
  | .hbm, ⟨5, _⟩ => ⟨S4096x1154, .f32⟩
  | .hbm, ⟨6, _⟩ => ⟨S4096x1154, .f32⟩
  | .hbm, ⟨7, _⟩ => ⟨S4096x1154, .f32⟩
  | .hbm, ⟨8, _⟩ => ⟨S4096x1154, .f32⟩
  | .hbm, ⟨9, _⟩ => ⟨S4096x1154, .f32⟩
  | .hbm, ⟨10, _⟩ => ⟨S4096x1154, .f32⟩
  | .local _ .vmem, ⟨0, _⟩ => ⟨S8x128x1154, .bf16⟩
  | .local _ .vmem, ⟨1, _⟩ => ⟨S8x128x1154, .bf16⟩
  | .local _ .vmem, ⟨2, _⟩ => ⟨S8x128x1154, .bf16⟩
  | .local _ .vmem, ⟨3, _⟩ => ⟨S8x128x1154, .bf16⟩
  | .local _ .vmem, ⟨4, _⟩ => ⟨S8x128x1154, .bf16⟩
  | .local _ .vmem, ⟨5, _⟩ => ⟨S8x128x1154, .bf16⟩
  | .local _ .vmem, ⟨6, _⟩ => ⟨S8x128x1154, .bf16⟩
  | .local _ .vmem, ⟨7, _⟩ => ⟨S8x128x1154, .bf16⟩
  | .local _ .vmem, ⟨8, _⟩ => ⟨S128x1154, .f32⟩
  | .local _ .vmem, ⟨9, _⟩ => ⟨S128x1154, .f32⟩
  | .local _ .vmem, ⟨10, _⟩ => ⟨S128x1154, .f32⟩
  | .local _ .vmem, ⟨11, _⟩ => ⟨S128x1154, .f32⟩
  | .local _ .vmem, ⟨12, _⟩ => ⟨S128x1154, .f32⟩
  | .local _ .vmem, ⟨13, _⟩ => ⟨S128x1154, .f32⟩
  | .local _ .vmem, ⟨14, _⟩ => ⟨S128x1154, .f32⟩
  | .local _ .vmem, ⟨15, _⟩ => ⟨S128x1154, .f32⟩
  | .local _ .vmem, ⟨16, _⟩ => ⟨S128x1154, .f32⟩
  | .local _ .vmem, ⟨17, _⟩ => ⟨S128x1154, .f32⟩
  | .local _ .vmem, ⟨18, _⟩ => ⟨S128x1154, .f32⟩
  | .local _ .vmem, ⟨19, _⟩ => ⟨S128x1154, .f32⟩
  | .local _ .vmem, ⟨20, _⟩ => ⟨S128x1154, .f32⟩
  | .local _ .vmem, ⟨21, _⟩ => ⟨S128x1154, .f32⟩
  | _, _ => ⟨S8x1024x1154, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1154 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1154 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1154 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1154 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1154 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1154 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1154 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1154 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwInRefIdeal.lean ====
abbrev S8x1024x1154 : Shape := ⟨3, ![8, 1024, 1154]⟩
abbrev S4096x1154 : Shape := ⟨2, ![4096, 1154]⟩
abbrev S_ : Shape := ⟨0, ![]⟩
abbrev S1024x1154 : Shape := ⟨2, ![1024, 1154]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x1154, .bf16⟩
  | .hbm, ⟨1, _⟩ => ⟨S8x1024x1154, .bf16⟩
  | .hbm, ⟨2, _⟩ => ⟨S8x1024x1154, .bf16⟩
  | .hbm, ⟨3, _⟩ => ⟨S8x1024x1154, .bf16⟩
  | .hbm, ⟨4, _⟩ => ⟨S4096x1154, .f32⟩
  | .hbm, ⟨5, _⟩ => ⟨S4096x1154, .f32⟩
  | .hbm, ⟨6, _⟩ => ⟨S4096x1154, .f32⟩
  | .hbm, ⟨7, _⟩ => ⟨S8x1024x1154, .f32⟩
  | .hbm, ⟨8, _⟩ => ⟨S_, .f32⟩
  | .hbm, ⟨9, _⟩ => ⟨S1024x1154, .f32⟩
  | .hbm, ⟨10, _⟩ => ⟨S8x1024x1154, .f32⟩
  | .hbm, ⟨11, _⟩ => ⟨S_, .f32⟩
  | .hbm, ⟨12, _⟩ => ⟨S1024x1154, .f32⟩
  | .hbm, ⟨13, _⟩ => ⟨S8x1024x1154, .f32⟩
  | .hbm, ⟨14, _⟩ => ⟨S_, .f32⟩
  | .hbm, ⟨15, _⟩ => ⟨S1024x1154, .f32⟩
  | .hbm, ⟨16, _⟩ => ⟨S8x1024x1154, .f32⟩
  | .hbm, ⟨17, _⟩ => ⟨S_, .f32⟩
  | .hbm, ⟨18, _⟩ => ⟨S1024x1154, .f32⟩
  | .hbm, ⟨19, _⟩ => ⟨S4096x1154, .f32⟩
  | .hbm, ⟨20, _⟩ => ⟨S_, .f32⟩
  | .hbm, ⟨21, _⟩ => ⟨S4096x1154, .f32⟩
  | .hbm, ⟨22, _⟩ => ⟨S4096x1154, .f32⟩
  | .hbm, ⟨23, _⟩ => ⟨S_, .f32⟩
  | .hbm, ⟨24, _⟩ => ⟨S4096x1154, .f32⟩
  | .hbm, ⟨25, _⟩ => ⟨S4096x1154, .f32⟩
  | .hbm, ⟨26, _⟩ => ⟨S4096x1154, .f32⟩
  | .hbm, ⟨27, _⟩ => ⟨S_, .f32⟩
  | .hbm, ⟨28, _⟩ => ⟨S4096x1154, .f32⟩
  | .hbm, ⟨29, _⟩ => ⟨S4096x1154, .f32⟩
  | .hbm, ⟨30, _⟩ => ⟨S4096x1154, .f32⟩
  | .hbm, ⟨31, _⟩ => ⟨S_, .f32⟩
  | .hbm, ⟨32, _⟩ => ⟨S4096x1154, .f32⟩
  | .hbm, ⟨33, _⟩ => ⟨S4096x1154, .f32⟩
  | .hbm, ⟨34, _⟩ => ⟨S4096x1154, .f32⟩
  | .hbm, ⟨35, _⟩ => ⟨S_, .f32⟩
  | .hbm, ⟨36, _⟩ => ⟨S4096x1154, .f32⟩
  | .hbm, ⟨37, _⟩ => ⟨S4096x1154, .f32⟩
  | .hbm, ⟨38, _⟩ => ⟨S_, .f32⟩
  | .hbm, ⟨39, _⟩ => ⟨S4096x1154, .f32⟩
  | .hbm, ⟨40, _⟩ => ⟨S4096x1154, .f32⟩
  | .hbm, ⟨41, _⟩ => ⟨S4096x1154, .f32⟩
  | .hbm, ⟨42, _⟩ => ⟨S_, .f32⟩
  | .hbm, ⟨43, _⟩ => ⟨S4096x1154, .f32⟩
  | .hbm, ⟨44, _⟩ => ⟨S4096x1154, .f32⟩
  | .hbm, ⟨45, _⟩ => ⟨S4096x1154, .f32⟩
  | .hbm, ⟨46, _⟩ => ⟨S_, .f32⟩
  | .hbm, ⟨47, _⟩ => ⟨S4096x1154, .f32⟩
  | .hbm, ⟨48, _⟩ => ⟨S4096x1154, .f32⟩
  | .hbm, ⟨49, _⟩ => ⟨S4096x1154, .f32⟩
  | .hbm, ⟨50, _⟩ => ⟨S_, .f32⟩
  | .hbm, ⟨51, _⟩ => ⟨S4096x1154, .f32⟩
  | .hbm, ⟨52, _⟩ => ⟨S4096x1154, .f32⟩
  | _, _ => ⟨S8x1024x1154, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamwOut.lean ====
abbrev S8x128x1024 : Shape := ⟨3, ![8, 128, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwOutRefIdeal.lean ====
abbrev S8x128x1024 : Shape := ⟨3, ![8, 128, 1024]⟩
abbrev S512x1024 : Shape := ⟨2, ![512, 1024]⟩
abbrev S_ : Shape := ⟨0, ![]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S8x128x1024, .bf16⟩
  | .hbm, ⟨3, _⟩ => ⟨S8x128x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | .hbm, ⟨41, _⟩ => ⟨S512x1024, .f32⟩
  | .hbm, ⟨42, _⟩ => ⟨S_, .f32⟩
  | .hbm, ⟨43, _⟩ => ⟨S512x1024, .f32⟩
  | .hbm, ⟨44, _⟩ => ⟨S512x1024, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S_, .f32⟩
  | .hbm, ⟨51, _⟩ => ⟨S512x1024, .f32⟩
  | .hbm, ⟨52, _⟩ => ⟨S512x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamwFfIn.lean ====
abbrev S8x1024x512 : Shape := ⟨3, ![8, 1024, 512]⟩
abbrev S4096x512 : Shape := ⟨2, ![4096, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfInRefIdeal.lean ====
abbrev S8x1024x512 : Shape := ⟨3, ![8, 1024, 512]⟩
abbrev S4096x512 : Shape := ⟨2, ![4096, 512]⟩
abbrev S_ : Shape := ⟨0, ![]⟩
abbrev S1024x512 : Shape := ⟨2, ![1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S_, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S_, .f32⟩
  | .hbm, ⟨51, _⟩ => ⟨S4096x512, .f32⟩
  | .hbm, ⟨52, _⟩ => ⟨S4096x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamwFfOut.lean ====
abbrev S8x512x1024 : Shape := ⟨3, ![8, 512, 1024]⟩
abbrev S2048x1024 : Shape := ⟨2, ![2048, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamwFfOutRefIdeal.lean ====
abbrev S8x512x1024 : Shape := ⟨3, ![8, 512, 1024]⟩
abbrev S2048x1024 : Shape := ⟨2, ![2048, 1024]⟩
abbrev S_ : Shape := ⟨0, ![]⟩
abbrev S512x1024 : Shape := ⟨2, ![512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S8x512x1024, .f32⟩
  | .hbm, ⟨8, _⟩ => ⟨S_, .f32⟩
  | .hbm, ⟨9, _⟩ => ⟨S512x1024, .f32⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S8x512x1024, .f32⟩
  | .hbm, ⟨14, _⟩ => ⟨S_, .f32⟩
  | .hbm, ⟨15, _⟩ => ⟨S512x1024, .f32⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== AdamwSmall.lean ====
abbrev S56x1024 : Shape := ⟨2, ![56, 1024]⟩
abbrev S1x56x1024 : Shape := ⟨3, ![1, 56, 1024]⟩
abbrev S1x8x1024 : Shape := ⟨3, ![1, 8, 1024]⟩
abbrev S8x1024 : Shape := ⟨2, ![8, 1024]⟩

abbrev nBuf : Space → Nat
  | .hbm => 9
  | .vmem => 16
  | .smem => 0
  | _ => 0

abbrev bufTy : (tb : Table) → Fin (tcTables nBuf tb) → BufTy
  | .hbm, ⟨0, _⟩ => ⟨S56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S1x56x1024, .f32⟩
  | .hbm, ⟨5, _⟩ => ⟨S56x1024, .f32⟩
  | .hbm, ⟨6, _⟩ => ⟨S56x1024, .f32⟩
  | .hbm, ⟨7, _⟩ => ⟨S56x1024, .f32⟩
  | .hbm, ⟨8, _⟩ => ⟨S56x1024, .f32⟩
  | .local _ .vmem, ⟨0, _⟩ => ⟨S1x8x1024, .f32⟩
  | .local _ .vmem, ⟨1, _⟩ => ⟨S1x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S56x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 7], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwSmallRefIdeal.lean ====
abbrev S56x1024 : Shape := ⟨2, ![56, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S56x1024, .f32⟩
  | .hbm, ⟨1, _⟩ => ⟨S56x1024, .f32⟩
  | .hbm, ⟨2, _⟩ => ⟨S56x1024, .f32⟩
  | .hbm, ⟨3, _⟩ => ⟨S56x1024, .f32⟩
  | .hbm, ⟨4, _⟩ => ⟨S_, .f32⟩
  | .hbm, ⟨5, _⟩ => ⟨S56x1024, .f32⟩
  | .hbm, ⟨6, _⟩ => ⟨S56x1024, .f32⟩
  | .hbm, ⟨7, _⟩ => ⟨S_, .f32⟩
  | .hbm, ⟨8, _⟩ => ⟨S56x1024, .f32⟩
  | .hbm, ⟨9, _⟩ => ⟨S56x1024, .f32⟩
  | .hbm, ⟨10, _⟩ => ⟨S56x1024, .f32⟩
  | .hbm, ⟨11, _⟩ => ⟨S_, .f32⟩
  | .hbm, ⟨12, _⟩ => ⟨S56x1024, .f32⟩
  | .hbm, ⟨13, _⟩ => ⟨S56x1024, .f32⟩
  | .hbm, ⟨14, _⟩ => ⟨S56x1024, .f32⟩
  | .hbm, ⟨15, _⟩ => ⟨S_, .f32⟩
  | .hbm, ⟨16, _⟩ => ⟨S56x1024, .f32⟩
  | .hbm, ⟨17, _⟩ => ⟨S56x1024, .f32⟩
  | .hbm, ⟨18, _⟩ => ⟨S56x1024, .f32⟩
  | .hbm, ⟨19, _⟩ => ⟨S_, .f32⟩
  | .hbm, ⟨20, _⟩ => ⟨S56x1024, .f32⟩
  | .hbm, ⟨21, _⟩ => ⟨S56x1024, .f32⟩
  | .hbm, ⟨22, _⟩ => ⟨S_, .f32⟩
  | .hbm, ⟨23, _⟩ => ⟨S56x1024, .f32⟩
  | .hbm, ⟨24, _⟩ => ⟨S56x1024, .f32⟩
  | .hbm, ⟨25, _⟩ => ⟨S56x1024, .f32⟩
  | .hbm, ⟨26, _⟩ => ⟨S_, .f32⟩
  | .hbm, ⟨27, _⟩ => ⟨S56x1024, .f32⟩
  | .hbm, ⟨28, _⟩ => ⟨S56x1024, .f32⟩
  | .hbm, ⟨29, _⟩ => ⟨S56x1024, .f32⟩
  | .hbm, ⟨30, _⟩ => ⟨S_, .f32⟩
  | .hbm, ⟨31, _⟩ => ⟨S56x1024, .f32⟩
  | .hbm, ⟨32, _⟩ => ⟨S56x1024, .f32⟩
  | .hbm, ⟨33, _⟩ => ⟨S56x1024, .f32⟩
  | .hbm, ⟨34, _⟩ => ⟨S_, .f32⟩
  | .hbm, ⟨35, _⟩ => ⟨S56x1024, .f32⟩
  | .hbm, ⟨36, _⟩ => ⟨S56x1024, .f32⟩
  | _, _ => ⟨S56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x104x1024 : Shape := ⟨3, ![8, 104, 1024]⟩
abbrev S104x1024 : Shape := ⟨2, ![104, 1024]⟩
abbrev S1x104x1024 : Shape := ⟨3, ![1, 104, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x104x1024, .f32⟩
  | .hbm, ⟨1, _⟩ => ⟨S104x1024, .f32⟩
  | .local _ .vmem, ⟨0, _⟩ => ⟨S8x104x1024, .f32⟩
  | .local _ .vmem, ⟨1, _⟩ => ⟨S104x1024, .f32⟩
  | _, _ => ⟨S8x104x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x104x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S104x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSmallRefIdeal.lean ====
abbrev S8x104x1024 : Shape := ⟨3, ![8, 104, 1024]⟩
abbrev S_ : Shape := ⟨0, ![]⟩
abbrev S104x1024 : Shape := ⟨2, ![104, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x104x1024, .f32⟩
  | .hbm, ⟨1, _⟩ => ⟨S_, .f32⟩
  | .hbm, ⟨2, _⟩ => ⟨S104x1024, .f32⟩
  | _, _ => ⟨S8x104x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaMod.lean ====
abbrev S8x1024 : Shape := ⟨2, ![8, 1024]⟩
abbrev S4x1024x768 : Shape := ⟨3, ![4, 1024, 768]⟩
abbrev S4x768 : Shape := ⟨2, ![4, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S4x1x768, .f32⟩
  | .hbm, ⟨4, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaModRefIdeal.lean ====
abbrev S8x1024 : Shape := ⟨2, ![8, 1024]⟩
abbrev S4x1024x768 : Shape := ⟨3, ![4, 1024, 768]⟩
abbrev S4x768 : Shape := ⟨2, ![4, 768]⟩
abbrev S_ : Shape := ⟨0, ![]⟩
abbrev S4x768x8 : Shape := ⟨3, ![4, 768, 8]⟩
abbrev S4x8x768 : Shape := ⟨3, ![4, 8, 768]⟩
abbrev S4x1x768 : Shape := ⟨3, ![4, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x768x8, .f32⟩
  | .hbm, ⟨13, _⟩ => ⟨S4x8x768, .f32⟩
  | .hbm, ⟨14, _⟩ => ⟨S4x1x768, .f32⟩
  | .hbm, ⟨15, _⟩ => ⟨S4x8x768, .f32⟩
  | .hbm, ⟨16, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AttFwd.lean ====
abbrev S8192x9728 : Shape := ⟨2, ![8192, 9728]⟩
abbrev S24x256x768 : Shape := ⟨3, ![24, 256, 768]⟩
abbrev S8192x1024 : Shape := ⟨2, ![8192, 1024]⟩
abbrev S256x128 : Shape := ⟨2, ![256, 128]⟩
abbrev S8192x128 : Shape := ⟨2, ![8192, 128]⟩
abbrev S1x256x768 : Shape := ⟨3, ![1, 256, 768]⟩
abbrev S768x128 : Shape := ⟨2, ![768, 128]⟩
abbrev S256x768 : Shape := ⟨2, ![256, 768]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x9728, .f32⟩
  | .hbm, ⟨1, _⟩ => ⟨S24x256x768, .f32⟩
  | .hbm, ⟨2, _⟩ => ⟨S8192x1024, .f32⟩
  | .hbm, ⟨3, _⟩ => ⟨S8192x1024, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x256x768, .f32⟩
  | .local _ .vmem, ⟨7, _⟩ => ⟨S1x256x768, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | _, _ => ⟨S8192x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c512_i32 : BitVec 32 := 512#32
  let v1 : BitVec 32 := Scalar.subi v0 c512_i32
  let c0_i32 : BitVec 32 := 0#32
  let v2 : BitVec 32 := Scalar.maxsi v1 c0_i32
  v2
def k0_off1 (i : grid0.Coords) : Fin 2 → Nat :=
  let arg1 : BitVec 32 := BitVec.ofNat 32 (i 1).val
  let c256_i32 : BitVec 32 := 256#32
  let v0 : BitVec 32 := Scalar.muli arg1 c256_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v8 : Index := Scalar.indexCast v3
  let c0_1 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c0_i32 : BitVec 32 := 0#32
  let v1 : BitVec 32 := Scalar.maxsi v0 c0_i32
  let c8_i32 : BitVec 32 := 8#32
  let v2 : BitVec 32 := Scalar.muli v1 c8_i32
  let v3 : BitVec 32 := Scalar.addi v2 arg0
  let c0_i32_0 : BitVec 32 := 0#32
  let c0_i32_1 : BitVec 32 := 0#32
  let c0_i32_2 : BitVec 32 := 0#32
  ![v3.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttFwdRefIdeal.lean ====
abbrev S8192x9728 : Shape := ⟨2, ![8192, 9728]⟩
abbrev S24x256x768 : Shape := ⟨3, ![24, 256, 768]⟩
abbrev S8192x1024 : Shape := ⟨2, ![8192, 1024]⟩
abbrev S32x256x8x128 : Shape := ⟨4, ![32, 256, 8, 128]⟩
abbrev S_ : Shape := ⟨0, ![]⟩
abbrev S1x256x8x128 : Shape := ⟨4, ![1, 256, 8, 128]⟩
abbrev S30x256x8x128 : Shape := ⟨4, ![30, 256, 8, 128]⟩
abbrev S32x768x8x128 : Shape := ⟨4, ![32, 768, 8, 128]⟩
abbrev S3x8x256x768 : Shape := ⟨4, ![3, 8, 256, 768]⟩
abbrev S1x8x256x768 : Shape := ⟨4, ![1, 8, 256, 768]⟩
abbrev S30x8x256x768 : Shape := ⟨4, ![30, 8, 256, 768]⟩
abbrev S32x8x256x768 : Shape := ⟨4, ![32, 8, 256, 768]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S32x256x8 : Shape := ⟨3, ![32, 256, 8]⟩
abbrev S32x256x8x1 : Shape := ⟨4, ![32, 256, 8, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x9728, .f32⟩
  | .hbm, ⟨1, _⟩ => ⟨S24x256x768, .f32⟩
  | .hbm, ⟨2, _⟩ => ⟨S8192x1024, .f32⟩
  | .hbm, ⟨3, _⟩ => ⟨S32x256x8x128, .f32⟩
  | .hbm, ⟨4, _⟩ => ⟨S_, .f32⟩
  | .hbm, ⟨5, _⟩ => ⟨S32x256x8x128, .f32⟩
  | .hbm, ⟨6, _⟩ => ⟨S32x256x8x128, .f32⟩
  | .hbm, ⟨7, _⟩ => ⟨S8192x1024, .f32⟩
  | .hbm, ⟨8, _⟩ => ⟨S32x256x8x128, .f32⟩
  | .hbm, ⟨9, _⟩ => ⟨S1x256x8x128, .f32⟩
  | .hbm, ⟨10, _⟩ => ⟨S1x256x8x128, .f32⟩
  | .hbm, ⟨11, _⟩ => ⟨S30x256x8x128, .f32⟩
  | .hbm, ⟨12, _⟩ => ⟨S32x256x8x128, .f32⟩
  | .hbm, ⟨13, _⟩ => ⟨S1x256x8x128, .f32⟩
  | .hbm, ⟨14, _⟩ => ⟨S1x256x8x128, .f32⟩
  | .hbm, ⟨15, _⟩ => ⟨S30x256x8x128, .f32⟩
  | .hbm, ⟨16, _⟩ => ⟨S32x256x8x128, .f32⟩
  | .hbm, ⟨17, _⟩ => ⟨S1x256x8x128, .f32⟩
  | .hbm, ⟨18, _⟩ => ⟨S1x256x8x128, .f32⟩
  | .hbm, ⟨19, _⟩ => ⟨S30x256x8x128, .f32⟩
  | .hbm, ⟨20, _⟩ => ⟨S32x256x8x128, .f32⟩
  | .hbm, ⟨21, _⟩ => ⟨S32x768x8x128, .f32⟩
  | .hbm, ⟨22, _⟩ => ⟨S8192x1024, .f32⟩
  | .hbm, ⟨23, _⟩ => ⟨S32x256x8x128, .f32⟩
  | .hbm, ⟨24, _⟩ => ⟨S1x256x8x128, .f32⟩
  | .hbm, ⟨25, _⟩ => ⟨S1x256x8x128, .f32⟩
  | .hbm, ⟨26, _⟩ => ⟨S30x256x8x128, .f32⟩
  | .hbm, ⟨27, _⟩ => ⟨S32x256x8x128, .f32⟩
  | .hbm, ⟨28, _⟩ => ⟨S1x256x8x128, .f32⟩
  | .hbm, ⟨29, _⟩ => ⟨S1x256x8x128, .f32⟩
  | .hbm, ⟨30, _⟩ => ⟨S30x256x8x128, .f32⟩
  | .hbm, ⟨31, _⟩ => ⟨S32x256x8x128, .f32⟩
  | .hbm, ⟨32, _⟩ => ⟨S1x256x8x128, .f32⟩
  | .hbm, ⟨33, _⟩ => ⟨S1x256x8x128, .f32⟩
  | .hbm, ⟨34, _⟩ => ⟨S30x256x8x128, .f32⟩
  | .hbm, ⟨35, _⟩ => ⟨S32x256x8x128, .f32⟩
  | .hbm, ⟨36, _⟩ => ⟨S32x768x8x128, .f32⟩
  | .hbm, ⟨37, _⟩ => ⟨S3x8x256x768, .f32⟩
  | .hbm, ⟨38, _⟩ => ⟨S1x8x256x768, .f32⟩
  | .hbm, ⟨39, _⟩ => ⟨S1x8x256x768, .f32⟩
  | .hbm, ⟨40, _⟩ => ⟨S1x8x256x768, .f32⟩
  | .hbm, ⟨41, _⟩ => ⟨S30x8x256x768, .f32⟩
  | .hbm, ⟨42, _⟩ => ⟨S32x8x256x768, .f32⟩
  | .hbm, ⟨43, _⟩ => ⟨S32x8x256x768, .f32⟩
  | .hbm, ⟨44, _⟩ => ⟨S32x8x256x768, .f32⟩
  | .hbm, ⟨45, _⟩ => ⟨S_, .f32⟩
  | .hbm, ⟨46, _⟩ => ⟨S32x8x256, .f32⟩
  | .hbm, ⟨47, _⟩ => ⟨S_, .f32⟩
  | .hbm, ⟨48, _⟩ => ⟨S32x8x256, .f32⟩
  | .hbm, ⟨49, _⟩ => ⟨S32x8x256, .f32⟩
  | .hbm, ⟨50, _⟩ => ⟨S32x8x256x1, .f32⟩
  | .hbm, ⟨51, _⟩ => ⟨S32x8x256x768, .f32⟩
  | .hbm, ⟨52, _⟩ => ⟨S32x8x256x768, .f32⟩
  | .hbm, ⟨53, _⟩ => ⟨S32x8x256x768, .f32⟩
  | .hbm, ⟨54, _⟩ => ⟨S_, .f32⟩
  | .hbm, ⟨55, _⟩ => ⟨S32x8x256, .f32⟩
  | .hbm, ⟨56, _⟩ => ⟨S32x8x256x1, .f32⟩
  | .hbm, ⟨57, _⟩ => ⟨S32x8x256x768, .f32⟩
  | .hbm, ⟨58, _⟩ => ⟨S32x8x256x768, .f32⟩
  | .hbm, ⟨59, _⟩ => ⟨S32x8x128x256, .f32⟩
  | .hbm, ⟨60, _⟩ => ⟨S32x256x8x128, .f32⟩
  | .hbm, ⟨61, _⟩ => ⟨S32x8x256x768, .f32⟩
  | .hbm, ⟨62, _⟩ => ⟨S_, .f32⟩
  | .hbm, ⟨63, _⟩ => ⟨S32x8x256, .f32⟩
  | .hbm, ⟨64, _⟩ => ⟨S32x8x256, .f32⟩
  | .hbm, ⟨65, _⟩ => ⟨S32x256x8, .f32⟩
  | .hbm, ⟨66, _⟩ => ⟨S8192x1024, .f32⟩
  | .hbm, ⟨67, _⟩ => ⟨S32x256x8x1, .f32⟩
  | .hbm, ⟨68, _⟩ => ⟨S32x256x8x128, .f32⟩
  | .hbm, ⟨69, _⟩ => ⟨S8192x1024, .f32⟩
  | _, _ => ⟨S8192x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_cst_0 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst_3 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩

abbrev nD : Nat := 1
abbrev τ : Topo := Topo.v7x

variable {F : FTy → Type} [FloatOps F]
-- ==== Proof.MergeCore.lean ====
module

public import Idealize.ShloMosaic.Lib.Pointwise

@[expose] public section

set_option maxRecDepth 16384
noncomputable section
open Idealize.ShloMosaic
namespace Cert.MergeCore

/-- The logistic function as the kernel writes it: half the hyperbolic tangent of half the argument, plus a half. -/
abbrev sgK (x : EReal) : EReal :=
  Ideal.ofBits FTy.f32 1056964608#32 * Ideal.tanh (Ideal.ofBits FTy.f32 1056964608#32 * x) + Ideal.ofBits FTy.f32 1056964608#32

/-- The logistic function as the host writes it. -/
abbrev sgR (x : EReal) : EReal := Ideal.div 1 (1 + Ideal.exp (-x))

/-- The reciprocal root mean square of a head's 128 lanes. -/
abbrev rK (o : Fin 128 → EReal) : EReal :=
  Ideal.rsqrt (Ideal.div (∑ k, o k * o k) (Ideal.ofBits FTy.f32 1124073472#32) + Ideal.ofBits FTy.f32 897988541#32)

/-- The cotangent of the normalised head before its gain: the merge's cotangent through both gates. -/
abbrev donK (dm zg za : EReal) : EReal := dm * sgK za * (zg * sgK zg)

/-- The output gate's gradient at one lane. -/
abbrev dzgK (o : Fin 128 → EReal) (dm zg za gn : EReal) (l : Fin 128) : EReal :=
  dm * sgK za * (o l * rK o * gn) * (sgK zg * (1 + zg * (1 - sgK zg)))

/-- The gradient of the first branch gate at one lane. -/
abbrev dzaK (o : Fin 128 → EReal) (dm zg za gn : EReal) (l : Fin 128) : EReal :=
  dm * (o l * rK o * gn * (zg * sgK zg)) * sgK za * (1 - sgK za)

/-- The gradient of the second branch gate at one lane. -/
abbrev dzbK (dm ob zb : EReal) : EReal := dm * ob * sgK zb * (1 - sgK zb)

/-- The normalisation's gradient at one lane: `u` is the cotangent times the gain. -/
abbrev doK (o u : Fin 128 → EReal) (l : Fin 128) : EReal :=
  rK o * (u l - o l * rK o * Ideal.div (∑ k, o k * rK o * u k) (Ideal.ofBits FTy.f32 1124073472#32))

/-- The column of head `h`'s lane `l` in an array whose rows hold the 8 heads side by side. -/
abbrev col (h : Fin 8) (l : Fin 128) : Fin 1024 := ⟨h.val * 128 + l.val, by omega⟩

/-- The head and the lane of a column. -/
abbrev hd (c : Fin 1024) : Fin 8 := ⟨c.val / 128, by omega⟩
abbrev ln (c : Fin 1024) : Fin 128 := ⟨c.val % 128, by omega⟩

/-- A column of the projections' array: the group of 1024 columns from `off` on. -/
abbrev zcol (off : ℕ) (h : off + 1024 ≤ 9728) (k : Fin 1024) : Fin 9728 := ⟨off + k.val, by omega⟩

end Cert.MergeCore
-- ==== Proof.MergeBlocks.lean ====
module

public import proofs.«01_k».proof.Proof.Gen.KernelIdeal.Value
public import proofs.«01_k».proof.Proof.MergeCore
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.MergeCore
variable (m : (ℓ : Loc nD τ sig) → Buf (Elt Ideal) ℓ)

theorem idx : ∀ t : Fin cfg0.N, win0_0.index t = ![t.val, 0] ∧ win0_1.index t = ![0, t.val, 0] ∧ win0_2.index t = ![t.val, 3] ∧
    win0_3.index t = ![t.val, 7] ∧ win0_4.index t = ![t.val, 8] ∧ win0_5.index t = ![t.val, 0] ∧ win0_6.index t = ![0, 0] ∧
    win0_7.index t = ![0, t.val, 0] ∧ win0_8.index t = ![t.val, 0] ∧ win0_9.index t = ![t.val, 0] ∧
    win0_10.index t = ![t.val, 0] ∧ win0_11.index t = ![t.val, 0] ∧ win0_12.index t = ![0, 0] :=
  (by decide +kernel : ∀ t : Fin grid0.N, _)

/-- A row of the whole array under row `r` of point `t`'s block. -/
abbrev row (t : Fin cfg0.N) (r : Fin 256) : Fin 8192 := ⟨t.val * 256 + r.val, by have : t.val < 32 := t.isLt; omega⟩

theorem read0 (c : Dev nD) (t : Fin cfg0.N) : iblk m c 0 t = fun j : S256x1024.Idx => m ((c : Thread nD τ).loc main_arg0) (ix2 (row t (j 0)) (j 1)) := by
  funext j; blk_ext [iblk, V, idx t]
theorem read1 (c : Dev nD) (t : Fin cfg0.N) : iblk m c 1 t = fun j : S8x256x128.Idx => m ((c : Thread nD τ).loc main_arg1) (ix3 (j 0) (row t (j 1)) (j 2)) := by
  funext j; blk_ext [iblk, V, idx t]
theorem read5 (c : Dev nD) (t : Fin cfg0.N) : iblk m c 5 t = fun j : S256x1024.Idx => m ((c : Thread nD τ).loc main_arg3) (ix2 (row t (j 0)) (j 1)) := by
  funext j; blk_ext [iblk, V, idx t]
theorem read6 (c : Dev nD) (t : Fin cfg0.N) : iblk m c 6 t = m ((c : Thread nD τ).loc main_arg4) := by
  funext j; blk_ext [iblk, V, idx t]
theorem read2 (c : Dev nD) (t : Fin cfg0.N) :
    X0_2 m c t = fun j : S256x1024.Idx => m ((c : Thread nD τ).loc main_arg2) (ix2 (row t (j 0)) (zcol 3072 (by decide) (j 1))) := by
  funext j
  unfold X0_2 Pipeline.Window.fill
  rw [dif_pos (moved0_2 t _)]
  blk_ext [iblk, V, idx t]
theorem read3 (c : Dev nD) (t : Fin cfg0.N) :
    X0_3 m c t = fun j : S256x1024.Idx => m ((c : Thread nD τ).loc main_arg2) (ix2 (row t (j 0)) (zcol 7168 (by decide) (j 1))) := by
  funext j
  unfold X0_3 Pipeline.Window.fill
  rw [dif_pos (moved0_3 t _)]
  blk_ext [iblk, V, idx t]
theorem read4 (c : Dev nD) (t : Fin cfg0.N) :
    X0_4 m c t = fun j : S256x1024.Idx => m ((c : Thread nD τ).loc main_arg2) (ix2 (row t (j 0)) (zcol 8192 (by decide) (j 1))) := by
  funext j
  unfold X0_4 Pipeline.Window.fill
  rw [dif_pos (moved0_4 t _)]
  blk_ext [iblk, V, idx t]

variable (x0 x2 x3 x4 x5 : FVec Ideal S256x1024 .f32) (x1 : FVec Ideal S8x256x128 .f32) (x6 : FVec Ideal S1x128 .f32)

theorem block7 (c : Dev nD) (t : Fin cfg0.N) (y : S8x256x128.Idx) (e0 : iblk m c 0 t = x0) (e1 : iblk m c 1 t = x1) (e2 : X0_2 m c t = x2) (e3 : X0_3 m c t = x3) (e4 : X0_4 m c t = x4) (e5 : iblk m c 5 t = x5) (e6 : iblk m c 6 t = x6) :
    (outsAt0 m c t.val t.isLt).1 y
      = doK (fun k => x1 (ix3 (y 0) (y 1) k)) (fun k => donK (x0 (ix2 (y 1) (col (y 0) k))) (x2 (ix2 (y 1) (col (y 0) k))) (x3 (ix2 (y 1) (col (y 0) k))) * x6 (ix2 0 k)) (y 2) := by
  by_cases h0 : t.val % 32 = 0
  · rw [outsAt0_A m c t h0, e0, e1, e2, e3, e4, e5, e6]
    frame_out
    canon_tiles x h
    all_goals
      open_payloads
      pointwise [doK, donK, dzgK, dzaK, dzbK, sgK, rK]
      blk_point
  · rw [outsAt0_B m c t h0, e0, e1, e2, e3, e4, e5, e6]
    frame_out
    canon_tiles x h
    all_goals
      open_payloads
      pointwise [doK, donK, dzgK, dzaK, dzbK, sgK, rK]
      blk_point

theorem block8 (c : Dev nD) (t : Fin cfg0.N) (y : S256x1024.Idx) (e0 : iblk m c 0 t = x0) (e1 : iblk m c 1 t = x1) (e2 : X0_2 m c t = x2) (e3 : X0_3 m c t = x3) (e4 : X0_4 m c t = x4) (e5 : iblk m c 5 t = x5) (e6 : iblk m c 6 t = x6) :
    (outsAt0 m c t.val t.isLt).2.1 y
      = dzgK (fun k => x1 (ix3 (hd (y 1)) (y 0) k)) (x0 (ix2 (y 0) (y 1))) (x2 (ix2 (y 0) (y 1))) (x3 (ix2 (y 0) (y 1))) (x6 (ix2 0 (ln (y 1)))) (ln (y 1)) := by
  by_cases h0 : t.val % 32 = 0
  · rw [outsAt0_A m c t h0, e0, e1, e2, e3, e4, e5, e6]
    frame_out
    canon_tiles x h
    all_goals
      open_payloads
      pointwise [doK, donK, dzgK, dzaK, dzbK, sgK, rK]
      blk_point
  · rw [outsAt0_B m c t h0, e0, e1, e2, e3, e4, e5, e6]
    frame_out
    canon_tiles x h
    all_goals
      open_payloads
      pointwise [doK, donK, dzgK, dzaK, dzbK, sgK, rK]
      blk_point

theorem block9 (c : Dev nD) (t : Fin cfg0.N) (y : S256x1024.Idx) (e0 : iblk m c 0 t = x0) (e1 : iblk m c 1 t = x1) (e2 : X0_2 m c t = x2) (e3 : X0_3 m c t = x3) (e4 : X0_4 m c t = x4) (e5 : iblk m c 5 t = x5) (e6 : iblk m c 6 t = x6) :
    (outsAt0 m c t.val t.isLt).2.2.1 y
      = (x0 (ix2 (y 0) (y 1))) * sgK (x4 (ix2 (y 0) (y 1))) := by
  by_cases h0 : t.val % 32 = 0
  · rw [outsAt0_A m c t h0, e0, e1, e2, e3, e4, e5, e6]
    frame_out
    canon_tiles x h
    all_goals
      open_payloads
      pointwise [doK, donK, dzgK, dzaK, dzbK, sgK, rK]
      blk_point
  · rw [outsAt0_B m c t h0, e0, e1, e2, e3, e4, e5, e6]
    frame_out
    canon_tiles x h
    all_goals
      open_payloads
      pointwise [doK, donK, dzgK, dzaK, dzbK, sgK, rK]
      blk_point

theorem block10 (c : Dev nD) (t : Fin cfg0.N) (y : S256x1024.Idx) (e0 : iblk m c 0 t = x0) (e1 : iblk m c 1 t = x1) (e2 : X0_2 m c t = x2) (e3 : X0_3 m c t = x3) (e4 : X0_4 m c t = x4) (e5 : iblk m c 5 t = x5) (e6 : iblk m c 6 t = x6) :
    (outsAt0 m c t.val t.isLt).2.2.2.1 y
      = dzaK (fun k => x1 (ix3 (hd (y 1)) (y 0) k)) (x0 (ix2 (y 0) (y 1))) (x2 (ix2 (y 0) (y 1))) (x3 (ix2 (y 0) (y 1))) (x6 (ix2 0 (ln (y 1)))) (ln (y 1)) := by
  by_cases h0 : t.val % 32 = 0
  · rw [outsAt0_A m c t h0, e0, e1, e2, e3, e4, e5, e6]
    frame_out
    canon_tiles x h
    all_goals
      open_payloads
      pointwise [doK, donK, dzgK, dzaK, dzbK, sgK, rK]
      blk_point
  · rw [outsAt0_B m c t h0, e0, e1, e2, e3, e4, e5, e6]
    frame_out
    canon_tiles x h
    all_goals
      open_payloads
      pointwise [doK, donK, dzgK, dzaK, dzbK, sgK, rK]
      blk_point

theorem block11 (c : Dev nD) (t : Fin cfg0.N) (y : S256x1024.Idx) (e0 : iblk m c 0 t = x0) (e1 : iblk m c 1 t = x1) (e2 : X0_2 m c t = x2) (e3 : X0_3 m c t = x3) (e4 : X0_4 m c t = x4) (e5 : iblk m c 5 t = x5) (e6 : iblk m c 6 t = x6) :
    (outsAt0 m c t.val t.isLt).2.2.2.2.1 y
      = dzbK (x0 (ix2 (y 0) (y 1))) (x5 (ix2 (y 0) (y 1))) (x4 (ix2 (y 0) (y 1))) := by
  by_cases h0 : t.val % 32 = 0
  · rw [outsAt0_A m c t h0, e0, e1, e2, e3, e4, e5, e6]
    frame_out
    canon_tiles x h
    all_goals
      open_payloads
      pointwise [doK, donK, dzgK, dzaK, dzbK, sgK, rK]
      blk_point
  · rw [outsAt0_B m c t h0, e0, e1, e2, e3, e4, e5, e6]
    frame_out
    canon_tiles x h
    all_goals
      open_payloads
      pointwise [doK, donK, dzgK, dzaK, dzbK, sgK, rK]
      blk_point

theorem block12_A (c : Dev nD) (t : Fin cfg0.N) (h0 : t.val % 32 = 0) (l : Fin 128) (e0 : iblk m c 0 t = x0) (e1 : iblk m c 1 t = x1) (e2 : X0_2 m c t = x2) (e3 : X0_3 m c t = x3) (e4 : X0_4 m c t = x4) (e5 : iblk m c 5 t = x5) (e6 : iblk m c 6 t = x6) :
    (outsAt0 m c t.val t.isLt).2.2.2.2.2 (ix2 0 l)
      = ∑ h : Fin 8, ∑ r : Fin 256, donK (x0 (ix2 r (col h l))) (x2 (ix2 r (col h l))) (x3 (ix2 r (col h l))) * (x1 (ix3 h r l) * rK (fun k => x1 (ix3 h r k))) := by
  rw [outsAt0_A m c t h0, e0, e1, e2, e3, e4, e5, e6]
  frame_out
  open_payloads
  pointwise [donK, sgK, rK]
  simp only [Fin.sum_univ_eight]
  blk_point

theorem block12_B (c : Dev nD) (t : Fin cfg0.N) (h0 : ¬ t.val % 32 = 0) (l : Fin 128) (e0 : iblk m c 0 t = x0) (e1 : iblk m c 1 t = x1) (e2 : X0_2 m c t = x2) (e3 : X0_3 m c t = x3) (e4 : X0_4 m c t = x4) (e5 : iblk m c 5 t = x5) (e6 : iblk m c 6 t = x6) :
    (outsAt0 m c t.val t.isLt).2.2.2.2.2 (ix2 0 l)
      = (outsAt0 m c (t.val - 1) (by have := t.isLt; omega)).2.2.2.2.2 (ix2 0 l) + ∑ h : Fin 8, ∑ r : Fin 256, donK (x0 (ix2 r (col h l))) (x2 (ix2 r (col h l))) (x3 (ix2 r (col h l))) * (x1 (ix3 h r l) * rK (fun k => x1 (ix3 h r k))) := by
  rw [outsAt0_B m c t h0, e0, e1, e2, e3, e4, e5, e6]
  frame_out
  open_payloads
  pointwise [donK, sgK, rK]
  simp only [Fin.sum_univ_eight]
  blk_point

end Cert.KernelIdeal.Merge
-- ==== Proof.MergeFinal.lean ====
module

public import proofs.«01_k».proof.Proof.MergeBlocks

@[expose] public section

set_option maxRecDepth 16384
noncomputable section
open Idealize.ShloMosaic Idealize.ShloMosaic.TcCoe Idealize.SL.Sem
open Idealize.ShloMosaic.Pipeline (Dat)
namespace Cert.KernelIdeal.Merge
open Cert.KernelIdeal Cert.KernelIdeal.Gen Cert.MergeCore

section arrays
variable (dm : FVec Ideal S8192x1024 .f32) (o : FVec Ideal S8x8192x128 .f32) (z : FVec Ideal S8192x9728 .f32)
  (ob : FVec Ideal S8192x1024 .f32) (gn : FVec Ideal S1x128 .f32)

/-- The three groups of columns of the projections' array that the merge reads. -/
abbrev zg (s : Fin 8192) (k : Fin 1024) : EReal := z (ix2 s (zcol 3072 (by decide) k))
abbrev za (s : Fin 8192) (k : Fin 1024) : EReal := z (ix2 s (zcol 7168 (by decide) k))
abbrev zb (s : Fin 8192) (k : Fin 1024) : EReal := z (ix2 s (zcol 8192 (by decide) k))

/-- The six result arrays, element by element, in the kernel's arithmetic. -/
def DO (i : S8x8192x128.Idx) : EReal :=
  doK (fun k => o (ix3 (i 0) (i 1) k))
    (fun k => donK (dm (ix2 (i 1) (col (i 0) k))) (zg z (i 1) (col (i 0) k)) (za z (i 1) (col (i 0) k)) * gn (ix2 0 k)) (i 2)
def DZG (i : S8192x1024.Idx) : EReal :=
  dzgK (fun k => o (ix3 (hd (i 1)) (i 0) k)) (dm (ix2 (i 0) (i 1))) (zg z (i 0) (i 1)) (za z (i 0) (i 1)) (gn (ix2 0 (ln (i 1)))) (ln (i 1))
def DOB (i : S8192x1024.Idx) : EReal := dm (ix2 (i 0) (i 1)) * sgK (zb z (i 0) (i 1))
def DZA (i : S8192x1024.Idx) : EReal :=
  dzaK (fun k => o (ix3 (hd (i 1)) (i 0) k)) (dm (ix2 (i 0) (i 1))) (zg z (i 0) (i 1)) (za z (i 0) (i 1)) (gn (ix2 0 (ln (i 1)))) (ln (i 1))
def DZB (i : S8192x1024.Idx) : EReal := dzbK (dm (ix2 (i 0) (i 1))) (ob (ix2 (i 0) (i 1))) (zb z (i 0) (i 1))
/-- One row's and one head's part of the gain's gradient. -/
abbrev dgnPart (l : Fin 128) (h : Fin 8) (s : Fin 8192) : EReal :=
  donK (dm (ix2 s (col h l))) (zg z s (col h l)) (za z s (col h l)) * (o (ix3 h s l) * rK (fun k => o (ix3 h s k)))
def DGN (i : S1x128.Idx) : EReal := ∑ t : Fin 32, ∑ h : Fin 8, ∑ r : Fin 256, dgnPart dm o z (i 1) h (row t r)
end arrays

variable (m : (ℓ : Loc nD τ sig) → Buf (Elt Ideal) ℓ)

theorem emb7 (t : Fin cfg0.N) (y : S8x256x128.Idx) : ((cfg0.win 7).blk t).view.emb y = ix3 (y 0) (row t (y 1)) (y 2) := by blk_ext [idx t]

theorem final7 (c : Dev nD) : (dats m 0 c).arrAt 7 cfg0.N = DO (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t _ y => ?_
  blk_simp
  rw [after0_7, block7 m _ _ _ _ _ _ _ c t y
    (read0 m c t) (read1 m c t) (read2 m c t) (read3 m c t) (read4 m c t) (read5 m c t) (read6 m c t), emb7 t y]
  rfl

theorem emb8 (t : Fin cfg0.N) (y : S256x1024.Idx) : ((cfg0.win 8).blk t).view.emb y = ix2 (row t (y 0)) (y 1) := by blk_ext [idx t]

theorem final8 (c : Dev nD) : (dats m 0 c).arrAt 8 cfg0.N = DZG (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8, block8 m _ _ _ _ _ _ _ c t y
    (read0 m c t) (read1 m c t) (read2 m c t) (read3 m c t) (read4 m c t) (read5 m c t) (read6 m c t), emb8 t y]
  rfl

theorem emb9 (t : Fin cfg0.N) (y : S256x1024.Idx) : ((cfg0.win 9).blk t).view.emb y = ix2 (row t (y 0)) (y 1) := by blk_ext [idx t]

theorem final9 (c : Dev nD) : (dats m 0 c).arrAt 9 cfg0.N = DOB (m ((c : Thread nD τ).loc main_arg0)) (m ((c : Thread nD τ).loc main_arg2)) := by
  refine (dats m 0 c).arrAt_eq_of_covers 9 _ (by decide +kernel) fun t _ y => ?_
  blk_simp
  rw [after0_9, block9 m _ _ _ _ _ _ _ c t y
    (read0 m c t) (read1 m c t) (read2 m c t) (read3 m c t) (read4 m c t) (read5 m c t) (read6 m c t), emb9 t y]
  rfl

theorem emb10 (t : Fin cfg0.N) (y : S256x1024.Idx) : ((cfg0.win 10).blk t).view.emb y = ix2 (row t (y 0)) (y 1) := by blk_ext [idx t]

theorem final10 (c : Dev nD) : (dats m 0 c).arrAt 10 cfg0.N = DZA (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t _ y => ?_
  blk_simp
  rw [after0_10, block10 m _ _ _ _ _ _ _ c t y
    (read0 m c t) (read1 m c t) (read2 m c t) (read3 m c t) (read4 m c t) (read5 m c t) (read6 m c t), emb10 t y]
  rfl

theorem emb11 (t : Fin cfg0.N) (y : S256x1024.Idx) : ((cfg0.win 11).blk t).view.emb y = ix2 (row t (y 0)) (y 1) := by blk_ext [idx t]

theorem final11 (c : Dev nD) : (dats m 0 c).arrAt 11 cfg0.N = DZB (m ((c : Thread nD τ).loc main_arg0)) (m ((c : Thread nD τ).loc main_arg2)) (m ((c : Thread nD τ).loc main_arg3)) := by
  refine (dats m 0 c).arrAt_eq_of_covers 11 _ (by decide +kernel) fun t _ y => ?_
  blk_simp
  rw [after0_11, block11 m _ _ _ _ _ _ _ c t y
    (read0 m c t) (read1 m c t) (read2 m c t) (read3 m c t) (read4 m c t) (read5 m c t) (read6 m c t), emb11 t y]
  rfl

theorem part_A (c : Dev nD) (t : Fin cfg0.N) (h0 : t.val % 32 = 0) (l : Fin 128) :
    (outsAt0 m c t.val t.isLt).2.2.2.2.2 (ix2 0 l) = ∑ h : Fin 8, ∑ r : Fin 256, dgnPart (m ((c : Thread nD τ).loc main_arg0)) (m ((c : Thread nD τ).loc main_arg1)) (m ((c : Thread nD τ).loc main_arg2)) l h (row t r) :=
  (block12_A m _ _ _ _ _ _ _ c t h0 l (read0 m c t) (read1 m c t) (read2 m c t) (read3 m c t) (read4 m c t) (read5 m c t) (read6 m c t)).trans
    (Finset.sum_congr rfl fun h _ => Finset.sum_congr rfl fun r _ => rfl)
theorem part_B (c : Dev nD) (t : Fin cfg0.N) (h0 : ¬ t.val % 32 = 0) (l : Fin 128) :
    (outsAt0 m c t.val t.isLt).2.2.2.2.2 (ix2 0 l) = (outsAt0 m c (t.val - 1) (by have := t.isLt; omega)).2.2.2.2.2 (ix2 0 l)
      + ∑ h : Fin 8, ∑ r : Fin 256, dgnPart (m ((c : Thread nD τ).loc main_arg0)) (m ((c : Thread nD τ).loc main_arg1)) (m ((c : Thread nD τ).loc main_arg2)) l h (row t r) :=
  (block12_B m _ _ _ _ _ _ _ c t h0 l (read0 m c t) (read1 m c t) (read2 m c t) (read3 m c t) (read4 m c t) (read5 m c t) (read6 m c t)).trans
    (congrArg _ (Finset.sum_congr rfl fun h _ => Finset.sum_congr rfl fun r _ => rfl))

/-- The last grid point. -/
def tlast : Fin cfg0.N := ⟨31, by decide⟩

theorem final12 (c : Dev nD) : (dats m 0 c).arrAt 12 cfg0.N = DGN (m ((c : Thread nD τ).loc main_arg0)) (m ((c : Thread nD τ).loc main_arg1)) (m ((c : Thread nD τ).loc main_arg2)) := by
  refine (dats m 0 c).arrAt_eq_of_after_last 12 tlast (by decide +kernel) _ fun j => ?_
  blk_simp
  rw [after0_12]
  obtain ⟨l, rfl⟩ : ∃ l : Fin 128, j = ix2 (0 : Fin 1) l := by
    refine ⟨j 1, ?_⟩
    funext a
    match a with | ⟨0, _⟩ => exact Subsingleton.elim (α := Fin 1) _ _ | ⟨1, _⟩ => rfl
  refine (Idealize.ShloMosaic.Pipeline.eq_sum_fin_of_reset_step_last (N := cfg0.N) (fun n h => (outsAt0 m c n h).2.2.2.2.2 (ix2 0 l)) 32 (0 : EReal)
    (fun t => ∑ h : Fin 8, ∑ r : Fin 256, dgnPart (m ((c : Thread nD τ).loc main_arg0)) (m ((c : Thread nD τ).loc main_arg1)) (m ((c : Thread nD τ).loc main_arg2)) l h (row t r)) (fun t h => ?_) (fun t h => ?_) (by decide)
    tlast rfl).trans ?_
  · rw [zero_add]
    exact part_A m c t h l
  · exact part_B m c t h l
  · rw [zero_add]; rfl

end Cert.KernelIdeal.Merge
-- ==== Proof.MergeReal.lean ====
module

public import proofs.«01_k».proof.Proof.MergeCore
public import Idealize.ShloMosaic.Lib.IdealHost

@[expose] public section

set_option maxRecDepth 16384
noncomputable section
open Idealize.ShloMosaic
namespace Cert.MergeCore

theorem half_eq : Ideal.ofBits FTy.f32 1056964608#32 = ((1 / 2 : ℝ) : EReal) := by
  simp [Ideal.ofBits, Ideal.ieee, -EReal.coe_mul]; norm_num
theorem neg_half_eq : Ideal.ofBits FTy.f32 0xBF000000#32 = ((-(1 / 2) : ℝ) : EReal) := by
  simp [Ideal.ofBits, Ideal.ieee, -EReal.coe_mul, -EReal.coe_neg]; norm_num
theorem lanes_eq : Ideal.ofBits FTy.f32 1124073472#32 = ((128 : ℝ) : EReal) := by
  simp [Ideal.ofBits, Ideal.ieee, -EReal.coe_mul]; norm_num

/-- The addend under the root, as the float it is. -/
def eps : ℝ := 8796093 / 2 ^ 43
theorem eps_pos : 0 < eps := by unfold eps; positivity
theorem eps_eq : Ideal.ofBits FTy.f32 897988541#32 = (eps : EReal) := by
  unfold eps
  simp [Ideal.ofBits, Ideal.ieee, -EReal.coe_mul]; norm_num

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]
theorem exp_coe (x : ℝ) : Ideal.exp (x : EReal) = (Real.exp x : EReal) := rfl
theorem tanh_coe (x : ℝ) : Ideal.tanh (x : EReal) = (Real.tanh x : EReal) := rfl
theorem rsqrt_coe (x : ℝ) (hx : 0 < x) : Ideal.rsqrt (x : EReal) = (((Real.sqrt x)⁻¹ : ℝ) : EReal) := by
  show (if x < 0 then (⊥ : EReal) else if x = 0 then ⊤ else _) = _
  rw [if_neg hx.le.not_gt, if_neg hx.ne']
theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- The logistic function. -/
def sg (x : ℝ) : ℝ := 1 / (1 + Real.exp (-x))

theorem sgR_coe (x : ℝ) : sgR (x : EReal) = (sg x : EReal) := by
  unfold sgR sg
  rw [← EReal.coe_neg, exp_coe, ← EReal.coe_one, ← EReal.coe_add, div_coe _ _ (by positivity)]

theorem sgK_coe (x : ℝ) : sgK (x : EReal) = (sg x : EReal) := by
  unfold sgK sg
  rw [half_eq, ← EReal.coe_mul, tanh_coe, ← EReal.coe_mul, ← EReal.coe_add, EReal.coe_eq_coe_iff, Real.tanh_eq_sinh_div_cosh, Real.sinh_eq,
    Real.cosh_eq]
  have h1 := Real.exp_pos (1 / 2 * x)
  have h2 : Real.exp (-x) = Real.exp (-(1 / 2 * x)) * Real.exp (-(1 / 2 * x)) := by rw [← Real.exp_add]; congr 1; ring
  rw [h2, Real.exp_neg]
  field_simp
  ring

/-- The mean square of 128 lanes plus the addend, and its reciprocal root. -/
def ms (o : Fin 128 → ℝ) : ℝ := (∑ k, o k * o k) / 128 + eps
theorem ms_pos (o : Fin 128 → ℝ) : 0 < ms o := by
  have := eps_pos
  have : 0 ≤ ∑ k, o k * o k := Finset.sum_nonneg fun k _ => mul_self_nonneg _
  unfold ms; positivity
def rr (o : Fin 128 → ℝ) : ℝ := (Real.sqrt (ms o))⁻¹

theorem msE_coe (o : Fin 128 → ℝ) :
    Ideal.div (∑ k, (o k : EReal) * (o k : EReal)) (Ideal.ofBits FTy.f32 1124073472#32) + Ideal.ofBits FTy.f32 897988541#32 = (ms o : EReal) := by
  simp only [← EReal.coe_mul]
  rw [coe_sum, lanes_eq, eps_eq, div_coe _ _ (by norm_num), ← EReal.coe_add]; rfl
theorem rK_coe (o : Fin 128 → ℝ) : rK (fun k => (o k : EReal)) = (rr o : EReal) := by
  unfold rK
  rw [msE_coe, rsqrt_coe _ (ms_pos o)]; rfl

/-- The normalisation's gradient: the kernel's form is the derivative's. -/
theorem norm_grad (o u : Fin 128 → ℝ) (l : Fin 128) :
    rr o * (u l - o l * rr o * ((∑ k, o k * rr o * u k) / 128))
      = u l * rr o + o l * ((∑ k, o k * u k) * (-(1 / 2) * (rr o / ms o)) / 128) + ((∑ k, o k * u k) * (-(1 / 2) * (rr o / ms o)) / 128) * o l := by
  have h : rr o * rr o = 1 / ms o := by
    unfold rr
    rw [← mul_inv, Real.mul_self_sqrt (ms_pos o).le, one_div]
  have hs : ∑ k, o k * rr o * u k = rr o * ∑ k, o k * u k := by
    rw [Finset.mul_sum]; exact Finset.sum_congr rfl fun k _ => by ring
  rw [hs]
  have : rr o / ms o = rr o * (rr o * rr o) := by rw [h]; ring
  rw [this]; ring

end Cert.MergeCore
-- ==== Proof.MergeSum.lean ====
module

public import Idealize.ShloMosaic.Lib.Pointwise

@[expose] public section

noncomputable section
open Idealize.ShloMosaic
namespace Cert.MergeCore

/-- A sum over the first two axes of an array of three: the elements that reduce to a last coordinate are those of that coordinate. -/
theorem sum_drop_two {a b n : ℕ} (h : (⟨3, ![a, b, n]⟩ : Shape).ReducesTo [0, 1] ⟨1, ![n]⟩)
    (x : (⟨3, ![a, b, n]⟩ : Shape).Idx → EReal) (l : Fin n) :
    ∑ i ∈ Finset.univ.filter (fun i => h.drop i = ix1 l), x i = ∑ s : Fin a, ∑ k : Fin b, x (ix3 s k l) := by
  have hd : ∀ i : (⟨3, ![a, b, n]⟩ : Shape).Idx, h.drop i = ix1 l ↔ i 2 = l := by
    intro i
    have hv : (h.drop i 0).val = (i 2).val := h.drop_apply_val_of_eq i 0 2
      (by show 0 < ((⟨3, ![1, 1, 1]⟩ : Shape).kept [0, 1]).length; decide)
      (by show ((⟨3, ![1, 1, 1]⟩ : Shape).kept [0, 1])[0] = 2; decide)
    constructor
    · intro e
      refine Fin.ext ?_
      rw [← hv, e]
      rfl
    · intro e
      funext c
      match c with
      | ⟨0, _⟩ => exact Fin.ext (hv.trans (congrArg Fin.val e))
  rw [← Finset.sum_product']
  refine Finset.sum_nbij' (fun i => ((i 0 : Fin a), (i 1 : Fin b))) (fun p => ix3 p.1 p.2 l) ?_ ?_ ?_ ?_ ?_
  · intro i _; simp
  · intro p _; simp only [Finset.mem_filter, Finset.mem_univ, true_and]; exact (hd _).mpr rfl
  · intro i hi
    have := (hd i).mp (Finset.mem_filter.mp hi).2
    subst this
    funext c
    match c with | ⟨0, _⟩ => rfl | ⟨1, _⟩ => rfl | ⟨2, _⟩ => rfl
  · intro p _; rfl
  · intro i hi
    have := (hd i).mp (Finset.mem_filter.mp hi).2
    subst this
    refine congrArg x ?_
    funext c
    match c with | ⟨0, _⟩ => rfl | ⟨1, _⟩ => rfl | ⟨2, _⟩ => rfl

end Cert.MergeCore
-- ==== Proof.MergeRef.lean ====
module

public import proofs.«01_k».proof.Proof.Gen.ReferenceIdeal.Read
public import proofs.«01_k».proof.Proof.MergeFinal
public import proofs.«01_k».proof.Proof.MergeReal
public import proofs.«01_k».proof.Proof.MergeSum

@[expose] public section

set_option maxRecDepth 16384
noncomputable section
open Idealize.ShloMosaic Idealize.ShloMosaic.TcCoe Idealize.SL.Sem
namespace Cert.ReferenceIdeal.Merge
open Cert.ReferenceIdeal Cert.ReferenceIdeal.Gen Cert.ReferenceIdeal.Read Cert.MergeCore
open Cert.KernelIdeal.Merge (DO DZG DOB DZA DZB DGN zg za zb dgnPart)

/-- An array of reals read as extended reals. -/
abbrev up {s : Shape} (X : s.Idx → ℝ) : FVec Ideal s .f32 := fun i => (X i : EReal)

theorem sgR' (x : ℝ) : Ideal.div 1 (1 + Ideal.exp (-(x : EReal))) = (sg x : EReal) := sgR_coe x
theorem div128 (x : ℝ) : Ideal.div (x : EReal) (Ideal.ofBits FTy.f32 1124073472#32) = ((x / 128 : ℝ) : EReal) := by
  rw [lanes_eq, div_coe _ _ (by norm_num)]
theorem div_ms (x : ℝ) (o : Fin 128 → ℝ) : Ideal.div (x : EReal) (ms o : EReal) = ((x / ms o : ℝ) : EReal) := div_coe _ _ (ms_pos o).ne'
theorem rs_ms (o : Fin 128 → ℝ) : Ideal.rsqrt (ms o : EReal) = (rr o : EReal) := rsqrt_coe _ (ms_pos o)

theorem sgK' (x : ℝ) : Ideal.ofBits FTy.f32 1056964608#32 * Ideal.tanh (Ideal.ofBits FTy.f32 1056964608#32 * (x : EReal)) + Ideal.ofBits FTy.f32 1056964608#32
    = (sg x : EReal) := sgK_coe x
theorem one_coe : (1 : EReal) = ((1 : ℝ) : EReal) := rfl
theorem second_gate (a : ℕ) : 7168 + (1024 + a) = 8192 + a := by omega

variable (X0 X3 : S8192x1024.Idx → ℝ) (X1 : S8x8192x128.Idx → ℝ) (X2 : S8192x9728.Idx → ℝ) (X4 : S1x128.Idx → ℝ)

theorem refDO : val_main_v71 (F := Ideal) (up X0) (up X1) (up X2) (up X4) = DO (up X0) (up X1) (up X2) (up X4) := by
  funext i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call1_v0, val_main_call1_v1, val_main_call1_v2, val_main_v49, val_main_v50, val_main_v51, val_main_cst_6, val_main_v52, val_main_v53, val_main_v54, val_main_v55, val_main_cst_7, val_main_v56, val_main_v57, val_main_cst_8, val_main_v58, val_main_v59, val_main_v60, val_main_v61, val_main_v62, val_main_cst_9, val_main_v63, val_main_v64, val_main_cst_10, val_main_v65, val_main_v66, val_main_v67, val_main_v68, val_main_v69, val_main_v70, val_main_v71, val_main_v72, val_main_v73, val_main_v74, val_main_v75, val_main_v76, val_main_v77, DO, doK, donK, dzgK, dzaK, dzbK, sgK, rK]
  simp only [up, zg, za, zb, hd, ln, col, zcol, second_gate, sgR', sgK', msE_coe, rs_ms, neg_half_eq, Fin.sum_univ_one]
  simp only [one_coe, ← EReal.coe_mul, ← EReal.coe_add, ← EReal.coe_sub, coe_sum, div128, div_ms]
  refine congrArg _ ?_
  have hc : ∀ a b, sg a * X0 b = X0 b * sg a := fun _ _ => mul_comm _ _
  simp only [hc]
  have e3 : X1 i = X1 (ix3 (i 0) (i 1) (i 2)) := congrArg X1 (by
    funext a; match a with | ⟨0, _⟩ => rfl | ⟨1, _⟩ => rfl | ⟨2, _⟩ => rfl)
  rw [e3]
  exact (norm_grad (fun k => X1 (ix3 (i 0) (i 1) k)) (fun k => X0 (ix2 (i 1) (col (i 0) k)) * sg (X2 (ix2 (i 1) (zcol 7168 (by decide) (col (i 0) k))))
    * (X2 (ix2 (i 1) (zcol 3072 (by decide) (col (i 0) k))) * sg (X2 (ix2 (i 1) (zcol 3072 (by decide) (col (i 0) k))))) * X4 (ix2 0 k)) (i 2)).symm

theorem refDZG : val_main_v72 (F := Ideal) (up X0) (up X1) (up X2) (up X4) = DZG (up X0) (up X1) (up X2) (up X4) := by
  funext i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call1_v0, val_main_call1_v1, val_main_call1_v2, val_main_v49, val_main_v50, val_main_v51, val_main_cst_6, val_main_v52, val_main_v53, val_main_v54, val_main_v55, val_main_cst_7, val_main_v56, val_main_v57, val_main_cst_8, val_main_v58, val_main_v59, val_main_v60, val_main_v61, val_main_v62, val_main_cst_9, val_main_v63, val_main_v64, val_main_cst_10, val_main_v65, val_main_v66, val_main_v67, val_main_v68, val_main_v69, val_main_v70, val_main_v71, val_main_v72, val_main_v73, val_main_v74, val_main_v75, val_main_v76, val_main_v77, DZG, doK, donK, dzgK, dzaK, dzbK, sgK, rK]
  simp only [up, zg, za, zb, hd, ln, col, zcol, second_gate, sgR', sgK', msE_coe, rs_ms, neg_half_eq, Fin.sum_univ_one]
  simp only [one_coe, ← EReal.coe_mul, ← EReal.coe_add, ← EReal.coe_sub, coe_sum, div128, div_ms]
  refine congrArg _ ?_
  ring

theorem refDOB : val_main_v40 (F := Ideal) (up X0) (up X2) = DOB (up X0) (up X2) := by
  funext i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call1_v0, val_main_call1_v1, val_main_call1_v2, val_main_v49, val_main_v50, val_main_v51, val_main_cst_6, val_main_v52, val_main_v53, val_main_v54, val_main_v55, val_main_cst_7, val_main_v56, val_main_v57, val_main_cst_8, val_main_v58, val_main_v59, val_main_v60, val_main_v61, val_main_v62, val_main_cst_9, val_main_v63, val_main_v64, val_main_cst_10, val_main_v65, val_main_v66, val_main_v67, val_main_v68, val_main_v69, val_main_v70, val_main_v71, val_main_v72, val_main_v73, val_main_v74, val_main_v75, val_main_v76, val_main_v77, DOB, doK, donK, dzgK, dzaK, dzbK, sgK, rK]
  simp only [up, zg, za, zb, hd, ln, col, zcol, second_gate, sgR', sgK', msE_coe, rs_ms, neg_half_eq, Fin.sum_univ_one]
  simp only [one_coe, ← EReal.coe_mul, ← EReal.coe_add, ← EReal.coe_sub, coe_sum, div128, div_ms]
  refine congrArg _ ?_
  ring

theorem refDZA : val_main_v74 (F := Ideal) (up X0) (up X1) (up X2) (up X3) (up X4) = DZA (up X0) (up X1) (up X2) (up X4) := by
  funext i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call1_v0, val_main_call1_v1, val_main_call1_v2, val_main_v49, val_main_v50, val_main_v51, val_main_cst_6, val_main_v52, val_main_v53, val_main_v54, val_main_v55, val_main_cst_7, val_main_v56, val_main_v57, val_main_cst_8, val_main_v58, val_main_v59, val_main_v60, val_main_v61, val_main_v62, val_main_cst_9, val_main_v63, val_main_v64, val_main_cst_10, val_main_v65, val_main_v66, val_main_v67, val_main_v68, val_main_v69, val_main_v70, val_main_v71, val_main_v72, val_main_v73, val_main_v74, val_main_v75, val_main_v76, val_main_v77, DZA, doK, donK, dzgK, dzaK, dzbK, sgK, rK]
  simp only [up, zg, za, zb, hd, ln, col, zcol, second_gate, sgR', sgK', msE_coe, rs_ms, neg_half_eq, Fin.sum_univ_one]
  simp only [one_coe, ← EReal.coe_mul, ← EReal.coe_add, ← EReal.coe_sub, coe_sum, div128, div_ms]
  refine congrArg _ ?_
  ring

theorem refDZB : val_main_v76 (F := Ideal) (up X0) (up X1) (up X2) (up X3) (up X4) = DZB (up X0) (up X2) (up X3) := by
  funext i
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call1_v0, val_main_call1_v1, val_main_call1_v2, val_main_v49, val_main_v50, val_main_v51, val_main_cst_6, val_main_v52, val_main_v53, val_main_v54, val_main_v55, val_main_cst_7, val_main_v56, val_main_v57, val_main_cst_8, val_main_v58, val_main_v59, val_main_v60, val_main_v61, val_main_v62, val_main_cst_9, val_main_v63, val_main_v64, val_main_cst_10, val_main_v65, val_main_v66, val_main_v67, val_main_v68, val_main_v69, val_main_v70, val_main_v71, val_main_v72, val_main_v73, val_main_v74, val_main_v75, val_main_v76, val_main_v77, DZB, doK, donK, dzgK, dzaK, dzbK, sgK, rK]
  simp only [up, zg, za, zb, hd, ln, col, zcol, second_gate, sgR', sgK', msE_coe, rs_ms, neg_half_eq, Fin.sum_univ_one]
  simp only [one_coe, ← EReal.coe_mul, ← EReal.coe_add, ← EReal.coe_sub, coe_sum, div128, div_ms]
  refine congrArg _ ?_
  ring

theorem ref_part (s : Fin 8192) (h : Fin 8) (l : Fin 128) : val_main_v51 (F := Ideal) (up X0) (up X1) (up X2) (ix3 s h l)
    = dgnPart (up X0) (up X1) (up X2) l h s := by
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_cst_2, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_v25, val_main_cst_3, val_main_v26, val_main_v27, val_main_cst_4, val_main_v28, val_main_v29, val_main_cst_5, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_call1_v0, val_main_call1_v1, val_main_call1_v2, val_main_v49, val_main_v50, val_main_v51, val_main_cst_6, val_main_v52, val_main_v53, val_main_v54, val_main_v55, val_main_cst_7, val_main_v56, val_main_v57, val_main_cst_8, val_main_v58, val_main_v59, val_main_v60, val_main_v61, val_main_v62, val_main_cst_9, val_main_v63, val_main_v64, val_main_cst_10, val_main_v65, val_main_v66, val_main_v67, val_main_v68, val_main_v69, val_main_v70, val_main_v71, val_main_v72, val_main_v73, val_main_v74, val_main_v75, val_main_v76, val_main_v77, dgnPart, donK, sgK, rK]
  simp only [up, zg, za, zb, hd, ln, col, zcol, sgR', sgK', msE_coe, rs_ms]
  simp only [← EReal.coe_mul]
  refine congrArg _ ?_
  ring

theorem refDGN : val_main_v77 (F := Ideal) (up X0) (up X1) (up X2) = DGN (up X0) (up X1) (up X2) := by
  funext i
  obtain ⟨l, rfl⟩ : ∃ l : Fin 128, i = ix2 (0 : Fin 1) l := by
    refine ⟨i 1, ?_⟩
    funext a
    match a with | ⟨0, _⟩ => exact Subsingleton.elim (α := Fin 1) _ _ | ⟨1, _⟩ => rfl
  pointwise [val_main_v77, val_main_v56, val_main_v53, val_main_cst_7, val_main_cst_6]
  rw [Ideal.hostReduceAdd, zero_add]
  refine (sum_drop_two (a := 1) (b := 1) (n := 128) _ _ l).trans ?_
  simp only [Fin.sum_univ_one]
  pointwise [val_main_v52, val_main_cst_6]
  rw [Ideal.hostReduceAdd, zero_add]
  refine (sum_drop_two (a := 8192) (b := 8) (n := 128) _ _ l).trans ?_
  refine (Fin.sum_fin_congr (fun s => Fin.sum_fin_congr fun h => ref_part X0 X1 X2 s h l)).trans ?_
  refine (Fin.sum_mul_add_fin 32 256 _).symm.trans ?_
  exact Fin.sum_fin_congr fun t => Finset.sum_comm

end Cert.ReferenceIdeal.Merge
-- ==== Proof.Finite.lean ====
module

public import proofs.«01_k».proof.Proof.MergeRef
public import Idealize.ShloMosaic.Lib.Pointwise

@[expose] public section

noncomputable section
open Idealize.ShloMosaic
namespace Cert.MergeCore
open Cert.ReferenceIdeal.Merge (up)

theorem inf_eq : Ideal.ofBits FTy.f32 0x7F800000#32 = (⊤ : EReal) := by
  simp [Ideal.ofBits, Ideal.ieee]

/-- An extended real whose absolute value compares below the infinite constant is a real number. -/
theorem real_of_abs_lt (x : EReal) (h : max x (-x) < ⊤) : ∃ r : ℝ, x = (r : EReal) := by
  induction x with
  | bot => simp at h
  | top => simp at h
  | coe r => exact ⟨r, rfl⟩

/-- An array that passes the finiteness test is an array of reals. -/
theorem up_of_finite {s t : Shape} (x : FVec Ideal s .f32) (d : Fin t.rank → Fin s.rank) (b : t.BroadcastsInDim s d)
    (h : cmpf .olt (Host.absf x) (broadcastInDim s d b (constant t .f32 0x7F800000#32)) = fun _ => 1#1) : ∃ X : s.Idx → ℝ, x = up X := by
  have hx : ∀ i, ∃ r : ℝ, x i = (r : EReal) := fun i => by
    refine real_of_abs_lt _ ?_
    have hi := congrFun h i
    rw [← inf_eq]
    by_contra hn
    refine absurd hi ?_
    show BitVec.ofBool (decide (max (x i) (-(x i)) < Ideal.ofBits FTy.f32 0x7F800000#32)) ≠ 1#1
    rw [decide_eq_false hn]
    decide
  exact ⟨fun i => (hx i).choose, funext fun i => (hx i).choose_spec⟩

end Cert.MergeCore
-- ==== Proof.MergeClaim.lean ====
module

public import proofs.«01_k».proof.Defs
public import proofs.«01_k».proof.Proof.Gen.ReferenceIdeal.Run
public import proofs.«01_k».proof.Proof.Gen.KernelIdeal.Frame
public import proofs.«01_k».proof.Proof.Gen.Pre_merge_inputs_finite
public import proofs.«01_k».proof.Proof.Finite
public import Idealize.ShloMosaic.Lib.Claim

@[expose] public section

set_option maxRecDepth 16384
noncomputable section
open Idealize.ShloMosaic Idealize.ShloMosaic.TcCoe Idealize.SL.Sem
namespace Cert.MergeClaim
open Cert.MergeCore Cert.KernelIdeal.Merge Cert.ReferenceIdeal.Merge Cert.ReferenceIdeal.Read

theorem frame_ideal : @Cert.quiescent_KernelIdeal Cert.KernelIdeal.Gen.facts := fun m g _ => Cert.KernelIdeal.Gen.frame m g
theorem frame_ideal_pre : @Cert.quiescent_KernelIdeal_pre_merge_inputs_finite Cert.KernelIdeal.Gen.facts Cert.Pre_merge_inputs_finite.Gen.facts :=
  fun m g _ => Cert.KernelIdeal.Gen.frame m g
theorem frame_ref : @Cert.quiescent_ReferenceIdeal Cert.ReferenceIdeal.Gen.facts := by
  intro m g _
  hlo_run
  · exact fun _ => ⟨trivial, trivial, trivial, trivial, trivial⟩
  · exact sem_eq_zero_of_no_sems (sig := Cert.ReferenceIdeal.sig) (by decide) _
theorem frame_ref_pre : @Cert.quiescent_ReferenceIdeal_pre_merge_inputs_finite Cert.ReferenceIdeal.Gen.facts Cert.Pre_merge_inputs_finite.Gen.facts :=
  fun m g _ => frame_ref m g trivial

abbrev A0 (m : (ℓ : Loc Cert.ReferenceIdeal.nD Cert.ReferenceIdeal.τ Cert.ReferenceIdeal.sig) → Buf (Elt Ideal) ℓ) (c : Dev Cert.ReferenceIdeal.nD) :=
  m ((c.tc : Thread _ _).loc Cert.ReferenceIdeal.main_arg0)
abbrev A1 (m : (ℓ : Loc Cert.ReferenceIdeal.nD Cert.ReferenceIdeal.τ Cert.ReferenceIdeal.sig) → Buf (Elt Ideal) ℓ) (c : Dev Cert.ReferenceIdeal.nD) :=
  m ((c.tc : Thread _ _).loc Cert.ReferenceIdeal.main_arg1)
abbrev A2 (m : (ℓ : Loc Cert.ReferenceIdeal.nD Cert.ReferenceIdeal.τ Cert.ReferenceIdeal.sig) → Buf (Elt Ideal) ℓ) (c : Dev Cert.ReferenceIdeal.nD) :=
  m ((c.tc : Thread _ _).loc Cert.ReferenceIdeal.main_arg2)
abbrev A3 (m : (ℓ : Loc Cert.ReferenceIdeal.nD Cert.ReferenceIdeal.τ Cert.ReferenceIdeal.sig) → Buf (Elt Ideal) ℓ) (c : Dev Cert.ReferenceIdeal.nD) :=
  m ((c.tc : Thread _ _).loc Cert.ReferenceIdeal.main_arg3)
abbrev A4 (m : (ℓ : Loc Cert.ReferenceIdeal.nD Cert.ReferenceIdeal.τ Cert.ReferenceIdeal.sig) → Buf (Elt Ideal) ℓ) (c : Dev Cert.ReferenceIdeal.nD) :=
  m ((c.tc : Thread _ _).loc Cert.ReferenceIdeal.main_arg4)

/-- The reference's run, its results as the stages of the operations' readings. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem ((c.tc : Thread _ _).loc Cert.ReferenceIdeal.main_v71) = val_main_v71 (F := Ideal) (A0 m c) (A1 m c) (A2 m c) (A4 m c)
        ∧ r.2.mem ((c.tc : Thread _ _).loc Cert.ReferenceIdeal.main_v72) = val_main_v72 (F := Ideal) (A0 m c) (A1 m c) (A2 m c) (A4 m c)
        ∧ r.2.mem ((c.tc : Thread _ _).loc Cert.ReferenceIdeal.main_v40) = val_main_v40 (F := Ideal) (A0 m c) (A2 m c)
        ∧ r.2.mem ((c.tc : Thread _ _).loc Cert.ReferenceIdeal.main_v74) = val_main_v74 (F := Ideal) (A0 m c) (A1 m c) (A2 m c) (A3 m c) (A4 m c)
        ∧ r.2.mem ((c.tc : Thread _ _).loc Cert.ReferenceIdeal.main_v76) = val_main_v76 (F := Ideal) (A0 m c) (A1 m c) (A2 m c) (A3 m c) (A4 m c)
        ∧ r.2.mem ((c.tc : Thread _ _).loc Cert.ReferenceIdeal.main_v77) = val_main_v77 (F := Ideal) (A0 m c) (A1 m c) (A2 m c)
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4) :=
  θ_run_mono (Cert.ReferenceIdeal.Value.run (F := Ideal) m g) fun r h c =>
    ⟨(h c).1.trans (val_main_v71_eq m c), (h c).2.1.trans (val_main_v72_eq m c), (h c).2.2.1.trans (val_main_v40_eq _ _),
      (h c).2.2.2.1.trans (val_main_v74_eq _ _ _ _ _), (h c).2.2.2.2.1.trans (val_main_v76_eq _ _ _ _ _),
      (h c).2.2.2.2.2.1.trans (val_main_v77_eq _ _ _), (h c).2.2.2.2.2.2⟩

/-- The arrays of the kernel's memory are arrays of reals. -/
theorem reals (m : (ℓ : Loc Cert.KernelIdeal.nD Cert.KernelIdeal.τ Cert.KernelIdeal.sig) → Buf (Elt Ideal) ℓ)
    (h : @Cert.Pre_KernelIdeal_merge_inputs_finite Cert.Pre_merge_inputs_finite.Gen.facts m) (c : Dev Cert.KernelIdeal.nD) :
    ∃ (X0 X3 : Cert.KernelIdeal.S8192x1024.Idx → ℝ) (X1 : Cert.KernelIdeal.S8x8192x128.Idx → ℝ) (X2 : Cert.KernelIdeal.S8192x9728.Idx → ℝ)
      (X4 : Cert.KernelIdeal.S1x128.Idx → ℝ),
      m ((c.tc : Thread _ _).loc Cert.KernelIdeal.main_arg0) = up X0 ∧ m ((c.tc : Thread _ _).loc Cert.KernelIdeal.main_arg1) = up X1
      ∧ m ((c.tc : Thread _ _).loc Cert.KernelIdeal.main_arg2) = up X2 ∧ m ((c.tc : Thread _ _).loc Cert.KernelIdeal.main_arg3) = up X3
      ∧ m ((c.tc : Thread _ _).loc Cert.KernelIdeal.main_arg4) = up X4 := by
  obtain ⟨h0, h1, h2, h3, h4⟩ := h c
  obtain ⟨X0, e0⟩ := up_of_finite _ _ _ h0
  obtain ⟨X1, e1⟩ := up_of_finite _ _ _ h1
  obtain ⟨X2, e2⟩ := up_of_finite _ _ _ h2
  obtain ⟨X3, e3⟩ := up_of_finite _ _ _ h3
  obtain ⟨X4, e4⟩ := up_of_finite _ _ _ h4
  exact ⟨X0, X3, X1, X2, X4, e0, e1, e2, e3, e4⟩

/-! Each result of the reference at arrays of reals is what the kernel leaves. -/
theorem close71 {a0 b0 : FVec Ideal Cert.KernelIdeal.S8192x1024 .f32} {X0 : Cert.KernelIdeal.S8192x1024.Idx → ℝ} (h0 : a0 = b0) (e0 : b0 = up X0) {a1 b1 : FVec Ideal Cert.KernelIdeal.S8x8192x128 .f32} {X1 : Cert.KernelIdeal.S8x8192x128.Idx → ℝ} (h1 : a1 = b1) (e1 : b1 = up X1) {a2 b2 : FVec Ideal Cert.KernelIdeal.S8192x9728 .f32} {X2 : Cert.KernelIdeal.S8192x9728.Idx → ℝ} (h2 : a2 = b2) (e2 : b2 = up X2) {a4 b4 : FVec Ideal Cert.KernelIdeal.S1x128 .f32} {X4 : Cert.KernelIdeal.S1x128.Idx → ℝ} (h4 : a4 = b4) (e4 : b4 = up X4) :
    val_main_v71 (F := Ideal) a0 a1 a2 a4 = DO b0 b1 b2 b4 := by
  subst h0 e0 h1 e1 h2 e2 h4 e4
  exact refDO X0 X1 X2 X4
theorem close72 {a0 b0 : FVec Ideal Cert.KernelIdeal.S8192x1024 .f32} {X0 : Cert.KernelIdeal.S8192x1024.Idx → ℝ} (h0 : a0 = b0) (e0 : b0 = up X0) {a1 b1 : FVec Ideal Cert.KernelIdeal.S8x8192x128 .f32} {X1 : Cert.KernelIdeal.S8x8192x128.Idx → ℝ} (h1 : a1 = b1) (e1 : b1 = up X1) {a2 b2 : FVec Ideal Cert.KernelIdeal.S8192x9728 .f32} {X2 : Cert.KernelIdeal.S8192x9728.Idx → ℝ} (h2 : a2 = b2) (e2 : b2 = up X2) {a4 b4 : FVec Ideal Cert.KernelIdeal.S1x128 .f32} {X4 : Cert.KernelIdeal.S1x128.Idx → ℝ} (h4 : a4 = b4) (e4 : b4 = up X4) :
    val_main_v72 (F := Ideal) a0 a1 a2 a4 = DZG b0 b1 b2 b4 := by
  subst h0 e0 h1 e1 h2 e2 h4 e4
  exact refDZG X0 X1 X2 X4
theorem close40 {a0 b0 : FVec Ideal Cert.KernelIdeal.S8192x1024 .f32} {X0 : Cert.KernelIdeal.S8192x1024.Idx → ℝ} (h0 : a0 = b0) (e0 : b0 = up X0) {a2 b2 : FVec Ideal Cert.KernelIdeal.S8192x9728 .f32} {X2 : Cert.KernelIdeal.S8192x9728.Idx → ℝ} (h2 : a2 = b2) (e2 : b2 = up X2) :
    val_main_v40 (F := Ideal) a0 a2 = DOB b0 b2 := by
  subst h0 e0 h2 e2
  exact refDOB X0 X2
theorem close74 {a0 b0 : FVec Ideal Cert.KernelIdeal.S8192x1024 .f32} {X0 : Cert.KernelIdeal.S8192x1024.Idx → ℝ} (h0 : a0 = b0) (e0 : b0 = up X0) {a1 b1 : FVec Ideal Cert.KernelIdeal.S8x8192x128 .f32} {X1 : Cert.KernelIdeal.S8x8192x128.Idx → ℝ} (h1 : a1 = b1) (e1 : b1 = up X1) {a2 b2 : FVec Ideal Cert.KernelIdeal.S8192x9728 .f32} {X2 : Cert.KernelIdeal.S8192x9728.Idx → ℝ} (h2 : a2 = b2) (e2 : b2 = up X2) {a3 b3 : FVec Ideal Cert.KernelIdeal.S8192x1024 .f32} {X3 : Cert.KernelIdeal.S8192x1024.Idx → ℝ} (h3 : a3 = b3) (e3 : b3 = up X3) {a4 b4 : FVec Ideal Cert.KernelIdeal.S1x128 .f32} {X4 : Cert.KernelIdeal.S1x128.Idx → ℝ} (h4 : a4 = b4) (e4 : b4 = up X4) :
    val_main_v74 (F := Ideal) a0 a1 a2 a3 a4 = DZA b0 b1 b2 b4 := by
  subst h0 e0 h1 e1 h2 e2 h3 e3 h4 e4
  exact refDZA X0 X3 X1 X2 X4
theorem close76 {a0 b0 : FVec Ideal Cert.KernelIdeal.S8192x1024 .f32} {X0 : Cert.KernelIdeal.S8192x1024.Idx → ℝ} (h0 : a0 = b0) (e0 : b0 = up X0) {a1 b1 : FVec Ideal Cert.KernelIdeal.S8x8192x128 .f32} {X1 : Cert.KernelIdeal.S8x8192x128.Idx → ℝ} (h1 : a1 = b1) (e1 : b1 = up X1) {a2 b2 : FVec Ideal Cert.KernelIdeal.S8192x9728 .f32} {X2 : Cert.KernelIdeal.S8192x9728.Idx → ℝ} (h2 : a2 = b2) (e2 : b2 = up X2) {a3 b3 : FVec Ideal Cert.KernelIdeal.S8192x1024 .f32} {X3 : Cert.KernelIdeal.S8192x1024.Idx → ℝ} (h3 : a3 = b3) (e3 : b3 = up X3) {a4 b4 : FVec Ideal Cert.KernelIdeal.S1x128 .f32} {X4 : Cert.KernelIdeal.S1x128.Idx → ℝ} (h4 : a4 = b4) (e4 : b4 = up X4) :
    val_main_v76 (F := Ideal) a0 a1 a2 a3 a4 = DZB b0 b2 b3 := by
  subst h0 e0 h1 e1 h2 e2 h3 e3 h4 e4
  exact refDZB X0 X3 X1 X2 X4
theorem close77 {a0 b0 : FVec Ideal Cert.KernelIdeal.S8192x1024 .f32} {X0 : Cert.KernelIdeal.S8192x1024.Idx → ℝ} (h0 : a0 = b0) (e0 : b0 = up X0) {a1 b1 : FVec Ideal Cert.KernelIdeal.S8x8192x128 .f32} {X1 : Cert.KernelIdeal.S8x8192x128.Idx → ℝ} (h1 : a1 = b1) (e1 : b1 = up X1) {a2 b2 : FVec Ideal Cert.KernelIdeal.S8192x9728 .f32} {X2 : Cert.KernelIdeal.S8192x9728.Idx → ℝ} (h2 : a2 = b2) (e2 : b2 = up X2) :
    val_main_v77 (F := Ideal) a0 a1 a2 = DGN b0 b1 b2 := by
  subst h0 e0 h1 e1 h2 e2
  exact refDGN X0 X1 X2

set_option maxHeartbeats 1600000 in
theorem value : @Cert.algebraic_KernelIdeal_ReferenceIdeal_pre_merge_inputs_finite Cert.KernelIdeal.Gen.facts Cert.ReferenceIdeal.Gen.facts
    Cert.Pre_merge_inputs_finite.Gen.facts := by
  pair_intro
  · run_from Cert.KernelIdeal.Gen.run_main m g
  · refine θ_run_mono (ref_run m' g') fun r h c => ?_
    obtain ⟨X0, X3, X1, X2, X4, e0, e1, e2, e3, e4⟩ := reals m hpre c
    exact ⟨(h c).1.trans ((close71 (hagree c).1 e0 (hagree c).2.1 e1 (hagree c).2.2.1 e2 (hagree c).2.2.2.2 e4).trans (final7 m c).symm),
      (h c).2.1.trans ((close72 (hagree c).1 e0 (hagree c).2.1 e1 (hagree c).2.2.1 e2 (hagree c).2.2.2.2 e4).trans (final8 m c).symm),
      (h c).2.2.1.trans ((close40 (hagree c).1 e0 (hagree c).2.2.1 e2).trans (final9 m c).symm),
      (h c).2.2.2.1.trans ((close74 (hagree c).1 e0 (hagree c).2.1 e1 (hagree c).2.2.1 e2 (hagree c).2.2.2.1 e3 (hagree c).2.2.2.2 e4).trans (final10 m c).symm),
      (h c).2.2.2.2.1.trans ((close76 (hagree c).1 e0 (hagree c).2.1 e1 (hagree c).2.2.1 e2 (hagree c).2.2.2.1 e3 (hagree c).2.2.2.2 e4).trans (final11 m c).symm),
      (h c).2.2.2.2.2.1.trans ((close77 (hagree c).1 e0 (hagree c).2.1 e1 (hagree c).2.2.1 e2).trans (final12 m c).symm),
      (h c).2.2.2.2.2.2⟩

end Cert.MergeClaim
-- ==== Proof.Agree.lean ====
module

public import Idealize.ShloMosaic.Lib.Claim

@[expose] public section

/-! Functions of arrays that agree one by one. -/
namespace Cert.Agree
universe u
variable {a b c d e f g h i k : Type u}

theorem on2 (F : a → b → k) {x x' : a} {y y' : b} (h0 : x = x') (h1 : y = y') : F x y = F x' y' := by subst h0 h1; rfl

theorem on3 (F : a → b → c → k) {x x' : a} {y y' : b} {z z' : c} (h0 : x = x') (h1 : y = y') (h2 : z = z') :
    F x y z = F x' y' z' := by subst h0 h1 h2; rfl

theorem on4 (F : a → b → c → d → k) {x x' : a} {y y' : b} {z z' : c} {u u' : d} (h0 : x = x') (h1 : y = y') (h2 : z = z')
    (h3 : u = u') : F x y z u = F x' y' z' u' := by subst h0 h1 h2 h3; rfl

theorem on5 (F : a → b → c → d → e → k) {x x' : a} {y y' : b} {z z' : c} {u u' : d} {v v' : e} (h0 : x = x') (h1 : y = y')
    (h2 : z = z') (h3 : u = u') (h4 : v = v') : F x y z u v = F x' y' z' u' v' := by subst h0 h1 h2 h3 h4; rfl

theorem on7 (F : a → b → c → d → e → f → g → k) {x x' : a} {y y' : b} {z z' : c} {u u' : d} {v v' : e} {w w' : f} {s s' : g}
    (h0 : x = x') (h1 : y = y') (h2 : z = z') (h3 : u = u') (h4 : v = v') (h5 : w = w') (h6 : s = s') :
    F x y z u v w s = F x' y' z' u' v' w' s' := by subst h0 h1 h2 h3 h4 h5 h6; rfl

theorem on9 (F : a → b → c → d → e → f → g → h → i → k) {x x' : a} {y y' : b} {z z' : c} {u u' : d} {v v' : e} {w w' : f}
    {s s' : g} {p p' : h} {q q' : i} (h0 : x = x') (h1 : y = y') (h2 : z = z') (h3 : u = u') (h4 : v = v') (h5 : w = w')
    (h6 : s = s') (h7 : p = p') (h8 : q = q') : F x y z u v w s p q = F x' y' z' u' v' w' s' p' q' := by
  subst h0 h1 h2 h3 h4 h5 h6 h7 h8; rfl

end Cert.Agree
-- ==== Proof.FfOutDxValue.lean ====
module

public import proofs.«01_k».proof.Proof.Gen.FfOutDxIdeal.Value
public import proofs.«01_k».proof.Proof.Gen.FfOutDxRefIdeal.Run
public import proofs.«01_k».proof.Proof.Gen.FfOutDxRefIdeal.Read
public import proofs.«01_k».proof.Defs
public import Idealize.ShloMosaic.Lib.Claim
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.FfOutDxIdeal.Own
open Cert.FfOutDxIdeal Cert.FfOutDxIdeal.Gen
variable (m : (ℓ : Loc nD τ sig) → Buf (Elt Ideal) ℓ)

theorem idx : ∀ t : Fin cfg0.N, win0_0.index t = ![t.val / 4, 0] ∧ win0_1.index t = ![t.val % 4, 0] ∧ win0_2.index t = ![0, 0] ∧
    win0_3.index t = ![t.val / 4, t.val % 4] ∧ win0_4.index t = ![t.val / 4, t.val % 4] :=
  (by decide +kernel : ∀ t : Fin grid0.N, _)

/-- Where the hidden unit is not positive the kernel's factor is zero, which is what the reference selects. -/
theorem factor_of_pos (s p a : EReal) : (if 0 < a then s * (p * max a 0) else 0) = s * (p * max a 0) := by
  split_ifs with h
  · rfl
  · rw [max_eq_right (not_lt.mp h), mul_zero, mul_zero]

/-- The gate before the incoming gradient in every product of a sum. -/
theorem gate_first {n : Nat} (d g w : Fin n → EReal) (q : EReal) : (∑ x, d x * g x * w x) * q = (∑ x, g x * d x * w x) * q :=
  congrArg (· * q) (Finset.sum_congr rfl fun x _ => congrArg (· * w x) (mul_comm (d x) (g x)))

open Cert.FfOutDxRefIdeal.Read in
theorem point (c : Dev nD) (t : Fin cfg0.N) (y : S1024x1024.Idx) : k0_pay1 (iblk m c 0 t) (iblk m c 2 t) (iblk m c 1 t) (iblk m c 3 t) y
    = val_main_v17 (F := Ideal) (m ((c : Thread nD τ).loc main_arg0)) (m ((c : Thread nD τ).loc main_arg1))
      (m ((c : Thread nD τ).loc main_arg2)) (m ((c : Thread nD τ).loc main_arg3)) (((cfg0.win 4).blk t).view.emb y) := by
  pointwise [k0_pay1, val_main_v17, val_main_v16, val_main_v15, val_main_cst_2, val_main_v14, val_main_v13, val_main_v12, val_main_v11, val_main_v7, val_main_v6, val_main_cst_1, val_main_v3, val_main_v2, val_main_cst, val_main_v1, val_main_call0_v0, val_main_call0_cst, val_main_v0]
  refine Eq.trans ?_ (factor_of_pos _ _ _).symm
  refine Eq.trans (gate_first _ _ _ _) ?_
  blk_point [iblk, V, idx t]

open Cert.FfOutDxRefIdeal.Read in
/-- The result array after the run is the reference's gradient. -/
theorem final (c : Dev nD) : (dats m 0 c).arrAt 4 (cfgs 0).N
    = val_main_v17 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The idealized kernel runs and leaves every semaphore at zero. -/
theorem frame_ideal : @Cert.quiescent_FfOutDxIdeal Cert.FfOutDxIdeal.Gen.facts := fun m g _ => Cert.FfOutDxIdeal.Gen.frame m g

/-- The idealized reference runs and leaves every semaphore at zero. -/
theorem frame_ref : @Cert.quiescent_FfOutDxRefIdeal Cert.FfOutDxRefIdeal.Gen.facts := by
  intro m g _
  hlo_run
  · exact fun _ => ⟨trivial, trivial, trivial, trivial⟩
  · exact sem_eq_zero_of_no_sems (sig := Cert.FfOutDxRefIdeal.sig) (by decide) _

theorem value : @Cert.algebraic_FfOutDxIdeal_FfOutDxRefIdeal Cert.FfOutDxIdeal.Gen.facts Cert.FfOutDxRefIdeal.Gen.facts := by
  pair_intro
  · run_from Cert.FfOutDxIdeal.Gen.run_main m g
  · refine θ_run_mono (Cert.FfOutDxRefIdeal.Value.run (F := Ideal) m' g') fun r h c => ?_
    exact ⟨(h c).1.trans ((Cert.FfOutDxRefIdeal.Read.val_main_v17_eq _ _ _ _).trans
      ((Cert.Agree.on4 Cert.FfOutDxRefIdeal.Read.val_main_v17 (hagree c).1 (hagree c).2.1 (hagree c).2.2.1 (hagree c).2.2.2).trans (final m c).symm)), (h c).2⟩

end Cert.FfOutDxIdeal.Own
-- ==== Proof.FfInDxValue.lean ====
module

public import proofs.«01_k».proof.Proof.Gen.FfInDxIdeal.Value
public import proofs.«01_k».proof.Proof.Gen.FfInDxRefIdeal.Run
public import proofs.«01_k».proof.Proof.Gen.FfInDxRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.FfInDxIdeal.Own
open Cert.FfInDxIdeal Cert.FfInDxIdeal.Gen
variable (m : (ℓ : Loc nD τ sig) → Buf (Elt Ideal) ℓ)

theorem idx : ∀ t : Fin cfg0.N, win0_0.index t = ![t.val / 4, t.val % 4] ∧ win0_1.index t = ![0, t.val % 4] ∧ win0_2.index t = ![t.val / 4, 0] :=
  (by decide +kernel : ∀ t : Fin grid0.N, _)

/-- One block's part of a row's product with a row of the weights. -/
def part (X W : FVec Ideal S1024x1024 .bf16) (j : S1024x1024.Idx) : EReal := ∑ k : Fin 1024, X (ix2 (j 0) k) * W (ix2 (j 1) k)

theorem pay2 (X W : FVec Ideal S1024x1024 .bf16) (j) : k0_pay2 (F := Ideal) X W j = 0 + part X W j := by
  rw [zero_add]; pointwise [k0_pay2, k0_pay1, part]

theorem pay3 (X W : FVec Ideal S1024x1024 .bf16) (A : FVec Ideal S1024x1024 .f32) (j) : k0_pay3 (F := Ideal) X W A j = A j + part X W j := by
  pointwise [k0_pay3, k0_pay1, part]

theorem pay4 (X W : FVec Ideal S1024x1024 .bf16) (A : FVec Ideal S1024x1024 .f32) (j) : k0_pay4 (F := Ideal) X W A j = A j + part X W j := by
  pointwise [k0_pay4, k0_pay1, part]

/-- The scratch read back is what was left in it. -/
theorem kept (A : FVec Ideal S1024x1024 .f32) (j : S1024x1024.Idx) :
    View.read (Elt Ideal) (View.whole cc0_scratch0) ((Memref.isWhole_whole cc0_scratch0).unread A) j = A j :=
  congrFun (read_unread_whole (Val := Elt Ideal) cc0_scratch0 (Memref.isWhole_whole cc0_scratch0) A) j

/-- The sum the kernel carries after a point: the scratch, and at a run's last point what it writes out of it. -/
def acc (c : Dev nD) (n : Nat) (h : n < cfg0.N) (j : S1024x1024.Idx) : EReal :=
  if n % 4 = 3 then (outsAt0 m c (n - 1) (Nat.lt_of_le_of_lt (Nat.sub_le _ _) h)).2 j + part (iblk m c 0 ⟨n, h⟩) (iblk m c 1 ⟨n, h⟩) j
  else (outsAt0 m c n h).2 j

theorem acc_reset (c : Dev nD) (t : Fin cfg0.N) (h : t.val % 4 = 0) (j) :
    acc m c t.val t.isLt j = 0 + part (iblk m c 0 t) (iblk m c 1 t) j := by
  unfold acc
  rw [if_neg (by omega), outsAt0_A m c t h (by omega) (by omega)]
  frame_out
  exact pay2 _ _ _

theorem acc_step (c : Dev nD) (t : Fin cfg0.N) (h : ¬t.val % 4 = 0) (j) :
    acc m c t.val t.isLt j = acc m c (t.val - 1) (Nat.lt_of_le_of_lt (Nat.sub_le _ _) t.isLt) j + part (iblk m c 0 t) (iblk m c 1 t) j := by
  unfold acc
  rw [if_neg (by omega : ¬(t.val - 1) % 4 = 3)]
  by_cases h3 : t.val % 4 = 3
  · rw [if_pos h3]
  · rw [if_neg h3, outsAt0_B m c t h (by omega) h3]
    frame_out
    exact (pay3 _ _ _ _).trans (congrArg (· + part (iblk m c 0 t) (iblk m c 1 t) j) (kept _ j))

theorem acc_last (c : Dev nD) (t : Fin cfg0.N) (h : t.val % 4 = 3) (j) :
    (outsAt0 m c (t.val - 1) (Nat.lt_of_le_of_lt (Nat.sub_le _ _) t.isLt)).2 j + part (iblk m c 0 t) (iblk m c 1 t) j
      = ∑ s : Fin 4, part (iblk m c 0 ⟨4 * (t.val / 4) + s.val, Pipeline.run_point_lt_of_flush t h s⟩)
          (iblk m c 1 ⟨4 * (t.val / 4) + s.val, Pipeline.run_point_lt_of_flush t h s⟩) j := by
  have e := Pipeline.eq_sum_fin_of_reset_step_apply_of_flush (acc m c) 4 (fun _ => 0) (fun t j => part (iblk m c 0 t) (iblk m c 1 t) j)
    (acc_reset m c) (acc_step m c) t h j
  rw [zero_add] at e
  refine Eq.trans ?_ e
  unfold acc
  rw [if_pos h]

open Cert.FfInDxRefIdeal.Read in
/-- The result array after the run is the reference's gradient. -/
theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, outsAt0_C m c t (by omega) (by omega) h]
  frame_out
  refine (pay4 _ _ _ _).trans ((congrArg (· + part (iblk m c 0 t) (iblk m c 1 t) y) (kept _ y)).trans ?_)
  refine (acc_last m c t h _).trans ?_
  pointwise [part, val_main_v4, val_main_v3, val_main_v0]
  refine Fin.sum_mul_add_congr fun s k hl => ?_
  blk_point [iblk, V, idx t, idx ⟨_, Pipeline.run_point_lt_of_flush t h s⟩]

/-- The idealized kernel runs and leaves every semaphore at zero. -/
theorem frame_ideal : @Cert.quiescent_FfInDxIdeal Cert.FfInDxIdeal.Gen.facts := fun m g _ => Cert.FfInDxIdeal.Gen.frame m g

/-- The idealized reference runs and leaves every semaphore at zero. -/
theorem frame_ref : @Cert.quiescent_FfInDxRefIdeal Cert.FfInDxRefIdeal.Gen.facts := by
  intro m g _
  hlo_run
  · exact fun _ => ⟨trivial, trivial⟩
  · exact sem_eq_zero_of_no_sems (sig := Cert.FfInDxRefIdeal.sig) (by decide) _

/-- The kernel's result is the reference's. -/
theorem value : @Cert.algebraic_FfInDxIdeal_FfInDxRefIdeal Cert.FfInDxIdeal.Gen.facts Cert.FfInDxRefIdeal.Gen.facts := by
  pair_intro
  · run_from Cert.FfInDxIdeal.Gen.run_main m g
  · refine θ_run_mono (Cert.FfInDxRefIdeal.Value.run (F := Ideal) m' g') fun r h c => ?_
    exact ⟨(h c).1.trans ((Cert.FfInDxRefIdeal.Read.val_main_v4_eq _ _).trans
      ((Cert.Agree.on2 Cert.FfInDxRefIdeal.Read.val_main_v4 (hagree c).1 (hagree c).2).trans (final m c).symm)), (h c).2⟩

end Cert.FfInDxIdeal.Own
-- ==== Proof.FfInDwValue.lean ====
module

public import proofs.«01_k».proof.Proof.Gen.FfInDwIdeal.Value
public import proofs.«01_k».proof.Proof.Gen.FfInDwRefIdeal.Run
public import proofs.«01_k».proof.Proof.Gen.FfInDwRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.FfInDwIdeal.Own
open Cert.FfInDwIdeal Cert.FfInDwIdeal.Gen
variable (m : (ℓ : Loc nD τ sig) → Buf (Elt Ideal) ℓ)

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- One block's part of a column's product with a column of the gradient. -/
def part (X W : FVec Ideal S1024x1024 .bf16) (j : S1024x1024.Idx) : EReal := ∑ k : Fin 1024, X (ix2 k (j 0)) * W (ix2 k (j 1))

theorem pay2 (X W : FVec Ideal S1024x1024 .bf16) (j) : k0_pay2 (F := Ideal) X W j = 0 + part X W j := by
  rw [zero_add]; pointwise [k0_pay2, k0_pay1, part]

theorem pay3 (X W : FVec Ideal S1024x1024 .bf16) (A : FVec Ideal S1024x1024 .f32) (j) : k0_pay3 (F := Ideal) X W A j = A j + part X W j := by
  pointwise [k0_pay3, k0_pay1, part]

theorem pay4 (X W : FVec Ideal S1024x1024 .bf16) (A : FVec Ideal S1024x1024 .f32) (j) : k0_pay4 (F := Ideal) X W A j = A j + part X W j := by
  pointwise [k0_pay4, k0_pay1, part]

/-- The scratch read back is what was left in it. -/
theorem kept (A : FVec Ideal S1024x1024 .f32) (j : S1024x1024.Idx) :
    View.read (Elt Ideal) (View.whole cc0_scratch0) ((Memref.isWhole_whole cc0_scratch0).unread A) j = A j :=
  congrFun (read_unread_whole (Val := Elt Ideal) cc0_scratch0 (Memref.isWhole_whole cc0_scratch0) A) j

/-- The sum the kernel carries after a point: the scratch, and at a run's last point what it writes out of it. -/
def acc (c : Dev nD) (n : Nat) (h : n < cfg0.N) (j : S1024x1024.Idx) : EReal :=
  if n % 8 = 7 then (outsAt0 m c (n - 1) (Nat.lt_of_le_of_lt (Nat.sub_le _ _) h)).2 j + part (iblk m c 0 ⟨n, h⟩) (iblk m c 1 ⟨n, h⟩) j
  else (outsAt0 m c n h).2 j

theorem acc_reset (c : Dev nD) (t : Fin cfg0.N) (h : t.val % 8 = 0) (j) :
    acc m c t.val t.isLt j = 0 + part (iblk m c 0 t) (iblk m c 1 t) j := by
  unfold acc
  rw [if_neg (by omega), outsAt0_A m c t h (by omega) (by omega)]
  frame_out
  exact pay2 _ _ _

theorem acc_step (c : Dev nD) (t : Fin cfg0.N) (h : ¬t.val % 8 = 0) (j) :
    acc m c t.val t.isLt j = acc m c (t.val - 1) (Nat.lt_of_le_of_lt (Nat.sub_le _ _) t.isLt) j + part (iblk m c 0 t) (iblk m c 1 t) j := by
  unfold acc
  rw [if_neg (by omega : ¬(t.val - 1) % 8 = 7)]
  by_cases h7 : t.val % 8 = 7
  · rw [if_pos h7]
  · rw [if_neg h7, outsAt0_B m c t h (by omega) h7]
    frame_out
    exact (pay3 _ _ _ _).trans (congrArg (· + part (iblk m c 0 t) (iblk m c 1 t) j) (kept _ j))

theorem acc_last (c : Dev nD) (t : Fin cfg0.N) (h : t.val % 8 = 7) (j) :
    (outsAt0 m c (t.val - 1) (Nat.lt_of_le_of_lt (Nat.sub_le _ _) t.isLt)).2 j + part (iblk m c 0 t) (iblk m c 1 t) j
      = ∑ s : Fin 8, part (iblk m c 0 ⟨8 * (t.val / 8) + s.val, Pipeline.run_point_lt_of_flush t h s⟩)
          (iblk m c 1 ⟨8 * (t.val / 8) + s.val, Pipeline.run_point_lt_of_flush t h s⟩) j := by
  have e := Pipeline.eq_sum_fin_of_reset_step_apply_of_flush (acc m c) 8 (fun _ => 0) (fun t j => part (iblk m c 0 t) (iblk m c 1 t) j)
    (acc_reset m c) (acc_step m c) t h j
  rw [zero_add] at e
  refine Eq.trans ?_ e
  unfold acc
  rw [if_pos h]

open Cert.FfInDwRefIdeal.Read in
/-- The result array after the run is the reference's gradient. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, outsAt0_C m c t (by omega) (by omega) h]
  frame_out
  refine (pay4 _ _ _ _).trans ((congrArg (· + part (iblk m c 0 t) (iblk m c 1 t) y) (kept _ y)).trans ?_)
  refine (acc_last m c t h _).trans ?_
  pointwise [part, val_main_v6, val_main_v5, val_main_v4, val_main_v3, val_main_v0]
  refine Fin.sum_mul_add_congr fun s k hl => ?_
  refine Eq.trans (EReal.mul_comm _ _) ?_
  blk_point [iblk, V, idx t, idx ⟨_, Pipeline.run_point_lt_of_flush t h s⟩]

/-- The idealized kernel runs and leaves every semaphore at zero. -/
theorem frame_ideal : @Cert.quiescent_FfInDwIdeal Cert.FfInDwIdeal.Gen.facts := fun m g _ => Cert.FfInDwIdeal.Gen.frame m g

/-- The idealized reference runs and leaves every semaphore at zero. -/
theorem frame_ref : @Cert.quiescent_FfInDwRefIdeal Cert.FfInDwRefIdeal.Gen.facts := by
  intro m g _
  hlo_run
  · exact fun _ => ⟨trivial, trivial⟩
  · exact sem_eq_zero_of_no_sems (sig := Cert.FfInDwRefIdeal.sig) (by decide) _

/-- The kernel's result is the reference's. -/
theorem value : @Cert.algebraic_FfInDwIdeal_FfInDwRefIdeal Cert.FfInDwIdeal.Gen.facts Cert.FfInDwRefIdeal.Gen.facts := by
  pair_intro
  · run_from Cert.FfInDwIdeal.Gen.run_main m g
  · refine θ_run_mono (Cert.FfInDwRefIdeal.Value.run (F := Ideal) m' g') fun r h c => ?_
    exact ⟨(h c).1.trans ((Cert.FfInDwRefIdeal.Read.val_main_v6_eq _ _).trans
      ((Cert.Agree.on2 Cert.FfInDwRefIdeal.Read.val_main_v6 (hagree c).1 (hagree c).2).trans (final m c).symm)), (h c).2⟩

end Cert.FfInDwIdeal.Own
-- ==== Proof.GatedReal.lean ====
module

public import proofs.«01_k».proof.Proof.Finite
public import proofs.«01_k».proof.Proof.MergeReal

@[expose] public section

noncomputable section
open Idealize.ShloMosaic
/-! The gradient of a gated product `gate * (r @ w)` of real arrays: the gate taken out of the sum over rows, and the two sums
    of the gate's own gradient exchanged. -/
namespace Cert.Gated

theorem finite_at {s t : Shape} (x : FVec Ideal s .f32) (d : Fin t.rank → Fin s.rank) (b : t.BroadcastsInDim s d)
    (h : cmpf .olt (Host.absf x) (broadcastInDim s d b (constant t .f32 0x7F800000#32)) = fun _ => 1#1) (i : s.Idx) :
    ∃ r : ℝ, (x i : EReal) = (r : EReal) := by
  obtain ⟨X, e⟩ := Cert.MergeCore.up_of_finite x d b h
  exact ⟨X i, congrFun e i⟩

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem weight_grad {n : ℕ} (r d : Fin n → EReal) (g : EReal) (hr : ∀ k, ∃ x : ℝ, r k = (x : EReal)) (hd : ∀ k, ∃ x : ℝ, d k = (x : EReal))
    (hg : ∃ x : ℝ, g = (x : EReal)) : (∑ k, r k * d k) * g = ∑ k, g * d k * r k := by
  choose R hR using hr
  choose D hD using hd
  obtain ⟨G, rfl⟩ := hg
  simp only [hR, hD, ← EReal.coe_mul, coe_sum]
  refine congrArg _ ?_
  rw [Finset.sum_mul]
  exact Finset.sum_congr rfl fun k _ => by ring

theorem gate_grad {n p : ℕ} (r : Fin n → Fin p → EReal) (d : Fin n → EReal) (w : Fin p → EReal)
    (hr : ∀ k q, ∃ x : ℝ, r k q = (x : EReal)) (hd : ∀ k, ∃ x : ℝ, d k = (x : EReal)) (hw : ∀ q, ∃ x : ℝ, w q = (x : EReal)) :
    ∑ q, (∑ k, r k q * d k) * w q = ∑ k, d k * ∑ q, r k q * w q := by
  choose R hR using hr
  choose D hD using hd
  choose W hW using hw
  simp only [hR, hD, hW, ← EReal.coe_mul, coe_sum]
  refine congrArg _ ?_
  simp only [Finset.sum_mul, Finset.mul_sum]
  rw [Finset.sum_comm]
  exact Finset.sum_congr rfl fun k _ => Finset.sum_congr rfl fun q _ => by ring

end Cert.Gated
-- ==== Proof.FfOutDwValue.lean ====
module

public import proofs.«01_k».proof.Proof.Gen.FfOutDwIdeal.Value
public import proofs.«01_k».proof.Proof.Gen.FfOutDwRefIdeal.Run
public import proofs.«01_k».proof.Proof.Gen.FfOutDwRefIdeal.Read
public import proofs.«01_k».proof.Defs
public import proofs.«01_k».proof.Proof.Gen.Pre_ff_out_dw_inputs_finite
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.GatedReal

@[expose] public section

set_option maxRecDepth 16384
noncomputable section
open Idealize.ShloMosaic Idealize.ShloMosaic.TcCoe Idealize.SL.Sem
open Idealize.ShloMosaic.Pipeline (Dat)
namespace Cert.FfOutDwIdeal.Own
open Cert.FfOutDwIdeal Cert.FfOutDwIdeal.Gen
variable (m : (ℓ : Loc nD τ sig) → Buf (Elt Ideal) ℓ)

theorem idx : ∀ t : Fin cfg0.N, win0_0.index t = ![t.val % 8, t.val / 8] ∧ win0_1.index t = ![t.val % 8, 0] ∧ win0_2.index t = ![0, 0] ∧
    win0_3.index t = ![t.val / 8, 0] ∧ win0_4.index t = ![t.val / 8, 0] ∧ win0_5.index t = ![0, 0] :=
  (by decide +kernel : ∀ t : Fin grid0.N, _)

/-- One block's part of a column's product with a column of the incoming gradient. -/
def part (X : FVec Ideal S1024x1024 .bf16) (D : FVec Ideal S1024x1024 .f32) (j : S1024x1024.Idx) : EReal :=
  ∑ k : Fin 1024, X (ix2 k (j 0)) * D (ix2 k (j 1))

theorem pay2 (X : FVec Ideal S1024x1024 .bf16) (D : FVec Ideal S1024x1024 .f32) (j) : k0_pay2 (F := Ideal) X D j = 0 + part X D j := by
  rw [zero_add]; pointwise [k0_pay2, k0_pay1, part]

theorem pay3 (X : FVec Ideal S1024x1024 .bf16) (D A : FVec Ideal S1024x1024 .f32) (j) : k0_pay3 (F := Ideal) X D A j = A j + part X D j := by
  pointwise [k0_pay3, k0_pay1, part]

theorem pay4 (j) : k0_pay4 (F := Ideal) j = 0 := by pointwise [k0_pay4]

theorem pay6 (X : FVec Ideal S1024x1024 .bf16) (D A : FVec Ideal S1024x1024 .f32) (g : FVec Ideal S1x1024 .f32) (j) :
    k0_pay6 (F := Ideal) X D A g j = (A j + part X D j) * g (ix2 0 (j 1)) := by
  pointwise [k0_pay6, k0_pay5, k0_pay1, part]

theorem pay7 (X : FVec Ideal S1024x1024 .bf16) (D A : FVec Ideal S1024x1024 .f32) (g : FVec Ideal S1x1024 .f32) (W : FVec Ideal S1024x1024 .bf16) (j) :
    k0_pay7 (F := Ideal) X D A g W j = g j + ∑ i : Fin 1024, (A (ix2 i (j 1)) + part X D (ix2 i (j 1))) * W (ix2 i (j 1)) := by
  pointwise [k0_pay7, k0_pay5, k0_pay1, part]

/-- The scratch read back is what was left in it. -/
theorem kept (A : FVec Ideal S1024x1024 .f32) (j : S1024x1024.Idx) :
    View.read (Elt Ideal) (View.whole cc0_scratch0) ((Memref.isWhole_whole cc0_scratch0).unread A) j = A j :=
  congrFun (read_unread_whole (Val := Elt Ideal) cc0_scratch0 (Memref.isWhole_whole cc0_scratch0) A) j

/-- The scratch before a point. -/
abbrev before (c : Dev nD) (t : Fin cfg0.N) : FVec Ideal S1024x1024 .f32 :=
  (outsAt0 m c (t.val - 1) (Nat.lt_of_le_of_lt (Nat.sub_le _ _) t.isLt)).2.2

/-- The sum the kernel carries after a point: the scratch, and at a run's last point what it writes out of it. -/
def acc (c : Dev nD) (n : Nat) (h : n < cfg0.N) (j : S1024x1024.Idx) : EReal :=
  if n % 8 = 7 then before m c ⟨n, h⟩ j + part (iblk m c 0 ⟨n, h⟩) (iblk m c 1 ⟨n, h⟩) j
  else (outsAt0 m c n h).2.2 j

theorem acc_reset (c : Dev nD) (t : Fin cfg0.N) (h : t.val % 8 = 0) (j) :
    acc m c t.val t.isLt j = 0 + part (iblk m c 0 t) (iblk m c 1 t) j := by
  unfold acc
  rw [if_neg (by omega)]
  by_cases h2 : t.val % 32 = 0
  · rw [outsAt0_A m c t h (by omega) h2 (by omega)]
    frame_out
    exact pay2 _ _ _
  · rw [outsAt0_D m c t h (by omega) h2 (by omega)]
    frame_out
    exact pay2 _ _ _

theorem acc_step (c : Dev nD) (t : Fin cfg0.N) (h : ¬t.val % 8 = 0) (j) :
    acc m c t.val t.isLt j = acc m c (t.val - 1) (Nat.lt_of_le_of_lt (Nat.sub_le _ _) t.isLt) j + part (iblk m c 0 t) (iblk m c 1 t) j := by
  unfold acc
  rw [if_neg (by omega : ¬(t.val - 1) % 8 = 7)]
  by_cases h7 : t.val % 8 = 7
  · rw [if_pos h7]
  · rw [if_neg h7, outsAt0_B m c t h (by omega) (by omega) h7]
    frame_out
    exact (pay3 _ _ _ _).trans (congrArg (· + part (iblk m c 0 t) (iblk m c 1 t) j) (kept _ j))

/-- A column of the saved rows against a column of the incoming gradient, over all rows. -/
def G (R : FVec Ideal S8192x4096 .bf16) (D : FVec Ideal S8192x1024 .f32) (p : Fin 4096) (q : Fin 1024) : EReal :=
  ∑ n : Fin 8192, R (ix2 n p) * D (ix2 n q)

/-- The column of the saved rows under column `i` of point `t`'s block. -/
abbrev col (t : Fin cfg0.N) (i : Fin 1024) : Fin 4096 := ⟨t.val / 8 * 1024 + i.val, by have : t.val < 32 := t.isLt; omega⟩

theorem acc_last (c : Dev nD) (t : Fin cfg0.N) (h : t.val % 8 = 7) (j : S1024x1024.Idx) :
    before m c t j + part (iblk m c 0 t) (iblk m c 1 t) j
      = G (m ((c : Thread nD τ).loc main_arg0)) (m ((c : Thread nD τ).loc main_arg1)) (col t (j 0)) (j 1) := by
  have e := Pipeline.eq_sum_fin_of_reset_step_apply_of_flush (acc m c) 8 (fun _ => 0) (fun t j => part (iblk m c 0 t) (iblk m c 1 t) j)
    (acc_reset m c) (acc_step m c) t h j
  rw [zero_add] at e
  unfold acc at e
  rw [if_pos h] at e
  refine e.trans ?_
  unfold part G
  refine Fin.sum_mul_add_congr fun s k hl => ?_
  blk_point [iblk, V, idx ⟨_, Pipeline.run_point_lt_of_flush t h s⟩]

theorem gate_at (c : Dev nD) (t : Fin cfg0.N) (q : Fin 1024) : iblk m c 2 t (ix2 0 q) = m ((c : Thread nD τ).loc main_arg2) (ix2 0 q) := by
  blk_ext [iblk, V, idx t]

open Cert.FfOutDwRefIdeal.Read in
/-- The weights' gradient after the run is the reference's. -/
theorem final4 (c : Dev nD) (hR : ∀ i, ∃ x : ℝ, (m ((c : Thread nD τ).loc main_arg0) i : EReal) = (x : EReal))
    (hD : ∀ i, ∃ x : ℝ, (m ((c : Thread nD τ).loc main_arg1) i : EReal) = (x : EReal))
    (hg : ∀ i, ∃ x : ℝ, (m ((c : Thread nD τ).loc main_arg2) i : EReal) = (x : EReal)) : (dats m 0 c).arrAt 4 (cfgs 0).N
    = val_main_v12 (F := Ideal) (m ((c : Thread nD τ).loc main_arg0)) (m ((c : Thread nD τ).loc main_arg1))
      (m ((c : Thread nD τ).loc main_arg2)) := by
  refine (dats m 0 c).arrAt_eq_of_covers 4 _ (by decide +kernel) fun t hf y => ?_
  have h := (flush0_4 t).mp hf
  blk_simp
  rw [after0_4, outsAt0_C m c t (by omega) (by omega) (by omega) h]
  frame_out
  refine (pay6 _ _ _ _ _).trans ?_
  rw [show ∀ A : FVec Ideal S1024x1024 .f32, View.read (Elt Ideal) (View.whole cc0_scratch0) ((Memref.isWhole_whole cc0_scratch0).unread A) y = A y
    from fun A => kept A y]
  refine (congrArg (· * _) (acc_last m c t h y)).trans ?_
  unfold G
  refine (Cert.Gated.weight_grad _ _ _ (fun k => hR _) (fun k => hD _) ?_).trans ?_
  · rw [gate_at m c t (y 1)]
    exact hg _
  pointwise [val_main_v12, val_main_v11, val_main_v10, val_main_v6, val_main_v5, val_main_v0]
  refine Finset.sum_congr rfl fun k _ => ?_
  blk_point [iblk, V, idx t]

/-- What the last point of a run adds to the gate's gradient. -/
def share (c : Dev nD) (a : Fin 4) (q : Fin 1024) : EReal :=
  ∑ i : Fin 1024, G (m ((c : Thread nD τ).loc main_arg0)) (m ((c : Thread nD τ).loc main_arg1)) ⟨a.val * 1024 + i.val, by omega⟩ q
    * m ((c : Thread nD τ).loc main_arg3) (ix2 ⟨a.val * 1024 + i.val, by omega⟩ q)

/-- What a point adds to the gate's gradient. -/
def added (c : Dev nD) (t : Fin cfg0.N) (j : S1x1024.Idx) : EReal :=
  if t.val % 8 = 7 then share m c ⟨t.val / 8, by have : t.val < 32 := t.isLt; omega⟩ (j 1) else 0

theorem dg_reset (c : Dev nD) (t : Fin cfg0.N) (h : t.val % 32 = 0) (j : S1x1024.Idx) :
    (outsAt0 m c t.val t.isLt).2.1 j = 0 + added m c t j := by
  unfold added
  rw [if_neg (by omega), outsAt0_A m c t (by omega) (by omega) h (by omega)]
  frame_out
  rw [pay4, zero_add]

theorem dg_step (c : Dev nD) (t : Fin cfg0.N) (h : ¬t.val % 32 = 0) (j : S1x1024.Idx) :
    (outsAt0 m c t.val t.isLt).2.1 j = (outsAt0 m c (t.val - 1) (Nat.lt_of_le_of_lt (Nat.sub_le _ _) t.isLt)).2.1 j + added m c t j := by
  unfold added
  by_cases h7 : t.val % 8 = 7
  · rw [if_pos h7, outsAt0_C m c t (by omega) (by omega) h h7]
    frame_out
    refine (pay7 _ _ _ _ _ _).trans (congrArg ((outsAt0 m c (t.val - 1) (Nat.lt_of_le_of_lt (Nat.sub_le _ _) t.isLt)).2.1 j + ·) ?_)
    refine Finset.sum_congr rfl fun i _ => congrArg₂ (· * ·) ((congrArg (fun z : EReal => z + part (iblk m c 0 t) (iblk m c 1 t) (ix2 i (j 1))) (kept _ _)).trans (acc_last m c t h7 (ix2 i (j 1)))) ?_
    blk_ext [iblk, V, idx t]
  · rw [if_neg h7, add_zero]
    by_cases h0 : t.val % 8 = 0
    · rw [outsAt0_D m c t h0 (by omega) h h7]
      rfl
    · rw [outsAt0_B m c t h0 (by omega) h h7]
      rfl

theorem added_sum (c : Dev nD) (t : Fin cfg0.N) (h : t.val % 32 = 31) (j : S1x1024.Idx) :
    ∑ s : Fin 32, added m c ⟨32 * (t.val / 32) + s.val, Pipeline.run_point_lt_of_flush t h s⟩ j = ∑ a : Fin 4, share m c a (j 1) := by
  have ht : t.val < 32 := t.isLt
  have e : ∑ s : Fin 32, added m c ⟨32 * (t.val / 32) + s.val, Pipeline.run_point_lt_of_flush t h s⟩ j
      = ∑ a : Fin 4, ∑ s : Fin 8, if s = 7 then share m c a (j 1) else 0 := by
    refine Fin.sum_divmod_congr fun s ha hs => ?_
    unfold added
    have hv : 32 * (t.val / 32) + s.val = s.val := by omega
    simp only [hv, Fin.ext_iff]
    rfl
  rw [e]
  exact Finset.sum_congr rfl fun a _ => by rw [Finset.sum_ite_eq' Finset.univ (7 : Fin 8)]; simp

open Cert.FfOutDwRefIdeal.Read in
/-- The gate's gradient after the run is the reference's. -/
theorem final5 (c : Dev nD) (hR : ∀ i, ∃ x : ℝ, (m ((c : Thread nD τ).loc main_arg0) i : EReal) = (x : EReal))
    (hD : ∀ i, ∃ x : ℝ, (m ((c : Thread nD τ).loc main_arg1) i : EReal) = (x : EReal))
    (hW : ∀ i, ∃ x : ℝ, (m ((c : Thread nD τ).loc main_arg3) i : EReal) = (x : EReal)) : (dats m 0 c).arrAt 5 (cfgs 0).N
    = val_main_v9 (F := Ideal) (m ((c : Thread nD τ).loc main_arg0)) (m ((c : Thread nD τ).loc main_arg1))
      (m ((c : Thread nD τ).loc main_arg3)) := by
  refine (dats m 0 c).arrAt_eq_of_covers 5 _ (by decide +kernel) fun t hf y => ?_
  have h := (flush0_5 t).mp hf
  blk_simp
  rw [after0_5, Pipeline.eq_sum_fin_of_reset_step_apply_of_flush (fun n h => (outsAt0 m c n h).2.1) 32 (fun _ => 0) (added m c)
    (dg_reset m c) (dg_step m c) t h y, zero_add]
  refine (added_sum m c t h y).trans ?_
  have e : ∑ a : Fin 4, share m c a (y 1) = ∑ p : Fin 4096, G (m ((c : Thread nD τ).loc main_arg0)) (m ((c : Thread nD τ).loc main_arg1)) p (y 1)
      * m ((c : Thread nD τ).loc main_arg3) (ix2 p (y 1)) := Fin.sum_mul_add_congr fun a i hl => rfl
  refine e.trans ?_
  unfold G
  refine (Cert.Gated.gate_grad _ _ _ (fun _ _ => hR _) (fun _ => hD _) (fun _ => hW _)).trans ?_
  pointwise [val_main_v9, val_main_v8, val_main_v7, val_main_cst, val_main_v2, val_main_v1, val_main_v0]
  blk_point [iblk, V, idx t]

/-- The idealized kernel runs and leaves every semaphore at zero. -/
theorem frame_ideal : @Cert.quiescent_FfOutDwIdeal Cert.FfOutDwIdeal.Gen.facts := fun m g _ => Cert.FfOutDwIdeal.Gen.frame m g

/-- The same under the claim's precondition. -/
theorem frame_ideal_pre : @Cert.quiescent_FfOutDwIdeal_pre_ff_out_dw_inputs_finite Cert.FfOutDwIdeal.Gen.facts Cert.Pre_ff_out_dw_inputs_finite.Gen.facts :=
  fun m g _ => Cert.FfOutDwIdeal.Gen.frame m g

/-- The idealized reference runs and leaves every semaphore at zero. -/
theorem frame_ref : @Cert.quiescent_FfOutDwRefIdeal Cert.FfOutDwRefIdeal.Gen.facts := by
  intro m g _
  hlo_run
  · exact fun _ => ⟨trivial, trivial, trivial, trivial⟩
  · exact sem_eq_zero_of_no_sems (sig := Cert.FfOutDwRefIdeal.sig) (by decide) _

/-- The same under the claim's precondition. -/
theorem frame_ref_pre : @Cert.quiescent_FfOutDwRefIdeal_pre_ff_out_dw_inputs_finite Cert.FfOutDwRefIdeal.Gen.facts Cert.Pre_ff_out_dw_inputs_finite.Gen.facts :=
  fun m g _ => frame_ref m g trivial

/-- The kernel's results are the reference's, of finite arguments. -/
theorem value : @Cert.algebraic_FfOutDwIdeal_FfOutDwRefIdeal_pre_ff_out_dw_inputs_finite Cert.FfOutDwIdeal.Gen.facts Cert.FfOutDwRefIdeal.Gen.facts
    Cert.Pre_ff_out_dw_inputs_finite.Gen.facts := by
  pair_intro
  · run_from Cert.FfOutDwIdeal.Gen.run_main m g
  · refine θ_run_mono (Cert.FfOutDwRefIdeal.Value.run (F := Ideal) m' g') fun r h c => ?_
    obtain ⟨p0, p1, p2, p3⟩ := hpre c
    have hR := Cert.Gated.finite_at _ _ _ p0
    have hD := Cert.Gated.finite_at _ _ _ p1
    have hg := Cert.Gated.finite_at _ _ _ p2
    have hW := Cert.Gated.finite_at _ _ _ p3
    exact ⟨(h c).1.trans ((Cert.FfOutDwRefIdeal.Read.val_main_v12_eq _ _ _).trans
      ((Cert.Agree.on3 Cert.FfOutDwRefIdeal.Read.val_main_v12 (hagree c).1 (hagree c).2.1 (hagree c).2.2.1).trans (final4 m c hR hD hg).symm)),
      (h c).2.1.trans ((Cert.FfOutDwRefIdeal.Read.val_main_v9_eq _ _ _).trans
      ((Cert.Agree.on3 Cert.FfOutDwRefIdeal.Read.val_main_v9 (hagree c).1 (hagree c).2.1 (hagree c).2.2.2).trans (final5 m c hR hD hW).symm)), (h c).2.2⟩

end Cert.FfOutDwIdeal.Own
-- ==== Proof.InProjDxPads.lean ====
module

public import proofs.«01_k».proof.Proof.Gen.InProjDxIdeal.Value
public import proofs.«01_k».proof.Proof.Gen.InProjDxRefIdeal.Run
public import proofs.«01_k».proof.Proof.Gen.InProjDxRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.InProjDxIdeal.Own
open Cert.InProjDxIdeal Cert.InProjDxIdeal.Gen
variable (m : (ℓ : Loc nD τ sig) → Buf (Elt Ideal) ℓ)

/-- An entry of a segment that starts at column `L` and is `w` wide, and zero beside it. -/
def pick (L w : Nat) (f : Fin w → EReal) (q : Nat) : EReal := if h : L ≤ q ∧ q - L < w then f ⟨q - L, h.2⟩ else 0

theorem pick_in (L w : Nat) (f : Fin w → EReal) (q : Nat) (h : L ≤ q ∧ q - L < w) : pick L w f q = f ⟨q - L, h.2⟩ := dif_pos h

theorem pick_out (L w : Nat) (f : Fin w → EReal) (q : Nat) (h : ¬(L ≤ q ∧ q - L < w)) : pick L w f q = 0 := dif_neg h

theorem pick_first (w : Nat) (f : Fin w → EReal) (q : Nat) : (if h : q < w then f ⟨q, h⟩ else 0) = pick 0 w f q := by
  unfold pick
  by_cases h : q < w
  · rw [dif_pos h, dif_pos ⟨Nat.zero_le _, h⟩]; rfl
  · rw [dif_neg h, dif_neg (fun hh => h hh.2)]

open Cert.InProjDxRefIdeal Cert.InProjDxRefIdeal.Read in
/-- The reference's joined cotangent at a row and a column: the sum of the eight segments, each padded with zeros. -/
theorem joined (x0 : (⟨S8192x3072, .bf16⟩ : BufTy).Contents (Elt Ideal)) (x1 x2 x3 x4 x5 x6 : (⟨S8192x1024, .bf16⟩ : BufTy).Contents (Elt Ideal))
    (x7 : (⟨S8192x512, .bf16⟩ : BufTy).Contents (Elt Ideal)) (r : Fin 8192) (q : Fin 9728) :
    val_main_v33 (F := Ideal) x0 x1 x2 x3 x4 x5 x6 x7 (ix2 r q)
      = pick 9216 512 (fun k => x7 (ix2 r k)) q.val + pick 8192 1024 (fun k => x6 (ix2 r k)) q.val
        + pick 7168 1024 (fun k => x5 (ix2 r k)) q.val + pick 6144 1024 (fun k => x4 (ix2 r k)) q.val
        + pick 5120 1024 (fun k => x3 (ix2 r k)) q.val + pick 4096 1024 (fun k => x2 (ix2 r k)) q.val
        + pick 3072 1024 (fun k => x1 (ix2 r k)) q.val + pick 0 3072 (fun k => x0 (ix2 r k)) q.val := by
  rw [← pick_first]
  pointwise [val_main_v33, val_main_v32, val_main_v31, val_main_v30, val_main_v29, val_main_v28, val_main_v27, val_main_v26, val_main_v25,
    val_main_v24, val_main_v23, val_main_v22, val_main_v21, val_main_v20, val_main_v19, val_main_v1, val_main_v2, val_main_v3, val_main_v4,
    val_main_v5, val_main_v6, val_main_v7, val_main_v8, val_main_cst_0, val_main_cst_1, val_main_cst_2, val_main_cst_3, val_main_cst_4,
    val_main_cst_5, val_main_cst_6, val_main_cst_7, pick]

end Cert.InProjDxIdeal.Own
-- ==== Proof.InProjDxValue.lean ====
module

public import proofs.«01_k».proof.Proof.Gen.InProjDxIdeal.Value
public import proofs.«01_k».proof.Proof.Gen.InProjDxRefIdeal.Run
public import proofs.«01_k».proof.Proof.Gen.InProjDxRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.InProjDxPads

@[expose] public section

set_option maxRecDepth 16384
noncomputable section
open Idealize.ShloMosaic Idealize.ShloMosaic.TcCoe Idealize.SL.Sem
open Idealize.ShloMosaic.Pipeline (Dat)
namespace Cert.InProjDxIdeal.Own
open Cert.InProjDxIdeal Cert.InProjDxIdeal.Gen
variable (m : (ℓ : Loc nD τ sig) → Buf (Elt Ideal) ℓ)

theorem idx : ∀ t : Fin cfg0.N, win0_8.index t = ![0, t.val % 19] ∧ win0_9.index t = ![t.val / 19, 0] :=
  (by decide +kernel : ∀ t : Fin grid0.N, _)
theorem idx_a : ∀ t : Fin cfg0.N, t.val % 19 ≤ 5 → win0_0.index t = ![t.val / 19, t.val % 19] := (by decide +kernel : ∀ t : Fin grid0.N, _)
theorem idx_b : ∀ t : Fin cfg0.N, 6 ≤ t.val % 19 ∧ t.val % 19 ≤ 7 → win0_1.index t = ![t.val / 19, t.val % 19 - 6] :=
  (by decide +kernel : ∀ t : Fin grid0.N, _)
theorem idx_c : ∀ t : Fin cfg0.N, 8 ≤ t.val % 19 ∧ t.val % 19 ≤ 9 → win0_2.index t = ![t.val / 19, t.val % 19 - 8] :=
  (by decide +kernel : ∀ t : Fin grid0.N, _)
theorem idx_d : ∀ t : Fin cfg0.N, 10 ≤ t.val % 19 ∧ t.val % 19 ≤ 11 → win0_3.index t = ![t.val / 19, t.val % 19 - 10] :=
  (by decide +kernel : ∀ t : Fin grid0.N, _)
theorem idx_e : ∀ t : Fin cfg0.N, 12 ≤ t.val % 19 ∧ t.val % 19 ≤ 13 → win0_4.index t = ![t.val / 19, t.val % 19 - 12] :=
  (by decide +kernel : ∀ t : Fin grid0.N, _)
theorem idx_f : ∀ t : Fin cfg0.N, 14 ≤ t.val % 19 ∧ t.val % 19 ≤ 15 → win0_5.index t = ![t.val / 19, t.val % 19 - 14] :=
  (by decide +kernel : ∀ t : Fin grid0.N, _)
theorem idx_g : ∀ t : Fin cfg0.N, 16 ≤ t.val % 19 ∧ t.val % 19 ≤ 17 → win0_6.index t = ![t.val / 19, t.val % 19 - 16] :=
  (by decide +kernel : ∀ t : Fin grid0.N, _)
theorem idx_h : ∀ t : Fin cfg0.N, t.val % 19 = 18 → win0_7.index t = ![t.val / 19, 0] := (by decide +kernel : ∀ t : Fin grid0.N, _)

/-- One block's part of a row of the joined cotangent with a row of the weights. -/
def part (X W : FVec Ideal S1024x512 .bf16) (j : S1024x1024.Idx) : EReal := ∑ k : Fin 512, X (ix2 (j 0) k) * W (ix2 (j 1) k)

theorem pay2 (X W : FVec Ideal S1024x512 .bf16) (j) : k0_pay2 (F := Ideal) X W j = 0 + part X W j := by
  rw [zero_add]; pointwise [k0_pay2, k0_pay1, part]

theorem pay3 (X W : FVec Ideal S1024x512 .bf16) (A : FVec Ideal S1024x1024 .f32) (j) : k0_pay3 (F := Ideal) X W A j = A j + part X W j := by
  pointwise [k0_pay3, k0_pay1, part]

theorem pay32 (X W : FVec Ideal S1024x512 .bf16) (A : FVec Ideal S1024x1024 .f32) (j) : k0_pay32 (F := Ideal) X W A j = A j + part X W j := by
  pointwise [k0_pay32, k0_pay29, part]

/-- The block of the segment a grid point reads. -/
def seg (c : Dev nD) (t : Fin cfg0.N) : FVec Ideal S1024x512 .bf16 :=
  if t.val % 19 ≤ 5 then iblk m c 0 t else if t.val % 19 ≤ 7 then iblk m c 1 t else if t.val % 19 ≤ 9 then iblk m c 2 t
  else if t.val % 19 ≤ 11 then iblk m c 3 t else if t.val % 19 ≤ 13 then iblk m c 4 t else if t.val % 19 ≤ 15 then iblk m c 5 t
  else if t.val % 19 ≤ 17 then iblk m c 6 t else iblk m c 7 t

/-- The scratch read back is what was left in it. -/
theorem kept (A : FVec Ideal S1024x1024 .f32) (j : S1024x1024.Idx) :
    View.read (Elt Ideal) (View.whole cc0_scratch0) ((Memref.isWhole_whole cc0_scratch0).unread A) j = A j :=
  congrFun (read_unread_whole (Val := Elt Ideal) cc0_scratch0 (Memref.isWhole_whole cc0_scratch0) A) j

/-- The sum the kernel carries after a point: the scratch, and at a run's last point what it writes out of it. -/
def acc (c : Dev nD) (n : Nat) (h : n < cfg0.N) (j : S1024x1024.Idx) : EReal :=
  if n % 19 = 18 then (outsAt0 m c (n - 1) (Nat.lt_of_le_of_lt (Nat.sub_le _ _) h)).2 j + part (seg m c ⟨n, h⟩) (iblk m c 8 ⟨n, h⟩) j
  else (outsAt0 m c n h).2 j

theorem acc_reset (c : Dev nD) (t : Fin cfg0.N) (h : t.val % 19 = 0) (j) :
    acc m c t.val t.isLt j = 0 + part (seg m c t) (iblk m c 8 t) j := by
  unfold acc
  rw [if_neg (by omega), outsAt0_A m c t (by omega) h (by omega) (by omega) (by omega) (by omega) (by omega) (by omega) (by omega) (by omega) (by omega)]
  frame_out
  unfold seg
  rw [if_pos (by omega)]
  exact pay2 _ _ _

/-- One more block is added to the scratch at an inner point of a run. -/
theorem scratch_step (c : Dev nD) (t : Fin cfg0.N) (h : ¬t.val % 19 = 0) (h8 : ¬t.val % 19 = 18) (j) :
    (outsAt0 m c t.val t.isLt).2 j
      = (outsAt0 m c (t.val - 1) (Nat.lt_of_le_of_lt (Nat.sub_le _ _) t.isLt)).2 j + part (seg m c t) (iblk m c 8 t) j := by
  unfold seg
  by_cases a : t.val % 19 ≤ 5
  · rw [outsAt0_B m c t a h (by omega) h8 (by omega) (by omega) (by omega) (by omega) (by omega) (by omega) h8, if_pos a]
    frame_out
    exact (pay3 _ _ _ _).trans (congrArg (· + part _ _ j) (kept _ j))
  rw [if_neg a]
  by_cases b : t.val % 19 ≤ 7
  · rw [outsAt0_C m c t a (by omega) (by omega) (by omega) (by omega) (by omega) (by omega) h8 h (by omega) h8, if_pos b]
    frame_out
    exact (pay3 _ _ _ _).trans (congrArg (· + part _ _ j) (kept _ j))
  rw [if_neg b]
  by_cases d : t.val % 19 ≤ 9
  · rw [outsAt0_D m c t a (by omega) (by omega) (by omega) (by omega) (by omega) (by omega) h8 h (by omega) h8, if_pos d]
    frame_out
    exact (pay3 _ _ _ _).trans (congrArg (· + part _ _ j) (kept _ j))
  rw [if_neg d]
  by_cases e : t.val % 19 ≤ 11
  · rw [outsAt0_E m c t a (by omega) (by omega) (by omega) (by omega) (by omega) (by omega) h8 h (by omega) h8, if_pos e]
    frame_out
    exact (pay3 _ _ _ _).trans (congrArg (· + part _ _ j) (kept _ j))
  rw [if_neg e]
  by_cases f : t.val % 19 ≤ 13
  · rw [outsAt0_F m c t a (by omega) (by omega) (by omega) (by omega) (by omega) (by omega) h8 h (by omega) h8, if_pos f]
    frame_out
    exact (pay3 _ _ _ _).trans (congrArg (· + part _ _ j) (kept _ j))
  rw [if_neg f]
  by_cases g : t.val % 19 ≤ 15
  · rw [outsAt0_G m c t a (by omega) (by omega) (by omega) (by omega) (by omega) (by omega) h8 h (by omega) h8, if_pos g]
    frame_out
    exact (pay3 _ _ _ _).trans (congrArg (· + part _ _ j) (kept _ j))
  rw [if_neg g, outsAt0_H m c t a (by omega) (by omega) (by omega) (by omega) (by omega) (by omega) h8 h (by omega) h8, if_pos (by omega)]
  frame_out
  exact (pay3 _ _ _ _).trans (congrArg (· + part _ _ j) (kept _ j))

theorem acc_step (c : Dev nD) (t : Fin cfg0.N) (h : ¬t.val % 19 = 0) (j) :
    acc m c t.val t.isLt j = acc m c (t.val - 1) (Nat.lt_of_le_of_lt (Nat.sub_le _ _) t.isLt) j + part (seg m c t) (iblk m c 8 t) j := by
  unfold acc
  rw [if_neg (by omega : ¬(t.val - 1) % 19 = 18)]
  by_cases h8 : t.val % 19 = 18
  · rw [if_pos h8]
  · rw [if_neg h8]
    exact scratch_step m c t h h8 j

theorem acc_last (c : Dev nD) (t : Fin cfg0.N) (h : t.val % 19 = 18) (j) :
    (outsAt0 m c (t.val - 1) (Nat.lt_of_le_of_lt (Nat.sub_le _ _) t.isLt)).2 j + part (seg m c t) (iblk m c 8 t) j
      = ∑ s : Fin 19, part (seg m c ⟨19 * (t.val / 19) + s.val, Pipeline.run_point_lt_of_flush t h s⟩)
          (iblk m c 8 ⟨19 * (t.val / 19) + s.val, Pipeline.run_point_lt_of_flush t h s⟩) j := by
  have e := Pipeline.eq_sum_fin_of_reset_step_apply_of_flush (acc m c) 19 (fun _ => 0) (fun t j => part (seg m c t) (iblk m c 8 t) j)
    (acc_reset m c) (acc_step m c) t h j
  rw [zero_add] at e
  refine Eq.trans ?_ e
  unfold acc
  rw [if_pos h]

open Cert.InProjDxRefIdeal.Read in
/-- The block of a segment is the joined cotangent at its rows and columns. -/
theorem seg_eq (c : Dev nD) (t : Fin cfg0.N) (a : Fin 1024) (k : Fin 512) (r : Fin 8192) (q : Fin 9728) (hr : r.val = 1024 * (t.val / 19) + a.val)
    (hq : q.val = 512 * (t.val % 19) + k.val) : seg m c t (ix2 a k)
      = val_main_v33 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (ix2 r q) := by
  rw [joined]
  unfold seg
  have hk := k.isLt
  by_cases h : t.val % 19 ≤ 5
  · simp (disch := omega) only [pick_in, pick_out, zero_add, add_zero, if_pos h]
    blk_point [iblk, V, idx_a t h]
  rw [if_neg h]
  by_cases h1 : t.val % 19 ≤ 7
  · simp (disch := omega) only [pick_in, pick_out, zero_add, add_zero, if_pos h1]
    blk_point [iblk, V, idx_b t ⟨by omega, h1⟩]
  rw [if_neg h1]
  by_cases h2 : t.val % 19 ≤ 9
  · simp (disch := omega) only [pick_in, pick_out, zero_add, add_zero, if_pos h2]
    blk_point [iblk, V, idx_c t ⟨by omega, h2⟩]
  rw [if_neg h2]
  by_cases h3 : t.val % 19 ≤ 11
  · simp (disch := omega) only [pick_in, pick_out, zero_add, add_zero, if_pos h3]
    blk_point [iblk, V, idx_d t ⟨by omega, h3⟩]
  rw [if_neg h3]
  by_cases h4 : t.val % 19 ≤ 13
  · simp (disch := omega) only [pick_in, pick_out, zero_add, add_zero, if_pos h4]
    blk_point [iblk, V, idx_e t ⟨by omega, h4⟩]
  rw [if_neg h4]
  by_cases h5 : t.val % 19 ≤ 15
  · simp (disch := omega) only [pick_in, pick_out, zero_add, add_zero, if_pos h5]
    blk_point [iblk, V, idx_f t ⟨by omega, h5⟩]
  rw [if_neg h5]
  by_cases h6 : t.val % 19 ≤ 17
  · simp (disch := omega) only [pick_in, pick_out, zero_add, add_zero, if_pos h6]
    blk_point [iblk, V, idx_g t ⟨by omega, h6⟩]
  rw [if_neg h6]
  simp (disch := omega) only [pick_in, pick_out, zero_add, add_zero]
  blk_point [iblk, V, idx_h t (by omega)]

open Cert.InProjDxRefIdeal.Read in
/-- The result array after the run is the reference's product of the joined cotangent with the weights. -/
theorem final (c : Dev nD) : (dats m 0 c).arrAt 9 (cfgs 0).N
    = val_main_v34 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 9 _ (by decide +kernel) fun t hf y => ?_
  have h := (flush0_9 t).mp hf
  blk_simp
  rw [after0_9, outsAt0_I m c t (by omega) (by omega) (by omega) (by omega) (by omega) (by omega) (by omega) h (by omega) (by omega) h]
  frame_out
  refine (pay32 _ _ _ _).trans ?_
  rw [show ∀ A : FVec Ideal S1024x1024 .f32, View.read (Elt Ideal) (View.whole cc0_scratch0) ((Memref.isWhole_whole cc0_scratch0).unread A) y = A y
    from fun A => kept A y]
  have e := acc_last m c t h y
  rw [show seg m c t = iblk m c 7 t by unfold seg; simp (disch := omega) only [if_neg]] at e
  rw [e]
  pointwise [part, val_main_v34, val_main_v0]
  refine Fin.sum_mul_add_congr fun s k hl => ?_
  refine congrArg₂ (fun x y : EReal => x * y) ?_ ?_
  · refine seg_eq m c ⟨_, Pipeline.run_point_lt_of_flush t h s⟩ _ k _ _ ?_ ?_
    · have hs := s.isLt
      have e : (19 * (t.val / 19) + s.val) / 19 = t.val / 19 := by omega
      blk_simp [idx t]
      dsimp only
      omega
    · have hs := s.isLt
      dsimp only
      omega
  · blk_point [iblk, V, idx t, idx ⟨_, Pipeline.run_point_lt_of_flush t h s⟩]

/-- The idealized kernel runs and leaves every semaphore at zero. -/
theorem frame_ideal : @Cert.quiescent_InProjDxIdeal Cert.InProjDxIdeal.Gen.facts := fun m g _ => Cert.InProjDxIdeal.Gen.frame m g

/-- The idealized reference runs and leaves every semaphore at zero. -/
theorem frame_ref : @Cert.quiescent_InProjDxRefIdeal Cert.InProjDxRefIdeal.Gen.facts := by
  intro m g _
  hlo_run
  · exact fun _ => ⟨trivial, trivial, trivial, trivial, trivial, trivial, trivial, trivial, trivial⟩
  · exact sem_eq_zero_of_no_sems (sig := Cert.InProjDxRefIdeal.sig) (by decide) _

/-- The kernel's result is the reference's. -/
theorem value : @Cert.algebraic_InProjDxIdeal_InProjDxRefIdeal Cert.InProjDxIdeal.Gen.facts Cert.InProjDxRefIdeal.Gen.facts := by
  pair_intro
  · run_from Cert.InProjDxIdeal.Gen.run_main m g
  · refine θ_run_mono (Cert.InProjDxRefIdeal.Value.run (F := Ideal) m' g') fun r h c => ?_
    obtain ⟨a0, a1, a2, a3, a4, a5, a6, a7, a8⟩ := hagree c
    exact ⟨(h c).1.trans ((Cert.InProjDxRefIdeal.Read.val_main_v34_eq _ _ _ _ _ _ _ _ _).trans
      ((Cert.Agree.on9 Cert.InProjDxRefIdeal.Read.val_main_v34 a0 a1 a2 a3 a4 a5 a6 a7 a8).trans (final m c).symm)), (h c).2⟩

end Cert.InProjDxIdeal.Own
-- ==== Proof.InProjDwIdealRun.lean ====
module

public import proofs.«01_k».proof.Proof.Gen.InProjDwIdeal.Skeleton
public import proofs.«01_k».proof.Proof.Gen.InProjDwIdeal.Frame
public import Idealize.ShloMosaic.Lib.VecWindow
public import Idealize.ShloMosaic.Lib.Tactic

@[expose] public section

set_option maxRecDepth 16384

noncomputable section

namespace Cert.InProjDwIdeal.Own

open Cert.InProjDwIdeal Cert.InProjDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The eight segments' grid columns: of eight things, the one that belongs to column `n`. -/
def pick {α : Type} (n : ℕ) (x1 x2 x3 x4 x5 x6 x7 x8 : α) : α :=
  if n < 6 then x1 else if n < 8 then x2 else if n < 10 then x3 else if n < 12 then x4 else if n < 14 then x5
  else if n < 16 then x6 else if n < 18 then x7 else x8

/-- At a point of column `n` the body takes the branch of `n`'s segment and none of the others. -/
def sel (i : grid0.Coords) (n : ℕ) : Prop :=
  (0 ≤ n ∧ n < 6 ∧ k0_cond1 i = 1#1 ∧ ¬k0_cond5 i = 1#1 ∧ ¬k0_cond9 i = 1#1 ∧ ¬k0_cond13 i = 1#1
    ∧ ¬k0_cond17 i = 1#1 ∧ ¬k0_cond21 i = 1#1 ∧ ¬k0_cond25 i = 1#1 ∧ ¬k0_cond29 i = 1#1) ∨
  (6 ≤ n ∧ n < 8 ∧ ¬k0_cond1 i = 1#1 ∧ k0_cond5 i = 1#1 ∧ ¬k0_cond9 i = 1#1 ∧ ¬k0_cond13 i = 1#1
    ∧ ¬k0_cond17 i = 1#1 ∧ ¬k0_cond21 i = 1#1 ∧ ¬k0_cond25 i = 1#1 ∧ ¬k0_cond29 i = 1#1) ∨
  (8 ≤ n ∧ n < 10 ∧ ¬k0_cond1 i = 1#1 ∧ ¬k0_cond5 i = 1#1 ∧ k0_cond9 i = 1#1 ∧ ¬k0_cond13 i = 1#1
    ∧ ¬k0_cond17 i = 1#1 ∧ ¬k0_cond21 i = 1#1 ∧ ¬k0_cond25 i = 1#1 ∧ ¬k0_cond29 i = 1#1) ∨
  (10 ≤ n ∧ n < 12 ∧ ¬k0_cond1 i = 1#1 ∧ ¬k0_cond5 i = 1#1 ∧ ¬k0_cond9 i = 1#1 ∧ k0_cond13 i = 1#1
    ∧ ¬k0_cond17 i = 1#1 ∧ ¬k0_cond21 i = 1#1 ∧ ¬k0_cond25 i = 1#1 ∧ ¬k0_cond29 i = 1#1) ∨
  (12 ≤ n ∧ n < 14 ∧ ¬k0_cond1 i = 1#1 ∧ ¬k0_cond5 i = 1#1 ∧ ¬k0_cond9 i = 1#1 ∧ ¬k0_cond13 i = 1#1
    ∧ k0_cond17 i = 1#1 ∧ ¬k0_cond21 i = 1#1 ∧ ¬k0_cond25 i = 1#1 ∧ ¬k0_cond29 i = 1#1) ∨
  (14 ≤ n ∧ n < 16 ∧ ¬k0_cond1 i = 1#1 ∧ ¬k0_cond5 i = 1#1 ∧ ¬k0_cond9 i = 1#1 ∧ ¬k0_cond13 i = 1#1
    ∧ ¬k0_cond17 i = 1#1 ∧ k0_cond21 i = 1#1 ∧ ¬k0_cond25 i = 1#1 ∧ ¬k0_cond29 i = 1#1) ∨
  (16 ≤ n ∧ n < 18 ∧ ¬k0_cond1 i = 1#1 ∧ ¬k0_cond5 i = 1#1 ∧ ¬k0_cond9 i = 1#1 ∧ ¬k0_cond13 i = 1#1
    ∧ ¬k0_cond17 i = 1#1 ∧ ¬k0_cond21 i = 1#1 ∧ k0_cond25 i = 1#1 ∧ ¬k0_cond29 i = 1#1) ∨
  (18 ≤ n ∧ n < 19 ∧ ¬k0_cond1 i = 1#1 ∧ ¬k0_cond5 i = 1#1 ∧ ¬k0_cond9 i = 1#1 ∧ ¬k0_cond13 i = 1#1
    ∧ ¬k0_cond17 i = 1#1 ∧ ¬k0_cond21 i = 1#1 ∧ ¬k0_cond25 i = 1#1 ∧ k0_cond29 i = 1#1)

theorem segs_low : ∀ t : Fin cfg0.N, (k0_cond1 (grid0.coords t) = 1#1 ↔ t.val / 8 < 6) ∧ (k0_cond5 (grid0.coords t) = 1#1 ↔ 6 ≤ t.val / 8 ∧ t.val / 8 < 8)
    ∧ (k0_cond9 (grid0.coords t) = 1#1 ↔ 8 ≤ t.val / 8 ∧ t.val / 8 < 10) ∧ (k0_cond13 (grid0.coords t) = 1#1 ↔ 10 ≤ t.val / 8 ∧ t.val / 8 < 12) :=
  (by decide +kernel : ∀ t : Fin grid0.N, _)

theorem segs_high : ∀ t : Fin cfg0.N, (k0_cond17 (grid0.coords t) = 1#1 ↔ 12 ≤ t.val / 8 ∧ t.val / 8 < 14) ∧ (k0_cond21 (grid0.coords t) = 1#1 ↔ 14 ≤ t.val / 8 ∧ t.val / 8 < 16)
    ∧ (k0_cond25 (grid0.coords t) = 1#1 ↔ 16 ≤ t.val / 8 ∧ t.val / 8 < 18) ∧ (k0_cond29 (grid0.coords t) = 1#1 ↔ 18 ≤ t.val / 8) :=
  (by decide +kernel : ∀ t : Fin grid0.N, _)

theorem sel_at (t : Fin cfg0.N) : sel (grid0.coords t) (t.val / 8) := by
  obtain ⟨c1, c2, c3, c4⟩ := segs_low t
  obtain ⟨c5, c6, c7, c8⟩ := segs_high t
  have h : t.val / 8 < 19 := Nat.div_lt_of_lt_mul (Nat.lt_of_lt_of_eq t.isLt N_0)
  unfold sel
  simp only [c1, c2, c3, c4, c5, c6, c7, c8]
  clear c1 c2 c3 c4 c5 c6 c7 c8
  generalize t.val / 8 = n at h ⊢
  by_cases a0 : n < 6
  · left; refine ⟨?_, ?_, ?_, ?_, ?_, ?_, ?_, ?_, ?_, ?_⟩ <;> omega
  by_cases a1 : n < 8
  · right; left; refine ⟨?_, ?_, ?_, ?_, ?_, ?_, ?_, ?_, ?_, ?_⟩ <;> omega
  by_cases a2 : n < 10
  · right; right; left; refine ⟨?_, ?_, ?_, ?_, ?_, ?_, ?_, ?_, ?_, ?_⟩ <;> omega
  by_cases a3 : n < 12
  · right; right; right; left; refine ⟨?_, ?_, ?_, ?_, ?_, ?_, ?_, ?_, ?_, ?_⟩ <;> omega
  by_cases a4 : n < 14
  · right; right; right; right; left; refine ⟨?_, ?_, ?_, ?_, ?_, ?_, ?_, ?_, ?_, ?_⟩ <;> omega
  by_cases a5 : n < 16
  · right; right; right; right; right; left; refine ⟨?_, ?_, ?_, ?_, ?_, ?_, ?_, ?_, ?_, ?_⟩ <;> omega
  by_cases a6 : n < 18
  · right; right; right; right; right; right; left; refine ⟨?_, ?_, ?_, ?_, ?_, ?_, ?_, ?_, ?_, ?_⟩ <;> omega
  right; right; right; right; right; right; right; refine ⟨?_, ?_, ?_, ?_, ?_, ?_, ?_, ?_, ?_, ?_⟩ <;> omega

/-- The row block is the first: the sum starts. -/
abbrev first (i : grid0.Coords) : Prop := Scalar.cmpi .ne (Scalar.extui (Scalar.cmpi .eq (BitVec.ofNat 32 (i 1).val) 0#32)) 0#32 = 1#1

theorem first_iff : ∀ t : Fin cfg0.N, first (grid0.coords t) ↔ t.val % 8 = 0 :=
  (by decide +kernel : ∀ t : Fin grid0.N, first (grid0.coords t) ↔ t.val % 8 = 0)

/-- The row block is neither the first nor the last: the sum goes on. -/
abbrev inner (i : grid0.Coords) : Prop :=
  Scalar.cmpi .ne (Scalar.extui (Scalar.andi (Scalar.cmpi .sgt (BitVec.ofNat 32 (i 1).val) 0#32) (Scalar.cmpi .slt (BitVec.ofNat 32 (i 1).val) 7#32))) 0#32 = 1#1

theorem inner_iff : ∀ t : Fin cfg0.N, inner (grid0.coords t) ↔ 1 ≤ t.val % 8 ∧ t.val % 8 ≤ 6 :=
  (by decide +kernel : ∀ t : Fin grid0.N, inner (grid0.coords t) ↔ 1 ≤ t.val % 8 ∧ t.val % 8 ≤ 6)

/-- The row block is the last: the sum is written out. -/
abbrev last (i : grid0.Coords) : Prop := Scalar.cmpi .ne (Scalar.extui (Scalar.cmpi .eq (BitVec.ofNat 32 (i 1).val) 7#32)) 0#32 = 1#1

theorem last_iff : ∀ t : Fin cfg0.N, last (grid0.coords t) ↔ t.val % 8 = 7 :=
  (by decide +kernel : ∀ t : Fin grid0.N, last (grid0.coords t) ↔ t.val % 8 = 7)

set_option maxHeartbeats 1900000 in
/-- The first row block puts its product into the scratch. -/
theorem run_first (c : Dev nD) (i : grid0.Coords) (n : ℕ) (arg2 : Memref sig .tc .vmem S1024x1024 .bf16) (harg2 : arg2.IsWhole) (arg3 : Memref sig .tc .vmem S1024x512 .bf16) (harg3 : arg3.IsWhole)
    (arg4 : Memref sig .tc .vmem S1024x512 .bf16) (harg4 : arg4.IsWhole) (arg5 : Memref sig .tc .vmem S1024x512 .bf16) (harg5 : arg5.IsWhole)
    (arg6 : Memref sig .tc .vmem S1024x512 .bf16) (harg6 : arg6.IsWhole) (arg7 : Memref sig .tc .vmem S1024x512 .bf16) (harg7 : arg7.IsWhole)
    (arg8 : Memref sig .tc .vmem S1024x512 .bf16) (harg8 : arg8.IsWhole) (arg9 : Memref sig .tc .vmem S1024x512 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S1024x512 .f32) (harg12 : arg12.IsWhole)
    (h0 : first i) (h1 : ¬inner i) (h2 : ¬last i) (hs : sel i n)
    (x0 : Vec F S1024x1024 .bf16) (x1 x2 x3 x4 x5 x6 x7 x8 : Vec F S1024x512 .bf16) (xo : Vec F S1024x512 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare xo ∗ (∃ d, owns (c : Thread nD τ) arg12 fullShare d)
      ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ owns (c : Thread nD τ) arg11 fullShare xo
          ∗ owns (c : Thread nD τ) arg12 fullShare (k0_pay2 x0 (pick n x1 x2 x3 x4 x5 x6 x7 x8))) -∗ K ⟨⟩))
    ⊢ wp frame (wpE (defs₀ (F := F)) Variants.none c none) E (cc0_in_proj_dw i arg2 harg2 arg3 harg3 arg4 harg4 arg5 harg5 arg6 harg6 arg7 harg7 arg8 harg8 arg9 harg9
      arg10 harg10 arg11 harg11 arg12 harg12) K := by
  simp only [cc0_in_proj_dw_eq_skeleton]
  unfold cc0_in_proj_dw_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%d, %f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  rcases hs with ⟨l, u, g1, g2, g3, g4, g5, g6, g7, g8⟩ | ⟨l, u, g1, g2, g3, g4, g5, g6, g7, g8⟩ | ⟨l, u, g1, g2, g3, g4, g5, g6, g7, g8⟩
    | ⟨l, u, g1, g2, g3, g4, g5, g6, g7, g8⟩ | ⟨l, u, g1, g2, g3, g4, g5, g6, g7, g8⟩ | ⟨l, u, g1, g2, g3, g4, g5, g6, g7, g8⟩
    | ⟨l, u, g1, g2, g3, g4, g5, g6, g7, g8⟩ | ⟨l, u, g1, g2, g3, g4, g5, g6, g7, g8⟩
  all_goals
    sl_exec (disch := first | with_reducible assumption | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr
    swap; · iexact H10
    ipureintro
    refine Eq.trans (View.read_writes_full _ _ _ _ _) ?_
    unfold pick
    simp (disch := omega) only [if_pos, if_neg]
    exact (congr (congrArg k0_pay2 ((View.readAt_full _ _ _).trans hf0)) ((View.readAt_full _ _ _).trans (by assumption)))

set_option maxHeartbeats 1900000 in
/-- An inner row block adds its product to the sum in the scratch. -/
theorem run_inner (c : Dev nD) (i : grid0.Coords) (n : ℕ) (arg2 : Memref sig .tc .vmem S1024x1024 .bf16) (harg2 : arg2.IsWhole) (arg3 : Memref sig .tc .vmem S1024x512 .bf16) (harg3 : arg3.IsWhole)
    (arg4 : Memref sig .tc .vmem S1024x512 .bf16) (harg4 : arg4.IsWhole) (arg5 : Memref sig .tc .vmem S1024x512 .bf16) (harg5 : arg5.IsWhole)
    (arg6 : Memref sig .tc .vmem S1024x512 .bf16) (harg6 : arg6.IsWhole) (arg7 : Memref sig .tc .vmem S1024x512 .bf16) (harg7 : arg7.IsWhole)
    (arg8 : Memref sig .tc .vmem S1024x512 .bf16) (harg8 : arg8.IsWhole) (arg9 : Memref sig .tc .vmem S1024x512 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S1024x512 .f32) (harg12 : arg12.IsWhole)
    (h0 : ¬first i) (h1 : inner i) (h2 : ¬last i) (hs : sel i n)
    (x0 : Vec F S1024x1024 .bf16) (x1 x2 x3 x4 x5 x6 x7 x8 : Vec F S1024x512 .bf16) (xo : Vec F S1024x512 .bf16) (xa : Vec F S1024x512 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ owns (c : Thread nD τ) arg11 fullShare xo ∗ owns (c : Thread nD τ) arg12 fullShare xa
      ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ owns (c : Thread nD τ) arg11 fullShare xo
          ∗ owns (c : Thread nD τ) arg12 fullShare (k0_pay3 x0 (pick n x1 x2 x3 x4 x5 x6 x7 x8) xa)) -∗ K ⟨⟩))
    ⊢ wp frame (wpE (defs₀ (F := F)) Variants.none c none) E (cc0_in_proj_dw i arg2 harg2 arg3 harg3 arg4 harg4 arg5 harg5 arg6 harg6 arg7 harg7 arg8 harg8 arg9 harg9
      arg10 harg10 arg11 harg11 arg12 harg12) K := by
  simp only [cc0_in_proj_dw_eq_skeleton]
  unfold cc0_in_proj_dw_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  rcases hs with ⟨l, u, g1, g2, g3, g4, g5, g6, g7, g8⟩ | ⟨l, u, g1, g2, g3, g4, g5, g6, g7, g8⟩ | ⟨l, u, g1, g2, g3, g4, g5, g6, g7, g8⟩
    | ⟨l, u, g1, g2, g3, g4, g5, g6, g7, g8⟩ | ⟨l, u, g1, g2, g3, g4, g5, g6, g7, g8⟩ | ⟨l, u, g1, g2, g3, g4, g5, g6, g7, g8⟩
    | ⟨l, u, g1, g2, g3, g4, g5, g6, g7, g8⟩ | ⟨l, u, g1, g2, g3, g4, g5, g6, g7, g8⟩
  all_goals
    sl_exec (disch := first | with_reducible assumption | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; isplitr
    swap; · iexact H10
    ipureintro
    refine Eq.trans (View.read_writes_full _ _ _ _ _) ?_
    unfold pick
    simp (disch := omega) only [if_pos, if_neg]
    exact congr (congr (congrArg k0_pay3 ((View.readAt_full _ _ _).trans hf0)) ((View.readAt_full _ _ _).trans (by assumption)))
      ((View.readAt_full _ _ _).trans hf10)

set_option maxHeartbeats 1900000 in
/-- The last row block writes the sum out with its own product added, and leaves the scratch as it was. -/
theorem run_last (c : Dev nD) (i : grid0.Coords) (n : ℕ) (arg2 : Memref sig .tc .vmem S1024x1024 .bf16) (harg2 : arg2.IsWhole) (arg3 : Memref sig .tc .vmem S1024x512 .bf16) (harg3 : arg3.IsWhole)
    (arg4 : Memref sig .tc .vmem S1024x512 .bf16) (harg4 : arg4.IsWhole) (arg5 : Memref sig .tc .vmem S1024x512 .bf16) (harg5 : arg5.IsWhole)
    (arg6 : Memref sig .tc .vmem S1024x512 .bf16) (harg6 : arg6.IsWhole) (arg7 : Memref sig .tc .vmem S1024x512 .bf16) (harg7 : arg7.IsWhole)
    (arg8 : Memref sig .tc .vmem S1024x512 .bf16) (harg8 : arg8.IsWhole) (arg9 : Memref sig .tc .vmem S1024x512 .bf16) (harg9 : arg9.IsWhole)
    (arg10 : Memref sig .tc .vmem S1024x512 .bf16) (harg10 : arg10.IsWhole) (arg11 : Memref sig .tc .vmem S1024x512 .bf16) (harg11 : arg11.IsWhole)
    (arg12 : Memref sig .tc .vmem S1024x512 .f32) (harg12 : arg12.IsWhole)
    (h0 : ¬first i) (h1 : ¬inner i) (h2 : last i) (hs : sel i n)
    (x0 : Vec F S1024x1024 .bf16) (x1 x2 x3 x4 x5 x6 x7 x8 : Vec F S1024x512 .bf16) (xa : Vec F S1024x512 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
      ∗ owns (c : Thread nD τ) arg8 fullShare x6 ∗ owns (c : Thread nD τ) arg9 fullShare x7 ∗ owns (c : Thread nD τ) arg10 fullShare x8
      ∗ (∃ d, owns (c : Thread nD τ) arg11 fullShare d) ∗ owns (c : Thread nD τ) arg12 fullShare xa
      ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ owns (c : Thread nD τ) arg11 fullShare (k0_pay4 x0 (pick n x1 x2 x3 x4 x5 x6 x7 x8) xa)
          ∗ owns (c : Thread nD τ) arg12 fullShare xa) -∗ K ⟨⟩))
    ⊢ wp frame (wpE (defs₀ (F := F)) Variants.none c none) E (cc0_in_proj_dw i arg2 harg2 arg3 harg3 arg4 harg4 arg5 harg5 arg6 harg6 arg7 harg7 arg8 harg8 arg9 harg9
      arg10 harg10 arg11 harg11 arg12 harg12) K := by
  simp only [cc0_in_proj_dw_eq_skeleton]
  unfold cc0_in_proj_dw_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d, %f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  rcases hs with ⟨l, u, g1, g2, g3, g4, g5, g6, g7, g8⟩ | ⟨l, u, g1, g2, g3, g4, g5, g6, g7, g8⟩ | ⟨l, u, g1, g2, g3, g4, g5, g6, g7, g8⟩
    | ⟨l, u, g1, g2, g3, g4, g5, g6, g7, g8⟩ | ⟨l, u, g1, g2, g3, g4, g5, g6, g7, g8⟩ | ⟨l, u, g1, g2, g3, g4, g5, g6, g7, g8⟩
    | ⟨l, u, g1, g2, g3, g4, g5, g6, g7, g8⟩ | ⟨l, u, g1, g2, g3, g4, g5, g6, g7, g8⟩
  all_goals
    sl_exec (disch := first | with_reducible assumption | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr
      swap; · iexact H9
      ipureintro
      refine Eq.trans (View.read_writes_full _ _ _ _ _) ?_
      unfold pick
      simp (disch := omega) only [if_pos, if_neg]
      exact congr (congr (congrArg k0_pay4 ((View.readAt_full _ _ _).trans hf0)) ((View.readAt_full _ _ _).trans (by assumption)))
        ((View.readAt_full _ _ _).trans hf10)
    iexists _; isplitr; · ipureintro; exact harg12.read_unread _
    iexact H10

end Cert.InProjDwIdeal.Own
-- ==== Proof.InProjDwIdealOwn.lean ====
module

public import proofs.«01_k».proof.Proof.InProjDwIdealRun
public import Idealize.ShloMosaic.Lib.VecWindow
public import Idealize.ShloMosaic.Lib.Tactic
public import Idealize.ShloMosaic.Lib.Claim

@[expose] public section

set_option maxRecDepth 16384

noncomputable section

namespace Cert.InProjDwIdeal.Own

open Cert.InProjDwIdeal Cert.InProjDwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The scratch the sum is kept in. -/
abbrev scr : Memref sig .tc .vmem S1024x512 .f32 := Memref.whole cc0_scratch0

/-- The block of the cotangent that belongs to point `t`: the current block of its column's segment. -/
def seg (c : Dev nD) (t : Fin cfg0.N) : Vec F S1024x512 .bf16 :=
  pick (t.val / 8) (iblk m c 1 t) (iblk m c 2 t) (iblk m c 3 t) (iblk m c 4 t) (iblk m c 5 t) (iblk m c 6 t) (iblk m c 7 t) (iblk m c 8 t)

/-- The scratch after point `n`: it starts over at each column's first row block, and the last row block leaves it. -/
def acc (c : Dev nD) : (n : ℕ) → n < cfg0.N → Vec F S1024x512 .f32
  | 0, h => k0_pay2 (iblk m c 0 ⟨0, h⟩) (seg m c ⟨0, h⟩)
  | n + 1, h =>
    if (n + 1) % 8 = 0 then k0_pay2 (iblk m c 0 ⟨n + 1, h⟩) (seg m c ⟨n + 1, h⟩)
    else if (n + 1) % 8 = 7 then acc c n (Nat.lt_of_succ_lt h)
    else k0_pay3 (iblk m c 0 ⟨n + 1, h⟩) (seg m c ⟨n + 1, h⟩) (acc c n (Nat.lt_of_succ_lt h))

theorem prev_lt (t : Fin cfg0.N) : t.val - 1 < cfg0.N := Nat.lt_of_le_of_lt (Nat.sub_le _ _) t.isLt

theorem acc_first (c : Dev nD) (t : Fin cfg0.N) (h : t.val % 8 = 0) : acc m c t.val t.isLt = k0_pay2 (iblk m c 0 t) (seg m c t) := by
  obtain ⟨n, hn⟩ := t
  cases n with
  | zero => rfl
  | succ n => exact if_pos h

theorem acc_inner (c : Dev nD) (t : Fin cfg0.N) (h : ¬t.val % 8 = 0) (h' : ¬t.val % 8 = 7) :
    acc m c t.val t.isLt = k0_pay3 (iblk m c 0 t) (seg m c t) (acc m c (t.val - 1) (prev_lt t)) := by
  obtain ⟨n, hn⟩ := t
  cases n with
  | zero => exact absurd (Nat.zero_mod _) h
  | succ n => exact (if_neg h).trans (if_neg h')

theorem acc_keep (c : Dev nD) (t : Fin cfg0.N) (h : t.val % 8 = 7) : acc m c t.val t.isLt = acc m c (t.val - 1) (prev_lt t) := by
  obtain ⟨n, hn⟩ := t
  cases n with
  | zero => exact absurd (show 0 % 8 = 7 from h) (by decide)
  | succ n => exact (if_neg (by dsimp only at h; omega)).trans (if_pos h)

/-- What the last row block writes out: the sum so far and the block's own product. -/
def out (c : Dev nD) (t : Fin cfg0.N) : Vec F S1024x512 .bf16 := k0_pay4 (iblk m c 0 t) (seg m c t) (acc m c (t.val - 1) (prev_lt t))

/-- What the scratch and the generator's register hold before point `n`. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) scr fullShare (acc m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scr fullShare (acc m c n hn) ∗ (∃ r, prngReg c r)) := rfl

theorem PhiS_pos (c : Dev nD) (n : ℕ) (h : n ≤ cfg0.N) (hz : n ≠ 0) :
    PhiS m c n h = iprop(owns (c : Thread nD τ) scr fullShare (acc m c (n - 1) (by omega)) ∗ (∃ r, prngReg c r)) := by
  cases n with
  | zero => exact absurd rfl hz
  | succ n => rfl

theorem PhiA_eq (c : Dev nD) : (Pipeline.ΦA spec0 c : sProp (MT nD τ sig Unit (Elt F) ℕ (UR sig nD τ) ℕ))
    = iprop((∃ d, owns (c : Thread nD τ) scr fullShare d) ∗ (∃ r, prngReg c r)) := by
  unfold Pipeline.ΦA; rw [scopedRest0_eq]; simp only [scr, owns_whole]; try rfl

/-- The pipeline's data: after point `t` each operand's buffer holds its block, the result's what the last row block writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = out m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- An operand's buffer is left as the data say. -/
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by
  unfold Dat.leavesExact; rw [show cfg0.idle 8 (grid0.coords t) = false from rfl, after_8]

theorem idle_9 : ∀ t : Fin cfg0.N, ¬t.val % 8 = 7 → cfg0.idle 9 (grid0.coords t) = true :=
  (by decide +kernel : ∀ t : Fin grid0.N, ¬t.val % 8 = 7 → idle0 9 (grid0.coords t) = true)

theorem live_9 : ∀ t : Fin cfg0.N, t.val % 8 = 7 → cfg0.idle 9 (grid0.coords t) = false :=
  (by decide +kernel : ∀ t : Fin grid0.N, t.val % 8 = 7 → idle0 9 (grid0.coords t) = false)

theorem noFlush_9 (t : Fin cfg0.N) (h : ¬t.val % 8 = 7) : (cfg0.win 9).flush t = false :=
  Bool.eq_false_iff.mpr fun hf => h ((flush0_9 t).mp hf)

theorem leaves_9_idle (c : Dev nD) (t : Fin cfg0.N) (h : ¬t.val % 8 = 7) :
    (dats m 0 c).leavesExact 9 t = iprop(∃ d, owns (c : Thread nD τ) (st0_9 t) fullShare ((dats m 0 c).before 9 t d)) :=
  Dat.leavesExact_idle (dats m 0 c) 9 t (idle_9 t h) (noFlush_9 t h)

theorem leaves_9_last (c : Dev nD) (t : Fin cfg0.N) (h : t.val % 8 = 7) :
    (dats m 0 c).leavesExact 9 t = owns (c : Thread nD τ) (st0_9 t) fullShare (out m c t) := by
  unfold Dat.leavesExact; rw [live_9 t h, after_9]

/-- What the body is called with at point `t`, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1900000 in
/-- The body at any point: one of the three runs, by the point's row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_8]
  by_cases h0 : t.val % 8 = 0
  · have h1 : ¬inner (grid0.coords t) := fun h => by have := (inner_iff t).mp h; omega
    have h2 : ¬last (grid0.coords t) := fun h => by have := (last_iff t).mp h; omega
    rw [leaves_9_idle m c t (by omega), acc_first m c t h0, PhiS_castSucc m c t]
    by_cases hz : t.val = 0
    · rw [PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) (t.val / 8) _ _ _ _ _ _ _ _ _ _ _ _ _ _ _ _ _ _ _ _ scr (Memref.isWhole_whole _) ((first_iff t).mpr h0) h1 h2 (sel_at t) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) (t.val / 8) _ _ _ _ _ _ _ _ _ _ _ _ _ _ _ _ _ _ _ _ scr (Memref.isWhole_whole _) ((first_iff t).mpr h0) h1 h2 (sel_at t) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexists _; iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    have hf : ¬first (grid0.coords t) := fun h => h0 ((first_iff t).mp h)
    rw [PhiS_castSucc m c t, PhiS_pos m c _ _ hz]
    by_cases h7 : t.val % 8 = 7
    · have h1 : ¬inner (grid0.coords t) := fun h => by have := (inner_iff t).mp h; omega
      rw [leaves_9_last m c t h7, acc_keep m c t h7]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_last c (grid0.coords t) (t.val / 8) _ _ _ _ _ _ _ _ _ _ _ _ _ _ _ _ _ _ _ _ scr (Memref.isWhole_whole _) hf h1 ((last_iff t).mpr h7) (sel_at t) (iblk m c 0 t) (iblk m c 1 t) (iblk m c 2 t) (iblk m c 3 t) (iblk m c 4 t) (iblk m c 5 t) (iblk m c 6 t) (iblk m c 7 t) (iblk m c 8 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have h2 : ¬last (grid0.coords t) := fun h => h7 ((last_iff t).mp h)
      rw [leaves_9_idle m c t h7, acc_inner m c t h0 h7]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_inner c (grid0.coords t) (t.val / 8) _ _ _ _ _ _ _ _ _ _ _ _ _ _ _ _ _ _ _ _ scr (Memref.isWhole_whole _) hf ((inner_iff t).mpr (by omega)) h2 (sel_at t) (iblk m c 0 t) (iblk m c 1 t) (iblk m c 2 t) (iblk m c 3 t) (iblk m c 4 t) (iblk m c 5 t) (iblk m c 6 t) (iblk m c 7 t) (iblk m c 8 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 152 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

set_option backward.isDefEq.respectTransparency.types false in
/-- Every run of the program ends with the arrays as the data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.InProjDwIdeal.Own

end
-- ==== Proof.InProjDwSame.lean ====
module
public import proofs.«01_k».proof.Proof.InProjDwIdealOwn
public import proofs.«01_k».proof.Proof.Gen.InProjDw
public import proofs.«01_k».proof.Defs

@[expose] public section

set_option maxRecDepth 16384
noncomputable section
open Idealize.ShloMosaic
namespace Cert.InProjDw.Own
variable {F : FTy → Type} [FloatOps F]

/-- The kernel and its idealization are one text, so they have one body table, -/
theorem same_body : @Cert.InProjDw.defs₀ F _ _ = @Cert.InProjDwIdeal.defs₀ F _ _ :=
  congrArg Defs.onTc (funext fun l => funext fun a => by
    match l, a with
    | 0, (t, s) => rfl
    | ⟨n + 1, h⟩, _ => exact absurd h (Nat.not_lt.2 (Nat.le_add_left _ _)))

/-- and one table of calls. -/
theorem same_defs : @Cert.InProjDw.defs F _ _ = @Cert.InProjDwIdeal.defs F _ _ :=
  congrArg (Pipeline.defs Cert.InProjDwIdeal.pcfgs) same_body

/-- The kernel runs, leaves its arguments as they were and every semaphore at zero. -/
theorem frame : @Cert.quiescent_InProjDw Cert.InProjDw.Gen.facts := fun m g _ => by
  rw [same_defs]
  exact Cert.InProjDwIdeal.Own.frame m g

end Cert.InProjDw.Own
-- ==== Proof.InProjDwValue.lean ====
module

public import proofs.«01_k».proof.Proof.InProjDwIdealOwn
public import proofs.«01_k».proof.Proof.Gen.InProjDwRefIdeal.Run
public import proofs.«01_k».proof.Proof.Gen.InProjDwRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.InProjDxPads

@[expose] public section

set_option maxRecDepth 16384
noncomputable section
open Idealize.ShloMosaic Idealize.ShloMosaic.TcCoe Idealize.SL.Sem
open Idealize.ShloMosaic.Pipeline (Dat)
namespace Cert.InProjDwIdeal.Own
open Cert.InProjDwIdeal Cert.InProjDwIdeal.Gen
variable (m : (ℓ : Loc nD τ sig) → Buf (Elt Ideal) ℓ)

theorem idx : ∀ t : Fin cfg0.N, win0_0.index t = ![0, t.val % 8] ∧ win0_9.index t = ![0, t.val / 8] := (by decide +kernel : ∀ t : Fin grid0.N, _)
theorem idx_1 : ∀ t : Fin cfg0.N, t.val / 8 < 6 → win0_1.index t = ![t.val % 8, t.val / 8] := (by decide +kernel : ∀ t : Fin grid0.N, _)
theorem idx_2 : ∀ t : Fin cfg0.N, 6 ≤ t.val / 8 ∧ t.val / 8 < 8 → win0_2.index t = ![t.val % 8, t.val / 8 - 6] := (by decide +kernel : ∀ t : Fin grid0.N, _)
theorem idx_3 : ∀ t : Fin cfg0.N, 8 ≤ t.val / 8 ∧ t.val / 8 < 10 → win0_3.index t = ![t.val % 8, t.val / 8 - 8] := (by decide +kernel : ∀ t : Fin grid0.N, _)
theorem idx_4 : ∀ t : Fin cfg0.N, 10 ≤ t.val / 8 ∧ t.val / 8 < 12 → win0_4.index t = ![t.val % 8, t.val / 8 - 10] := (by decide +kernel : ∀ t : Fin grid0.N, _)
theorem idx_5 : ∀ t : Fin cfg0.N, 12 ≤ t.val / 8 ∧ t.val / 8 < 14 → win0_5.index t = ![t.val % 8, t.val / 8 - 12] := (by decide +kernel : ∀ t : Fin grid0.N, _)
theorem idx_6 : ∀ t : Fin cfg0.N, 14 ≤ t.val / 8 ∧ t.val / 8 < 16 → win0_6.index t = ![t.val % 8, t.val / 8 - 14] := (by decide +kernel : ∀ t : Fin grid0.N, _)
theorem idx_7 : ∀ t : Fin cfg0.N, 16 ≤ t.val / 8 ∧ t.val / 8 < 18 → win0_7.index t = ![t.val % 8, t.val / 8 - 16] := (by decide +kernel : ∀ t : Fin grid0.N, _)
theorem idx_8 : ∀ t : Fin cfg0.N, 18 ≤ t.val / 8 → win0_8.index t = ![t.val % 8, t.val / 8 - 18] := (by decide +kernel : ∀ t : Fin grid0.N, _)

/-- One row block's part of a row of the transposed operand with a column of the joined cotangent. -/
def part (X : FVec Ideal S1024x1024 .bf16) (W : FVec Ideal S1024x512 .bf16) (j : S1024x512.Idx) : EReal := ∑ k : Fin 1024, X (ix2 (j 0) k) * W (ix2 k (j 1))

theorem pay2 (X : FVec Ideal S1024x1024 .bf16) (W : FVec Ideal S1024x512 .bf16) (j) : k0_pay2 (F := Ideal) X W j = 0 + part X W j := by
  rw [zero_add]; pointwise [k0_pay2, k0_pay1, part]

theorem pay3 (X : FVec Ideal S1024x1024 .bf16) (W : FVec Ideal S1024x512 .bf16) (A : FVec Ideal S1024x512 .f32) (j) :
    k0_pay3 (F := Ideal) X W A j = A j + part X W j := by
  pointwise [k0_pay3, k0_pay1, part]

theorem pay4 (X : FVec Ideal S1024x1024 .bf16) (W : FVec Ideal S1024x512 .bf16) (A : FVec Ideal S1024x512 .f32) (j) :
    k0_pay4 (F := Ideal) X W A j = A j + part X W j := by
  pointwise [k0_pay4, k0_pay1, part]

/-- The sum after a point: the scratch, and at a column's last point what is written out of it. -/
def total (c : Dev nD) (n : Nat) (h : n < cfg0.N) (j : S1024x512.Idx) : EReal :=
  if n % 8 = 7 then acc m c (n - 1) (Nat.lt_of_le_of_lt (Nat.sub_le _ _) h) j + part (iblk m c 0 ⟨n, h⟩) (seg m c ⟨n, h⟩) j
  else acc m c n h j

theorem total_reset (c : Dev nD) (t : Fin cfg0.N) (h : t.val % 8 = 0) (j) :
    total m c t.val t.isLt j = 0 + part (iblk m c 0 t) (seg m c t) j := by
  unfold total
  rw [if_neg (by omega), acc_first m c t h]
  exact pay2 _ _ _

theorem total_step (c : Dev nD) (t : Fin cfg0.N) (h : ¬t.val % 8 = 0) (j) :
    total m c t.val t.isLt j = total m c (t.val - 1) (Nat.lt_of_le_of_lt (Nat.sub_le _ _) t.isLt) j + part (iblk m c 0 t) (seg m c t) j := by
  unfold total
  rw [if_neg (by omega : ¬(t.val - 1) % 8 = 7)]
  by_cases h7 : t.val % 8 = 7
  · rw [if_pos h7]
  · rw [if_neg h7, acc_inner m c t h h7]
    exact pay3 _ _ _ _

theorem total_last (c : Dev nD) (t : Fin cfg0.N) (h : t.val % 8 = 7) (j) :
    acc m c (t.val - 1) (prev_lt t) j + part (iblk m c 0 t) (seg m c t) j
      = ∑ s : Fin 8, part (iblk m c 0 ⟨8 * (t.val / 8) + s.val, Pipeline.run_point_lt_of_flush t h s⟩)
          (seg m c ⟨8 * (t.val / 8) + s.val, Pipeline.run_point_lt_of_flush t h s⟩) j := by
  have e := Pipeline.eq_sum_fin_of_reset_step_apply_of_flush (total m c) 8 (fun _ => 0) (fun t j => part (iblk m c 0 t) (seg m c t) j)
    (total_reset m c) (total_step m c) t h j
  rw [zero_add] at e
  refine Eq.trans ?_ e
  unfold total
  rw [if_pos h]

/-- The two gradients of the input product read one joined cotangent. -/
theorem same_cotangent (x0 : (⟨S8192x3072, .bf16⟩ : BufTy).Contents (Elt Ideal)) (x1 x2 x3 x4 x5 x6 : (⟨S8192x1024, .bf16⟩ : BufTy).Contents (Elt Ideal))
    (x7 : (⟨S8192x512, .bf16⟩ : BufTy).Contents (Elt Ideal)) :
    Cert.InProjDwRefIdeal.Read.val_main_v34 (F := Ideal) x0 x1 x2 x3 x4 x5 x6 x7 = Cert.InProjDxRefIdeal.Read.val_main_v33 (F := Ideal) x0 x1 x2 x3 x4 x5 x6 x7 := rfl

open Cert.InProjDwRefIdeal.Read in
open Cert.InProjDxIdeal.Own (pick_in pick_out joined) in
/-- The block of a segment is the joined cotangent at its rows and columns. -/
theorem seg_eq (c : Dev nD) (t : Fin cfg0.N) (a : Fin 1024) (k : Fin 512) (r : Fin 8192) (q : Fin 9728) (hr : r.val = 1024 * (t.val % 8) + a.val)
    (hq : q.val = 512 * (t.val / 8) + k.val) : seg m c t (ix2 a k)
      = val_main_v34 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r q) := by
  rw [same_cotangent, joined]
  unfold seg pick
  have hk := k.isLt
  by_cases h1 : t.val / 8 < 6
  · rw [if_pos h1]
    simp (disch := omega) only [pick_in, pick_out, zero_add, add_zero]
    blk_point [iblk, V, idx_1 t h1]
  rw [if_neg h1]
  by_cases h2 : t.val / 8 < 8
  · rw [if_pos h2]
    simp (disch := omega) only [pick_in, pick_out, zero_add, add_zero]
    blk_point [iblk, V, idx_2 t ⟨by omega, h2⟩]
  rw [if_neg h2]
  by_cases h3 : t.val / 8 < 10
  · rw [if_pos h3]
    simp (disch := omega) only [pick_in, pick_out, zero_add, add_zero]
    blk_point [iblk, V, idx_3 t ⟨by omega, h3⟩]
  rw [if_neg h3]
  by_cases h4 : t.val / 8 < 12
  · rw [if_pos h4]
    simp (disch := omega) only [pick_in, pick_out, zero_add, add_zero]
    blk_point [iblk, V, idx_4 t ⟨by omega, h4⟩]
  rw [if_neg h4]
  by_cases h5 : t.val / 8 < 14
  · rw [if_pos h5]
    simp (disch := omega) only [pick_in, pick_out, zero_add, add_zero]
    blk_point [iblk, V, idx_5 t ⟨by omega, h5⟩]
  rw [if_neg h5]
  by_cases h6 : t.val / 8 < 16
  · rw [if_pos h6]
    simp (disch := omega) only [pick_in, pick_out, zero_add, add_zero]
    blk_point [iblk, V, idx_6 t ⟨by omega, h6⟩]
  rw [if_neg h6]
  by_cases h7 : t.val / 8 < 18
  · rw [if_pos h7]
    simp (disch := omega) only [pick_in, pick_out, zero_add, add_zero]
    blk_point [iblk, V, idx_7 t ⟨by omega, h7⟩]
  rw [if_neg h7]
  simp (disch := omega) only [pick_in, pick_out, zero_add, add_zero]
  blk_point [iblk, V, idx_8 t (by omega)]

open Cert.InProjDwRefIdeal.Read in
/-- The result array after the run is the reference's gradient. -/
theorem final (c : Dev nD) : (dats m 0 c).arrAt 9 (cfgs 0).N = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  have h := (flush0_9 t).mp hf
  blk_simp
  rw [after_9]
  unfold out
  refine (pay4 _ _ _ _).trans ((total_last m c t h y).trans ?_)
  pointwise [part, val_main_v37, val_main_v36, val_main_v35, val_main_v1, val_main_v0]
  refine Fin.sum_mul_add_congr fun s k hl => ?_
  refine Eq.trans (EReal.mul_comm _ _) ?_
  have hs := s.isLt
  have e1 : (8 * (t.val / 8) + s.val) / 8 = t.val / 8 := by omega
  have e2 : (8 * (t.val / 8) + s.val) % 8 = s.val := by omega
  refine congrArg₂ (fun x y : EReal => x * y) ?_ ?_
  · refine seg_eq m c ⟨_, Pipeline.run_point_lt_of_flush t h s⟩ k _ _ _ ?_ ?_
    · dsimp only
      omega
    · blk_simp [idx t]
      dsimp only
      omega
  · blk_point [iblk, V, idx t, idx ⟨_, Pipeline.run_point_lt_of_flush t h s⟩]

/-- The idealized kernel runs and leaves every semaphore at zero. -/
theorem frame_ideal : @Cert.quiescent_InProjDwIdeal Cert.InProjDwIdeal.Gen.facts := fun m g _ => frame m g

/-- The idealized reference runs and leaves every semaphore at zero. -/
theorem frame_ref : @Cert.quiescent_InProjDwRefIdeal Cert.InProjDwRefIdeal.Gen.facts := by
  intro m g _
  hlo_run
  · exact fun _ => ⟨trivial, trivial, trivial, trivial, trivial, trivial, trivial, trivial, trivial⟩
  · exact sem_eq_zero_of_no_sems (sig := Cert.InProjDwRefIdeal.sig) (by decide) _

/-- The kernel's result is the reference's. -/
theorem value : @Cert.algebraic_InProjDwIdeal_InProjDwRefIdeal Cert.InProjDwIdeal.Gen.facts Cert.InProjDwRefIdeal.Gen.facts := by
  pair_intro
  · run_from Cert.InProjDwIdeal.Own.run_main m g
  · refine θ_run_mono (Cert.InProjDwRefIdeal.Value.run (F := Ideal) m' g') fun r h c => ?_
    obtain ⟨a0, a1, a2, a3, a4, a5, a6, a7, a8⟩ := hagree c
    exact ⟨(h c).1.trans ((Cert.InProjDwRefIdeal.Read.val_main_v37_eq _ _ _ _ _ _ _ _ _).trans
      ((Cert.Agree.on9 Cert.InProjDwRefIdeal.Read.val_main_v37 a0 a1 a2 a3 a4 a5 a6 a7 a8).trans (final m c).symm)), (h c).2⟩

end Cert.InProjDwIdeal.Own
-- ==== Proof.OutProjDwValue.lean ====
module

public import proofs.«01_k».proof.Proof.Gen.OutProjDwIdeal.Value
public import proofs.«01_k».proof.Proof.Gen.OutProjDwRefIdeal.Run
public import proofs.«01_k».proof.Proof.Gen.OutProjDwRefIdeal.Read
public import proofs.«01_k».proof.Defs
public import proofs.«01_k».proof.Proof.Gen.Pre_out_proj_dw_inputs_finite
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.GatedReal

@[expose] public section

set_option maxRecDepth 16384
noncomputable section
open Idealize.ShloMosaic Idealize.ShloMosaic.TcCoe Idealize.SL.Sem
open Idealize.ShloMosaic.Pipeline (Dat)
namespace Cert.OutProjDwIdeal.Own
open Cert.OutProjDwIdeal Cert.OutProjDwIdeal.Gen
variable (m : (ℓ : Loc nD τ sig) → Buf (Elt Ideal) ℓ)

theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![0, 0] :=
  (by decide +kernel : ∀ t : Fin grid0.N, _)

/-- One block's part of a column's product with a column of the incoming gradient. -/
def part (X : FVec Ideal S1024x1024 .f32) (D : FVec Ideal S1024x1024 .f32) (j : S1024x1024.Idx) : EReal :=
  ∑ k : Fin 1024, X (ix2 k (j 0)) * D (ix2 k (j 1))

theorem pay2 (X : FVec Ideal S1024x1024 .f32) (D : FVec Ideal S1024x1024 .f32) (j) : k0_pay2 (F := Ideal) X D j = 0 + part X D j := by
  rw [zero_add]; pointwise [k0_pay2, k0_pay1, part]

theorem pay3 (X : FVec Ideal S1024x1024 .f32) (D A : FVec Ideal S1024x1024 .f32) (j) : k0_pay3 (F := Ideal) X D A j = A j + part X D j := by
  pointwise [k0_pay3, k0_pay1, part]

theorem pay4 (j) : k0_pay4 (F := Ideal) j = 0 := by pointwise [k0_pay4]

theorem pay6 (X : FVec Ideal S1024x1024 .f32) (D A : FVec Ideal S1024x1024 .f32) (g : FVec Ideal S1x1024 .f32) (j) :
    k0_pay6 (F := Ideal) X D A g j = (A j + part X D j) * g (ix2 0 (j 1)) := by
  pointwise [k0_pay6, k0_pay5, k0_pay1, part]

theorem pay7 (X : FVec Ideal S1024x1024 .f32) (D A : FVec Ideal S1024x1024 .f32) (g : FVec Ideal S1x1024 .f32) (W : FVec Ideal S1024x1024 .bf16) (j) :
    k0_pay7 (F := Ideal) X D A g W j = g j + ∑ i : Fin 1024, (A (ix2 i (j 1)) + part X D (ix2 i (j 1))) * W (ix2 i (j 1)) := by
  pointwise [k0_pay7, k0_pay5, k0_pay1, part]

/-- The scratch read back is what was left in it. -/
theorem kept (A : FVec Ideal S1024x1024 .f32) (j : S1024x1024.Idx) :
    View.read (Elt Ideal) (View.whole cc0_scratch0) ((Memref.isWhole_whole cc0_scratch0).unread A) j = A j :=
  congrFun (read_unread_whole (Val := Elt Ideal) cc0_scratch0 (Memref.isWhole_whole cc0_scratch0) A) j

/-- The scratch before a point. -/
abbrev before (c : Dev nD) (t : Fin cfg0.N) : FVec Ideal S1024x1024 .f32 :=
  (outsAt0 m c (t.val - 1) (Nat.lt_of_le_of_lt (Nat.sub_le _ _) t.isLt)).2.2

/-- The sum the kernel carries after a point: the scratch, and at a run's last point what it writes out of it. -/
def acc (c : Dev nD) (n : Nat) (h : n < cfg0.N) (j : S1024x1024.Idx) : EReal :=
  if n % 8 = 7 then before m c ⟨n, h⟩ j + part (iblk m c 0 ⟨n, h⟩) (iblk m c 1 ⟨n, h⟩) j
  else (outsAt0 m c n h).2.2 j

theorem acc_reset (c : Dev nD) (t : Fin cfg0.N) (h : t.val % 8 = 0) (j) :
    acc m c t.val t.isLt j = 0 + part (iblk m c 0 t) (iblk m c 1 t) j := by
  unfold acc
  rw [if_neg (by omega)]
  rw [outsAt0_A m c t h (by omega) h (by omega)]
  frame_out
  exact pay2 _ _ _

theorem acc_step (c : Dev nD) (t : Fin cfg0.N) (h : ¬t.val % 8 = 0) (j) :
    acc m c t.val t.isLt j = acc m c (t.val - 1) (Nat.lt_of_le_of_lt (Nat.sub_le _ _) t.isLt) j + part (iblk m c 0 t) (iblk m c 1 t) j := by
  unfold acc
  rw [if_neg (by omega : ¬(t.val - 1) % 8 = 7)]
  by_cases h7 : t.val % 8 = 7
  · rw [if_pos h7]
  · rw [if_neg h7, outsAt0_B m c t h (by omega) (by omega) h7]
    frame_out
    exact (pay3 _ _ _ _).trans (congrArg (· + part (iblk m c 0 t) (iblk m c 1 t) j) (kept _ j))

/-- A column of the saved rows against a column of the incoming gradient, over all rows. -/
def G (R : FVec Ideal S8192x1024 .f32) (D : FVec Ideal S8192x1024 .f32) (p : Fin 1024) (q : Fin 1024) : EReal :=
  ∑ n : Fin 8192, R (ix2 n p) * D (ix2 n q)

theorem acc_last (c : Dev nD) (t : Fin cfg0.N) (h : t.val % 8 = 7) (j : S1024x1024.Idx) :
    before m c t j + part (iblk m c 0 t) (iblk m c 1 t) j
      = G (m ((c : Thread nD τ).loc main_arg0)) (m ((c : Thread nD τ).loc main_arg1)) (j 0) (j 1) := by
  have e := Pipeline.eq_sum_fin_of_reset_step_apply_of_flush (acc m c) 8 (fun _ => 0) (fun t j => part (iblk m c 0 t) (iblk m c 1 t) j)
    (acc_reset m c) (acc_step m c) t h j
  rw [zero_add] at e
  unfold acc at e
  rw [if_pos h] at e
  refine e.trans ?_
  unfold part G
  refine Fin.sum_mul_add_congr fun s k hl => ?_
  have ht : t.val < 8 := t.isLt
  blk_point [iblk, V, idx ⟨_, Pipeline.run_point_lt_of_flush t h s⟩]

theorem gate_at (c : Dev nD) (t : Fin cfg0.N) (q : Fin 1024) : iblk m c 2 t (ix2 0 q) = m ((c : Thread nD τ).loc main_arg2) (ix2 0 q) := by
  blk_ext [iblk, V, idx t]

open Cert.OutProjDwRefIdeal.Read in
/-- The weights' gradient after the run is the reference's. -/
theorem final4 (c : Dev nD) (hR : ∀ i, ∃ x : ℝ, (m ((c : Thread nD τ).loc main_arg0) i : EReal) = (x : EReal))
    (hD : ∀ i, ∃ x : ℝ, (m ((c : Thread nD τ).loc main_arg1) i : EReal) = (x : EReal))
    (hg : ∀ i, ∃ x : ℝ, (m ((c : Thread nD τ).loc main_arg2) i : EReal) = (x : EReal)) : (dats m 0 c).arrAt 4 (cfgs 0).N
    = val_main_v11 (F := Ideal) (m ((c : Thread nD τ).loc main_arg0)) (m ((c : Thread nD τ).loc main_arg1))
      (m ((c : Thread nD τ).loc main_arg2)) := by
  refine (dats m 0 c).arrAt_eq_of_covers 4 _ (by decide +kernel) fun t hf y => ?_
  have h := (flush0_4 t).mp hf
  blk_simp
  rw [after0_4, outsAt0_C m c t (by omega) (by omega) (by omega) h]
  frame_out
  refine (pay6 _ _ _ _ _).trans ?_
  rw [show ∀ A : FVec Ideal S1024x1024 .f32, View.read (Elt Ideal) (View.whole cc0_scratch0) ((Memref.isWhole_whole cc0_scratch0).unread A) y = A y
    from fun A => kept A y]
  refine (congrArg (· * _) (acc_last m c t h y)).trans ?_
  unfold G
  refine (Cert.Gated.weight_grad _ _ _ (fun k => hR _) (fun k => hD _) ?_).trans ?_
  · rw [gate_at m c t (y 1)]
    exact hg _
  pointwise [val_main_v11, val_main_v10, val_main_v9, val_main_v5, val_main_v4]
  refine Finset.sum_congr rfl fun k _ => ?_
  blk_point [iblk, V, idx t]

/-- What the last point adds to the gate's gradient. -/
def share (c : Dev nD) (q : Fin 1024) : EReal :=
  ∑ i : Fin 1024, G (m ((c : Thread nD τ).loc main_arg0)) (m ((c : Thread nD τ).loc main_arg1)) i q * m ((c : Thread nD τ).loc main_arg3) (ix2 i q)

/-- What a point adds to the gate's gradient. -/
def added (c : Dev nD) (t : Fin cfg0.N) (j : S1x1024.Idx) : EReal := if t.val % 8 = 7 then share m c (j 1) else 0

theorem dg_reset (c : Dev nD) (t : Fin cfg0.N) (h : t.val % 8 = 0) (j : S1x1024.Idx) :
    (outsAt0 m c t.val t.isLt).2.1 j = 0 + added m c t j := by
  unfold added
  rw [if_neg (by omega), outsAt0_A m c t h (by omega) h (by omega)]
  frame_out
  rw [pay4, zero_add]

theorem dg_step (c : Dev nD) (t : Fin cfg0.N) (h : ¬t.val % 8 = 0) (j : S1x1024.Idx) :
    (outsAt0 m c t.val t.isLt).2.1 j = (outsAt0 m c (t.val - 1) (Nat.lt_of_le_of_lt (Nat.sub_le _ _) t.isLt)).2.1 j + added m c t j := by
  unfold added
  by_cases h7 : t.val % 8 = 7
  · rw [if_pos h7, outsAt0_C m c t (by omega) (by omega) h h7]
    frame_out
    refine (pay7 _ _ _ _ _ _).trans (congrArg ((outsAt0 m c (t.val - 1) (Nat.lt_of_le_of_lt (Nat.sub_le _ _) t.isLt)).2.1 j + ·) ?_)
    refine Finset.sum_congr rfl fun i _ => congrArg₂ (· * ·) ((congrArg (fun z : EReal => z + part (iblk m c 0 t) (iblk m c 1 t) (ix2 i (j 1))) (kept _ _)).trans (acc_last m c t h7 (ix2 i (j 1)))) ?_
    blk_ext [iblk, V, idx t]
  · rw [if_neg h7, add_zero]
    rw [outsAt0_B m c t h (by omega) h h7]
    rfl

theorem added_sum (c : Dev nD) (t : Fin cfg0.N) (h : t.val % 8 = 7) (j : S1x1024.Idx) :
    ∑ s : Fin 8, added m c ⟨8 * (t.val / 8) + s.val, Pipeline.run_point_lt_of_flush t h s⟩ j = share m c (j 1) := by
  have ht : t.val < 8 := t.isLt
  have e : ∀ s : Fin 8, added m c ⟨8 * (t.val / 8) + s.val, Pipeline.run_point_lt_of_flush t h s⟩ j = if s = 7 then share m c (j 1) else 0 := fun s => by
    unfold added
    have hv : (8 * (t.val / 8) + s.val) % 8 = s.val := by omega
    simp only [hv, Fin.ext_iff]
    rfl
  rw [Finset.sum_congr rfl fun s _ => e s, Finset.sum_ite_eq' Finset.univ (7 : Fin 8)]
  simp

open Cert.OutProjDwRefIdeal.Read in
/-- The gate's gradient after the run is the reference's. -/
theorem final5 (c : Dev nD) (hR : ∀ i, ∃ x : ℝ, (m ((c : Thread nD τ).loc main_arg0) i : EReal) = (x : EReal))
    (hD : ∀ i, ∃ x : ℝ, (m ((c : Thread nD τ).loc main_arg1) i : EReal) = (x : EReal))
    (hW : ∀ i, ∃ x : ℝ, (m ((c : Thread nD τ).loc main_arg3) i : EReal) = (x : EReal)) : (dats m 0 c).arrAt 5 (cfgs 0).N
    = val_main_v8 (F := Ideal) (m ((c : Thread nD τ).loc main_arg0)) (m ((c : Thread nD τ).loc main_arg1))
      (m ((c : Thread nD τ).loc main_arg3)) := by
  refine (dats m 0 c).arrAt_eq_of_covers 5 _ (by decide +kernel) fun t hf y => ?_
  have h := (flush0_5 t).mp hf
  blk_simp
  rw [after0_5, Pipeline.eq_sum_fin_of_reset_step_apply_of_flush (fun n h => (outsAt0 m c n h).2.1) 8 (fun _ => 0) (added m c)
    (dg_reset m c) (dg_step m c) t h y, zero_add]
  refine (added_sum m c t h y).trans ?_
  unfold share G
  refine (Cert.Gated.gate_grad _ _ _ (fun _ _ => hR _) (fun _ => hD _) (fun _ => hW _)).trans ?_
  pointwise [val_main_v8, val_main_v7, val_main_v6, val_main_cst, val_main_v1, val_main_v0]
  blk_point [iblk, V, idx t]

/-- The idealized kernel runs and leaves every semaphore at zero. -/
theorem frame_ideal : @Cert.quiescent_OutProjDwIdeal Cert.OutProjDwIdeal.Gen.facts := fun m g _ => Cert.OutProjDwIdeal.Gen.frame m g

/-- The same under the claim's precondition. -/
theorem frame_ideal_pre : @Cert.quiescent_OutProjDwIdeal_pre_out_proj_dw_inputs_finite Cert.OutProjDwIdeal.Gen.facts Cert.Pre_out_proj_dw_inputs_finite.Gen.facts :=
  fun m g _ => Cert.OutProjDwIdeal.Gen.frame m g

/-- The idealized reference runs and leaves every semaphore at zero. -/
theorem frame_ref : @Cert.quiescent_OutProjDwRefIdeal Cert.OutProjDwRefIdeal.Gen.facts := by
  intro m g _
  hlo_run
  · exact fun _ => ⟨trivial, trivial, trivial, trivial⟩
  · exact sem_eq_zero_of_no_sems (sig := Cert.OutProjDwRefIdeal.sig) (by decide) _

/-- The same under the claim's precondition. -/
theorem frame_ref_pre : @Cert.quiescent_OutProjDwRefIdeal_pre_out_proj_dw_inputs_finite Cert.OutProjDwRefIdeal.Gen.facts Cert.Pre_out_proj_dw_inputs_finite.Gen.facts :=
  fun m g _ => frame_ref m g trivial

/-- The kernel's results are the reference's, of finite arguments. -/
theorem value : @Cert.algebraic_OutProjDwIdeal_OutProjDwRefIdeal_pre_out_proj_dw_inputs_finite Cert.OutProjDwIdeal.Gen.facts Cert.OutProjDwRefIdeal.Gen.facts
    Cert.Pre_out_proj_dw_inputs_finite.Gen.facts := by
  pair_intro
  · run_from Cert.OutProjDwIdeal.Gen.run_main m g
  · refine θ_run_mono (Cert.OutProjDwRefIdeal.Value.run (F := Ideal) m' g') fun r h c => ?_
    obtain ⟨p0, p1, p2, p3⟩ := hpre c
    have hR := Cert.Gated.finite_at _ _ _ p0
    have hD := Cert.Gated.finite_at _ _ _ p1
    have hg := Cert.Gated.finite_at _ _ _ p2
    have hW := Cert.Gated.finite_at _ _ _ p3
    exact ⟨(h c).1.trans ((Cert.OutProjDwRefIdeal.Read.val_main_v11_eq _ _ _).trans
      ((Cert.Agree.on3 Cert.OutProjDwRefIdeal.Read.val_main_v11 (hagree c).1 (hagree c).2.1 (hagree c).2.2.1).trans (final4 m c hR hD hg).symm)),
      (h c).2.1.trans ((Cert.OutProjDwRefIdeal.Read.val_main_v8_eq _ _ _).trans
      ((Cert.Agree.on3 Cert.OutProjDwRefIdeal.Read.val_main_v8 (hagree c).1 (hagree c).2.1 (hagree c).2.2.2).trans (final5 m c hR hD hW).symm)), (h c).2.2⟩

end Cert.OutProjDwIdeal.Own
-- ==== Proof.OutProjDxValue.lean ====
module

public import proofs.«01_k».proof.Proof.Gen.OutProjDxIdeal.Value
public import proofs.«01_k».proof.Proof.Gen.OutProjDxRefIdeal.Run
public import proofs.«01_k».proof.Proof.Gen.OutProjDxRefIdeal.Read
public import proofs.«01_k».proof.Defs
public import Idealize.ShloMosaic.Lib.Claim
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.OutProjDxIdeal.Own
open Cert.OutProjDxIdeal Cert.OutProjDxIdeal.Gen
variable (m : (ℓ : Loc nD τ sig) → Buf (Elt Ideal) ℓ)

theorem idx : ∀ t : Fin cfg0.N, win0_0.index t = ![t.val, 0] ∧ win0_1.index t = ![0, 0] ∧ win0_2.index t = ![0, 0] ∧
    win0_3.index t = ![t.val, 0] :=
  (by decide +kernel : ∀ t : Fin grid0.N, _)

/-- The gate before the incoming gradient in every product of a sum. -/
theorem gate_first {n : Nat} (d g w : Fin n → EReal) : ∑ x, d x * g x * w x = ∑ x, g x * d x * w x :=
  Finset.sum_congr rfl fun x _ => congrArg (· * w x) (mul_comm (d x) (g x))

open Cert.OutProjDxRefIdeal.Read in
theorem point (c : Dev nD) (t : Fin cfg0.N) (y : S1024x1024.Idx) : k0_pay1 (iblk m c 0 t) (iblk m c 2 t) (iblk m c 1 t) y
    = val_main_v7 (F := Ideal) (m ((c : Thread nD τ).loc main_arg0)) (m ((c : Thread nD τ).loc main_arg1))
      (m ((c : Thread nD τ).loc main_arg2)) (((cfg0.win 3).blk t).view.emb y) := by
  pointwise [k0_pay1, val_main_v7, val_main_v6, val_main_v5, val_main_v0]
  refine Eq.trans (gate_first _ _ _) ?_
  blk_point [iblk, V, idx t]

open Cert.OutProjDxRefIdeal.Read in
/-- The result array after the run is the reference's gradient. -/
theorem final (c : Dev nD) : (dats m 0 c).arrAt 3 (cfgs 0).N
    = val_main_v7 (F := Ideal) (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]; frame_out
  exact point m c t y

/-- The idealized kernel runs and leaves every semaphore at zero. -/
theorem frame_ideal : @Cert.quiescent_OutProjDxIdeal Cert.OutProjDxIdeal.Gen.facts := fun m g _ => Cert.OutProjDxIdeal.Gen.frame m g

/-- The idealized reference runs and leaves every semaphore at zero. -/
theorem frame_ref : @Cert.quiescent_OutProjDxRefIdeal Cert.OutProjDxRefIdeal.Gen.facts := by
  intro m g _
  hlo_run
  · exact fun _ => ⟨trivial, trivial, trivial⟩
  · exact sem_eq_zero_of_no_sems (sig := Cert.OutProjDxRefIdeal.sig) (by decide) _

/-- The kernel's result is the reference's. -/
theorem value : @Cert.algebraic_OutProjDxIdeal_OutProjDxRefIdeal Cert.OutProjDxIdeal.Gen.facts Cert.OutProjDxRefIdeal.Gen.facts := by
  pair_intro
  · run_from Cert.OutProjDxIdeal.Gen.run_main m g
  · refine θ_run_mono (Cert.OutProjDxRefIdeal.Value.run (F := Ideal) m' g') fun r h c => ?_
    exact ⟨(h c).1.trans ((Cert.OutProjDxRefIdeal.Read.val_main_v7_eq _ _ _).trans
      ((Cert.Agree.on3 Cert.OutProjDxRefIdeal.Read.val_main_v7 (hagree c).1 (hagree c).2.1 (hagree c).2.2).trans (final m c).symm)), (h c).2⟩

end Cert.OutProjDxIdeal.Own
-- ==== Proof.InProjValue.lean ====
module

public import proofs.«01_k».proof.Proof.Gen.InProjIdeal.Value
public import proofs.«01_k».proof.Proof.Gen.InProjRefIdeal.Run
public import proofs.«01_k».proof.Proof.Gen.InProjRefIdeal.Read
public import proofs.«01_k».proof.Defs
public import Idealize.ShloMosaic.Lib.Claim
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.InProjIdeal.Own
open Cert.InProjIdeal Cert.InProjIdeal.Gen
variable (m : (ℓ : Loc nD τ sig) → Buf (Elt Ideal) ℓ)

theorem idx : ∀ t : Fin cfg0.N, win0_0.index t = ![t.val / 19, 0] ∧ win0_1.index t = ![0, t.val % 19] ∧ win0_2.index t = ![t.val / 19, t.val % 19] :=
  (by decide +kernel : ∀ t : Fin grid0.N, _)

open Cert.InProjRefIdeal.Read in
theorem point (c : Dev nD) (t : Fin cfg0.N) (y : S2048x512.Idx) : k0_pay1 (iblk m c 0 t) (iblk m c 1 t) y
    = val_main_v2 (F := Ideal) (m ((c : Thread nD τ).loc main_arg0)) (m ((c : Thread nD τ).loc main_arg1)) (((cfg0.win 2).blk t).view.emb y) := by
  pointwise [k0_pay1, val_main_v2, val_main_v1, val_main_v0]
  blk_point [iblk, V, idx t]

open Cert.InProjRefIdeal.Read in
/-- The result array after the run is the reference's product. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The idealized kernel runs and leaves every semaphore at zero. -/
theorem frame_ideal : @Cert.quiescent_InProjIdeal Cert.InProjIdeal.Gen.facts := fun m g _ => Cert.InProjIdeal.Gen.frame m g

/-- The idealized reference runs and leaves every semaphore at zero. -/
theorem frame_ref : @Cert.quiescent_InProjRefIdeal Cert.InProjRefIdeal.Gen.facts := by
  intro m g _
  hlo_run
  · exact fun _ => ⟨trivial, trivial⟩
  · exact sem_eq_zero_of_no_sems (sig := Cert.InProjRefIdeal.sig) (by decide) _

/-- The kernel's result is the reference's. -/
theorem value : @Cert.algebraic_InProjIdeal_InProjRefIdeal Cert.InProjIdeal.Gen.facts Cert.InProjRefIdeal.Gen.facts := by
  pair_intro
  · run_from Cert.InProjIdeal.Gen.run_main m g
  · refine θ_run_mono (Cert.InProjRefIdeal.Value.run (F := Ideal) m' g') fun r h c => ?_
    exact ⟨(h c).1.trans ((Cert.InProjRefIdeal.Read.val_main_v2_eq _ _).trans
      ((Cert.Agree.on2 Cert.InProjRefIdeal.Read.val_main_v2 (hagree c).1 (hagree c).2).trans (final m c).symm)), (h c).2⟩

end Cert.InProjIdeal.Own
-- ==== Proof.FfInValue.lean ====
module

public import proofs.«01_k».proof.Proof.Gen.FfInIdeal.Value
public import proofs.«01_k».proof.Proof.Gen.FfInRefIdeal.Run
public import proofs.«01_k».proof.Proof.Gen.FfInRefIdeal.Read
public import proofs.«01_k».proof.Defs
public import Idealize.ShloMosaic.Lib.Claim
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.FfInIdeal.Own
open Cert.FfInIdeal Cert.FfInIdeal.Gen
variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] ∧
    win0_3.index t = ![t.val / 4, t.val % 4] :=
  (by decide +kernel : ∀ t : Fin grid0.N, _)

open Cert.FfInRefIdeal.Read in
/-- The hidden units before the activation. -/
theorem final2 (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v2, val_main_v1, val_main_v0]
  blk_point [iblk, V, idx t]

open Cert.FfInRefIdeal.Read in
/-- The hidden units after the activation. -/
theorem final3 (c : Dev nD) : (dats m 0 c).arrAt 3 (cfgs 0).N
    = val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay2, k0_pay1, val_main_v5, val_main_v4, val_main_v3, val_main_call0_v0, val_main_call0_cst, val_main_v2, val_main_v1, val_main_v0]
  blk_point [iblk, V, idx t]

/-- The idealized kernel runs and leaves every semaphore at zero. -/
theorem frame_ideal : @Cert.quiescent_FfInIdeal Cert.FfInIdeal.Gen.facts := fun m g _ => Cert.FfInIdeal.Gen.frame m g

/-- The idealized reference runs and leaves every semaphore at zero. -/
theorem frame_ref : @Cert.quiescent_FfInRefIdeal Cert.FfInRefIdeal.Gen.facts := by
  intro m g _
  hlo_run
  · exact fun _ => ⟨trivial, trivial⟩
  · exact sem_eq_zero_of_no_sems (sig := Cert.FfInRefIdeal.sig) (by decide) _

/-- The kernel's results are the reference's. -/
theorem value : @Cert.algebraic_FfInIdeal_FfInRefIdeal Cert.FfInIdeal.Gen.facts Cert.FfInRefIdeal.Gen.facts := by
  pair_intro
  · run_from Cert.FfInIdeal.Gen.run_main m g
  · refine θ_run_mono (Cert.FfInRefIdeal.Value.run (F := Ideal) m' g') fun r h c => ?_
    exact ⟨(h c).1.trans ((Cert.FfInRefIdeal.Read.val_main_v2_eq _ _).trans
      ((Cert.Agree.on2 Cert.FfInRefIdeal.Read.val_main_v2 (hagree c).1 (hagree c).2).trans (final2 m c).symm)),
      (h c).2.1.trans ((Cert.FfInRefIdeal.Read.val_main_v5_eq _ _).trans
      ((Cert.Agree.on2 Cert.FfInRefIdeal.Read.val_main_v5 (hagree c).1 (hagree c).2).trans (final3 m c).symm)), (h c).2.2⟩

end Cert.FfInIdeal.Own
-- ==== Proof.FfOutValue.lean ====
module

public import proofs.«01_k».proof.Proof.Gen.FfOutIdeal.Value
public import proofs.«01_k».proof.Proof.Gen.FfOutRefIdeal.Run
public import proofs.«01_k».proof.Proof.Gen.FfOutRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.FfOutIdeal.Own
open Cert.FfOutIdeal Cert.FfOutIdeal.Gen
variable (m : (ℓ : Loc nD τ sig) → Buf (Elt Ideal) ℓ)

theorem idx : ∀ t : Fin cfg0.N, win0_0.index t = ![t.val / 4, t.val % 4] ∧ win0_1.index t = ![t.val % 4, 0] ∧ win0_2.index t = ![t.val / 4, 0] ∧
    win0_3.index t = ![0, 0] ∧ win0_4.index t = ![t.val / 4, 0] :=
  (by decide +kernel : ∀ t : Fin grid0.N, _)

/-- One block's part of a row's product with a column of the weights. -/
def part (X W : FVec Ideal S1024x1024 .bf16) (j : S1024x1024.Idx) : EReal := ∑ k : Fin 1024, X (ix2 (j 0) k) * W (ix2 k (j 1))

theorem pay2 (X W : FVec Ideal S1024x1024 .bf16) (j) : k0_pay2 (F := Ideal) X W j = 0 + part X W j := by
  rw [zero_add]; pointwise [k0_pay2, k0_pay1, part]

theorem pay3 (X W : FVec Ideal S1024x1024 .bf16) (A : FVec Ideal S1024x1024 .f32) (j) : k0_pay3 (F := Ideal) X W A j = A j + part X W j := by
  pointwise [k0_pay3, k0_pay1, part]

theorem pay4 (X W : FVec Ideal S1024x1024 .bf16) (A R : FVec Ideal S1024x1024 .f32) (g : FVec Ideal S1x1024 .f32) (j) :
    k0_pay4 (F := Ideal) X W A R g j = R j + g (ix2 0 (j 1)) * (A j + part X W j) := by
  pointwise [k0_pay4, k0_pay1, part]

/-- A residual beside a gated product, part by part. -/
theorem residual {a a' g g' s s' : EReal} (ha : a = a') (hg : g = g') (hs : s = s') : a + g * s = a' + g' * s' := by rw [ha, hg, hs]

/-- The scratch read back is what was left in it. -/
theorem kept (A : FVec Ideal S1024x1024 .f32) (j : S1024x1024.Idx) :
    View.read (Elt Ideal) (View.whole cc0_scratch0) ((Memref.isWhole_whole cc0_scratch0).unread A) j = A j :=
  congrFun (read_unread_whole (Val := Elt Ideal) cc0_scratch0 (Memref.isWhole_whole cc0_scratch0) A) j

/-- The sum the kernel carries after a point: the scratch, and at a run's last point what it writes out of it. -/
def acc (c : Dev nD) (n : Nat) (h : n < cfg0.N) (j : S1024x1024.Idx) : EReal :=
  if n % 4 = 3 then (outsAt0 m c (n - 1) (Nat.lt_of_le_of_lt (Nat.sub_le _ _) h)).2 j + part (iblk m c 0 ⟨n, h⟩) (iblk m c 1 ⟨n, h⟩) j
  else (outsAt0 m c n h).2 j

theorem acc_reset (c : Dev nD) (t : Fin cfg0.N) (h : t.val % 4 = 0) (j) :
    acc m c t.val t.isLt j = 0 + part (iblk m c 0 t) (iblk m c 1 t) j := by
  unfold acc
  rw [if_neg (by omega), outsAt0_A m c t h (by omega) (by omega)]
  frame_out
  exact pay2 _ _ _

theorem acc_step (c : Dev nD) (t : Fin cfg0.N) (h : ¬t.val % 4 = 0) (j) :
    acc m c t.val t.isLt j = acc m c (t.val - 1) (Nat.lt_of_le_of_lt (Nat.sub_le _ _) t.isLt) j + part (iblk m c 0 t) (iblk m c 1 t) j := by
  unfold acc
  rw [if_neg (by omega : ¬(t.val - 1) % 4 = 3)]
  by_cases h3 : t.val % 4 = 3
  · rw [if_pos h3]
  · rw [if_neg h3, outsAt0_B m c t h (by omega) h3]
    frame_out
    exact (pay3 _ _ _ _).trans (congrArg (· + part (iblk m c 0 t) (iblk m c 1 t) j) (kept _ j))

theorem acc_last (c : Dev nD) (t : Fin cfg0.N) (h : t.val % 4 = 3) (j) :
    (outsAt0 m c (t.val - 1) (Nat.lt_of_le_of_lt (Nat.sub_le _ _) t.isLt)).2 j + part (iblk m c 0 t) (iblk m c 1 t) j
      = ∑ s : Fin 4, part (iblk m c 0 ⟨4 * (t.val / 4) + s.val, Pipeline.run_point_lt_of_flush t h s⟩)
          (iblk m c 1 ⟨4 * (t.val / 4) + s.val, Pipeline.run_point_lt_of_flush t h s⟩) j := by
  have e := Pipeline.eq_sum_fin_of_reset_step_apply_of_flush (acc m c) 4 (fun _ => 0) (fun t j => part (iblk m c 0 t) (iblk m c 1 t) j)
    (acc_reset m c) (acc_step m c) t h j
  rw [zero_add] at e
  refine Eq.trans ?_ e
  unfold acc
  rw [if_pos h]

open Cert.FfOutRefIdeal.Read in
/-- The result array after the run is the reference's sum. -/
theorem final (c : Dev nD) : (dats m 0 c).arrAt 4 (cfgs 0).N
    = val_main_v5 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have h := (flush0_4 t).mp hf
  blk_simp
  rw [after0_4, outsAt0_C m c t (by omega) (by omega) h]
  frame_out
  refine (pay4 _ _ _ _ _ _).trans ?_
  rw [show ∀ A : FVec Ideal S1024x1024 .f32, View.read (Elt Ideal) (View.whole cc0_scratch0) ((Memref.isWhole_whole cc0_scratch0).unread A) y = A y
    from fun A => kept A y, acc_last m c t h y]
  pointwise [part, val_main_v5, val_main_v4, val_main_v3, val_main_v2, val_main_v1, val_main_v0]
  refine residual ?_ ?_ (Fin.sum_mul_add_congr fun s k hl => ?_)
  · blk_point [iblk, V, idx t]
  · blk_point [iblk, V, idx t]
  · blk_point [iblk, V, idx t, idx ⟨_, Pipeline.run_point_lt_of_flush t h s⟩]

/-- The idealized kernel runs and leaves every semaphore at zero. -/
theorem frame_ideal : @Cert.quiescent_FfOutIdeal Cert.FfOutIdeal.Gen.facts := fun m g _ => Cert.FfOutIdeal.Gen.frame m g

/-- The idealized reference runs and leaves every semaphore at zero. -/
theorem frame_ref : @Cert.quiescent_FfOutRefIdeal Cert.FfOutRefIdeal.Gen.facts := by
  intro m g _
  hlo_run
  · exact fun _ => ⟨trivial, trivial, trivial, trivial⟩
  · exact sem_eq_zero_of_no_sems (sig := Cert.FfOutRefIdeal.sig) (by decide) _

/-- The kernel's result is the reference's. -/
theorem value : @Cert.algebraic_FfOutIdeal_FfOutRefIdeal Cert.FfOutIdeal.Gen.facts Cert.FfOutRefIdeal.Gen.facts := by
  pair_intro
  · run_from Cert.FfOutIdeal.Gen.run_main m g
  · refine θ_run_mono (Cert.FfOutRefIdeal.Value.run (F := Ideal) m' g') fun r h c => ?_
    exact ⟨(h c).1.trans ((Cert.FfOutRefIdeal.Read.val_main_v5_eq _ _ _ _).trans
      ((Cert.Agree.on4 Cert.FfOutRefIdeal.Read.val_main_v5 (hagree c).1 (hagree c).2.1 (hagree c).2.2.1 (hagree c).2.2.2).trans (final m c).symm)), (h c).2⟩

end Cert.FfOutIdeal.Own
-- ==== Proof.OutProjValue.lean ====
module

public import proofs.«01_k».proof.Proof.Gen.OutProjIdeal.Value
public import proofs.«01_k».proof.Proof.Gen.OutProjRefIdeal.Run
public import proofs.«01_k».proof.Proof.Gen.OutProjRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.OutProjIdeal.Own
open Cert.OutProjIdeal Cert.OutProjIdeal.Gen
variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

open Cert.OutProjRefIdeal.Read in
/-- One entry of the new residual stream. -/
theorem point (c : Dev nD) (t : Fin cfg0.N) (y : S1024x1024.Idx) :
    k0_pay1 (iblk m c 0 t) (iblk m c 1 t) (iblk m c 2 t) (iblk m c 3 t) y
    = val_main_v4 (F := Ideal) (m ((c : Thread nD τ).loc main_arg0)) (m ((c : Thread nD τ).loc main_arg1))
      (m ((c : Thread nD τ).loc main_arg2)) (m ((c : Thread nD τ).loc main_arg3)) (((cfg0.win 7).blk t).view.emb y) := by
  pointwise [k0_pay1, val_main_v4, val_main_v3, val_main_v2, val_main_v1, val_main_v0]
  blk_point [iblk, V, idx t]

open Cert.OutProjRefIdeal.Read in
/-- The first result after the run is the reference's residual stream. -/
theorem final (c : Dev nD) : (dats m 0 c).arrAt 7 (cfgs 0).N
    = val_main_v4 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ y => ?_
  blk_simp
  rw [after0_7]; frame_out
  exact point m c t y

open Cert.OutProjRefIdeal.Read in
/-- The second result after the run is the reference's normalised, modulated stream. -/
theorem final' (c : Dev nD) : (dats m 0 c).arrAt 8 (cfgs 0).N
    = val_main_v25 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 8 _ (by decide +kernel) fun t _ y => ?_
  blk_simp
  rw [after0_8]; frame_out
  pointwise [k0_pay2, k0_pay1, val_main_v25, val_main_v24, val_main_v23, val_main_v22, val_main_v21, val_main_v20, val_main_v19,
    val_main_cst_2, val_main_v18, val_main_v17, val_main_v16, val_main_v15, val_main_v14, val_main_v13, val_main_v12,
    val_main_v11, val_main_cst_1, val_main_v10, val_main_v9, val_main_cst_0, val_main_v8, val_main_v7, val_main_cst,
    val_main_v6, val_main_v5, val_main_v4, val_main_v3, val_main_v2, val_main_v1, val_main_v0]
  blk_point [iblk, V, idx t]

/-- The idealized kernel runs and leaves every semaphore at zero. -/
theorem frame_ideal : @Cert.quiescent_OutProjIdeal Cert.OutProjIdeal.Gen.facts := fun m g _ => Cert.OutProjIdeal.Gen.frame m g

/-- The idealized reference runs and leaves every semaphore at zero. -/
theorem frame_ref : @Cert.quiescent_OutProjRefIdeal Cert.OutProjRefIdeal.Gen.facts := by
  intro m g _
  hlo_run
  · exact fun _ => ⟨trivial, trivial, trivial, trivial, trivial, trivial, trivial⟩
  · exact sem_eq_zero_of_no_sems (sig := Cert.OutProjRefIdeal.sig) (by decide) _

/-- The kernel's results are the reference's. -/
theorem value : @Cert.algebraic_OutProjIdeal_OutProjRefIdeal Cert.OutProjIdeal.Gen.facts Cert.OutProjRefIdeal.Gen.facts := by
  pair_intro
  · run_from Cert.OutProjIdeal.Gen.run_main m g
  · refine θ_run_mono (Cert.OutProjRefIdeal.Value.run (F := Ideal) m' g') fun r h c => ?_
    obtain ⟨a0, a1, a2, a3, a4, a5, a6⟩ := hagree c
    exact ⟨(h c).1.trans ((Cert.OutProjRefIdeal.Read.val_main_v4_eq _ _ _ _).trans
      ((Cert.Agree.on4 Cert.OutProjRefIdeal.Read.val_main_v4 a0 a1 a2 a3).trans (final m c).symm)),
      (h c).2.1.trans ((Cert.OutProjRefIdeal.Read.val_main_v25_eq _ _ _ _ _ _ _).trans
      ((Cert.Agree.on7 Cert.OutProjRefIdeal.Read.val_main_v25 a0 a1 a2 a3 a4 a5 a6).trans (final' m c).symm)), (h c).2.2⟩

end Cert.OutProjIdeal.Own
-- ==== Proof.NormReal.lean ====
module

public import proofs.«01_k».proof.Proof.MergeReal

@[expose] public section

noncomputable section
open Idealize.ShloMosaic
/-! The gradient of a root mean square over 1024 lanes, of real rows. -/
namespace Cert.Norm
open Cert.MergeCore (eps eps_pos eps_eq div_coe rsqrt_coe neg_half_eq coe_sum)

theorem lanes_eq : Ideal.ofBits FTy.f32 0x44800000#32 = ((1024 : ℝ) : EReal) := by
  simp [Ideal.ofBits, Ideal.ieee, -EReal.coe_mul]; norm_num

/-- The mean square of 1024 lanes plus the addend, and its reciprocal root. -/
def ms (o : Fin 1024 → ℝ) : ℝ := (∑ k, o k * o k) / 1024 + eps
theorem ms_pos (o : Fin 1024 → ℝ) : 0 < ms o := by
  have := eps_pos
  have : 0 ≤ ∑ k, o k * o k := Finset.sum_nonneg fun k _ => mul_self_nonneg _
  unfold ms; positivity
def rr (o : Fin 1024 → ℝ) : ℝ := (Real.sqrt (ms o))⁻¹

/-- The same over the extended reals. -/
def msE (o : Fin 1024 → EReal) : EReal := Ideal.div (∑ k, o k * o k) (Ideal.ofBits FTy.f32 0x44800000#32) + Ideal.ofBits FTy.f32 0x358637BD#32

theorem msE_coe (o : Fin 1024 → ℝ) : msE (fun k => (o k : EReal)) = (ms o : EReal) := by
  unfold msE
  simp only [← EReal.coe_mul]
  rw [coe_sum, lanes_eq, eps_eq, div_coe _ _ (by norm_num), ← EReal.coe_add]; rfl

/-- The kernel's form of the gradient, and the derivative's. -/
def gradK (o u : Fin 1024 → EReal) (d : EReal) (l : Fin 1024) : EReal :=
  d + Ideal.rsqrt (msE o) * (u l - o l * Ideal.rsqrt (msE o) * Ideal.div (∑ k, o k * Ideal.rsqrt (msE o) * u k) (Ideal.ofBits FTy.f32 0x44800000#32))
def shareR (o u : Fin 1024 → EReal) : EReal :=
  Ideal.div ((∑ k, o k * u k) * (Ideal.ofBits FTy.f32 0xBF000000#32 * Ideal.div (Ideal.rsqrt (msE o)) (msE o))) (Ideal.ofBits FTy.f32 0x44800000#32)
def gradR (o u : Fin 1024 → EReal) (d : EReal) (l : Fin 1024) : EReal :=
  d + u l * Ideal.rsqrt (msE o) + o l * shareR o u + shareR o u * o l

theorem norm_grad (o u : Fin 1024 → ℝ) (l : Fin 1024) :
    rr o * (u l - o l * rr o * ((∑ k, o k * rr o * u k) / 1024))
      = u l * rr o + o l * ((∑ k, o k * u k) * (-(1 / 2) * (rr o / ms o)) / 1024) + ((∑ k, o k * u k) * (-(1 / 2) * (rr o / ms o)) / 1024) * o l := by
  have h : rr o * rr o = 1 / ms o := by
    unfold rr
    rw [← mul_inv, Real.mul_self_sqrt (ms_pos o).le, one_div]
  have hs : ∑ k, o k * rr o * u k = rr o * ∑ k, o k * u k := by
    rw [Finset.mul_sum]; exact Finset.sum_congr rfl fun k _ => by ring
  rw [hs]
  have : rr o / ms o = rr o * (rr o * rr o) := by rw [h]; ring
  rw [this]; ring

theorem grad_eq (o u : Fin 1024 → EReal) (d : EReal) (l : Fin 1024) (ho : ∀ k, ∃ x : ℝ, o k = (x : EReal)) (hu : ∀ k, ∃ x : ℝ, u k = (x : EReal)) :
    gradK o u d l = gradR o u d l := by
  choose O hO using ho
  choose U hU using hu
  obtain rfl : o = fun k => (O k : EReal) := funext hO
  obtain rfl : u = fun k => (U k : EReal) := funext hU
  unfold gradK gradR shareR
  have hr : Ideal.rsqrt (msE fun k => (O k : EReal)) = (rr O : EReal) := by rw [msE_coe, rsqrt_coe _ (ms_pos O)]; rfl
  rw [hr, msE_coe, div_coe _ _ (ms_pos O).ne', neg_half_eq, lanes_eq]
  simp only [← EReal.coe_mul]
  rw [coe_sum, coe_sum]
  simp only [← EReal.coe_mul]
  rw [div_coe _ _ (by norm_num), div_coe _ _ (by norm_num)]
  simp only [← EReal.coe_mul, ← EReal.coe_sub, ← EReal.coe_add]
  rw [norm_grad O U l, EReal.coe_add, EReal.coe_add, ← add_assoc, ← add_assoc]

theorem gradK_congr {o o' u u' : Fin 1024 → EReal} {d d' : EReal} {l l' : Fin 1024} (ho : ∀ k, o k = o' k) (hu : ∀ k, u k = u' k) (hd : d = d')
    (hl : l = l') : gradK o u d l = gradK o' u' d' l' := by
  obtain rfl : o = o' := funext ho
  obtain rfl : u = u' := funext hu
  subst hd hl
  rfl

end Cert.Norm
-- ==== Proof.NormBwdValue.lean ====
module

public import proofs.«01_k».proof.Proof.Gen.NormBwdIdeal.Value
public import proofs.«01_k».proof.Proof.Gen.NormBwdRefIdeal.Run
public import proofs.«01_k».proof.Proof.Gen.NormBwdRefIdeal.Read
public import proofs.«01_k».proof.Defs
public import proofs.«01_k».proof.Proof.Gen.Pre_norm_bwd_inputs_finite
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.GatedReal
public import proofs.«01_k».proof.Proof.NormReal

@[expose] public section

set_option maxRecDepth 16384
noncomputable section
open Idealize.ShloMosaic Idealize.ShloMosaic.TcCoe Idealize.SL.Sem
open Idealize.ShloMosaic.Pipeline (Dat)
namespace Cert.NormBwdIdeal.Own
open Cert.NormBwdIdeal Cert.NormBwdIdeal.Gen
variable (m : (ℓ : Loc nD τ sig) → Buf (Elt Ideal) ℓ)

open Cert.Norm (msE gradK gradR shareR)

theorem idx : ∀ t : Fin cfg0.N, win0_0.index t = ![t.val, 0] ∧ win0_1.index t = ![t.val, 0] ∧ win0_2.index t = ![0, 0] ∧
    win0_3.index t = ![0, 0] ∧ win0_4.index t = ![0, 0] ∧ win0_5.index t = ![t.val, 0] ∧ win0_6.index t = ![t.val, 0] ∧
    win0_7.index t = ![0, 0] ∧ win0_8.index t = ![0, 0] ∧ win0_9.index t = ![0, 0] :=
  (by decide +kernel : ∀ t : Fin grid0.N, _)

/-- The terms of the sums over rows: of the scale's gradient and of the gain's. -/
def tScale (d : EReal) (x : Fin 1024 → EReal) (g : EReal) (q : Fin 1024) : EReal := d * (x q * Ideal.rsqrt (msE x) * g)
def tGain (d : EReal) (x : Fin 1024 → EReal) (s : EReal) (q : Fin 1024) : EReal := d * (1 + s) * (x q * Ideal.rsqrt (msE x))

theorem pay1 (D X : FVec Ideal S512x1024 .f32) (g A : FVec Ideal S1x1024 .f32) (j) :
    k0_pay1 (F := Ideal) D g (k0_pay5 X) A j
      = A j + ∑ p : Fin 512, tScale (D (ix2 p (j 1))) (fun k => X (ix2 p k)) (g (ix2 0 (j 1))) (j 1) := by
  pointwise [k0_pay1, k0_pay5, k0_pay4, tScale, msE]

theorem pay2 (D : FVec Ideal S512x1024 .f32) (A : FVec Ideal S1x1024 .f32) (j) :
    k0_pay2 (F := Ideal) D A j = A j + ∑ p : Fin 512, D (ix2 p (j 1)) := by
  pointwise [k0_pay2]

theorem pay3 (D X : FVec Ideal S512x1024 .f32) (s A : FVec Ideal S1x1024 .f32) (j) :
    k0_pay3 (F := Ideal) (k0_pay5 X) (k0_pay6 D s) A j
      = A j + ∑ p : Fin 512, tGain (D (ix2 p (j 1))) (fun k => X (ix2 p k)) (s (ix2 0 (j 1))) (j 1) := by
  pointwise [k0_pay3, k0_pay5, k0_pay4, k0_pay6, tGain, msE]

theorem pay7 (X D : FVec Ideal S512x1024 .f32) (g s : FVec Ideal S1x1024 .f32) (d : FVec Ideal S512x1024 .f32) (j) :
    k0_pay7 (F := Ideal) X D g s d j = gradK (fun k => X (ix2 (j 0) k))
      (fun k => D (ix2 (j 0) k) * (1 + s (ix2 0 k)) * g (ix2 0 k)) (d j) (j 1) := by
  pointwise [k0_pay7, k0_pay6, k0_pay5, k0_pay4, gradK, msE]

theorem pay8 (j) : k0_pay8 (F := Ideal) j = 0 := by pointwise [k0_pay8]
theorem pay9 (j) : k0_pay9 (F := Ideal) j = 0 := by pointwise [k0_pay9]
theorem pay10 (j) : k0_pay10 (F := Ideal) j = 0 := by pointwise [k0_pay10]

/-- What a point adds to each of the three sums. -/
def add7 (c : Dev nD) (t : Fin cfg0.N) (j : S1x1024.Idx) : EReal :=
  ∑ p : Fin 512, tScale ((iblk m c 0 t : FVec Ideal S512x1024 .f32) (ix2 p (j 1))) (fun k => (iblk m c 1 t : FVec Ideal S512x1024 .f32) (ix2 p k))
    ((iblk m c 2 t : FVec Ideal S1x1024 .f32) (ix2 0 (j 1))) (j 1)
def add8 (c : Dev nD) (t : Fin cfg0.N) (j : S1x1024.Idx) : EReal :=
  ∑ p : Fin 512, (iblk m c 0 t : FVec Ideal S512x1024 .f32) (ix2 p (j 1))
def add9 (c : Dev nD) (t : Fin cfg0.N) (j : S1x1024.Idx) : EReal :=
  ∑ p : Fin 512, tGain ((iblk m c 0 t : FVec Ideal S512x1024 .f32) (ix2 p (j 1))) (fun k => (iblk m c 1 t : FVec Ideal S512x1024 .f32) (ix2 p k))
    ((iblk m c 3 t : FVec Ideal S1x1024 .f32) (ix2 0 (j 1))) (j 1)

/-- The three sums of a run's first point, and of a later one. -/
theorem first (c : Dev nD) (t : Fin cfg0.N) (h : t.val % 16 = 0) (j : S1x1024.Idx) :
    (outsAt0 m c t.val t.isLt).2.1 j = 0 + add7 m c t j ∧ (outsAt0 m c t.val t.isLt).2.2.1 j = 0 + add8 m c t j ∧
    (outsAt0 m c t.val t.isLt).2.2.2 j = 0 + add9 m c t j := by
  rw [outsAt0_A m c t h]
  refine ⟨?_, ?_, ?_⟩
  · frame_out
    exact (pay1 _ _ _ _ _).trans (congrArg (fun z : EReal => z + add7 m c t j) (pay8 _))
  · frame_out
    exact (pay2 _ _ _).trans (congrArg (fun z : EReal => z + add8 m c t j) (pay9 _))
  · frame_out
    exact (pay3 _ _ _ _ _).trans (congrArg (fun z : EReal => z + add9 m c t j) (pay10 _))

theorem later (c : Dev nD) (t : Fin cfg0.N) (h : ¬t.val % 16 = 0) (j : S1x1024.Idx) :
    (outsAt0 m c t.val t.isLt).2.1 j = (outsAt0 m c (t.val - 1) (Nat.lt_of_le_of_lt (Nat.sub_le _ _) t.isLt)).2.1 j + add7 m c t j ∧
    (outsAt0 m c t.val t.isLt).2.2.1 j = (outsAt0 m c (t.val - 1) (Nat.lt_of_le_of_lt (Nat.sub_le _ _) t.isLt)).2.2.1 j + add8 m c t j ∧
    (outsAt0 m c t.val t.isLt).2.2.2 j = (outsAt0 m c (t.val - 1) (Nat.lt_of_le_of_lt (Nat.sub_le _ _) t.isLt)).2.2.2 j + add9 m c t j := by
  rw [outsAt0_B m c t h]
  refine ⟨?_, ?_, ?_⟩
  · frame_out
    exact pay1 _ _ _ _ _
  · frame_out
    exact pay2 _ _ _
  · frame_out
    exact pay3 _ _ _ _ _

/-- A single row's index is its lane. -/
theorem lane (i : S1x1024.Idx) : (ix2 0 (i 1) : S1x1024.Idx) = i := by
  funext j
  match j with
  | 0 => exact Subsingleton.elim (α := Fin 1) _ _
  | 1 => rfl

open Cert.NormBwdRefIdeal.Read in
/-- The scale's gradient after the run is the reference's. -/
theorem final7 (c : Dev nD) : (dats m 0 c).arrAt 7 (cfgs 0).N
    = val_main_v58 (F := Ideal) (m ((c : Thread nD τ).loc main_arg0)) (m ((c : Thread nD τ).loc main_arg1))
      (m ((c : Thread nD τ).loc main_arg2)) := by
  refine (dats m 0 c).arrAt_eq_of_covers 7 _ (by decide +kernel) fun t hf y => ?_
  have h := (flush0_7 t).mp hf
  blk_simp
  rw [after0_7, Pipeline.eq_sum_fin_of_reset_step_apply_of_flush (fun n h => (outsAt0 m c n h).2.1) 16 (fun _ => 0) (add7 m c)
    (fun t h j => (first m c t h j).1) (fun t h j => (later m c t h j).1) t h y, zero_add]
  unfold add7
  have e : ∀ (D X : FVec Ideal S8192x1024 .f32) (g : FVec Ideal S1x1024 .f32) (i : S1x1024.Idx), val_main_v58 (F := Ideal) D X g i
      = ∑ n : Fin 8192, tScale (D (ix2 n (i 1))) (fun k => X (ix2 n k)) (g (ix2 0 (i 1))) (i 1) := fun D X g i => by
    pointwise [val_main_v58, val_main_v36, val_main_cst_7, val_main_v33, val_main_v32, val_main_cst_6, val_main_v31, val_main_v27,
      val_main_v18, val_main_v17, val_main_v16, val_main_v0, val_main_v15, val_main_v14, val_main_v10, val_main_v9, val_main_v8, val_main_cst_1,
      val_main_v7, val_main_v6, val_main_cst_0, val_main_v5, val_main_v4, val_main_cst, val_main_v3, tScale, msE]
    rw [lane i]
    exact (Fin.sum_univ_one _).trans (Finset.sum_congr rfl fun n _ => mul_comm _ _)
  refine Eq.trans ?_ (e _ _ _ _).symm
  refine Fin.sum_mul_add_congr fun s k hl => ?_
  have ht : t.val < 16 := t.isLt
  blk_point [iblk, V, idx ⟨_, Pipeline.run_point_lt_of_flush t h s⟩, idx t]

open Cert.NormBwdRefIdeal.Read in
/-- The shift's gradient after the run is the reference's. -/
theorem final8 (c : Dev nD) : (dats m 0 c).arrAt 8 (cfgs 0).N = val_main_v59 (F := Ideal) (m ((c : Thread nD τ).loc main_arg0)) := by
  refine (dats m 0 c).arrAt_eq_of_covers 8 _ (by decide +kernel) fun t hf y => ?_
  have h := (flush0_8 t).mp hf
  blk_simp
  rw [after0_8, Pipeline.eq_sum_fin_of_reset_step_apply_of_flush (fun n h => (outsAt0 m c n h).2.2.1) 16 (fun _ => 0) (add8 m c)
    (fun t h j => (first m c t h j).2.1) (fun t h j => (later m c t h j).2.1) t h y, zero_add]
  unfold add8
  have e : ∀ (D : FVec Ideal S8192x1024 .f32) (i : S1x1024.Idx), val_main_v59 (F := Ideal) D i = ∑ n : Fin 8192, D (ix2 n (i 1)) := fun D i => by
    pointwise [val_main_v59, val_main_v30, val_main_cst_5, val_main_v29, val_main_v28, val_main_cst_4]
    exact Fin.sum_univ_one _
  refine Eq.trans ?_ (e _ _).symm
  refine Fin.sum_mul_add_congr fun s k hl => ?_
  have ht : t.val < 16 := t.isLt
  blk_point [iblk, V, idx ⟨_, Pipeline.run_point_lt_of_flush t h s⟩, idx t]

open Cert.NormBwdRefIdeal.Read in
/-- The gain's gradient after the run is the reference's. -/
theorem final9 (c : Dev nD) : (dats m 0 c).arrAt 9 (cfgs 0).N
    = val_main_v60 (F := Ideal) (m ((c : Thread nD τ).loc main_arg0)) (m ((c : Thread nD τ).loc main_arg1))
      (m ((c : Thread nD τ).loc main_arg3)) := by
  refine (dats m 0 c).arrAt_eq_of_covers 9 _ (by decide +kernel) fun t hf y => ?_
  have h := (flush0_9 t).mp hf
  blk_simp
  rw [after0_9, Pipeline.eq_sum_fin_of_reset_step_apply_of_flush (fun n h => (outsAt0 m c n h).2.2.2) 16 (fun _ => 0) (add9 m c)
    (fun t h j => (first m c t h j).2.2) (fun t h j => (later m c t h j).2.2) t h y, zero_add]
  unfold add9
  have e : ∀ (D X : FVec Ideal S8192x1024 .f32) (g : FVec Ideal S1x1024 .f32) (i : S1x1024.Idx), val_main_v60 (F := Ideal) D X g i
      = ∑ n : Fin 8192, tGain (D (ix2 n (i 1))) (fun k => X (ix2 n k)) (g (ix2 0 (i 1))) (i 1) := fun D X g i => by
    pointwise [val_main_v60, val_main_v42, val_main_cst_9, val_main_v39, val_main_v38, val_main_cst_8, val_main_v37, val_main_v35, val_main_v34,
      val_main_v27, val_main_v21, val_main_v20, val_main_v19, val_main_cst_3, val_main_v1, val_main_v15, val_main_v14, val_main_v10, val_main_v9, val_main_v8, val_main_cst_1,
      val_main_v7, val_main_v6, val_main_cst_0, val_main_v5, val_main_v4, val_main_cst, val_main_v3, tGain, msE]
    rw [lane i]
    exact (Fin.sum_univ_one _).trans (Finset.sum_congr rfl fun n _ => mul_comm _ _)
  refine Eq.trans ?_ (e _ _ _ _).symm
  refine Fin.sum_mul_add_congr fun s k hl => ?_
  have ht : t.val < 16 := t.isLt
  blk_point [iblk, V, idx ⟨_, Pipeline.run_point_lt_of_flush t h s⟩, idx t]

open Cert.NormBwdRefIdeal.Read in
/-- The rows' gradient in the reference, lane by lane. -/
theorem ref6 (D X : FVec Ideal S8192x1024 .f32) (g s : FVec Ideal S1x1024 .f32) (d : FVec Ideal S8192x1024 .f32) (i : S8192x1024.Idx) :
    val_main_v57 (F := Ideal) D X g s d i = gradR (fun k => X (ix2 (i 0) k))
      (fun k => D (ix2 (i 0) k) * (1 + s (ix2 0 k)) * g (ix2 0 k)) (d i) (i 1) := by
  pointwise [val_main_v57, val_main_v56, val_main_v55, val_main_v54, val_main_v53, val_main_v52, val_main_cst_12, val_main_v51, val_main_v50,
    val_main_cst_11, val_main_v49, val_main_v48, val_main_v47, val_main_v46, val_main_v45, val_main_v44, val_main_cst_10, val_main_v43,
    val_main_v41, val_main_v40, val_main_v35, val_main_v34, val_main_v27, val_main_v21, val_main_v20, val_main_v19, val_main_cst_3, val_main_v1,
    val_main_v16, val_main_v0, val_main_v13, val_main_v12, val_main_cst_2, val_main_v11, val_main_v10, val_main_v9, val_main_v8, val_main_cst_1,
      val_main_v7, val_main_v6, val_main_cst_0, val_main_v5, val_main_v4, val_main_cst, val_main_v3, gradR, shareR, msE]
  simp only [Fin.sum_univ_one]

open Cert.NormBwdRefIdeal.Read in
/-- The rows' gradient after the run is the reference's. -/
theorem final6 (c : Dev nD) (hD : ∀ i, ∃ x : ℝ, (m ((c : Thread nD τ).loc main_arg0) i : EReal) = (x : EReal))
    (hX : ∀ i, ∃ x : ℝ, (m ((c : Thread nD τ).loc main_arg1) i : EReal) = (x : EReal))
    (hg : ∀ i, ∃ x : ℝ, (m ((c : Thread nD τ).loc main_arg2) i : EReal) = (x : EReal))
    (hs : ∀ i, ∃ x : ℝ, (m ((c : Thread nD τ).loc main_arg3) i : EReal) = (x : EReal)) : (dats m 0 c).arrAt 6 (cfgs 0).N
    = val_main_v57 (F := Ideal) (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 6 _ (by decide +kernel) fun t _ (y : S512x1024.Idx) => ?_
  have e : ((outsAt0 m c t.val t.isLt).1 : FVec Ideal S512x1024 .f32) = k0_pay7 (F := Ideal) (iblk m c 1 t) (iblk m c 0 t) (iblk m c 2 t)
      (iblk m c 3 t) (iblk m c 5 t) := by
    by_cases h : t.val % 16 = 0
    · rw [outsAt0_A m c t h]; funext y; frame_out
    · rw [outsAt0_B m c t h]; funext y; frame_out
  blk_simp
  rw [after0_6, e]
  refine (pay7 _ _ _ _ _ y).trans (Eq.trans ?_ (ref6 _ _ _ _ _ _).symm)
  refine Eq.trans ?_ (Cert.Norm.grad_eq _ _ _ _ (fun k => hX _) fun k => ?_)
  · refine Cert.Norm.gradK_congr (fun k => ?_) (fun k => ?_) ?_ ?_
    · blk_point [iblk, V, idx t]
    · blk_point [iblk, V, idx t]
    · blk_point [iblk, V, idx t]
    · exact Fin.ext (by blk_simp [idx t])
  · obtain ⟨x, hx⟩ := hD (ix2 ((((cfg0.win 6).blk t).view.emb y) 0) k)
    obtain ⟨z, hz⟩ := hs (ix2 0 k)
    obtain ⟨w, hw⟩ := hg (ix2 0 k)
    refine ⟨x * (1 + z) * w, ?_⟩
    rw [hx, hz, hw]
    push_cast
    rfl

/-- The idealized kernel runs and leaves every semaphore at zero. -/
theorem frame_ideal : @Cert.quiescent_NormBwdIdeal Cert.NormBwdIdeal.Gen.facts := fun m g _ => Cert.NormBwdIdeal.Gen.frame m g

/-- The same under the claim's precondition. -/
theorem frame_ideal_pre : @Cert.quiescent_NormBwdIdeal_pre_norm_bwd_inputs_finite Cert.NormBwdIdeal.Gen.facts Cert.Pre_norm_bwd_inputs_finite.Gen.facts :=
  fun m g _ => Cert.NormBwdIdeal.Gen.frame m g

/-- The idealized reference runs and leaves every semaphore at zero. -/
theorem frame_ref : @Cert.quiescent_NormBwdRefIdeal Cert.NormBwdRefIdeal.Gen.facts := by
  intro m g _
  hlo_run
  · exact fun _ => ⟨trivial, trivial, trivial, trivial, trivial, trivial⟩
  · exact sem_eq_zero_of_no_sems (sig := Cert.NormBwdRefIdeal.sig) (by decide) _

/-- The same under the claim's precondition. -/
theorem frame_ref_pre : @Cert.quiescent_NormBwdRefIdeal_pre_norm_bwd_inputs_finite Cert.NormBwdRefIdeal.Gen.facts Cert.Pre_norm_bwd_inputs_finite.Gen.facts :=
  fun m g _ => frame_ref m g trivial

/-- The kernel's results are the reference's, of finite arguments. -/
theorem value : @Cert.algebraic_NormBwdIdeal_NormBwdRefIdeal_pre_norm_bwd_inputs_finite Cert.NormBwdIdeal.Gen.facts Cert.NormBwdRefIdeal.Gen.facts
    Cert.Pre_norm_bwd_inputs_finite.Gen.facts := by
  pair_intro
  · run_from Cert.NormBwdIdeal.Gen.run_main m g
  · refine θ_run_mono (Cert.NormBwdRefIdeal.Value.run (F := Ideal) m' g') fun r h c => ?_
    obtain ⟨p0, p1, p2, p3, p4, p5⟩ := hpre c
    obtain ⟨a0, a1, a2, a3, a4, a5⟩ := hagree c
    have hD := Cert.Gated.finite_at _ _ _ p0
    have hX := Cert.Gated.finite_at _ _ _ p1
    have hg := Cert.Gated.finite_at _ _ _ p2
    have hs := Cert.Gated.finite_at _ _ _ p3
    exact ⟨(h c).1.trans ((Cert.NormBwdRefIdeal.Read.val_main_v57_eq _ _).trans
      ((Cert.Agree.on5 Cert.NormBwdRefIdeal.Read.val_main_v57 a0 a1 a2 a3 a5).trans (final6 m c hD hX hg hs).symm)),
      (h c).2.1.trans ((Cert.NormBwdRefIdeal.Read.val_main_v58_eq _ _ _).trans
      ((Cert.Agree.on3 Cert.NormBwdRefIdeal.Read.val_main_v58 a0 a1 a2).trans (final7 m c).symm)),
      (h c).2.2.1.trans ((Cert.NormBwdRefIdeal.Read.val_main_v59_eq _).trans
      ((congrArg Cert.NormBwdRefIdeal.Read.val_main_v59 a0).trans (final8 m c).symm)),
      (h c).2.2.2.1.trans ((Cert.NormBwdRefIdeal.Read.val_main_v60_eq _ _ _).trans
      ((Cert.Agree.on3 Cert.NormBwdRefIdeal.Read.val_main_v60 a0 a1 a3).trans (final9 m c).symm)), (h c).2.2.2.2⟩

end Cert.NormBwdIdeal.Own
-- ==== Proof.NormFwdValue.lean ====
module

public import proofs.«01_k».proof.Proof.Gen.NormFwdIdeal.Value
public import proofs.«01_k».proof.Proof.Gen.NormFwdRefIdeal.Run
public import proofs.«01_k».proof.Proof.Gen.NormFwdRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.NormFwdIdeal.Own
open Cert.NormFwdIdeal Cert.NormFwdIdeal.Gen
variable (m : (ℓ : Loc nD τ sig) → Buf (Elt Ideal) ℓ)

theorem idx : ∀ t : Fin cfg0.N,
    (t.val < 16) ∧ ((cfg0.win 0).index t 0 = t.val ∧ (cfg0.win 0).index t 1 = 0) ∧ ((cfg0.win 1).index t 0 = 0 ∧ (cfg0.win 1).index t 1 = 0)
    ∧ ((cfg0.win 2).index t 0 = 0 ∧ (cfg0.win 2).index t 1 = 0) ∧ ((cfg0.win 3).index t 0 = 0 ∧ (cfg0.win 3).index t 1 = 0)
    ∧ ((cfg0.win 4).index t 0 = t.val ∧ (cfg0.win 4).index t 1 = 0) ∧ ((cfg0.win 5).index t 0 = 0 ∧ (cfg0.win 5).index t 1 = t.val) :=
  (by decide +kernel : ∀ t : Fin grid0.N, _)

open Cert.NormFwdRefIdeal.Read in
/-- The modulated norm after the run is the reference's. -/
theorem final4 (c : Dev nD) : (dats m 0 c).arrAt 4 (cfgs 0).N
    = val_main_v20 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, k0_pay2, val_main_v20, val_main_v19, val_main_v18, val_main_v17, val_main_v16, val_main_v15, val_main_v14, val_main_cst_2,
    val_main_v13, val_main_v12, val_main_v11, val_main_v10, val_main_v9, val_main_v8, val_main_v7, val_main_v6, val_main_cst_1, val_main_v5,
    val_main_v4, val_main_cst_0, val_main_v3, val_main_v2, val_main_cst, val_main_v1, val_main_v0]
  blk_point [iblk, V, idx t]

open Cert.NormFwdRefIdeal.Read in
/-- Its transpose after the run is the reference's. -/
theorem final5 (c : Dev nD) : (dats m 0 c).arrAt 5 (cfgs 0).N
    = val_main_v22 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay3, val_main_v22, val_main_v21, val_main_v19, val_main_v18, val_main_v17, val_main_v16, val_main_v15, val_main_v14, val_main_cst_2,
    val_main_v13, val_main_v12, val_main_v11, val_main_v10, val_main_v9, val_main_v8, val_main_v7, val_main_v6, val_main_cst_1, val_main_v5,
    val_main_v4, val_main_cst_0, val_main_v3, val_main_v2, val_main_cst, val_main_v1, val_main_v0]
  blk_point [iblk, V, idx t]

/-- The idealized kernel runs and leaves every semaphore at zero. -/
theorem frame_ideal : @Cert.quiescent_NormFwdIdeal Cert.NormFwdIdeal.Gen.facts := fun m g _ => Cert.NormFwdIdeal.Gen.frame m g

/-- The idealized reference runs and leaves every semaphore at zero. -/
theorem frame_ref : @Cert.quiescent_NormFwdRefIdeal Cert.NormFwdRefIdeal.Gen.facts := by
  intro m g _
  hlo_run
  · exact fun _ => ⟨trivial, trivial, trivial, trivial⟩
  · exact sem_eq_zero_of_no_sems (sig := Cert.NormFwdRefIdeal.sig) (by decide) _

/-- The kernel's results are the reference's. -/
theorem value : @Cert.algebraic_NormFwdIdeal_NormFwdRefIdeal Cert.NormFwdIdeal.Gen.facts Cert.NormFwdRefIdeal.Gen.facts := by
  pair_intro
  · run_from Cert.NormFwdIdeal.Gen.run_main m g
  · refine θ_run_mono (Cert.NormFwdRefIdeal.Value.run (F := Ideal) m' g') fun r h c => ?_
    obtain ⟨a0, a1, a2, a3⟩ := hagree c
    exact ⟨(h c).1.trans ((Cert.NormFwdRefIdeal.Read.val_main_v20_eq _ _ _ _).trans
      ((Cert.Agree.on4 Cert.NormFwdRefIdeal.Read.val_main_v20 a0 a1 a2 a3).trans (final4 m c).symm)),
      (h c).2.1.trans ((Cert.NormFwdRefIdeal.Read.val_main_v22_eq _ _ _ _).trans
      ((Cert.Agree.on4 Cert.NormFwdRefIdeal.Read.val_main_v22 a0 a1 a2 a3).trans (final5 m c).symm)),
      (h c).2.2⟩

end Cert.NormFwdIdeal.Own
-- ==== Proof.Logistic.lean ====
module

public import proofs.«01_k».proof.Proof.MergeReal

@[expose] public section

noncomputable section
open Idealize.ShloMosaic
namespace Cert.MergeCore

/-- The two forms of the logistic function agree at the infinities too. -/
theorem sgK_eq (x : EReal) : sgK x = sgR x := by
  induction x with
  | coe x => rw [sgK_coe, sgR_coe]
  | bot =>
    have h : Ideal.ofBits FTy.f32 1056964608#32 * (⊥ : EReal) = ⊥ := by rw [half_eq]; exact EReal.coe_mul_bot_of_pos (by norm_num)
    have e : Ideal.exp (-(⊥ : EReal)) = ⊤ := by rw [EReal.neg_bot]; rfl
    unfold sgK sgR
    rw [h, e, show (1 : EReal) + ⊤ = ⊤ from EReal.add_top_of_ne_bot (EReal.coe_ne_bot 1), half_eq, show Ideal.tanh ⊥ = ((-1 : ℝ) : EReal) from (rfl : Ideal.tanh ⊥ = (-1 : EReal)).trans (by norm_num), ← EReal.coe_mul, ← EReal.coe_add]
    norm_num [Ideal.div]
  | top =>
    have h : Ideal.ofBits FTy.f32 1056964608#32 * (⊤ : EReal) = ⊤ := by rw [half_eq]; exact EReal.coe_mul_top_of_pos (by norm_num)
    have e : Ideal.exp (-(⊤ : EReal)) = 0 := by rw [EReal.neg_top]; rfl
    unfold sgK sgR
    rw [h, e, add_zero, half_eq, show Ideal.tanh ⊤ = ((1 : ℝ) : EReal) from (rfl : Ideal.tanh ⊤ = (1 : EReal)).trans (by norm_num), ← EReal.coe_mul, ← EReal.coe_add]
    norm_num [Ideal.div]

end Cert.MergeCore
-- ==== Proof.MergeFwdValue.lean ====
module

public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.Logistic

@[expose] public section

set_option maxRecDepth 16384
noncomputable section
open Idealize.ShloMosaic Idealize.ShloMosaic.TcCoe Idealize.SL.Sem
open Idealize.ShloMosaic.Pipeline (Dat)
namespace Cert.MergeFwdIdeal.Own
open Cert.MergeFwdIdeal Cert.MergeFwdIdeal.Gen
variable (m : (ℓ : Loc nD τ sig) → Buf (Elt Ideal) ℓ)

open Cert.MergeCore (sgK sgR rK sgK_eq)

theorem idx : ∀ t : Fin cfg0.N, t.val < 32 ∧ win0_0.index t = ![0, t.val, 0] ∧ win0_1.index t = ![t.val, 3] ∧ win0_2.index t = ![t.val, 7] ∧
    win0_3.index t = ![t.val, 8] ∧ win0_4.index t = ![t.val, 0] ∧ win0_5.index t = ![0, 0] ∧ win0_6.index t = ![t.val, 0] :=
  (by decide +kernel : ∀ t : Fin grid0.N, _)

/-- One lane of the merge in the kernel's form: of the head's lanes `o`, the two gates' columns and the second branch. -/
def mergeK (o : Fin 128 → EReal) (l : Fin 128) (g zg za zb ob : EReal) : EReal :=
  sgK za * (o l * rK o * g * (zg * sgK zg)) + sgK zb * ob

def hd (k : Fin 1024) : Fin 8 := ⟨k.val / 128, by omega⟩
def ln (k : Fin 1024) : Fin 128 := ⟨k.val % 128, by omega⟩

theorem block (x0 : FVec Ideal S8x256x128 .f32) (x1 x2 x3 x4 : FVec Ideal S256x1024 .f32) (x5 : FVec Ideal S1x128 .f32)
    (c : Dev nD) (t : Fin cfg0.N) (y : S256x1024.Idx) (e0 : iblk m c 0 t = x0) (e1 : X0_1 m c t = x1) (e2 : X0_2 m c t = x2)
    (e3 : X0_3 m c t = x3) (e4 : iblk m c 4 t = x4) (e5 : iblk m c 5 t = x5) :
    (outsAt0 m c t) y = mergeK (fun k => x0 (ix3 (hd (y 1)) (y 0) k)) (ln (y 1)) (x5 (ix2 0 (ln (y 1)))) (x1 (ix2 (y 0) (y 1)))
      (x2 (ix2 (y 0) (y 1))) (x3 (ix2 (y 0) (y 1))) (x4 (ix2 (y 0) (y 1))) := by
  unfold outsAt0
  rw [e0, e1, e2, e3, e4, e5]
  frame_out
  canon_tiles x h
  all_goals
    open_payloads
    pointwise [mergeK, hd, ln, sgK, rK]
    blk_point [hd, ln]

open Cert.MergeFwdRefIdeal.Read in
/-- The reference, lane by lane. -/
theorem ref (o : FVec Ideal S8x8192x128 .f32) (z : FVec Ideal S8192x9728 .f32) (ob : FVec Ideal S8192x1024 .f32) (gn : FVec Ideal S1x128 .f32)
    (i : S8192x1024.Idx) : val_main_v32 (F := Ideal) o z ob gn i = mergeK (fun k => o (ix3 (hd (i 1)) (i 0) k)) (ln (i 1)) (gn (ix2 0 (ln (i 1))))
      (z (ix2 (i 0) ⟨3072 + (i 1).val, by have : (i 1).val < 1024 := (i 1).isLt; omega⟩))
      (z (ix2 (i 0) ⟨7168 + (i 1).val, by have : (i 1).val < 1024 := (i 1).isLt; omega⟩))
      (z (ix2 (i 0) ⟨8192 + (i 1).val, by have : (i 1).val < 1024 := (i 1).isLt; omega⟩)) (ob i) := by
  unfold mergeK
  rw [sgK_eq, sgK_eq, sgK_eq]
  pointwise [val_main_v32, val_main_v31, val_main_v30, val_main_v29, val_main_v28, val_main_v27, val_main_v26, val_main_v25, val_main_cst_3,
    val_main_v24, val_main_v23, val_main_cst_2, val_main_v22, val_main_v21, val_main_v20, val_main_v19, val_main_v18, val_main_call0_v5,
    val_main_call0_v4, val_main_call0_cst_0, val_main_call0_v3, val_main_call0_v2, val_main_call0_cst, val_main_call0_v1, val_main_call0_v0,
    val_main_v17, val_main_v16, val_main_v15, val_main_v14, val_main_v13, val_main_v12, val_main_v11, val_main_v10, val_main_v9, val_main_cst_1,
    val_main_v8, val_main_v7, val_main_cst_0, val_main_v6, val_main_v5, val_main_cst, val_main_v4, val_main_v3, val_main_v2, val_main_v1, val_main_v0, sgR, rK, hd, ln]
  all_goals blk_point [hd, ln]

/-- A row of the whole array under row `r` of point `t`'s block. -/
abbrev row (t : Fin cfg0.N) (r : Fin 256) : Fin 8192 := ⟨t.val * 256 + r.val, by have : t.val < 32 := t.isLt; omega⟩

open Cert.MergeFwdRefIdeal.Read in
/-- The merged branches after the run are the reference's. -/
theorem final6 (c : Dev nD) : (dats m 0 c).arrAt 6 (cfgs 0).N
    = val_main_v32 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ (by decide +kernel) fun t _ (y : S256x1024.Idx) => ?_
  have e0 : iblk m c 0 t = fun j : S8x256x128.Idx => m ((c : Thread nD τ).loc main_arg0) (ix3 (j 0) (row t (j 1)) (j 2)) := by
    funext j; blk_ext [iblk, V, idx t]
  have e1 : X0_1 m c t = fun j : S256x1024.Idx => m ((c : Thread nD τ).loc main_arg1) (ix2 (row t (j 0)) ⟨3072 + (j 1).val, by have : (j 1).val < 1024 := (j 1).isLt; omega⟩) := by
    funext j
    unfold X0_1 Pipeline.Window.fill
    rw [dif_pos (moved0_1 t _)]
    blk_ext [iblk, V, idx t]
  have e2 : X0_2 m c t = fun j : S256x1024.Idx => m ((c : Thread nD τ).loc main_arg1) (ix2 (row t (j 0)) ⟨7168 + (j 1).val, by have : (j 1).val < 1024 := (j 1).isLt; omega⟩) := by
    funext j
    unfold X0_2 Pipeline.Window.fill
    rw [dif_pos (moved0_2 t _)]
    blk_ext [iblk, V, idx t]
  have e3 : X0_3 m c t = fun j : S256x1024.Idx => m ((c : Thread nD τ).loc main_arg1) (ix2 (row t (j 0)) ⟨8192 + (j 1).val, by have : (j 1).val < 1024 := (j 1).isLt; omega⟩) := by
    funext j
    unfold X0_3 Pipeline.Window.fill
    rw [dif_pos (moved0_3 t _)]
    blk_ext [iblk, V, idx t]
  have e4 : iblk m c 4 t = fun j : S256x1024.Idx => m ((c : Thread nD τ).loc main_arg2) (ix2 (row t (j 0)) (j 1)) := by
    funext j; blk_ext [iblk, V, idx t]
  have e5 : iblk m c 5 t = m ((c : Thread nD τ).loc main_arg3) := by
    funext j; blk_ext [iblk, V, idx t]
  have ey : ((cfg0.win 6).blk t).view.emb y = ix2 (row t (y 0)) (y 1) := by blk_ext [idx t]
  blk_simp
  rw [after0_6, block m _ _ _ _ _ _ c t y e0 e1 e2 e3 e4 e5, ref, ey]
  rfl

/-- The idealized kernel runs and leaves every semaphore at zero. -/
theorem frame_ideal : @Cert.quiescent_MergeFwdIdeal Cert.MergeFwdIdeal.Gen.facts := fun m g _ => Cert.MergeFwdIdeal.Gen.frame m g

/-- The idealized reference runs and leaves every semaphore at zero. -/
theorem frame_ref : @Cert.quiescent_MergeFwdRefIdeal Cert.MergeFwdRefIdeal.Gen.facts := by
  intro m g _
  hlo_run
  · exact fun _ => ⟨trivial, trivial, trivial, trivial⟩
  · exact sem_eq_zero_of_no_sems (sig := Cert.MergeFwdRefIdeal.sig) (by decide) _

/-- The kernel's results are the reference's. -/
theorem value : @Cert.algebraic_MergeFwdIdeal_MergeFwdRefIdeal Cert.MergeFwdIdeal.Gen.facts Cert.MergeFwdRefIdeal.Gen.facts := by
  pair_intro
  · run_from Cert.MergeFwdIdeal.Gen.run_main m g
  · refine θ_run_mono (Cert.MergeFwdRefIdeal.Value.run (F := Ideal) m' g') fun r h c => ?_
    obtain ⟨a0, a1, a2, a3⟩ := hagree c
    exact ⟨(h c).1.trans ((Cert.MergeFwdRefIdeal.Read.val_main_v32_eq _ _ _ _).trans
      ((Cert.Agree.on4 Cert.MergeFwdRefIdeal.Read.val_main_v32 a0 a1 a2 a3).trans (final6 m c).symm)),
      (h c).2⟩

end Cert.MergeFwdIdeal.Own
-- ==== Proof.LossHeadValue.lean ====
module

public import proofs.«01_k».proof.Proof.Gen.LossHeadIdeal.Value
public import proofs.«01_k».proof.Proof.Gen.LossHeadRefIdeal.Run
public import proofs.«01_k».proof.Proof.Gen.LossHeadRefIdeal.Read
public import proofs.«01_k».proof.Defs
public import proofs.«01_k».proof.Proof.Gen.Pre_loss_head_inputs_finite
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.GatedReal
public import proofs.«01_k».proof.Proof.NormReal

@[expose] public section

set_option maxRecDepth 16384
noncomputable section
open Idealize.ShloMosaic Idealize.ShloMosaic.TcCoe Idealize.SL.Sem
open Idealize.ShloMosaic.Pipeline (Dat)
namespace Cert.LossHeadIdeal.Own
open Cert.LossHeadIdeal Cert.LossHeadIdeal.Gen
variable (m : (ℓ : Loc nD τ sig) → Buf (Elt Ideal) ℓ)

open Cert.Norm (msE gradK gradR shareR)

theorem idx : ∀ t : Fin cfg0.N, t.val < 16 ∧ win0_0.index t = ![t.val, 0] ∧ win0_1.index t = ![t.val, 0] ∧ win0_2.index t = ![0, 0] ∧
    win0_3.index t = ![0, 0] ∧ win0_4.index t = ![t.val, 0] ∧ win0_5.index t = ![0, 0] :=
  (by decide +kernel : ∀ t : Fin grid0.N, _)

/-- The difference of the normalised row and its target at one lane. -/
def diff (x : Fin 1024 → EReal) (g w : EReal) (q : Fin 1024) : EReal := x q * Ideal.rsqrt (msE x) * g - w
/-- A row's mean squared difference, and its term of the gain's gradient. -/
def tLoss (x : Fin 1024 → EReal) (g w : Fin 1024 → EReal) : EReal :=
  Ideal.div (∑ k, diff x (g k) (w k) k * diff x (g k) (w k) k) (Ideal.ofBits FTy.f32 0x44800000#32)
def tGain (x : Fin 1024 → EReal) (g w : EReal) (q : Fin 1024) : EReal :=
  diff x g w q * Ideal.ofBits FTy.f32 0x3A800000#32 * (x q * Ideal.rsqrt (msE x))

theorem pay1 (X W : FVec Ideal S512x1024 .f32) (g : FVec Ideal S1x1024 .f32) (A : FVec Ideal S1x128 .f32) (j) :
    k0_pay1 (F := Ideal) (k0_pay10 X g W) A j
      = A j + Ideal.ofBits FTy.f32 0x3F000000#32 * ∑ p : Fin 512, tLoss (fun k => X (ix2 p k)) (fun k => g (ix2 0 k)) (fun k => W (ix2 p k)) := by
  pointwise [k0_pay1, k0_pay10, k0_pay5, k0_pay4, k0_pay3, tLoss, diff, msE]

theorem pay2 (X W : FVec Ideal S512x1024 .f32) (g A : FVec Ideal S1x1024 .f32) (j) :
    k0_pay2 (F := Ideal) (k0_pay4 X) (k0_pay6 X g W) A j
      = A j + ∑ p : Fin 512, tGain (fun k => X (ix2 p k)) (g (ix2 0 (j 1))) (W (ix2 p (j 1))) (j 1) := by
  pointwise [k0_pay2, k0_pay6, k0_pay5, k0_pay4, k0_pay3, tGain, diff, msE]

/-- The cotangent of the normalised row before its gain. -/
def ct (x : Fin 1024 → EReal) (g w : Fin 1024 → EReal) (k : Fin 1024) : EReal :=
  diff x (g k) (w k) k * Ideal.ofBits FTy.f32 0x3A800000#32 * g k

theorem pay7 (X W : FVec Ideal S512x1024 .f32) (g : FVec Ideal S1x1024 .f32) (j) :
    k0_pay7 (F := Ideal) X g W j = gradK (fun k => X (ix2 (j 0) k))
      (ct (fun k => X (ix2 (j 0) k)) (fun k => g (ix2 0 k)) (fun k => W (ix2 (j 0) k))) 0 (j 1) := by
  refine Eq.trans ?_ (zero_add _).symm
  pointwise [k0_pay7, k0_pay6, k0_pay5, k0_pay4, k0_pay3, gradK, ct, diff, msE]

/-- The halved square's derivative: twice the half over 1024 lanes is the kernel's factor. -/
theorem scale (z : EReal) : Ideal.div (Ideal.ofBits FTy.f32 1056964608#32) (Ideal.ofBits FTy.f32 1149239296#32)
    * (Ideal.ofBits FTy.f32 1073741824#32 * z) = z * Ideal.ofBits FTy.f32 0x3A800000#32 := by
  have e2 : Ideal.ofBits FTy.f32 1073741824#32 = ((2 : ℝ) : EReal) := by simp [Ideal.ofBits, Ideal.ieee, -EReal.coe_mul]; norm_num
  have e3 : Ideal.ofBits FTy.f32 0x3A800000#32 = ((1 / 1024 : ℝ) : EReal) := by simp [Ideal.ofBits, Ideal.ieee, -EReal.coe_mul]; norm_num
  rw [← mul_assoc, mul_comm z, Cert.MergeCore.half_eq, Cert.Norm.lanes_eq, e2, e3, Cert.MergeCore.div_coe _ _ (by norm_num), ← EReal.coe_mul]
  norm_num

/-- A half goes into a sum, of any terms. -/
theorem half_sum {n : ℕ} (f : Fin n → EReal) :
    Ideal.ofBits FTy.f32 0x3F000000#32 * ∑ k, f k = ∑ k, Ideal.ofBits FTy.f32 0x3F000000#32 * f k := by
  rw [Cert.MergeCore.half_eq]
  induction n with
  | zero => simp
  | succ n ih =>
    rw [Fin.sum_univ_succ, Fin.sum_univ_succ, EReal.left_distrib_of_nonneg_of_ne_top (by exact_mod_cast (by norm_num : (0 : ℝ) ≤ 1 / 2)) (EReal.coe_ne_top _), ih]

theorem ct_real (x g w : Fin 1024 → EReal) (k : Fin 1024) (hx : ∀ k, ∃ r : ℝ, x k = (r : EReal)) (hg : ∀ k, ∃ r : ℝ, g k = (r : EReal))
    (hw : ∀ k, ∃ r : ℝ, w k = (r : EReal)) : ∃ r : ℝ, ct x g w k = (r : EReal) := by
  choose X hX using hx
  obtain ⟨G, hG⟩ := hg k
  obtain ⟨W, hW⟩ := hw k
  obtain rfl : x = fun k => (X k : EReal) := funext hX
  have e3 : Ideal.ofBits FTy.f32 0x3A800000#32 = ((1 / 1024 : ℝ) : EReal) := by simp [Ideal.ofBits, Ideal.ieee, -EReal.coe_mul]; norm_num
  refine ⟨(X k * Cert.Norm.rr X * G - W) * (1 / 1024) * G, ?_⟩
  unfold ct diff
  rw [Cert.Norm.msE_coe, Cert.MergeCore.rsqrt_coe _ (Cert.Norm.ms_pos X), hG, hW, e3]
  push_cast
  rfl

theorem lane (i : S1x1024.Idx) : (ix2 0 (i 1) : S1x1024.Idx) = i := by
  have h := (i 0).isLt
  blk_ext

open Cert.LossHeadRefIdeal.Read in
theorem ref51_at (X W : FVec Ideal S8192x1024 .f32) (g : FVec Ideal S1x1024 .f32) (a : Fin 8192) (b : Fin 1024) :
    val_main_v51 (F := Ideal) X W g (ix2 a b) = gradR (fun k => X (ix2 a k))
      (ct (fun k => X (ix2 a k)) (fun k => g (ix2 0 k)) (fun k => W (ix2 a k))) 0 b := by
  unfold gradR
  rw [zero_add]
  pointwise [val_main_v51, val_main_v50, val_main_v49, val_main_v48, val_main_v47, val_main_v46, val_main_cst_15, val_main_v45, val_main_v44,
    val_main_cst_14, val_main_v43, val_main_v42, val_main_v41, val_main_v40, val_main_v39, val_main_cst_13, val_main_v38, val_main_v36,
    val_main_v35, val_main_v31, val_main_v30, val_main_v29, val_main_v28, val_main_cst_10, val_main_v27, val_main_v26, val_main_cst_9,
    val_main_cst_8, val_main_v20, val_main_v19, val_main_cst_3, val_main_v17, val_main_v16, val_main_v15, val_main_v14, val_main_v13,
    val_main_v12, val_main_v11, val_main_v10, val_main_cst_2, val_main_v9, val_main_v8, val_main_v7, val_main_v6, val_main_cst_1,
    val_main_v5, val_main_v4, val_main_cst_0, val_main_v3, val_main_v2, val_main_cst, val_main_v1, val_main_v0, shareR, msE]
  simp only [Fin.sum_univ_one, scale]
  unfold ct diff msE
  rfl

open Cert.LossHeadRefIdeal.Read in
theorem ref51 (X W : FVec Ideal S8192x1024 .f32) (g : FVec Ideal S1x1024 .f32) (i : S8192x1024.Idx) :
    val_main_v51 (F := Ideal) X W g i = gradR (fun k => X (ix2 (i 0) k))
      (ct (fun k => X (ix2 (i 0) k)) (fun k => g (ix2 0 k)) (fun k => W (ix2 (i 0) k))) 0 (i 1) :=
  Eq.trans (congrArg (val_main_v51 (F := Ideal) X W g) (by blk_ext : i = ix2 (i 0) (i 1))) (ref51_at X W g (i 0) (i 1))

open Cert.LossHeadRefIdeal.Read in
theorem ref52 (X W : FVec Ideal S8192x1024 .f32) (g : FVec Ideal S1x1024 .f32) (i : S1x128.Idx) :
    val_main_v52 (F := Ideal) X W g i
      = ∑ n : Fin 8192, Ideal.ofBits FTy.f32 0x3F000000#32 * tLoss (fun k => X (ix2 n k)) (fun k => g (ix2 0 k)) (fun k => W (ix2 n k)) := by
  rw [← half_sum]
  pointwise [val_main_v52, val_main_v25, val_main_cst_7, val_main_v24, val_main_cst_6, val_main_v23, val_main_v22, val_main_cst_5, val_main_v21,
    val_main_cst_4, val_main_v18, val_main_v17, val_main_v16, val_main_v15, val_main_v14, val_main_v13,
    val_main_v12, val_main_v8, val_main_v7, val_main_v6, val_main_cst_1,
    val_main_v5, val_main_v4, val_main_cst_0, val_main_v3, val_main_v2, val_main_cst, val_main_v1, val_main_v0, tLoss, diff, msE]

open Cert.LossHeadRefIdeal.Read in
theorem ref53 (X W : FVec Ideal S8192x1024 .f32) (g : FVec Ideal S1x1024 .f32) (i : S1x1024.Idx) :
    val_main_v53 (F := Ideal) X W g i
      = ∑ n : Fin 8192, tGain (fun k => X (ix2 n k)) (g (ix2 0 (i 1))) (W (ix2 n (i 1))) (i 1) := by
  pointwise [val_main_v53, val_main_v37, val_main_cst_12, val_main_v34, val_main_v33, val_main_cst_11, val_main_v32,
    val_main_v31, val_main_v30, val_main_v29, val_main_v28, val_main_cst_10, val_main_v27, val_main_v26, val_main_cst_9,
    val_main_cst_8, val_main_v20, val_main_v19, val_main_cst_3, val_main_v17, val_main_v16, val_main_v15, val_main_v14, val_main_v13,
    val_main_v12, val_main_v8, val_main_v7, val_main_v6, val_main_cst_1,
    val_main_v5, val_main_v4, val_main_cst_0, val_main_v3, val_main_v2, val_main_cst, val_main_v1, val_main_v0, tGain, diff, msE]
  simp only [scale, Fin.sum_univ_one]
  rw [lane i]
  exact Finset.sum_congr rfl fun n _ => mul_comm _ _

theorem pay8 (j) : k0_pay8 (F := Ideal) j = 0 := by pointwise [k0_pay8]
theorem pay9 (j) : k0_pay9 (F := Ideal) j = 0 := by pointwise [k0_pay9]

theorem congr3 {α β γ δ : Sort _} (f : α → β → γ → δ) {a a' : α} {b b' : β} {c c' : γ} (h : a = a') (k : b = b') (l : c = c') :
    f a b c = f a' b' c' := by rw [h, k, l]

/-- What a point adds to the loss and to the gain's gradient. -/
def add3 (c : Dev nD) (t : Fin cfg0.N) (j : S1x128.Idx) : EReal :=
  ∑ p : Fin 512, Ideal.ofBits FTy.f32 0x3F000000#32 * tLoss (fun k => (iblk m c 0 t : FVec Ideal S512x1024 .f32) (ix2 p k))
    (fun k => (iblk m c 2 t : FVec Ideal S1x1024 .f32) (ix2 0 k)) (fun k => (iblk m c 1 t : FVec Ideal S512x1024 .f32) (ix2 p k))
def add5 (c : Dev nD) (t : Fin cfg0.N) (j : S1x1024.Idx) : EReal :=
  ∑ p : Fin 512, tGain (fun k => (iblk m c 0 t : FVec Ideal S512x1024 .f32) (ix2 p k)) ((iblk m c 2 t : FVec Ideal S1x1024 .f32) (ix2 0 (j 1)))
    ((iblk m c 1 t : FVec Ideal S512x1024 .f32) (ix2 p (j 1))) (j 1)

/-- The two sums of a run's first point, and of a later one. -/
theorem first (c : Dev nD) (t : Fin cfg0.N) (h : t.val % 16 = 0) :
    (∀ j : S1x128.Idx, (outsAt0 m c t.val t.isLt).1 j = 0 + add3 m c t j) ∧ ∀ j : S1x1024.Idx, (outsAt0 m c t.val t.isLt).2.2 j = 0 + add5 m c t j := by
  rw [outsAt0_A m c t h]
  refine ⟨fun j => ?_, fun j => ?_⟩
  · frame_out
    exact (pay1 _ _ _ _ _).trans (congrArg₂ (fun z w : EReal => z + w) (pay8 _) (half_sum _))
  · frame_out
    exact (pay2 _ _ _ _ _).trans (congrArg (fun z : EReal => z + add5 m c t j) (pay9 _))

theorem later (c : Dev nD) (t : Fin cfg0.N) (h : ¬t.val % 16 = 0) :
    (∀ j : S1x128.Idx, (outsAt0 m c t.val t.isLt).1 j = (outsAt0 m c (t.val - 1) (Nat.lt_of_le_of_lt (Nat.sub_le _ _) t.isLt)).1 j + add3 m c t j) ∧
    ∀ j : S1x1024.Idx, (outsAt0 m c t.val t.isLt).2.2 j = (outsAt0 m c (t.val - 1) (Nat.lt_of_le_of_lt (Nat.sub_le _ _) t.isLt)).2.2 j + add5 m c t j := by
  rw [outsAt0_B m c t h]
  refine ⟨fun j => ?_, fun j => ?_⟩
  · frame_out
    exact (pay1 _ _ _ _ _).trans (congrArg (fun w : EReal => _ + w) (half_sum _))
  · frame_out
    exact pay2 _ _ _ _ _

open Cert.LossHeadRefIdeal.Read in
/-- The loss after the run is the reference's. -/
theorem final3 (c : Dev nD) : (dats m 0 c).arrAt 3 (cfgs 0).N
    = val_main_v52 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, Pipeline.eq_sum_fin_of_reset_step_apply_of_flush (fun n h => (outsAt0 m c n h).1) 16 (fun _ => 0) (add3 m c)
    (fun t h j => (first m c t h).1 j) (fun t h j => (later m c t h).1 j) t h y, zero_add]
  unfold add3
  refine Eq.trans ?_ (ref52 _ _ _ _).symm
  refine Fin.sum_mul_add_congr fun s k hl => ?_
  have ht : t.val < 16 := t.isLt
  blk_point [iblk, V, idx ⟨_, Pipeline.run_point_lt_of_flush t h s⟩, idx t]

open Cert.LossHeadRefIdeal.Read in
/-- The gain's gradient after the run is the reference's. -/
theorem final5 (c : Dev nD) : (dats m 0 c).arrAt 5 (cfgs 0).N
    = val_main_v53 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have h := (flush0_5 t).mp hf
  blk_simp
  rw [after0_5, Pipeline.eq_sum_fin_of_reset_step_apply_of_flush (fun n h => (outsAt0 m c n h).2.2) 16 (fun _ => 0) (add5 m c)
    (fun t h j => (first m c t h).2 j) (fun t h j => (later m c t h).2 j) t h y, zero_add]
  unfold add5
  refine Eq.trans ?_ (ref53 _ _ _ _).symm
  refine Fin.sum_mul_add_congr fun s k hl => ?_
  have ht : t.val < 16 := t.isLt
  blk_point [iblk, V, idx ⟨_, Pipeline.run_point_lt_of_flush t h s⟩, idx t]

open Cert.LossHeadRefIdeal.Read in
/-- The rows' gradient after the run is the reference's. -/
theorem final4 (c : Dev nD) (hX : ∀ i, ∃ x : ℝ, (m ((c : Thread nD τ).loc main_arg0) i : EReal) = (x : EReal))
    (hW : ∀ i, ∃ x : ℝ, (m ((c : Thread nD τ).loc main_arg1) i : EReal) = (x : EReal))
    (hg : ∀ i, ∃ x : ℝ, (m ((c : Thread nD τ).loc main_arg2) i : EReal) = (x : EReal)) : (dats m 0 c).arrAt 4 (cfgs 0).N
    = val_main_v51 (F := Ideal) (m ((c : Thread nD τ).loc main_arg0)) (m ((c : Thread nD τ).loc main_arg1)) (m ((c : Thread nD τ).loc main_arg2)) := by
  refine (dats m 0 c).arrAt_eq_of_covers 4 _ (by decide +kernel) fun t _ (y : S512x1024.Idx) => ?_
  have e : ((outsAt0 m c t.val t.isLt).2.1 : FVec Ideal S512x1024 .f32) = k0_pay7 (F := Ideal) (iblk m c 0 t) (iblk m c 2 t) (iblk m c 1 t) := by
    by_cases h : t.val % 16 = 0
    · rw [outsAt0_A m c t h]; funext y; frame_out
    · rw [outsAt0_B m c t h]; funext y; frame_out
  blk_simp
  rw [after0_4, e]
  refine (pay7 _ _ _ y).trans (Eq.trans ?_ (ref51 _ _ _ _).symm)
  refine Eq.trans ?_ (Cert.Norm.grad_eq _ _ _ _ (fun k => hX _) fun k => ?_)
  · refine Cert.Norm.gradK_congr (fun k => ?_) (fun k => ?_) rfl ?_
    · blk_point [iblk, V, idx t]
    · exact congr3 (fun X G W : Fin 1024 → EReal => ct X G W k) (funext fun k => by blk_point [iblk, V, idx t])
        (funext fun k => by blk_point [iblk, V, idx t]) (funext fun k => by blk_point [iblk, V, idx t])
    · exact Fin.ext (by blk_simp [idx t])
  · exact ct_real _ _ _ k (fun k => hX _) (fun k => hg _) fun k => hW _

/-- The idealized kernel runs and leaves every semaphore at zero. -/
theorem frame_ideal : @Cert.quiescent_LossHeadIdeal Cert.LossHeadIdeal.Gen.facts := fun m g _ => Cert.LossHeadIdeal.Gen.frame m g

/-- The same under the claim's precondition. -/
theorem frame_ideal_pre : @Cert.quiescent_LossHeadIdeal_pre_loss_head_inputs_finite Cert.LossHeadIdeal.Gen.facts Cert.Pre_loss_head_inputs_finite.Gen.facts :=
  fun m g _ => Cert.LossHeadIdeal.Gen.frame m g

/-- The idealized reference runs and leaves every semaphore at zero. -/
theorem frame_ref : @Cert.quiescent_LossHeadRefIdeal Cert.LossHeadRefIdeal.Gen.facts := by
  intro m g _
  hlo_run
  · exact fun _ => ⟨trivial, trivial, trivial⟩
  · exact sem_eq_zero_of_no_sems (sig := Cert.LossHeadRefIdeal.sig) (by decide) _

/-- The same under the claim's precondition. -/
theorem frame_ref_pre : @Cert.quiescent_LossHeadRefIdeal_pre_loss_head_inputs_finite Cert.LossHeadRefIdeal.Gen.facts Cert.Pre_loss_head_inputs_finite.Gen.facts :=
  fun m g _ => frame_ref m g trivial

/-- The kernel's results are the reference's, of finite arguments. -/
theorem value : @Cert.algebraic_LossHeadIdeal_LossHeadRefIdeal_pre_loss_head_inputs_finite Cert.LossHeadIdeal.Gen.facts Cert.LossHeadRefIdeal.Gen.facts
    Cert.Pre_loss_head_inputs_finite.Gen.facts := by
  pair_intro
  · run_from Cert.LossHeadIdeal.Gen.run_main m g
  · refine θ_run_mono (Cert.LossHeadRefIdeal.Value.run (F := Ideal) m' g') fun r h c => ?_
    obtain ⟨p0, p1, p2⟩ := hpre c
    obtain ⟨a0, a1, a2⟩ := hagree c
    have f0 := Cert.Gated.finite_at _ _ _ p0
    have f1 := Cert.Gated.finite_at _ _ _ p1
    have f2 := Cert.Gated.finite_at _ _ _ p2
    exact ⟨(h c).1.trans ((Cert.LossHeadRefIdeal.Read.val_main_v52_eq _ _ _).trans
      ((Cert.Agree.on3 Cert.LossHeadRefIdeal.Read.val_main_v52 a0 a1 a2).trans (final3 m c).symm)),
      (h c).2.1.trans ((Cert.LossHeadRefIdeal.Read.val_main_v51_eq _ _).trans
      ((Cert.Agree.on3 Cert.LossHeadRefIdeal.Read.val_main_v51 a0 a1 a2).trans (final4 m c f0 f1 f2).symm)),
      (h c).2.2.1.trans ((Cert.LossHeadRefIdeal.Read.val_main_v53_eq _ _ _).trans
      ((Cert.Agree.on3 Cert.LossHeadRefIdeal.Read.val_main_v53 a0 a1 a2).trans (final5 m c).symm)),
      (h c).2.2.2⟩

end Cert.LossHeadIdeal.Own
-- ==== Proof.AdamwReal.lean ====
module

public import proofs.«01_k».proof.Proof.MergeReal

@[expose] public section

noncomputable section
open Idealize.ShloMosaic
/-! One entry of AdamW's first step, in the kernel's and the reference's shared order. -/
namespace Cert.Adam

/-- The new first and second moments. -/
def moment (g a : EReal) : EReal := Ideal.ofBits FTy.f32 0x3F666666#32 * a + Ideal.ofBits FTy.f32 0x3DCCCCCD#32 * g
def square (g b : EReal) : EReal := Ideal.ofBits FTy.f32 0x3F7FBE77#32 * b + Ideal.ofBits FTy.f32 0x3A83126F#32 * (g * g)
/-- The change of the weight. -/
def delta (g w a b : EReal) : EReal :=
  Ideal.ofBits FTy.f32 0xBA83126F#32 * (Ideal.div (Ideal.div (moment g a) (Ideal.ofBits FTy.f32 0x3F26BD02#32))
    (Ideal.sqrt (Ideal.div (square g b) (Ideal.ofBits FTy.f32 0x3C231ACC#32)) + Ideal.ofBits FTy.f32 0x322BCC77#32)
    + Ideal.ofBits FTy.f32 0x3C23D70A#32 * w)

end Cert.Adam
-- ==== Proof.WadaAdamwValue.lean ====
module

public import proofs.«01_k».proof.Proof.Gen.WadaAdamwIdeal.Value
public import proofs.«01_k».proof.Proof.Gen.WadaAdamwRefIdeal.Run
public import proofs.«01_k».proof.Proof.Gen.WadaAdamwRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.AdamwReal
public import proofs.«01_k».proof.Proof.Logistic

@[expose] public section

set_option maxRecDepth 16384
noncomputable section
open Idealize.ShloMosaic Idealize.ShloMosaic.TcCoe Idealize.SL.Sem
open Idealize.ShloMosaic.Pipeline (Dat)
namespace Cert.WadaAdamwIdeal.Own
open Cert.WadaAdamwIdeal Cert.WadaAdamwIdeal.Gen
variable (m : (ℓ : Loc nD τ sig) → Buf (Elt Ideal) ℓ)

open Cert.Adam (moment square delta)
open Cert.MergeCore (sgK sgR sgK_eq)

theorem idx : ∀ t : Fin cfg0.N, t.val < 4 ∧ win0_0.index t = ![0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧ win0_6.index t = ![t.val, 0, 0] ∧
    win0_7.index t = ![t.val, 0, 0] ∧ win0_8.index t = ![t.val, 0, 0] :=
  (by decide +kernel : ∀ t : Fin grid0.N, _)

/-- One entry of the gradient: over the batch, the activated condition times the modulation's gradient. -/
def grad (x d : Fin 8 → EReal) : EReal := ∑ k, x k * sgK (x k) * d k

theorem pay4 (x : FVec Ideal S1024x8 .f32) (d : FVec Ideal S1x8x768 .f32) (j : S1024x768.Idx) :
    k0_pay4 (F := Ideal) x d j = grad (fun k => x (ix2 (j 0) k)) (fun k => d (ix3 0 k (j 1))) := by
  pointwise [k0_pay4, grad, sgK]

open Cert.WadaAdamwRefIdeal.Read in
theorem ref6 (x : FVec Ideal S1024x8 .f32) (d : FVec Ideal S4x8x768 .f32) (i : S4x1024x768.Idx) :
    val_main_v6 (F := Ideal) x d i = grad (fun k => x (ix2 (i 1) k)) (fun k => d (ix3 (i 0) k (i 2))) := by
  unfold grad
  simp only [sgK_eq]
  pointwise [val_main_v6, val_main_v5, val_main_v4, val_main_v1, val_main_call0_v5, val_main_call0_v4, val_main_call0_cst_0, val_main_call0_v3,
    val_main_call0_v2, val_main_call0_cst, val_main_call0_v1, val_main_call0_v0, val_main_v0, sgR]
  exact Finset.sum_congr rfl fun k _ => mul_comm _ _

open Cert.WadaAdamwRefIdeal.Read in
/-- The reference's step, entry by entry, over its gradient. -/
theorem ref (x : FVec Ideal S1024x8 .f32) (d : FVec Ideal S4x8x768 .f32) (w a b : FVec Ideal S4x1024x768 .f32) (i : S4x1024x768.Idx) :
    val_main_v30 (F := Ideal) x d w a b i = delta (val_main_v6 (F := Ideal) x d i) (w i) (a i) (b i)
    ∧ val_main_v11 (F := Ideal) x d a i = moment (val_main_v6 (F := Ideal) x d i) (a i)
    ∧ val_main_v17 (F := Ideal) x d b i = square (val_main_v6 (F := Ideal) x d i) (b i) := by
  refine ⟨?_, ?_, ?_⟩
  all_goals
    pointwise [val_main_v30, val_main_v29, val_main_cst_7, val_main_v28, val_main_v27, val_main_v26, val_main_cst_6, val_main_v25, val_main_v24,
      val_main_v23, val_main_cst_5, val_main_v22, val_main_v21, val_main_v20, val_main_cst_4, val_main_v19, val_main_v18, val_main_cst_3,
      val_main_v17, val_main_v16, val_main_v15, val_main_cst_2, val_main_v14, val_main_v13, val_main_v12, val_main_cst_1, val_main_v11,
      val_main_v10, val_main_v9, val_main_cst_0, val_main_v8, val_main_v7, val_main_cst, delta, moment, square]

open Cert.WadaAdamwRefIdeal.Read in
theorem at6 (c : Dev nD) (t : Fin cfg0.N) (y : S1x1024x768.Idx) (i : S4x1024x768.Idx) (h0 : (i 0).val = t.val) (h1 : (i 1).val = (y 1).val)
    (h2 : (i 2).val = (y 2).val) : grad (fun k => iblk m c 0 t (ix2 (y 1) k)) (fun k => iblk m c 1 t (ix3 0 k (y 2)))
      = val_main_v6 (F := Ideal) (m ((c : Thread nD τ).loc main_arg0)) (m ((c : Thread nD τ).loc main_arg1)) i := by
  rw [ref6]
  congr 1
  · funext k; blk_point [iblk, V, idx t]
  · funext k; blk_point [iblk, V, idx t]

open Cert.WadaAdamwRefIdeal.Read in
theorem final5 (c : Dev nD) : (dats m 0 c).arrAt 5 (cfgs 0).N
    = val_main_v6 (F := Ideal) (m ((c : Thread nD τ).loc main_arg0)) (m ((c : Thread nD τ).loc main_arg1)) := by
  refine (dats m 0 c).arrAt_eq_of_covers 5 _ (by decide +kernel) fun t _ (y : S1x1024x768.Idx) => ?_
  blk_simp
  rw [after0_5]
  frame_out
  refine Eq.trans ?_ (at6 m c t y _ (by blk_simp [idx t]) (by blk_simp [idx t]) (by blk_simp [idx t]))
  pointwise [k0_pay5, pay4]

open Cert.WadaAdamwRefIdeal.Read in
theorem final6 (c : Dev nD) : (dats m 0 c).arrAt 6 (cfgs 0).N
    = val_main_v30 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ (y : S1x1024x768.Idx) => ?_
  blk_simp
  rw [after0_6]
  frame_out
  refine Eq.trans ?_ (ref _ _ _ _ _ _).1.symm
  rw [← at6 m c t y _ (by blk_simp [idx t]) (by blk_simp [idx t]) (by blk_simp [idx t])]
  pointwise [k0_pay1, k0_pay6, k0_pay7, k0_pay8, k0_pay9, k0_pay10, pay4, delta, moment, square]
  blk_point [iblk, V, idx t]

open Cert.WadaAdamwRefIdeal.Read in
theorem final7 (c : Dev nD) : (dats m 0 c).arrAt 7 (cfgs 0).N
    = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t _ (y : S1x1024x768.Idx) => ?_
  blk_simp
  rw [after0_7]
  frame_out
  refine Eq.trans ?_ (ref _ _ (m ((c : Thread nD τ).loc main_arg2)) _ (m ((c : Thread nD τ).loc main_arg4)) _).2.1.symm
  rw [← at6 m c t y _ (by blk_simp [idx t]) (by blk_simp [idx t]) (by blk_simp [idx t])]
  pointwise [k0_pay2, k0_pay7, k0_pay9, pay4, delta, moment, square]
  blk_point [iblk, V, idx t]

open Cert.WadaAdamwRefIdeal.Read in
theorem final8 (c : Dev nD) : (dats m 0 c).arrAt 8 (cfgs 0).N
    = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t _ (y : S1x1024x768.Idx) => ?_
  blk_simp
  rw [after0_8]
  frame_out
  refine Eq.trans ?_ (ref _ _ (m ((c : Thread nD τ).loc main_arg2)) (m ((c : Thread nD τ).loc main_arg3)) _ _).2.2.symm
  rw [← at6 m c t y _ (by blk_simp [idx t]) (by blk_simp [idx t]) (by blk_simp [idx t])]
  pointwise [k0_pay3, k0_pay8, k0_pay9, k0_pay10, pay4, delta, moment, square]
  blk_point [iblk, V, idx t]

/-- The idealized kernel runs and leaves every semaphore at zero. -/
theorem frame_ideal : @Cert.quiescent_WadaAdamwIdeal Cert.WadaAdamwIdeal.Gen.facts := fun m g _ => Cert.WadaAdamwIdeal.Gen.frame m g

/-- The idealized reference runs and leaves every semaphore at zero. -/
theorem frame_ref : @Cert.quiescent_WadaAdamwRefIdeal Cert.WadaAdamwRefIdeal.Gen.facts := by
  intro m g _
  hlo_run
  · exact fun _ => ⟨trivial, trivial, trivial, trivial, trivial⟩
  · exact sem_eq_zero_of_no_sems (sig := Cert.WadaAdamwRefIdeal.sig) (by decide) _

/-- The kernel's results are the reference's. -/
theorem value : @Cert.algebraic_WadaAdamwIdeal_WadaAdamwRefIdeal Cert.WadaAdamwIdeal.Gen.facts Cert.WadaAdamwRefIdeal.Gen.facts := by
  pair_intro
  · run_from Cert.WadaAdamwIdeal.Gen.run_main m g
  · refine θ_run_mono (Cert.WadaAdamwRefIdeal.Value.run (F := Ideal) m' g') fun r h c => ?_
    obtain ⟨a0, a1, a2, a3, a4⟩ := hagree c
    exact ⟨(h c).1.trans ((Cert.WadaAdamwRefIdeal.Read.val_main_v6_eq _ _).trans
      ((Cert.Agree.on2 Cert.WadaAdamwRefIdeal.Read.val_main_v6 a0 a1).trans (final5 m c).symm)),
      (h c).2.1.trans ((Cert.WadaAdamwRefIdeal.Read.val_main_v30_eq _ _ _ _ _).trans
      ((Cert.Agree.on5 Cert.WadaAdamwRefIdeal.Read.val_main_v30 a0 a1 a2 a3 a4).trans (final6 m c).symm)),
      (h c).2.2.1.trans ((Cert.WadaAdamwRefIdeal.Read.val_main_v11_eq _ _ _).trans
      ((Cert.Agree.on3 Cert.WadaAdamwRefIdeal.Read.val_main_v11 a0 a1 a3).trans (final7 m c).symm)),
      (h c).2.2.2.1.trans ((Cert.WadaAdamwRefIdeal.Read.val_main_v17_eq _ _ _).trans
      ((Cert.Agree.on3 Cert.WadaAdamwRefIdeal.Read.val_main_v17 a0 a1 a4).trans (final8 m c).symm)),
      (h c).2.2.2.2⟩

end Cert.WadaAdamwIdeal.Own
-- ==== Proof.AdamwInValue.lean ====
module

public import proofs.«01_k».proof.Proof.Gen.AdamwInIdeal.Value
public import proofs.«01_k».proof.Proof.Gen.AdamwInRefIdeal.Run
public import proofs.«01_k».proof.Proof.Gen.AdamwInRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.AdamwReal

@[expose] public section

set_option maxRecDepth 16384
noncomputable section
open Idealize.ShloMosaic Idealize.ShloMosaic.TcCoe Idealize.SL.Sem
open Idealize.ShloMosaic.Pipeline (Dat)
namespace Cert.AdamwInIdeal.Own
open Cert.AdamwInIdeal Cert.AdamwInIdeal.Gen
variable (m : (ℓ : Loc nD τ sig) → Buf (Elt Ideal) ℓ)

open Cert.Adam (moment square delta)

theorem idx : ∀ t : Fin cfg0.N, t.val < 32 ∧ (t.val < 8 → win0_0.index t = ![0, t.val, 0])
    ∧ (8 ≤ t.val → t.val < 16 → win0_1.index t = ![0, t.val - 8, 0]) ∧ (16 ≤ t.val → t.val < 24 → win0_2.index t = ![0, t.val - 16, 0])
    ∧ (24 ≤ t.val → win0_3.index t = ![0, t.val - 24, 0]) ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The sum of the devices' parts at one entry of a tile. -/
def total (x : FVec Ideal S8x128x1154 .bf16) (j : S128x1154.Idx) : EReal := ∑ k : Fin 8, x (ix3 k (j 0) (j 1))

/-- The four results of a grid point over the tile of parts that it adds. -/
def results (x : FVec Ideal S8x128x1154 .bf16) (w a b : FVec Ideal S128x1154 .f32) :
    FVec Ideal S128x1154 .f32 × FVec Ideal S128x1154 .f32 × FVec Ideal S128x1154 .f32 × FVec Ideal S128x1154 .f32 :=
  (fun j => total x j, fun j => delta (total x j) (w j) (a j) (b j), fun j => moment (total x j) (a j), fun j => square (total x j) (b j))

/-- The tile of parts of the layer at hand. -/
def tile (c : Dev nD) (t : Fin cfg0.N) : FVec Ideal S8x128x1154 .bf16 :=
  if t.val < 8 then iblk m c 0 t else if t.val < 16 then iblk m c 1 t else if t.val < 24 then iblk m c 2 t else iblk m c 3 t

theorem outs (c : Dev nD) (t : Fin cfg0.N) :
    outsAt0 m c t.val t.isLt = results (tile m c t) (iblk m c 4 t) (iblk m c 5 t) (iblk m c 6 t) := by
  have ht := (idx t).1
  unfold tile results
  have four : t.val < 8 ∨ (8 ≤ t.val ∧ t.val < 16) ∨ (16 ≤ t.val ∧ t.val < 24) ∨ 24 ≤ t.val := by omega
  obtain h | h | h | h := four
  · rw [if_pos h, outsAt0_A m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay1, k0_pay2, k0_pay3, k0_pay13, total, moment, square, delta]
      all_goals simp only [Fin.sum_univ_eight]
  · rw [if_neg (by omega), if_pos h.2, outsAt0_B m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay4, k0_pay5, k0_pay6, k0_pay14, total, moment, square, delta]
      all_goals simp only [Fin.sum_univ_eight]
  · rw [if_neg (by omega), if_neg (by omega), if_pos h.2, outsAt0_C m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay7, k0_pay8, k0_pay9, k0_pay15, total, moment, square, delta]
      all_goals simp only [Fin.sum_univ_eight]
  · rw [if_neg (by omega), if_neg (by omega), if_neg (by omega), outsAt0_D m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay10, k0_pay11, k0_pay12, k0_pay16, total, moment, square, delta]
      all_goals simp only [Fin.sum_univ_eight]

open Cert.AdamwInRefIdeal.Read in
/-- The summed gradient in the reference, by layer. -/
theorem grad (c : Dev nD) (t : Fin cfg0.N) (y : S128x1154.Idx) (i : S4096x1154.Idx) (h0 : (i 0).val = t.val * 128 + (y 0).val) (h1 : (i 1).val = (y 1).val) :
    total (tile m c t) y = val_main_v8 (F := Ideal) (m ((c : Thread nD τ).loc main_arg0)) (m ((c : Thread nD τ).loc main_arg1))
      (m ((c : Thread nD τ).loc main_arg2)) (m ((c : Thread nD τ).loc main_arg3)) i := by
  have hy : (y 0).val < 128 := (y 0).isLt
  obtain ⟨ht, i0, i1, i2, i3, _⟩ := idx t
  unfold tile
  pointwise [total, val_main_v8, val_main_v7, val_main_cst_2, val_main_v6, val_main_v5, val_main_cst_1, val_main_v4, val_main_v3, val_main_cst_0,
    val_main_v2, val_main_v1, val_main_cst, val_main_v0]
  have four : t.val < 8 ∨ (8 ≤ t.val ∧ t.val < 16) ∨ (16 ≤ t.val ∧ t.val < 24) ∨ 24 ≤ t.val := by omega
  obtain h | h | h | h := four
  · have i0 := i0 h
    rw [if_pos h]
    rw [dif_pos (by omega : (i 0).val < 1024)]
    blk_point [iblk, V, i0]
  · have i1 := i1 h.1 h.2
    rw [if_neg (by omega), if_pos h.2]
    rw [dif_neg (by omega : ¬(i 0).val < 1024), dif_pos (by omega : (i 0).val - 1024 < 1024)]
    blk_point [iblk, V, i1]
  · have i2 := i2 h.1 h.2
    rw [if_neg (by omega), if_neg (by omega), if_pos h.2]
    rw [dif_neg (by omega : ¬(i 0).val < 1024), dif_neg (by omega : ¬(i 0).val - 1024 < 1024), dif_pos (by omega : (i 0).val - 1024 - 1024 < 1024)]
    blk_point [iblk, V, i2]
  · have i3 := i3 h
    rw [if_neg (by omega), if_neg (by omega), if_neg (by omega)]
    rw [dif_neg (by omega : ¬(i 0).val < 1024), dif_neg (by omega : ¬(i 0).val - 1024 < 1024), dif_neg (by omega : ¬(i 0).val - 1024 - 1024 < 1024)]
    blk_point [iblk, V, i3]

open Cert.AdamwInRefIdeal.Read in
/-- The reference's step, entry by entry, over its summed gradient. -/
theorem ref (p0 p1 p2 p3 : FVec Ideal S8x1024x1154 .bf16) (w a b : FVec Ideal S4096x1154 .f32) (i : S4096x1154.Idx) :
    val_main_v32 (F := Ideal) p0 p1 p2 p3 w a b i = delta (val_main_v8 (F := Ideal) p0 p1 p2 p3 i) (w i) (a i) (b i)
    ∧ val_main_v13 (F := Ideal) p0 p1 p2 p3 a i = moment (val_main_v8 (F := Ideal) p0 p1 p2 p3 i) (a i)
    ∧ val_main_v19 (F := Ideal) p0 p1 p2 p3 b i = square (val_main_v8 (F := Ideal) p0 p1 p2 p3 i) (b i) := by
  refine ⟨?_, ?_, ?_⟩
  all_goals
    pointwise [val_main_v32, val_main_v31, val_main_cst_11, val_main_v30, val_main_v29, val_main_v28, val_main_cst_10, val_main_v27, val_main_v26,
      val_main_v25, val_main_cst_9, val_main_v24, val_main_v23, val_main_v22, val_main_cst_8, val_main_v21, val_main_v20, val_main_cst_7,
      val_main_v19, val_main_v18, val_main_v17, val_main_cst_6, val_main_v16, val_main_v15, val_main_v14, val_main_cst_5, val_main_v13,
      val_main_v12, val_main_v11, val_main_cst_4, val_main_v10, val_main_v9, val_main_cst_3, delta, moment, square]

open Cert.AdamwInRefIdeal.Read in
theorem final7 (c : Dev nD) : (dats m 0 c).arrAt 7 (cfgs 0).N
    = val_main_v8 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ (y : S128x1154.Idx) => ?_
  blk_simp
  rw [after0_7, outs]
  exact grad m c t y _ (by blk_simp [idx t]) (by blk_simp [idx t])

open Cert.AdamwInRefIdeal.Read in
theorem final8 (c : Dev nD) : (dats m 0 c).arrAt 8 (cfgs 0).N
    = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 8 _ (by decide +kernel) fun t _ (y : S128x1154.Idx) => ?_
  blk_simp
  rw [after0_8, outs]
  refine Eq.trans ?_ (ref _ _ _ _ _ _ _ _).1.symm
  rw [← grad m c t y _ (by blk_simp [idx t]) (by blk_simp [idx t])]
  unfold results
  dsimp only
  congr 1 <;> blk_point [iblk, V, idx t]

open Cert.AdamwInRefIdeal.Read in
theorem final9 (c : Dev nD) : (dats m 0 c).arrAt 9 (cfgs 0).N
    = val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 9 _ (by decide +kernel) fun t _ (y : S128x1154.Idx) => ?_
  blk_simp
  rw [after0_9, outs]
  refine Eq.trans ?_ (ref _ _ _ _ (m ((c : Thread nD τ).loc main_arg4)) _ (m ((c : Thread nD τ).loc main_arg6)) _).2.1.symm
  rw [← grad m c t y _ (by blk_simp [idx t]) (by blk_simp [idx t])]
  unfold results
  dsimp only
  congr 1 <;> blk_point [iblk, V, idx t]

open Cert.AdamwInRefIdeal.Read in
theorem final10 (c : Dev nD) : (dats m 0 c).arrAt 10 (cfgs 0).N
    = val_main_v19 (F := Ideal) (m ((c : Thread nD τ).loc main_arg0)) (m ((c : Thread nD τ).loc main_arg1))
      (m ((c : Thread nD τ).loc main_arg2)) (m ((c : Thread nD τ).loc main_arg3)) (m ((c : Thread nD τ).loc main_arg6)) := by
  refine (dats m 0 c).arrAt_eq_of_covers 10 _ (by decide +kernel) fun t _ (y : S128x1154.Idx) => ?_
  blk_simp
  rw [after0_10, outs]
  refine Eq.trans ?_ (ref _ _ _ _ (m ((c : Thread nD τ).loc main_arg4)) (m ((c : Thread nD τ).loc main_arg5)) _ _).2.2.symm
  rw [← grad m c t y _ (by blk_simp [idx t]) (by blk_simp [idx t])]
  unfold results
  dsimp only
  congr 1 <;> blk_point [iblk, V, idx t]

/-- The idealized kernel runs and leaves every semaphore at zero. -/
theorem frame_ideal : @Cert.quiescent_AdamwInIdeal Cert.AdamwInIdeal.Gen.facts := fun m g _ => Cert.AdamwInIdeal.Gen.frame m g

/-- The idealized reference runs and leaves every semaphore at zero. -/
theorem frame_ref : @Cert.quiescent_AdamwInRefIdeal Cert.AdamwInRefIdeal.Gen.facts := by
  intro m g _
  hlo_run
  · exact fun _ => ⟨trivial, trivial, trivial, trivial, trivial, trivial, trivial⟩
  · exact sem_eq_zero_of_no_sems (sig := Cert.AdamwInRefIdeal.sig) (by decide) _

/-- The kernel's results are the reference's. -/
theorem value : @Cert.algebraic_AdamwInIdeal_AdamwInRefIdeal Cert.AdamwInIdeal.Gen.facts Cert.AdamwInRefIdeal.Gen.facts := by
  pair_intro
  · run_from Cert.AdamwInIdeal.Gen.run_main m g
  · refine θ_run_mono (Cert.AdamwInRefIdeal.Value.run (F := Ideal) m' g') fun r h c => ?_
    obtain ⟨a0, a1, a2, a3, a4, a5, a6⟩ := hagree c
    exact ⟨(h c).1.trans ((Cert.AdamwInRefIdeal.Read.val_main_v8_eq _ _ _ _).trans
      ((Cert.Agree.on4 Cert.AdamwInRefIdeal.Read.val_main_v8 a0 a1 a2 a3).trans (final7 m c).symm)),
      (h c).2.1.trans ((Cert.AdamwInRefIdeal.Read.val_main_v32_eq _ _).trans
      ((Cert.Agree.on7 Cert.AdamwInRefIdeal.Read.val_main_v32 a0 a1 a2 a3 a4 a5 a6).trans (final8 m c).symm)),
      (h c).2.2.1.trans ((Cert.AdamwInRefIdeal.Read.val_main_v13_eq _ _ _ _ _).trans
      ((Cert.Agree.on5 Cert.AdamwInRefIdeal.Read.val_main_v13 a0 a1 a2 a3 a5).trans (final9 m c).symm)),
      (h c).2.2.2.1.trans ((Cert.AdamwInRefIdeal.Read.val_main_v19_eq _ _ _ _ _).trans
      ((Cert.Agree.on5 Cert.AdamwInRefIdeal.Read.val_main_v19 a0 a1 a2 a3 a6).trans (final10 m c).symm)),
      (h c).2.2.2.2⟩

end Cert.AdamwInIdeal.Own
-- ==== Proof.AdamwOutValue.lean ====
module

public import proofs.«01_k».proof.Proof.Gen.AdamwOutIdeal.Value
public import proofs.«01_k».proof.Proof.Gen.AdamwOutRefIdeal.Run
public import proofs.«01_k».proof.Proof.Gen.AdamwOutRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.AdamwReal

@[expose] public section

set_option maxRecDepth 16384
noncomputable section
open Idealize.ShloMosaic Idealize.ShloMosaic.TcCoe Idealize.SL.Sem
open Idealize.ShloMosaic.Pipeline (Dat)
namespace Cert.AdamwOutIdeal.Own
open Cert.AdamwOutIdeal Cert.AdamwOutIdeal.Gen
variable (m : (ℓ : Loc nD τ sig) → Buf (Elt Ideal) ℓ)

open Cert.Adam (moment square delta)

theorem idx : ∀ t : Fin cfg0.N, t.val < 4 ∧ (t.val < 1 → win0_0.index t = ![0, t.val, 0])
    ∧ (1 ≤ t.val → t.val < 2 → win0_1.index t = ![0, t.val - 1, 0]) ∧ (2 ≤ t.val → t.val < 3 → win0_2.index t = ![0, t.val - 2, 0])
    ∧ (3 ≤ t.val → win0_3.index t = ![0, t.val - 3, 0]) ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The sum of the devices' parts at one entry of a tile. -/
def total (x : FVec Ideal S8x128x1024 .bf16) (j : S128x1024.Idx) : EReal := ∑ k : Fin 8, x (ix3 k (j 0) (j 1))

/-- The four results of a grid point over the tile of parts that it adds. -/
def results (x : FVec Ideal S8x128x1024 .bf16) (w a b : FVec Ideal S128x1024 .f32) :
    FVec Ideal S128x1024 .f32 × FVec Ideal S128x1024 .f32 × FVec Ideal S128x1024 .f32 × FVec Ideal S128x1024 .f32 :=
  (fun j => total x j, fun j => delta (total x j) (w j) (a j) (b j), fun j => moment (total x j) (a j), fun j => square (total x j) (b j))

/-- The tile of parts of the layer at hand. -/
def tile (c : Dev nD) (t : Fin cfg0.N) : FVec Ideal S8x128x1024 .bf16 :=
  if t.val < 1 then iblk m c 0 t else if t.val < 2 then iblk m c 1 t else if t.val < 3 then iblk m c 2 t else iblk m c 3 t

theorem outs (c : Dev nD) (t : Fin cfg0.N) :
    outsAt0 m c t.val t.isLt = results (tile m c t) (iblk m c 4 t) (iblk m c 5 t) (iblk m c 6 t) := by
  have ht := (idx t).1
  unfold tile results
  have four : t.val < 1 ∨ (1 ≤ t.val ∧ t.val < 2) ∨ (2 ≤ t.val ∧ t.val < 3) ∨ 3 ≤ t.val := by omega
  obtain h | h | h | h := four
  · rw [if_pos h, outsAt0_A m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay1, k0_pay2, k0_pay3, k0_pay13, total, moment, square, delta]
      all_goals simp only [Fin.sum_univ_eight]
  · rw [if_neg (by omega), if_pos h.2, outsAt0_B m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay4, k0_pay5, k0_pay6, k0_pay14, total, moment, square, delta]
      all_goals simp only [Fin.sum_univ_eight]
  · rw [if_neg (by omega), if_neg (by omega), if_pos h.2, outsAt0_C m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay7, k0_pay8, k0_pay9, k0_pay15, total, moment, square, delta]
      all_goals simp only [Fin.sum_univ_eight]
  · rw [if_neg (by omega), if_neg (by omega), if_neg (by omega), outsAt0_D m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay10, k0_pay11, k0_pay12, k0_pay16, total, moment, square, delta]
      all_goals simp only [Fin.sum_univ_eight]

open Cert.AdamwOutRefIdeal.Read in
/-- The summed gradient in the reference, by layer. -/
theorem grad (c : Dev nD) (t : Fin cfg0.N) (y : S128x1024.Idx) (i : S512x1024.Idx) (h0 : (i 0).val = t.val * 128 + (y 0).val) (h1 : (i 1).val = (y 1).val) :
    total (tile m c t) y = val_main_v8 (F := Ideal) (m ((c : Thread nD τ).loc main_arg0)) (m ((c : Thread nD τ).loc main_arg1))
      (m ((c : Thread nD τ).loc main_arg2)) (m ((c : Thread nD τ).loc main_arg3)) i := by
  have hy : (y 0).val < 128 := (y 0).isLt
  obtain ⟨ht, i0, i1, i2, i3, _⟩ := idx t
  unfold tile
  pointwise [total, val_main_v8, val_main_v7, val_main_cst_2, val_main_v6, val_main_v5, val_main_cst_1, val_main_v4, val_main_v3, val_main_cst_0,
    val_main_v2, val_main_v1, val_main_cst, val_main_v0]
  have four : t.val < 1 ∨ (1 ≤ t.val ∧ t.val < 2) ∨ (2 ≤ t.val ∧ t.val < 3) ∨ 3 ≤ t.val := by omega
  obtain h | h | h | h := four
  · have i0 := i0 h
    rw [if_pos h]
    rw [dif_pos (by omega : (i 0).val < 128)]
    blk_point [iblk, V, i0]
  · have i1 := i1 h.1 h.2
    rw [if_neg (by omega), if_pos h.2]
    rw [dif_neg (by omega : ¬(i 0).val < 128), dif_pos (by omega : (i 0).val - 128 < 128)]
    blk_point [iblk, V, i1]
  · have i2 := i2 h.1 h.2
    rw [if_neg (by omega), if_neg (by omega), if_pos h.2]
    rw [dif_neg (by omega : ¬(i 0).val < 128), dif_neg (by omega : ¬(i 0).val - 128 < 128), dif_pos (by omega : (i 0).val - 128 - 128 < 128)]
    blk_point [iblk, V, i2]
  · have i3 := i3 h
    rw [if_neg (by omega), if_neg (by omega), if_neg (by omega)]
    rw [dif_neg (by omega : ¬(i 0).val < 128), dif_neg (by omega : ¬(i 0).val - 128 < 128), dif_neg (by omega : ¬(i 0).val - 128 - 128 < 128)]
    blk_point [iblk, V, i3]

open Cert.AdamwOutRefIdeal.Read in
/-- The reference's step, entry by entry, over its summed gradient. -/
theorem ref (p0 p1 p2 p3 : FVec Ideal S8x128x1024 .bf16) (w a b : FVec Ideal S512x1024 .f32) (i : S512x1024.Idx) :
    val_main_v32 (F := Ideal) p0 p1 p2 p3 w a b i = delta (val_main_v8 (F := Ideal) p0 p1 p2 p3 i) (w i) (a i) (b i)
    ∧ val_main_v13 (F := Ideal) p0 p1 p2 p3 a i = moment (val_main_v8 (F := Ideal) p0 p1 p2 p3 i) (a i)
    ∧ val_main_v19 (F := Ideal) p0 p1 p2 p3 b i = square (val_main_v8 (F := Ideal) p0 p1 p2 p3 i) (b i) := by
  refine ⟨?_, ?_, ?_⟩
  all_goals
    pointwise [val_main_v32, val_main_v31, val_main_cst_11, val_main_v30, val_main_v29, val_main_v28, val_main_cst_10, val_main_v27, val_main_v26,
      val_main_v25, val_main_cst_9, val_main_v24, val_main_v23, val_main_v22, val_main_cst_8, val_main_v21, val_main_v20, val_main_cst_7,
      val_main_v19, val_main_v18, val_main_v17, val_main_cst_6, val_main_v16, val_main_v15, val_main_v14, val_main_cst_5, val_main_v13,
      val_main_v12, val_main_v11, val_main_cst_4, val_main_v10, val_main_v9, val_main_cst_3, delta, moment, square]

open Cert.AdamwOutRefIdeal.Read in
theorem final7 (c : Dev nD) : (dats m 0 c).arrAt 7 (cfgs 0).N
    = val_main_v8 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ (y : S128x1024.Idx) => ?_
  blk_simp
  rw [after0_7, outs]
  exact grad m c t y _ (by blk_simp [idx t]) (by blk_simp [idx t])

open Cert.AdamwOutRefIdeal.Read in
theorem final8 (c : Dev nD) : (dats m 0 c).arrAt 8 (cfgs 0).N
    = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 8 _ (by decide +kernel) fun t _ (y : S128x1024.Idx) => ?_
  blk_simp
  rw [after0_8, outs]
  refine Eq.trans ?_ (ref _ _ _ _ _ _ _ _).1.symm
  rw [← grad m c t y _ (by blk_simp [idx t]) (by blk_simp [idx t])]
  unfold results
  dsimp only
  congr 1 <;> blk_point [iblk, V, idx t]

open Cert.AdamwOutRefIdeal.Read in
theorem final9 (c : Dev nD) : (dats m 0 c).arrAt 9 (cfgs 0).N
    = val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 9 _ (by decide +kernel) fun t _ (y : S128x1024.Idx) => ?_
  blk_simp
  rw [after0_9, outs]
  refine Eq.trans ?_ (ref _ _ _ _ (m ((c : Thread nD τ).loc main_arg4)) _ (m ((c : Thread nD τ).loc main_arg6)) _).2.1.symm
  rw [← grad m c t y _ (by blk_simp [idx t]) (by blk_simp [idx t])]
  unfold results
  dsimp only
  congr 1 <;> blk_point [iblk, V, idx t]

open Cert.AdamwOutRefIdeal.Read in
theorem final10 (c : Dev nD) : (dats m 0 c).arrAt 10 (cfgs 0).N
    = val_main_v19 (F := Ideal) (m ((c : Thread nD τ).loc main_arg0)) (m ((c : Thread nD τ).loc main_arg1))
      (m ((c : Thread nD τ).loc main_arg2)) (m ((c : Thread nD τ).loc main_arg3)) (m ((c : Thread nD τ).loc main_arg6)) := by
  refine (dats m 0 c).arrAt_eq_of_covers 10 _ (by decide +kernel) fun t _ (y : S128x1024.Idx) => ?_
  blk_simp
  rw [after0_10, outs]
  refine Eq.trans ?_ (ref _ _ _ _ (m ((c : Thread nD τ).loc main_arg4)) (m ((c : Thread nD τ).loc main_arg5)) _ _).2.2.symm
  rw [← grad m c t y _ (by blk_simp [idx t]) (by blk_simp [idx t])]
  unfold results
  dsimp only
  congr 1 <;> blk_point [iblk, V, idx t]

/-- The idealized kernel runs and leaves every semaphore at zero. -/
theorem frame_ideal : @Cert.quiescent_AdamwOutIdeal Cert.AdamwOutIdeal.Gen.facts := fun m g _ => Cert.AdamwOutIdeal.Gen.frame m g

/-- The idealized reference runs and leaves every semaphore at zero. -/
theorem frame_ref : @Cert.quiescent_AdamwOutRefIdeal Cert.AdamwOutRefIdeal.Gen.facts := by
  intro m g _
  hlo_run
  · exact fun _ => ⟨trivial, trivial, trivial, trivial, trivial, trivial, trivial⟩
  · exact sem_eq_zero_of_no_sems (sig := Cert.AdamwOutRefIdeal.sig) (by decide) _

/-- The kernel's results are the reference's. -/
theorem value : @Cert.algebraic_AdamwOutIdeal_AdamwOutRefIdeal Cert.AdamwOutIdeal.Gen.facts Cert.AdamwOutRefIdeal.Gen.facts := by
  pair_intro
  · run_from Cert.AdamwOutIdeal.Gen.run_main m g
  · refine θ_run_mono (Cert.AdamwOutRefIdeal.Value.run (F := Ideal) m' g') fun r h c => ?_
    obtain ⟨a0, a1, a2, a3, a4, a5, a6⟩ := hagree c
    exact ⟨(h c).1.trans ((Cert.AdamwOutRefIdeal.Read.val_main_v8_eq _ _ _ _).trans
      ((Cert.Agree.on4 Cert.AdamwOutRefIdeal.Read.val_main_v8 a0 a1 a2 a3).trans (final7 m c).symm)),
      (h c).2.1.trans ((Cert.AdamwOutRefIdeal.Read.val_main_v32_eq _ _).trans
      ((Cert.Agree.on7 Cert.AdamwOutRefIdeal.Read.val_main_v32 a0 a1 a2 a3 a4 a5 a6).trans (final8 m c).symm)),
      (h c).2.2.1.trans ((Cert.AdamwOutRefIdeal.Read.val_main_v13_eq _ _ _ _ _).trans
      ((Cert.Agree.on5 Cert.AdamwOutRefIdeal.Read.val_main_v13 a0 a1 a2 a3 a5).trans (final9 m c).symm)),
      (h c).2.2.2.1.trans ((Cert.AdamwOutRefIdeal.Read.val_main_v19_eq _ _ _ _ _).trans
      ((Cert.Agree.on5 Cert.AdamwOutRefIdeal.Read.val_main_v19 a0 a1 a2 a3 a6).trans (final10 m c).symm)),
      (h c).2.2.2.2⟩

end Cert.AdamwOutIdeal.Own
-- ==== Proof.AdamwFfInValue.lean ====
module

public import proofs.«01_k».proof.Proof.Gen.AdamwFfInIdeal.Value
public import proofs.«01_k».proof.Proof.Gen.AdamwFfInRefIdeal.Run
public import proofs.«01_k».proof.Proof.Gen.AdamwFfInRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.AdamwReal

@[expose] public section

set_option maxRecDepth 16384
noncomputable section
open Idealize.ShloMosaic Idealize.ShloMosaic.TcCoe Idealize.SL.Sem
open Idealize.ShloMosaic.Pipeline (Dat)
namespace Cert.AdamwFfInIdeal.Own
open Cert.AdamwFfInIdeal Cert.AdamwFfInIdeal.Gen
variable (m : (ℓ : Loc nD τ sig) → Buf (Elt Ideal) ℓ)

open Cert.Adam (moment square delta)

theorem idx : ∀ t : Fin cfg0.N, t.val < 16 ∧ (t.val < 4 → win0_0.index t = ![0, t.val, 0])
    ∧ (4 ≤ t.val → t.val < 8 → win0_1.index t = ![0, t.val - 4, 0]) ∧ (8 ≤ t.val → t.val < 12 → win0_2.index t = ![0, t.val - 8, 0])
    ∧ (12 ≤ t.val → win0_3.index t = ![0, t.val - 12, 0]) ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The sum of the devices' parts at one entry of a tile. -/
def total (x : FVec Ideal S8x256x512 .bf16) (j : S256x512.Idx) : EReal := ∑ k : Fin 8, x (ix3 k (j 0) (j 1))

/-- The four results of a grid point over the tile of parts that it adds. -/
def results (x : FVec Ideal S8x256x512 .bf16) (w a b : FVec Ideal S256x512 .f32) :
    FVec Ideal S256x512 .f32 × FVec Ideal S256x512 .f32 × FVec Ideal S256x512 .f32 × FVec Ideal S256x512 .f32 :=
  (fun j => total x j, fun j => delta (total x j) (w j) (a j) (b j), fun j => moment (total x j) (a j), fun j => square (total x j) (b j))

/-- The tile of parts of the layer at hand. -/
def tile (c : Dev nD) (t : Fin cfg0.N) : FVec Ideal S8x256x512 .bf16 :=
  if t.val < 4 then iblk m c 0 t else if t.val < 8 then iblk m c 1 t else if t.val < 12 then iblk m c 2 t else iblk m c 3 t

theorem outs (c : Dev nD) (t : Fin cfg0.N) :
    outsAt0 m c t.val t.isLt = results (tile m c t) (iblk m c 4 t) (iblk m c 5 t) (iblk m c 6 t) := by
  have ht := (idx t).1
  unfold tile results
  have four : t.val < 4 ∨ (4 ≤ t.val ∧ t.val < 8) ∨ (8 ≤ t.val ∧ t.val < 12) ∨ 12 ≤ t.val := by omega
  obtain h | h | h | h := four
  · rw [if_pos h, outsAt0_A m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay1, k0_pay2, k0_pay3, k0_pay13, total, moment, square, delta]
      all_goals simp only [Fin.sum_univ_eight]
  · rw [if_neg (by omega), if_pos h.2, outsAt0_B m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay4, k0_pay5, k0_pay6, k0_pay14, total, moment, square, delta]
      all_goals simp only [Fin.sum_univ_eight]
  · rw [if_neg (by omega), if_neg (by omega), if_pos h.2, outsAt0_C m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay7, k0_pay8, k0_pay9, k0_pay15, total, moment, square, delta]
      all_goals simp only [Fin.sum_univ_eight]
  · rw [if_neg (by omega), if_neg (by omega), if_neg (by omega), outsAt0_D m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay10, k0_pay11, k0_pay12, k0_pay16, total, moment, square, delta]
      all_goals simp only [Fin.sum_univ_eight]

open Cert.AdamwFfInRefIdeal.Read in
/-- The summed gradient in the reference, by layer. -/
theorem grad (c : Dev nD) (t : Fin cfg0.N) (y : S256x512.Idx) (i : S4096x512.Idx) (h0 : (i 0).val = t.val * 256 + (y 0).val) (h1 : (i 1).val = (y 1).val) :
    total (tile m c t) y = val_main_v8 (F := Ideal) (m ((c : Thread nD τ).loc main_arg0)) (m ((c : Thread nD τ).loc main_arg1))
      (m ((c : Thread nD τ).loc main_arg2)) (m ((c : Thread nD τ).loc main_arg3)) i := by
  have hy : (y 0).val < 256 := (y 0).isLt
  obtain ⟨ht, i0, i1, i2, i3, _⟩ := idx t
  unfold tile
  pointwise [total, val_main_v8, val_main_v7, val_main_cst_2, val_main_v6, val_main_v5, val_main_cst_1, val_main_v4, val_main_v3, val_main_cst_0,
    val_main_v2, val_main_v1, val_main_cst, val_main_v0]
  have four : t.val < 4 ∨ (4 ≤ t.val ∧ t.val < 8) ∨ (8 ≤ t.val ∧ t.val < 12) ∨ 12 ≤ t.val := by omega
  obtain h | h | h | h := four
  · have i0 := i0 h
    rw [if_pos h]
    rw [dif_pos (by omega : (i 0).val < 1024)]
    blk_point [iblk, V, i0]
  · have i1 := i1 h.1 h.2
    rw [if_neg (by omega), if_pos h.2]
    rw [dif_neg (by omega : ¬(i 0).val < 1024), dif_pos (by omega : (i 0).val - 1024 < 1024)]
    blk_point [iblk, V, i1]
  · have i2 := i2 h.1 h.2
    rw [if_neg (by omega), if_neg (by omega), if_pos h.2]
    rw [dif_neg (by omega : ¬(i 0).val < 1024), dif_neg (by omega : ¬(i 0).val - 1024 < 1024), dif_pos (by omega : (i 0).val - 1024 - 1024 < 1024)]
    blk_point [iblk, V, i2]
  · have i3 := i3 h
    rw [if_neg (by omega), if_neg (by omega), if_neg (by omega)]
    rw [dif_neg (by omega : ¬(i 0).val < 1024), dif_neg (by omega : ¬(i 0).val - 1024 < 1024), dif_neg (by omega : ¬(i 0).val - 1024 - 1024 < 1024)]
    blk_point [iblk, V, i3]

open Cert.AdamwFfInRefIdeal.Read in
/-- The reference's step, entry by entry, over its summed gradient. -/
theorem ref (p0 p1 p2 p3 : FVec Ideal S8x1024x512 .bf16) (w a b : FVec Ideal S4096x512 .f32) (i : S4096x512.Idx) :
    val_main_v32 (F := Ideal) p0 p1 p2 p3 w a b i = delta (val_main_v8 (F := Ideal) p0 p1 p2 p3 i) (w i) (a i) (b i)
    ∧ val_main_v13 (F := Ideal) p0 p1 p2 p3 a i = moment (val_main_v8 (F := Ideal) p0 p1 p2 p3 i) (a i)
    ∧ val_main_v19 (F := Ideal) p0 p1 p2 p3 b i = square (val_main_v8 (F := Ideal) p0 p1 p2 p3 i) (b i) := by
  refine ⟨?_, ?_, ?_⟩
  all_goals
    pointwise [val_main_v32, val_main_v31, val_main_cst_11, val_main_v30, val_main_v29, val_main_v28, val_main_cst_10, val_main_v27, val_main_v26,
      val_main_v25, val_main_cst_9, val_main_v24, val_main_v23, val_main_v22, val_main_cst_8, val_main_v21, val_main_v20, val_main_cst_7,
      val_main_v19, val_main_v18, val_main_v17, val_main_cst_6, val_main_v16, val_main_v15, val_main_v14, val_main_cst_5, val_main_v13,
      val_main_v12, val_main_v11, val_main_cst_4, val_main_v10, val_main_v9, val_main_cst_3, delta, moment, square]

open Cert.AdamwFfInRefIdeal.Read in
theorem final7 (c : Dev nD) : (dats m 0 c).arrAt 7 (cfgs 0).N
    = val_main_v8 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ (y : S256x512.Idx) => ?_
  blk_simp
  rw [after0_7, outs]
  exact grad m c t y _ (by blk_simp [idx t]) (by blk_simp [idx t])

open Cert.AdamwFfInRefIdeal.Read in
theorem final8 (c : Dev nD) : (dats m 0 c).arrAt 8 (cfgs 0).N
    = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 8 _ (by decide +kernel) fun t _ (y : S256x512.Idx) => ?_
  blk_simp
  rw [after0_8, outs]
  refine Eq.trans ?_ (ref _ _ _ _ _ _ _ _).1.symm
  rw [← grad m c t y _ (by blk_simp [idx t]) (by blk_simp [idx t])]
  unfold results
  dsimp only
  congr 1 <;> blk_point [iblk, V, idx t]

open Cert.AdamwFfInRefIdeal.Read in
theorem final9 (c : Dev nD) : (dats m 0 c).arrAt 9 (cfgs 0).N
    = val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 9 _ (by decide +kernel) fun t _ (y : S256x512.Idx) => ?_
  blk_simp
  rw [after0_9, outs]
  refine Eq.trans ?_ (ref _ _ _ _ (m ((c : Thread nD τ).loc main_arg4)) _ (m ((c : Thread nD τ).loc main_arg6)) _).2.1.symm
  rw [← grad m c t y _ (by blk_simp [idx t]) (by blk_simp [idx t])]
  unfold results
  dsimp only
  congr 1 <;> blk_point [iblk, V, idx t]

open Cert.AdamwFfInRefIdeal.Read in
theorem final10 (c : Dev nD) : (dats m 0 c).arrAt 10 (cfgs 0).N
    = val_main_v19 (F := Ideal) (m ((c : Thread nD τ).loc main_arg0)) (m ((c : Thread nD τ).loc main_arg1))
      (m ((c : Thread nD τ).loc main_arg2)) (m ((c : Thread nD τ).loc main_arg3)) (m ((c : Thread nD τ).loc main_arg6)) := by
  refine (dats m 0 c).arrAt_eq_of_covers 10 _ (by decide +kernel) fun t _ (y : S256x512.Idx) => ?_
  blk_simp
  rw [after0_10, outs]
  refine Eq.trans ?_ (ref _ _ _ _ (m ((c : Thread nD τ).loc main_arg4)) (m ((c : Thread nD τ).loc main_arg5)) _ _).2.2.symm
  rw [← grad m c t y _ (by blk_simp [idx t]) (by blk_simp [idx t])]
  unfold results
  dsimp only
  congr 1 <;> blk_point [iblk, V, idx t]

/-- The idealized kernel runs and leaves every semaphore at zero. -/
theorem frame_ideal : @Cert.quiescent_AdamwFfInIdeal Cert.AdamwFfInIdeal.Gen.facts := fun m g _ => Cert.AdamwFfInIdeal.Gen.frame m g

/-- The idealized reference runs and leaves every semaphore at zero. -/
theorem frame_ref : @Cert.quiescent_AdamwFfInRefIdeal Cert.AdamwFfInRefIdeal.Gen.facts := by
  intro m g _
  hlo_run
  · exact fun _ => ⟨trivial, trivial, trivial, trivial, trivial, trivial, trivial⟩
  · exact sem_eq_zero_of_no_sems (sig := Cert.AdamwFfInRefIdeal.sig) (by decide) _

/-- The kernel's results are the reference's. -/
theorem value : @Cert.algebraic_AdamwFfInIdeal_AdamwFfInRefIdeal Cert.AdamwFfInIdeal.Gen.facts Cert.AdamwFfInRefIdeal.Gen.facts := by
  pair_intro
  · run_from Cert.AdamwFfInIdeal.Gen.run_main m g
  · refine θ_run_mono (Cert.AdamwFfInRefIdeal.Value.run (F := Ideal) m' g') fun r h c => ?_
    obtain ⟨a0, a1, a2, a3, a4, a5, a6⟩ := hagree c
    exact ⟨(h c).1.trans ((Cert.AdamwFfInRefIdeal.Read.val_main_v8_eq _ _ _ _).trans
      ((Cert.Agree.on4 Cert.AdamwFfInRefIdeal.Read.val_main_v8 a0 a1 a2 a3).trans (final7 m c).symm)),
      (h c).2.1.trans ((Cert.AdamwFfInRefIdeal.Read.val_main_v32_eq _ _).trans
      ((Cert.Agree.on7 Cert.AdamwFfInRefIdeal.Read.val_main_v32 a0 a1 a2 a3 a4 a5 a6).trans (final8 m c).symm)),
      (h c).2.2.1.trans ((Cert.AdamwFfInRefIdeal.Read.val_main_v13_eq _ _ _ _ _).trans
      ((Cert.Agree.on5 Cert.AdamwFfInRefIdeal.Read.val_main_v13 a0 a1 a2 a3 a5).trans (final9 m c).symm)),
      (h c).2.2.2.1.trans ((Cert.AdamwFfInRefIdeal.Read.val_main_v19_eq _ _ _ _ _).trans
      ((Cert.Agree.on5 Cert.AdamwFfInRefIdeal.Read.val_main_v19 a0 a1 a2 a3 a6).trans (final10 m c).symm)),
      (h c).2.2.2.2⟩

end Cert.AdamwFfInIdeal.Own
-- ==== Proof.AdamwFfOutValue.lean ====
module

public import proofs.«01_k».proof.Proof.Gen.AdamwFfOutIdeal.Value
public import proofs.«01_k».proof.Proof.Gen.AdamwFfOutRefIdeal.Run
public import proofs.«01_k».proof.Proof.Gen.AdamwFfOutRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.AdamwReal

@[expose] public section

set_option maxRecDepth 16384
noncomputable section
open Idealize.ShloMosaic Idealize.ShloMosaic.TcCoe Idealize.SL.Sem
open Idealize.ShloMosaic.Pipeline (Dat)
namespace Cert.AdamwFfOutIdeal.Own
open Cert.AdamwFfOutIdeal Cert.AdamwFfOutIdeal.Gen
variable (m : (ℓ : Loc nD τ sig) → Buf (Elt Ideal) ℓ)

open Cert.Adam (moment square delta)

theorem idx : ∀ t : Fin cfg0.N, t.val < 16 ∧ (t.val < 4 → win0_0.index t = ![0, t.val, 0])
    ∧ (4 ≤ t.val → t.val < 8 → win0_1.index t = ![0, t.val - 4, 0]) ∧ (8 ≤ t.val → t.val < 12 → win0_2.index t = ![0, t.val - 8, 0])
    ∧ (12 ≤ t.val → win0_3.index t = ![0, t.val - 12, 0]) ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

/-- The sum of the devices' parts at one entry of a tile. -/
def total (x : FVec Ideal S8x128x1024 .bf16) (j : S128x1024.Idx) : EReal := ∑ k : Fin 8, x (ix3 k (j 0) (j 1))

/-- The four results of a grid point over the tile of parts that it adds. -/
def results (x : FVec Ideal S8x128x1024 .bf16) (w a b : FVec Ideal S128x1024 .f32) :
    FVec Ideal S128x1024 .f32 × FVec Ideal S128x1024 .f32 × FVec Ideal S128x1024 .f32 × FVec Ideal S128x1024 .f32 :=
  (fun j => total x j, fun j => delta (total x j) (w j) (a j) (b j), fun j => moment (total x j) (a j), fun j => square (total x j) (b j))

/-- The tile of parts of the layer at hand. -/
def tile (c : Dev nD) (t : Fin cfg0.N) : FVec Ideal S8x128x1024 .bf16 :=
  if t.val < 4 then iblk m c 0 t else if t.val < 8 then iblk m c 1 t else if t.val < 12 then iblk m c 2 t else iblk m c 3 t

theorem outs (c : Dev nD) (t : Fin cfg0.N) :
    outsAt0 m c t.val t.isLt = results (tile m c t) (iblk m c 4 t) (iblk m c 5 t) (iblk m c 6 t) := by
  have ht := (idx t).1
  unfold tile results
  have four : t.val < 4 ∨ (4 ≤ t.val ∧ t.val < 8) ∨ (8 ≤ t.val ∧ t.val < 12) ∨ 12 ≤ t.val := by omega
  obtain h | h | h | h := four
  · rw [if_pos h, outsAt0_A m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay1, k0_pay2, k0_pay3, k0_pay13, total, moment, square, delta]
      all_goals simp only [Fin.sum_univ_eight]
  · rw [if_neg (by omega), if_pos h.2, outsAt0_B m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay4, k0_pay5, k0_pay6, k0_pay14, total, moment, square, delta]
      all_goals simp only [Fin.sum_univ_eight]
  · rw [if_neg (by omega), if_neg (by omega), if_pos h.2, outsAt0_C m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay7, k0_pay8, k0_pay9, k0_pay15, total, moment, square, delta]
      all_goals simp only [Fin.sum_univ_eight]
  · rw [if_neg (by omega), if_neg (by omega), if_neg (by omega), outsAt0_D m c t (by omega) (by omega) (by omega) (by omega)]
    refine Prod.ext (funext fun y => ?_) (Prod.ext (funext fun y => ?_) (Prod.ext (funext fun y => ?_) (funext fun y => ?_))) <;> dsimp only <;> frame_out
    all_goals
      pointwise [k0_pay10, k0_pay11, k0_pay12, k0_pay16, total, moment, square, delta]
      all_goals simp only [Fin.sum_univ_eight]

open Cert.AdamwFfOutRefIdeal.Read in
/-- The summed gradient in the reference, by layer. -/
theorem grad (c : Dev nD) (t : Fin cfg0.N) (y : S128x1024.Idx) (i : S2048x1024.Idx) (h0 : (i 0).val = t.val * 128 + (y 0).val) (h1 : (i 1).val = (y 1).val) :
    total (tile m c t) y = val_main_v8 (F := Ideal) (m ((c : Thread nD τ).loc main_arg0)) (m ((c : Thread nD τ).loc main_arg1))
      (m ((c : Thread nD τ).loc main_arg2)) (m ((c : Thread nD τ).loc main_arg3)) i := by
  have hy : (y 0).val < 128 := (y 0).isLt
  obtain ⟨ht, i0, i1, i2, i3, _⟩ := idx t
  unfold tile
  pointwise [total, val_main_v8, val_main_v7, val_main_cst_2, val_main_v6, val_main_v5, val_main_cst_1, val_main_v4, val_main_v3, val_main_cst_0,
    val_main_v2, val_main_v1, val_main_cst, val_main_v0]
  have four : t.val < 4 ∨ (4 ≤ t.val ∧ t.val < 8) ∨ (8 ≤ t.val ∧ t.val < 12) ∨ 12 ≤ t.val := by omega
  obtain h | h | h | h := four
  · have i0 := i0 h
    rw [if_pos h]
    rw [dif_pos (by omega : (i 0).val < 512)]
    blk_point [iblk, V, i0]
  · have i1 := i1 h.1 h.2
    rw [if_neg (by omega), if_pos h.2]
    rw [dif_neg (by omega : ¬(i 0).val < 512), dif_pos (by omega : (i 0).val - 512 < 512)]
    blk_point [iblk, V, i1]
  · have i2 := i2 h.1 h.2
    rw [if_neg (by omega), if_neg (by omega), if_pos h.2]
    rw [dif_neg (by omega : ¬(i 0).val < 512), dif_neg (by omega : ¬(i 0).val - 512 < 512), dif_pos (by omega : (i 0).val - 512 - 512 < 512)]
    blk_point [iblk, V, i2]
  · have i3 := i3 h
    rw [if_neg (by omega), if_neg (by omega), if_neg (by omega)]
    rw [dif_neg (by omega : ¬(i 0).val < 512), dif_neg (by omega : ¬(i 0).val - 512 < 512), dif_neg (by omega : ¬(i 0).val - 512 - 512 < 512)]
    blk_point [iblk, V, i3]

open Cert.AdamwFfOutRefIdeal.Read in
/-- The reference's step, entry by entry, over its summed gradient. -/
theorem ref (p0 p1 p2 p3 : FVec Ideal S8x512x1024 .bf16) (w a b : FVec Ideal S2048x1024 .f32) (i : S2048x1024.Idx) :
    val_main_v32 (F := Ideal) p0 p1 p2 p3 w a b i = delta (val_main_v8 (F := Ideal) p0 p1 p2 p3 i) (w i) (a i) (b i)
    ∧ val_main_v13 (F := Ideal) p0 p1 p2 p3 a i = moment (val_main_v8 (F := Ideal) p0 p1 p2 p3 i) (a i)
    ∧ val_main_v19 (F := Ideal) p0 p1 p2 p3 b i = square (val_main_v8 (F := Ideal) p0 p1 p2 p3 i) (b i) := by
  refine ⟨?_, ?_, ?_⟩
  all_goals
    pointwise [val_main_v32, val_main_v31, val_main_cst_11, val_main_v30, val_main_v29, val_main_v28, val_main_cst_10, val_main_v27, val_main_v26,
      val_main_v25, val_main_cst_9, val_main_v24, val_main_v23, val_main_v22, val_main_cst_8, val_main_v21, val_main_v20, val_main_cst_7,
      val_main_v19, val_main_v18, val_main_v17, val_main_cst_6, val_main_v16, val_main_v15, val_main_v14, val_main_cst_5, val_main_v13,
      val_main_v12, val_main_v11, val_main_cst_4, val_main_v10, val_main_v9, val_main_cst_3, delta, moment, square]

open Cert.AdamwFfOutRefIdeal.Read in
theorem final7 (c : Dev nD) : (dats m 0 c).arrAt 7 (cfgs 0).N
    = val_main_v8 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ (y : S128x1024.Idx) => ?_
  blk_simp
  rw [after0_7, outs]
  exact grad m c t y _ (by blk_simp [idx t]) (by blk_simp [idx t])

open Cert.AdamwFfOutRefIdeal.Read in
theorem final8 (c : Dev nD) : (dats m 0 c).arrAt 8 (cfgs 0).N
    = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 8 _ (by decide +kernel) fun t _ (y : S128x1024.Idx) => ?_
  blk_simp
  rw [after0_8, outs]
  refine Eq.trans ?_ (ref _ _ _ _ _ _ _ _).1.symm
  rw [← grad m c t y _ (by blk_simp [idx t]) (by blk_simp [idx t])]
  unfold results
  dsimp only
  congr 1 <;> blk_point [iblk, V, idx t]

open Cert.AdamwFfOutRefIdeal.Read in
theorem final9 (c : Dev nD) : (dats m 0 c).arrAt 9 (cfgs 0).N
    = val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg5)) := by
  refine (dats m 0 c).arrAt_eq_of_covers 9 _ (by decide +kernel) fun t _ (y : S128x1024.Idx) => ?_
  blk_simp
  rw [after0_9, outs]
  refine Eq.trans ?_ (ref _ _ _ _ (m ((c : Thread nD τ).loc main_arg4)) _ (m ((c : Thread nD τ).loc main_arg6)) _).2.1.symm
  rw [← grad m c t y _ (by blk_simp [idx t]) (by blk_simp [idx t])]
  unfold results
  dsimp only
  congr 1 <;> blk_point [iblk, V, idx t]

open Cert.AdamwFfOutRefIdeal.Read in
theorem final10 (c : Dev nD) : (dats m 0 c).arrAt 10 (cfgs 0).N
    = val_main_v19 (F := Ideal) (m ((c : Thread nD τ).loc main_arg0)) (m ((c : Thread nD τ).loc main_arg1))
      (m ((c : Thread nD τ).loc main_arg2)) (m ((c : Thread nD τ).loc main_arg3)) (m ((c : Thread nD τ).loc main_arg6)) := by
  refine (dats m 0 c).arrAt_eq_of_covers 10 _ (by decide +kernel) fun t _ (y : S128x1024.Idx) => ?_
  blk_simp
  rw [after0_10, outs]
  refine Eq.trans ?_ (ref _ _ _ _ (m ((c : Thread nD τ).loc main_arg4)) (m ((c : Thread nD τ).loc main_arg5)) _ _).2.2.symm
  rw [← grad m c t y _ (by blk_simp [idx t]) (by blk_simp [idx t])]
  unfold results
  dsimp only
  congr 1 <;> blk_point [iblk, V, idx t]

/-- The idealized kernel runs and leaves every semaphore at zero. -/
theorem frame_ideal : @Cert.quiescent_AdamwFfOutIdeal Cert.AdamwFfOutIdeal.Gen.facts := fun m g _ => Cert.AdamwFfOutIdeal.Gen.frame m g

/-- The idealized reference runs and leaves every semaphore at zero. -/
theorem frame_ref : @Cert.quiescent_AdamwFfOutRefIdeal Cert.AdamwFfOutRefIdeal.Gen.facts := by
  intro m g _
  hlo_run
  · exact fun _ => ⟨trivial, trivial, trivial, trivial, trivial, trivial, trivial⟩
  · exact sem_eq_zero_of_no_sems (sig := Cert.AdamwFfOutRefIdeal.sig) (by decide) _

/-- The kernel's results are the reference's. -/
theorem value : @Cert.algebraic_AdamwFfOutIdeal_AdamwFfOutRefIdeal Cert.AdamwFfOutIdeal.Gen.facts Cert.AdamwFfOutRefIdeal.Gen.facts := by
  pair_intro
  · run_from Cert.AdamwFfOutIdeal.Gen.run_main m g
  · refine θ_run_mono (Cert.AdamwFfOutRefIdeal.Value.run (F := Ideal) m' g') fun r h c => ?_
    obtain ⟨a0, a1, a2, a3, a4, a5, a6⟩ := hagree c
    exact ⟨(h c).1.trans ((Cert.AdamwFfOutRefIdeal.Read.val_main_v8_eq _ _ _ _).trans
      ((Cert.Agree.on4 Cert.AdamwFfOutRefIdeal.Read.val_main_v8 a0 a1 a2 a3).trans (final7 m c).symm)),
      (h c).2.1.trans ((Cert.AdamwFfOutRefIdeal.Read.val_main_v32_eq _ _).trans
      ((Cert.Agree.on7 Cert.AdamwFfOutRefIdeal.Read.val_main_v32 a0 a1 a2 a3 a4 a5 a6).trans (final8 m c).symm)),
      (h c).2.2.1.trans ((Cert.AdamwFfOutRefIdeal.Read.val_main_v13_eq _ _ _ _ _).trans
      ((Cert.Agree.on5 Cert.AdamwFfOutRefIdeal.Read.val_main_v13 a0 a1 a2 a3 a5).trans (final9 m c).symm)),
      (h c).2.2.2.1.trans ((Cert.AdamwFfOutRefIdeal.Read.val_main_v19_eq _ _ _ _ _).trans
      ((Cert.Agree.on5 Cert.AdamwFfOutRefIdeal.Read.val_main_v19 a0 a1 a2 a3 a6).trans (final10 m c).symm)),
      (h c).2.2.2.2⟩

end Cert.AdamwFfOutIdeal.Own
-- ==== Proof.AdamwSmallValue.lean ====
module

public import proofs.«01_k».proof.Proof.Gen.AdamwSmallIdeal.Value
public import proofs.«01_k».proof.Proof.Gen.AdamwSmallRefIdeal.Run
public import proofs.«01_k».proof.Proof.Gen.AdamwSmallRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.AdamwReal

@[expose] public section

set_option maxRecDepth 16384
noncomputable section
open Idealize.ShloMosaic Idealize.ShloMosaic.TcCoe Idealize.SL.Sem
open Idealize.ShloMosaic.Pipeline (Dat)
namespace Cert.AdamwSmallIdeal.Own
open Cert.AdamwSmallIdeal Cert.AdamwSmallIdeal.Gen
variable (m : (ℓ : Loc nD τ sig) → Buf (Elt Ideal) ℓ)

open Cert.Adam (moment square delta)

theorem idx : ∀ t : Fin cfg0.N, t.val < 7 ∧ win0_0.index t = ![0, t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

open Cert.AdamwSmallRefIdeal.Read in
/-- The reference's step, entry by entry. -/
theorem ref (g w a b : FVec Ideal S56x1024 .f32) (i : S56x1024.Idx) :
    val_main_v23 (F := Ideal) g w a b i = delta (g i) (w i) (a i) (b i) ∧ val_main_v4 (F := Ideal) g a i = moment (g i) (a i)
    ∧ val_main_v10 (F := Ideal) g b i = square (g i) (b i) := by
  refine ⟨?_, ?_, ?_⟩
  all_goals
    pointwise [val_main_v23, val_main_cst_7, val_main_v22, val_main_v21, val_main_v20, val_main_v19, val_main_cst_6, val_main_v18, val_main_v17,
      val_main_v16, val_main_cst_5, val_main_v15, val_main_v14, val_main_v13, val_main_cst_4, val_main_v12, val_main_v11, val_main_cst_3,
      val_main_v10, val_main_v9, val_main_v8, val_main_cst_2, val_main_v7, val_main_v6, val_main_v5, val_main_cst_1, val_main_v4, val_main_v3,
      val_main_v2, val_main_cst_0, val_main_v1, val_main_v0, val_main_cst, delta, moment, square]

/-- A tile of the gradient is its tile of the argument. -/
theorem grad (c : Dev nD) (t : Fin cfg0.N) (y : S8x1024.Idx) (i : S56x1024.Idx) (h0 : (i 0).val = t.val * 8 + (y 0).val) (h1 : (i 1).val = (y 1).val) :
    iblk m c 0 t (ix3 0 (y 0) (y 1)) = m ((c : Thread nD τ).loc main_arg0) i := by
  blk_simp [iblk, idx t]
  entry_read
  pointwise
  blk_ext [idx t]

theorem final4 (c : Dev nD) : (dats m 0 c).arrAt 4 (cfgs 0).N = m ((c : Thread nD τ).loc main_arg0) := by
  refine (dats m 0 c).arrAt_eq_of_covers 4 _ (by decide +kernel) fun t _ (y : S8x1024.Idx) => ?_
  blk_simp
  rw [after0_4]
  unfold outsAt0
  dsimp only
  frame_out
  refine Eq.trans ?_ (grad m c t y _ (by blk_simp [idx t]) (by blk_simp [idx t]))
  pointwise [k0_pay1]

open Cert.AdamwSmallRefIdeal.Read in
theorem final5 (c : Dev nD) : (dats m 0 c).arrAt 5 (cfgs 0).N
    = val_main_v23 (F := Ideal) (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ (y : S8x1024.Idx) => ?_
  blk_simp
  rw [after0_5]
  frame_out
  refine Eq.trans ?_ (ref _ _ _ _ _).1.symm
  rw [← grad m c t y _ (by blk_simp [idx t]) (by blk_simp [idx t])]
  pointwise [k0_pay1, k0_pay2, k0_pay3, k0_pay4, delta, moment, square]
  blk_point [iblk, V, idx t]

open Cert.AdamwSmallRefIdeal.Read in
theorem final6 (c : Dev nD) : (dats m 0 c).arrAt 6 (cfgs 0).N
    = val_main_v4 (F := Ideal) (m ((c : Thread nD τ).loc main_arg0)) (m ((c : Thread nD τ).loc main_arg2)) := by
  refine (dats m 0 c).arrAt_eq_of_covers 6 _ (by decide +kernel) fun t _ (y : S8x1024.Idx) => ?_
  blk_simp
  rw [after0_6]
  frame_out
  refine Eq.trans ?_ (ref _ (m ((c : Thread nD τ).loc main_arg1)) _ (m ((c : Thread nD τ).loc main_arg3)) _).2.1.symm
  rw [← grad m c t y _ (by blk_simp [idx t]) (by blk_simp [idx t])]
  pointwise [k0_pay1, k0_pay2, moment]
  blk_point [iblk, V, idx t]

open Cert.AdamwSmallRefIdeal.Read in
theorem final7 (c : Dev nD) : (dats m 0 c).arrAt 7 (cfgs 0).N
    = val_main_v10 (F := Ideal) (m ((c : Thread nD τ).loc main_arg0)) (m ((c : Thread nD τ).loc main_arg3)) := by
  refine (dats m 0 c).arrAt_eq_of_covers 7 _ (by decide +kernel) fun t _ (y : S8x1024.Idx) => ?_
  blk_simp
  rw [after0_7]
  frame_out
  refine Eq.trans ?_ (ref _ (m ((c : Thread nD τ).loc main_arg1)) (m ((c : Thread nD τ).loc main_arg2)) _ _).2.2.symm
  rw [← grad m c t y _ (by blk_simp [idx t]) (by blk_simp [idx t])]
  pointwise [k0_pay1, k0_pay3, square]
  blk_point [iblk, V, idx t]

/-- The idealized kernel runs and leaves every semaphore at zero. -/
theorem frame_ideal : @Cert.quiescent_AdamwSmallIdeal Cert.AdamwSmallIdeal.Gen.facts := fun m g _ => Cert.AdamwSmallIdeal.Gen.frame m g

/-- The idealized reference runs and leaves every semaphore at zero. -/
theorem frame_ref : @Cert.quiescent_AdamwSmallRefIdeal Cert.AdamwSmallRefIdeal.Gen.facts := by
  intro m g _
  hlo_run
  · exact fun _ => ⟨trivial, trivial, trivial, trivial⟩
  · exact sem_eq_zero_of_no_sems (sig := Cert.AdamwSmallRefIdeal.sig) (by decide) _

/-- The kernel's results are the reference's. -/
theorem value : @Cert.algebraic_AdamwSmallIdeal_AdamwSmallRefIdeal Cert.AdamwSmallIdeal.Gen.facts Cert.AdamwSmallRefIdeal.Gen.facts := by
  pair_intro
  · run_from Cert.AdamwSmallIdeal.Gen.run_main m g
  · refine θ_run_mono (Cert.AdamwSmallRefIdeal.Value.run (F := Ideal) m' g') fun r h c => ?_
    obtain ⟨a0, a1, a2, a3⟩ := hagree c
    exact ⟨(h c).1.trans (a0.trans (final4 m c).symm),
      (h c).2.1.trans ((Cert.AdamwSmallRefIdeal.Read.val_main_v23_eq _ _ _ _).trans
      ((Cert.Agree.on4 Cert.AdamwSmallRefIdeal.Read.val_main_v23 a0 a1 a2 a3).trans (final5 m c).symm)),
      (h c).2.2.1.trans ((Cert.AdamwSmallRefIdeal.Read.val_main_v4_eq _ _).trans
      ((Cert.Agree.on2 Cert.AdamwSmallRefIdeal.Read.val_main_v4 a0 a2).trans (final6 m c).symm)),
      (h c).2.2.2.1.trans ((Cert.AdamwSmallRefIdeal.Read.val_main_v10_eq _ _).trans
      ((Cert.Agree.on2 Cert.AdamwSmallRefIdeal.Read.val_main_v10 a0 a3).trans (final7 m c).symm)),
      (h c).2.2.2.2⟩

end Cert.AdamwSmallIdeal.Own
-- ==== Proof.SumSmallValue.lean ====
module

public import proofs.«01_k».proof.Proof.Gen.SumSmallIdeal.Value
public import proofs.«01_k».proof.Proof.Gen.SumSmallRefIdeal.Run
public import proofs.«01_k».proof.Proof.Gen.SumSmallRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree

@[expose] public section

set_option maxRecDepth 16384
noncomputable section
open Idealize.ShloMosaic Idealize.ShloMosaic.TcCoe Idealize.SL.Sem
open Idealize.ShloMosaic.Pipeline (Dat)
namespace Cert.SumSmallIdeal.Own
open Cert.SumSmallIdeal Cert.SumSmallIdeal.Gen
variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

open Cert.SumSmallRefIdeal.Read in
theorem final1 (c : Dev nD) : (dats m 0 c).arrAt 1 (cfgs 0).N = val_main_v0 (F := Ideal) (m ((c : Thread nD τ).loc main_arg0)) := by
  refine (dats m 0 c).arrAt_eq_of_covers 1 _ (by decide +kernel) fun t _ (y : S104x1024.Idx) => ?_
  blk_simp
  rw [after0_1]
  frame_out
  pointwise [k0_pay1, val_main_v0, val_main_cst]
  simp only [Fin.sum_univ_eight]
  blk_point [iblk, V, idx t]

/-- The idealized kernel runs and leaves every semaphore at zero. -/
theorem frame_ideal : @Cert.quiescent_SumSmallIdeal Cert.SumSmallIdeal.Gen.facts := fun m g _ => Cert.SumSmallIdeal.Gen.frame m g

/-- The idealized reference runs and leaves every semaphore at zero. -/
theorem frame_ref : @Cert.quiescent_SumSmallRefIdeal Cert.SumSmallRefIdeal.Gen.facts := by
  intro m g _
  hlo_run
  · exact fun _ => trivial
  · exact sem_eq_zero_of_no_sems (sig := Cert.SumSmallRefIdeal.sig) (by decide) _

/-- The kernel's results are the reference's. -/
theorem value : @Cert.algebraic_SumSmallIdeal_SumSmallRefIdeal Cert.SumSmallIdeal.Gen.facts Cert.SumSmallRefIdeal.Gen.facts := by
  pair_intro
  · run_from Cert.SumSmallIdeal.Gen.run_main m g
  · refine θ_run_mono (Cert.SumSmallRefIdeal.Value.run (F := Ideal) m' g') fun r h c => ?_
    have a0 := hagree c
    exact ⟨(h c).1.trans ((Cert.SumSmallRefIdeal.Read.val_main_v0_eq _).trans
      ((congrArg Cert.SumSmallRefIdeal.Read.val_main_v0 a0).trans (final1 m c).symm)),
      (h c).2⟩

end Cert.SumSmallIdeal.Own
-- ==== Proof.AdaModValue.lean ====
module

public import proofs.«01_k».proof.Proof.Gen.AdaModIdeal.Value
public import proofs.«01_k».proof.Proof.Gen.AdaModRefIdeal.Run
public import proofs.«01_k».proof.Proof.Gen.AdaModRefIdeal.Read
public import proofs.«01_k».proof.Defs
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.Logistic

@[expose] public section

set_option maxRecDepth 16384
noncomputable section
open Idealize.ShloMosaic Idealize.ShloMosaic.TcCoe Idealize.SL.Sem
open Idealize.ShloMosaic.Pipeline (Dat)
namespace Cert.AdaModIdeal.Own
open Cert.AdaModIdeal Cert.AdaModIdeal.Gen
variable (m : (ℓ : Loc nD τ sig) → Buf (Elt Ideal) ℓ)

open Cert.MergeCore (sgK sgR sgK_eq)

theorem idx : ∀ t : Fin cfg0.N, t.val < 4 ∧ win0_0.index t = ![0, 0] ∧ win0_1.index t = ![t.val, 0, 0] ∧ win0_2.index t = ![t.val, 0, 0] ∧
    win0_3.index t = ![t.val, 0, 0] :=
  (by decide +kernel : ∀ t : Fin grid0.N, _)

/-- One entry of the modulation: the activated condition times the weights, plus the bias. -/
def entry (x w : Fin 1024 → EReal) (b : EReal) : EReal := (∑ k, x k * sgK (x k) * w k) + b

theorem entry_congr {x x' w w' : Fin 1024 → EReal} {b b' : EReal} (hx : ∀ k, x k = x' k) (hw : ∀ k, w k = w' k) (hb : b = b') :
    entry x w b = entry x' w' b' := by
  obtain rfl : x = x' := funext hx
  obtain rfl : w = w' := funext hw
  rw [hb]

theorem pay1 (x : FVec Ideal S8x1024 .f32) (w : FVec Ideal S1x1024x768 .f32) (b : FVec Ideal S1x1x768 .f32) (j : S1x8x768.Idx) :
    k0_pay1 (F := Ideal) x w b j = entry (fun k => x (ix2 (j 1) k)) (fun k => w (ix3 0 k (j 2))) (b (ix3 0 0 (j 2))) := by
  pointwise [k0_pay1, entry, sgK]

open Cert.AdaModRefIdeal.Read in
theorem ref (x : FVec Ideal S8x1024 .f32) (w : FVec Ideal S4x1024x768 .f32) (b : FVec Ideal S4x768 .f32) (i : S4x8x768.Idx) :
    val_main_v5 (F := Ideal) x w b i = entry (fun k => x (ix2 (i 1) k)) (fun k => w (ix3 (i 0) k (i 2))) (b (ix2 (i 0) (i 2))) := by
  unfold entry
  simp only [sgK_eq]
  pointwise [val_main_v5, val_main_v4, val_main_v3, val_main_v2, val_main_v1, val_main_v0, val_main_call0_v5, val_main_call0_v4, val_main_call0_cst_0,
    val_main_call0_v3, val_main_call0_v2, val_main_call0_cst, val_main_call0_v1, val_main_call0_v0, sgR]
  exact congrArg (· + b (ix2 (i 0) (i 2))) (Finset.sum_congr rfl fun k _ => mul_comm _ _)

open Cert.AdaModRefIdeal.Read in
theorem final3 (c : Dev nD) : (dats m 0 c).arrAt 3 (cfgs 0).N
    = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ (y : S1x8x768.Idx) => ?_
  blk_simp
  rw [after0_3]
  frame_out
  rw [ref]
  refine (pay1 _ _ _ _).trans ?_
  refine entry_congr (fun k => ?_) (fun k => ?_) ?_
  · blk_point [iblk, V, idx t]
  · blk_point [iblk, V, idx t]
  · blk_simp [iblk, idx t]
    entry_read
    pointwise
    blk_ext [idx t]

/-- The idealized kernel runs and leaves every semaphore at zero. -/
theorem frame_ideal : @Cert.quiescent_AdaModIdeal Cert.AdaModIdeal.Gen.facts := fun m g _ => Cert.AdaModIdeal.Gen.frame m g

/-- The idealized reference runs and leaves every semaphore at zero. -/
theorem frame_ref : @Cert.quiescent_AdaModRefIdeal Cert.AdaModRefIdeal.Gen.facts := by
  intro m g _
  hlo_run
  · exact fun _ => ⟨trivial, trivial, trivial⟩
  · exact sem_eq_zero_of_no_sems (sig := Cert.AdaModRefIdeal.sig) (by decide) _

/-- The kernel's results are the reference's. -/
theorem value : @Cert.algebraic_AdaModIdeal_AdaModRefIdeal Cert.AdaModIdeal.Gen.facts Cert.AdaModRefIdeal.Gen.facts := by
  pair_intro
  · run_from Cert.AdaModIdeal.Gen.run_main m g
  · refine θ_run_mono (Cert.AdaModRefIdeal.Value.run (F := Ideal) m' g') fun r h c => ?_
    obtain ⟨a0, a1, a2⟩ := hagree c
    exact ⟨(h c).1.trans ((Cert.AdaModRefIdeal.Read.val_main_v5_eq _ _ _).trans
      ((Cert.Agree.on3 Cert.AdaModRefIdeal.Read.val_main_v5 a0 a1 a2).trans (final3 m c).symm)),
      (h c).2⟩

end Cert.AdaModIdeal.Own
-- ==== Proof.AttReal.lean ====
module

public import proofs.«01_k».proof.Proof.MergeReal

@[expose] public section

set_option maxRecDepth 16384
noncomputable section
open Idealize.ShloMosaic
/-! One row of a softmax over 768 keys, as the kernel computes it (weights first, one division at the end) and as it is defined. -/
namespace Cert.Att
open Cert.MergeCore (exp_coe div_coe coe_sum)

/-- The factor `128 ^ (-1/2)` on the queries, as the float it is. -/
def scale : EReal := Ideal.ofBits FTy.f32 0x3DB504F3#32
theorem scale_real : ∃ r : ℝ, scale = (r : EReal) := by
  unfold scale
  simp [Ideal.ofBits, Ideal.ieee, -EReal.coe_mul]

/-- One score: the scaled query times the key, plus the table's entry. -/
def score (q k : Fin 128 → EReal) (b : EReal) : EReal := (∑ d, q d * scale * k d) + b

/-- The largest score of a row. -/
def top (s : Fin 768 → EReal) : EReal := Finset.univ.fold max (Ideal.ofBits FTy.f32 0xFF800000#32) s
/-- The weight of a key before division by the sum of the weights. -/
def weight (s : Fin 768 → EReal) (j : Fin 768) : EReal := Ideal.exp (s j - top s)

/-- The row's weighted mean of one column of values, divided last and divided first. -/
def meanK (s v : Fin 768 → EReal) : EReal := (∑ j, weight s j * v j) * Ideal.div 1 (∑ j, weight s j)
def meanR (s v : Fin 768 → EReal) : EReal := ∑ j, Ideal.div (weight s j) (∑ j, weight s j) * v j
/-- The logarithm of the row's sum of exponentials, with and without the largest score taken out. -/
def lseK (s : Fin 768 → EReal) : EReal := top s + Ideal.log (∑ j, weight s j)
def lseR (s : Fin 768 → EReal) : EReal := Ideal.log (∑ j, Ideal.exp (s j))

theorem least_eq : Ideal.ofBits FTy.f32 0xFF800000#32 = (⊥ : EReal) := by
  simp [Ideal.ofBits, Ideal.ieee]

theorem score_real (q k : Fin 128 → EReal) (b : EReal) (hq : ∀ d, ∃ r : ℝ, q d = (r : EReal)) (hk : ∀ d, ∃ r : ℝ, k d = (r : EReal))
    (hb : ∃ r : ℝ, b = (r : EReal)) : ∃ r : ℝ, score q k b = (r : EReal) := by
  choose Q hQ using hq
  choose K hK using hk
  obtain ⟨B, rfl⟩ := hb
  obtain ⟨c, hc⟩ := scale_real
  refine ⟨(∑ d, Q d * c * K d) + B, ?_⟩
  unfold score
  rw [EReal.coe_add, ← coe_sum]
  refine congrArg (· + (B : EReal)) (Finset.sum_congr rfl fun d _ => ?_)
  rw [hQ, hK, hc, EReal.coe_mul, EReal.coe_mul]

theorem top_real (s : Fin 768 → ℝ) : ∃ μ : ℝ, top (fun j => (s j : EReal)) = (μ : EReal) := by
  have h1 : top (fun j => (s j : EReal)) < ⊤ := by
    unfold top
    rw [Finset.fold_max_lt, least_eq]
    exact ⟨bot_lt_top, fun j _ => EReal.coe_lt_top _⟩
  have h2 : ⊥ < top (fun j => (s j : EReal)) := by
    unfold top
    rw [Finset.lt_fold_max]
    exact Or.inr ⟨0, Finset.mem_univ _, EReal.bot_lt_coe _⟩
  exact ⟨_, (EReal.coe_toReal h1.ne h2.ne').symm⟩

theorem weight_coe (s : Fin 768 → ℝ) (μ : ℝ) (h : top (fun j => (s j : EReal)) = (μ : EReal)) (j : Fin 768) :
    weight (fun j => (s j : EReal)) j = (Real.exp (s j - μ) : EReal) := by
  unfold weight
  rw [h, ← EReal.coe_sub, exp_coe]

theorem sum_pos (f : Fin 768 → ℝ) : 0 < ∑ j, Real.exp (f j) :=
  Finset.sum_pos (fun j _ => Real.exp_pos _) ⟨0, Finset.mem_univ _⟩

theorem log_coe (x : ℝ) (h : 0 < x) : Ideal.log (x : EReal) = (Real.log x : EReal) := by
  show (if x ≤ 0 then (⊥ : EReal) else _) = _
  rw [if_neg h.not_ge]

/-- Dividing the weighted sum is weighting by the quotients. -/
theorem mean_eq (s v : Fin 768 → EReal) (hs : ∀ j, ∃ r : ℝ, s j = (r : EReal)) (hv : ∀ j, ∃ r : ℝ, v j = (r : EReal)) : meanK s v = meanR s v := by
  choose S hS using hs
  choose V hV using hv
  obtain rfl : s = fun j => (S j : EReal) := funext hS
  obtain rfl : v = fun j => (V j : EReal) := funext hV
  obtain ⟨μ, hμ⟩ := top_real S
  have hp := (sum_pos fun j => S j - μ).ne'
  unfold meanK meanR
  simp only [weight_coe S μ hμ, coe_sum, ← EReal.coe_mul, ← EReal.coe_one, div_coe _ _ hp]
  rw [EReal.coe_eq_coe_iff, Finset.sum_mul]
  exact Finset.sum_congr rfl fun j _ => by ring

/-- The largest score taken out of the sum comes back as an addend. -/
theorem lse_eq (s : Fin 768 → EReal) (hs : ∀ j, ∃ r : ℝ, s j = (r : EReal)) : lseK s = lseR s := by
  choose S hS using hs
  obtain rfl : s = fun j => (S j : EReal) := funext hS
  obtain ⟨μ, hμ⟩ := top_real S
  unfold lseK lseR
  rw [hμ]
  simp only [weight_coe S μ hμ, exp_coe, coe_sum]
  rw [log_coe _ (sum_pos _), log_coe _ (sum_pos _), ← EReal.coe_add, EReal.coe_eq_coe_iff]
  have e : ∑ j, Real.exp (S j) = Real.exp μ * ∑ j, Real.exp (S j - μ) := by
    rw [Finset.mul_sum]
    exact Finset.sum_congr rfl fun j _ => by rw [← Real.exp_add]; congr 1; ring
  rw [e, Real.log_mul (Real.exp_pos _).ne' (sum_pos _).ne', Real.log_exp]

end Cert.Att
-- ==== Proof.AttRef.lean ====
module

public import proofs.«01_k».proof.Proof.Gen.AttFwdRefIdeal.Read
public import Idealize.ShloMosaic.Lib.Pointwise
public import proofs.«01_k».proof.Proof.AttReal

@[expose] public section

set_option maxRecDepth 16384
noncomputable section
open Idealize.ShloMosaic
namespace Cert.AttFwdRefIdeal.Own
open Cert.AttFwdRefIdeal Cert.AttFwdRefIdeal.Read
open Cert.Att (score scale top weight meanK meanR lseK lseR mean_eq lse_eq score_real)

/-- The scores of one query against its window, and the window's values in one column. -/
def row (x : FVec Ideal S8192x9728 .f32) (b : FVec Ideal S24x256x768 .f32) (n : Fin 32) (h : Fin 8) (r : Fin 256) (j : Fin 768) : EReal :=
  score (fun d => x (ix2 ⟨n.val * 256 + r.val, by omega⟩ ⟨4096 + (h.val * 128 + d.val), by omega⟩))
    (fun d => x (ix2 ⟨(n.val - 2) * 256 + j.val, by omega⟩ ⟨5120 + (h.val * 128 + d.val), by omega⟩))
    (b (ix3 ⟨(2 - n.val) * 8 + h.val, by omega⟩ r j))
def vals (x : FVec Ideal S8192x9728 .f32) (n : Fin 32) (h : Fin 8) (d : Fin 128) (j : Fin 768) : EReal :=
  x (ix2 ⟨(n.val - 2) * 256 + j.val, by omega⟩ ⟨6144 + (h.val * 128 + d.val), by omega⟩)

/-- The blocks of keys and of values that the reference puts beside each other, entry by entry. -/
theorem at9 (x : FVec Ideal S8192x9728 .f32) (n : Fin 32) (a : Fin 256) (h : Fin 8) (d : Fin 128) :
    val_main_v9 (F := Ideal) x (ix4 n a h d) = val_main_v5 (F := Ideal) x (ix4 ⟨n.val - 2 + 0, by omega⟩ a h d) := by
  pointwise [val_main_v9, val_main_v8, val_main_v7, val_main_v6]
  split_ifs <;> congr 2 <;> exact Fin.ext (by dsimp only; omega)

theorem at13 (x : FVec Ideal S8192x9728 .f32) (n : Fin 32) (a : Fin 256) (h : Fin 8) (d : Fin 128) :
    val_main_v13 (F := Ideal) x (ix4 n a h d) = val_main_v5 (F := Ideal) x (ix4 ⟨n.val - 2 + 1, by omega⟩ a h d) := by
  pointwise [val_main_v13, val_main_v12, val_main_v11, val_main_v10]
  split_ifs <;> congr 2 <;> exact Fin.ext (by dsimp only; omega)

theorem at17 (x : FVec Ideal S8192x9728 .f32) (n : Fin 32) (a : Fin 256) (h : Fin 8) (d : Fin 128) :
    val_main_v17 (F := Ideal) x (ix4 n a h d) = val_main_v5 (F := Ideal) x (ix4 ⟨n.val - 2 + 2, by omega⟩ a h d) := by
  pointwise [val_main_v17, val_main_v16, val_main_v15, val_main_v14]
  split_ifs <;> congr 2 <;> exact Fin.ext (by dsimp only; omega)

theorem at24 (x : FVec Ideal S8192x9728 .f32) (n : Fin 32) (a : Fin 256) (h : Fin 8) (d : Fin 128) :
    val_main_v24 (F := Ideal) x (ix4 n a h d) = val_main_v20 (F := Ideal) x (ix4 ⟨n.val - 2 + 0, by omega⟩ a h d) := by
  pointwise [val_main_v24, val_main_v23, val_main_v22, val_main_v21]
  split_ifs <;> congr 2 <;> exact Fin.ext (by dsimp only; omega)

theorem at28 (x : FVec Ideal S8192x9728 .f32) (n : Fin 32) (a : Fin 256) (h : Fin 8) (d : Fin 128) :
    val_main_v28 (F := Ideal) x (ix4 n a h d) = val_main_v20 (F := Ideal) x (ix4 ⟨n.val - 2 + 1, by omega⟩ a h d) := by
  pointwise [val_main_v28, val_main_v27, val_main_v26, val_main_v25]
  split_ifs <;> congr 2 <;> exact Fin.ext (by dsimp only; omega)

theorem at32 (x : FVec Ideal S8192x9728 .f32) (n : Fin 32) (a : Fin 256) (h : Fin 8) (d : Fin 128) :
    val_main_v32 (F := Ideal) x (ix4 n a h d) = val_main_v20 (F := Ideal) x (ix4 ⟨n.val - 2 + 2, by omega⟩ a h d) := by
  pointwise [val_main_v32, val_main_v31, val_main_v30, val_main_v29]
  split_ifs <;> congr 2 <;> exact Fin.ext (by dsimp only; omega)

theorem at5 (x : FVec Ideal S8192x9728 .f32) (n : Fin 32) (a : Fin 256) (h : Fin 8) (d : Fin 128) :
    val_main_v5 (F := Ideal) x (ix4 n a h d) = x (ix2 ⟨n.val * 256 + a.val, by omega⟩ ⟨5120 + (h.val * 128 + d.val), by omega⟩) := by
  pointwise [val_main_v5, val_main_v4]
  try congr 2 <;> exact Fin.ext (by dsimp only; omega)

theorem at20 (x : FVec Ideal S8192x9728 .f32) (n : Fin 32) (a : Fin 256) (h : Fin 8) (d : Fin 128) :
    val_main_v20 (F := Ideal) x (ix4 n a h d) = x (ix2 ⟨n.val * 256 + a.val, by omega⟩ ⟨6144 + (h.val * 128 + d.val), by omega⟩) := by
  pointwise [val_main_v20, val_main_v19]
  try congr 2 <;> exact Fin.ext (by dsimp only; omega)

/-- The reference's windows of keys and of values, and its table of biases, entry by entry. -/
theorem keys (x : FVec Ideal S8192x9728 .f32) (n : Fin 32) (j : Fin 768) (h : Fin 8) (d : Fin 128) :
    val_main_v18 (F := Ideal) x (ix4 n j h d) = x (ix2 ⟨(n.val - 2) * 256 + j.val, by omega⟩ ⟨5120 + (h.val * 128 + d.val), by omega⟩) := by
  pointwise [val_main_v18, at9, at13, at17, at5]
  split_ifs <;> congr 2 <;> exact Fin.ext (by dsimp only; omega)

theorem values (x : FVec Ideal S8192x9728 .f32) (n : Fin 32) (j : Fin 768) (h : Fin 8) (d : Fin 128) :
    val_main_v33 (F := Ideal) x (ix4 n j h d) = vals x n h d j := by
  unfold vals
  pointwise [val_main_v33, at24, at28, at32, at20]
  split_ifs <;> congr 2 <;> exact Fin.ext (by dsimp only; omega)

theorem biases (b : FVec Ideal S24x256x768 .f32) (n : Fin 32) (h : Fin 8) (r : Fin 256) (j : Fin 768) :
    val_main_v39 (F := Ideal) b (ix4 n h r j) = b (ix3 ⟨(2 - n.val) * 8 + h.val, by omega⟩ r j) := by
  pointwise [val_main_v39, val_main_v38, val_main_v37, val_main_v36, val_main_v35, val_main_v34]
  split_ifs <;> congr 2 <;> exact Fin.ext (by dsimp only; omega)

theorem scores (x : FVec Ideal S8192x9728 .f32) (b : FVec Ideal S24x256x768 .f32) (n : Fin 32) (h : Fin 8) (r : Fin 256) (j : Fin 768) :
    val_main_v41 (F := Ideal) x b (ix4 n h r j) = row x b n h r j := by
  unfold row score scale
  pointwise [val_main_v41, val_main_v40, keys, biases, val_main_v3, val_main_v2, val_main_cst, val_main_v1, val_main_v0]

theorem least_max (x : EReal) : max (Ideal.ofBits FTy.f32 0xFF800000#32) x = x := by
  rw [Cert.Att.least_eq]; exact max_eq_right bot_le

theorem maxima (x : FVec Ideal S8192x9728 .f32) (b : FVec Ideal S24x256x768 .f32) (n : Fin 32) (h : Fin 8) (r : Fin 256) :
    val_main_v42 (F := Ideal) x b (ix3 n h r) = top (row x b n h r) := by
  unfold top
  pointwise [val_main_v42, val_main_cst_0, scores]

theorem above (y : FVec Ideal S32x8x256 .f32) (n : Fin 32) (h : Fin 8) (r : Fin 256) :
    maximumf (val_main_v43 (F := Ideal)) y (ix3 n h r) = max (Ideal.ofBits FTy.f32 0xFF800000#32) (y (ix3 n h r)) := by
  pointwise [val_main_v43, val_main_cst_1]

theorem tops (x : FVec Ideal S8192x9728 .f32) (b : FVec Ideal S24x256x768 .f32) (n : Fin 32) (h : Fin 8) (r : Fin 256) :
    val_main_v44 (F := Ideal) x b (ix3 n h r) = top (row x b n h r) := by
  unfold val_main_v44
  rw [above, maxima]
  exact least_max _

theorem weights (x : FVec Ideal S8192x9728 .f32) (b : FVec Ideal S24x256x768 .f32) (n : Fin 32) (h : Fin 8) (r : Fin 256) (j : Fin 768) :
    val_main_v48 (F := Ideal) x b (ix4 n h r j) = weight (row x b n h r) j := by
  unfold weight
  pointwise [val_main_v48, val_main_v47, val_main_v46, val_main_v45, tops, scores]

theorem shares (x : FVec Ideal S8192x9728 .f32) (b : FVec Ideal S24x256x768 .f32) (n : Fin 32) (h : Fin 8) (r : Fin 256) (j : Fin 768) :
    val_main_v52 (F := Ideal) x b (ix4 n h r j) = Ideal.div (weight (row x b n h r) j) (∑ k, weight (row x b n h r) k) := by
  pointwise [val_main_v52, val_main_v51, val_main_v50, val_main_v49, val_main_cst_2, weights]

theorem means (x : FVec Ideal S8192x9728 .f32) (b : FVec Ideal S24x256x768 .f32) (n : Fin 32) (r : Fin 256) (h : Fin 8) (d : Fin 128) :
    val_main_v54 (F := Ideal) x b (ix4 n r h d) = meanR (row x b n h r) (vals x n h d) := by
  unfold meanR
  pointwise [val_main_v54, val_main_v53, shares, values]
  exact Finset.sum_congr rfl fun k _ => mul_comm _ _

theorem logs (x : FVec Ideal S8192x9728 .f32) (b : FVec Ideal S24x256x768 .f32) (n : Fin 32) (r : Fin 256) (h : Fin 8) :
    val_main_v58 (F := Ideal) x b (ix3 n r h) = lseR (row x b n h r) := by
  unfold lseR
  pointwise [val_main_v58, val_main_v57, val_main_v56, val_main_cst_3, val_main_v55, scores]

theorem ref59 (x : FVec Ideal S8192x9728 .f32) (b : FVec Ideal S24x256x768 .f32) (i : S8192x1024.Idx) (n : Fin 32) (h : Fin 8) (r : Fin 256)
    (d : Fin 128) (h0 : (i 0).val = n.val * 256 + r.val) (h1 : (i 1).val = h.val * 128 + d.val) :
    val_main_v59 (F := Ideal) x b i = meanR (row x b n h r) (vals x n h d) := by
  rw [← means]
  pointwise [val_main_v59]
  refine congrArg (val_main_v54 (F := Ideal) x b) ?_
  congr 1 <;> exact Fin.ext (by dsimp only; omega)

theorem ref62 (x : FVec Ideal S8192x9728 .f32) (b : FVec Ideal S24x256x768 .f32) (i : S8192x1024.Idx) (n : Fin 32) (h : Fin 8) (r : Fin 256)
    (d : Fin 128) (h0 : (i 0).val = n.val * 256 + r.val) (h1 : (i 1).val = h.val * 128 + d.val) :
    val_main_v62 (F := Ideal) x b i = lseR (row x b n h r) := by
  rw [← logs]
  pointwise [val_main_v62, val_main_v61, val_main_v60]
  refine congrArg (val_main_v58 (F := Ideal) x b) ?_
  congr 1 <;> exact Fin.ext (by dsimp only; omega)

end Cert.AttFwdRefIdeal.Own
-- ==== Proof.AttFwdValue.lean ====
module

public import proofs.«01_k».proof.Proof.Gen.AttFwdIdeal.Value
public import proofs.«01_k».proof.Proof.Gen.AttFwdRefIdeal.Run
public import proofs.«01_k».proof.Proof.Gen.AttFwdRefIdeal.Read
public import proofs.«01_k».proof.Defs
public import proofs.«01_k».proof.Proof.Gen.Pre_att_fwd_inputs_finite
public import Idealize.ShloMosaic.Lib.Claim
public import Idealize.ShloMosaic.Lib.Pipeline.ReadBack
public import Idealize.ShloMosaic.Lib.Pipeline.ValueKit
public import proofs.«01_k».proof.Proof.Agree
public import proofs.«01_k».proof.Proof.GatedReal
public import proofs.«01_k».proof.Proof.AttReal
public import proofs.«01_k».proof.Proof.AttRef

@[expose] public section

set_option maxRecDepth 16384
noncomputable section
open Idealize.ShloMosaic Idealize.ShloMosaic.TcCoe Idealize.SL.Sem
open Idealize.ShloMosaic.Pipeline (Dat)
namespace Cert.AttFwdIdeal.Own
open Cert.AttFwdIdeal Cert.AttFwdIdeal.Gen
variable (m : (ℓ : Loc nD τ sig) → Buf (Elt Ideal) ℓ)

open Cert.Att (score scale top weight meanK meanR lseK lseR mean_eq lse_eq score_real)

theorem idx : ∀ t : Fin cfg0.N, t.val < 256 ∧ win0_0.index t = ![t.val % 32, 32 + t.val / 32] ∧ win0_1.index t = ![0, 40 + t.val / 32] ∧
    win0_2.index t = ![0, 48 + t.val / 32] ∧ win0_3.index t = ![(2 - t.val % 32) * 8 + t.val / 32, 0, 0] ∧ win0_4.index t = ![t.val % 32, t.val / 32] ∧
    win0_5.index t = ![t.val % 32, t.val / 32] :=
  (by decide +kernel : ∀ t : Fin grid0.N, _)

/-- The first key that a block of queries sees. -/
theorem off : ∀ t : Fin cfg0.N, k0_off1 (grid0.coords t) = ![(t.val % 32 - 2) * 256, 0] :=
  (by decide +kernel : ∀ t : Fin grid0.N, _)

theorem pay1 (q : FVec Ideal S256x128 .f32) (k : FVec Ideal S768x128 .f32) (b : FVec Ideal S1x256x768 .f32) (r : Fin 256) (j : Fin 768) :
    k0_pay1 (F := Ideal) q k b (ix2 r j) = score (fun d => q (ix2 r d)) (fun d => k (ix2 j d)) (b (ix3 0 r j)) := by
  pointwise [k0_pay1, score, scale]

theorem pay5 (q : FVec Ideal S256x128 .f32) (k v : FVec Ideal S768x128 .f32) (b : FVec Ideal S1x256x768 .f32) (r : Fin 256) (l : Fin 128) :
    k0_pay5 (F := Ideal) q k b v (ix2 r l)
      = meanK (fun j => score (fun d => q (ix2 r d)) (fun d => k (ix2 j d)) (b (ix3 0 r j))) (fun j => v (ix2 j l)) := by
  pointwise [k0_pay5, k0_pay4, k0_pay3, k0_pay2, pay1, meanK, weight, top]

theorem pay6 (q : FVec Ideal S256x128 .f32) (k : FVec Ideal S768x128 .f32) (b : FVec Ideal S1x256x768 .f32) (r : Fin 256) (l : Fin 128) :
    k0_pay6 (F := Ideal) q k b (ix2 r l) = lseK (fun j => score (fun d => q (ix2 r d)) (fun d => k (ix2 j d)) (b (ix3 0 r j))) := by
  pointwise [k0_pay6, k0_pay4, k0_pay3, k0_pay2, pay1, lseK, weight, top]

theorem score_congr {q q' k k' : Fin 128 → EReal} {b b' : EReal} (hq : ∀ d, q d = q' d) (hk : ∀ d, k d = k' d) (hb : b = b') :
    score q k b = score q' k' b' := by
  obtain rfl : q = q' := funext hq
  obtain rfl : k = k' := funext hk
  rw [hb]

/-- The block of queries and the head of a grid point. -/
def qb (t : Fin cfg0.N) : Fin 32 := ⟨t.val % 32, by omega⟩
def hd (t : Fin cfg0.N) : Fin 8 := ⟨t.val / 32, by have := (idx t).1; omega⟩

open Cert.AttFwdRefIdeal.Read in
theorem final4 (c : Dev nD) (f0 : ∀ i, ∃ r : ℝ, m ((c : Thread nD τ).loc main_arg0) i = (r : EReal))
    (f1 : ∀ i, ∃ r : ℝ, m ((c : Thread nD τ).loc main_arg1) i = (r : EReal)) : (dats m 0 c).arrAt 4 (cfgs 0).N
    = val_main_v59 (F := Ideal) (m ((c : Thread nD τ).loc main_arg0)) (m ((c : Thread nD τ).loc main_arg1)) := by
  refine (dats m 0 c).arrAt_eq_of_covers 4 _ (by decide +kernel) fun t _ (y : S256x128.Idx) => ?_
  blk_simp
  rw [after0_4]
  unfold outsAt0
  dsimp only
  frame_out
  obtain ⟨r, l, rfl⟩ : ∃ r l, y = ix2 r l := ⟨y 0, y 1, eq_ix2 y⟩
  refine Eq.trans ?_ (Cert.AttFwdRefIdeal.Own.ref59 _ _ _ (qb t) (hd t) r l (by unfold qb; blk_simp [idx t]) (by unfold hd; blk_simp [idx t])).symm
  refine Eq.trans ?_ (mean_eq _ _ (fun j => score_real _ _ _ (fun d => f0 _) (fun d => f0 _) (f1 _)) (fun j => f0 _))
  refine (pay5 _ _ _ _ _ _).trans ?_
  refine congrArg₂ meanK (funext fun j => score_congr (fun d => ?_) (fun d => ?_) ?_) (funext fun j => ?_)
  · unfold qb hd
    blk_ext [iblk, V, idx t]
  · pointwise
    unfold qb hd
    blk_ext [iblk, V, idx t, off t]
  · unfold qb hd
    blk_ext [iblk, V, idx t]
  · unfold Cert.AttFwdRefIdeal.Own.vals
    pointwise
    unfold qb hd
    blk_ext [iblk, V, idx t, off t]

open Cert.AttFwdRefIdeal.Read in
theorem final5 (c : Dev nD) (f0 : ∀ i, ∃ r : ℝ, m ((c : Thread nD τ).loc main_arg0) i = (r : EReal))
    (f1 : ∀ i, ∃ r : ℝ, m ((c : Thread nD τ).loc main_arg1) i = (r : EReal)) : (dats m 0 c).arrAt 5 (cfgs 0).N
    = val_main_v62 (F := Ideal) (m ((c : Thread nD τ).loc main_arg0)) (m ((c : Thread nD τ).loc main_arg1)) := by
  refine (dats m 0 c).arrAt_eq_of_covers 5 _ (by decide +kernel) fun t _ (y : S256x128.Idx) => ?_
  blk_simp
  rw [after0_5]
  unfold outsAt0
  dsimp only
  frame_out
  obtain ⟨r, l, rfl⟩ : ∃ r l, y = ix2 r l := ⟨y 0, y 1, eq_ix2 y⟩
  refine Eq.trans ?_ (Cert.AttFwdRefIdeal.Own.ref62 _ _ _ (qb t) (hd t) r l (by unfold qb; blk_simp [idx t]) (by unfold hd; blk_simp [idx t])).symm
  refine Eq.trans ?_ (lse_eq _ (fun j => score_real _ _ _ (fun d => f0 _) (fun d => f0 _) (f1 _)))
  refine (pay6 _ _ _ _ _).trans ?_
  refine congrArg lseK (funext fun j => score_congr (fun d => ?_) (fun d => ?_) ?_)
  · unfold qb hd
    blk_ext [iblk, V, idx t]
  · pointwise
    unfold qb hd
    blk_ext [iblk, V, idx t, off t]
  · unfold qb hd
    blk_ext [iblk, V, idx t]

/-- The idealized kernel runs and leaves every semaphore at zero. -/
theorem frame_ideal : @Cert.quiescent_AttFwdIdeal Cert.AttFwdIdeal.Gen.facts := fun m g _ => Cert.AttFwdIdeal.Gen.frame m g

/-- The same under the claim's precondition. -/
theorem frame_ideal_pre : @Cert.quiescent_AttFwdIdeal_pre_att_fwd_inputs_finite Cert.AttFwdIdeal.Gen.facts Cert.Pre_att_fwd_inputs_finite.Gen.facts :=
  fun m g _ => Cert.AttFwdIdeal.Gen.frame m g

/-- The idealized reference runs and leaves every semaphore at zero. -/
theorem frame_ref : @Cert.quiescent_AttFwdRefIdeal Cert.AttFwdRefIdeal.Gen.facts := by
  intro m g _
  hlo_run
  · exact fun _ => ⟨trivial, trivial⟩
  · exact sem_eq_zero_of_no_sems (sig := Cert.AttFwdRefIdeal.sig) (by decide) _

/-- The same under the claim's precondition. -/
theorem frame_ref_pre : @Cert.quiescent_AttFwdRefIdeal_pre_att_fwd_inputs_finite Cert.AttFwdRefIdeal.Gen.facts Cert.Pre_att_fwd_inputs_finite.Gen.facts :=
  fun m g _ => frame_ref m g trivial

set_option maxHeartbeats 1000000 in
/-- The kernel's results are the reference's, of finite arguments. -/
theorem value : @Cert.algebraic_AttFwdIdeal_AttFwdRefIdeal_pre_att_fwd_inputs_finite Cert.AttFwdIdeal.Gen.facts Cert.AttFwdRefIdeal.Gen.facts
    Cert.Pre_att_fwd_inputs_finite.Gen.facts := by
  pair_intro
  · run_from Cert.AttFwdIdeal.Gen.run_main m g
  · refine θ_run_mono (Cert.AttFwdRefIdeal.Value.run (F := Ideal) m' g') fun r h c => ?_
    obtain ⟨p0, p1⟩ := hpre c
    obtain ⟨a0, a1⟩ := hagree c
    have f0 := Cert.Gated.finite_at _ _ _ p0
    have f1 := Cert.Gated.finite_at _ _ _ p1
    exact ⟨(h c).1.trans ((Cert.AttFwdRefIdeal.Read.val_main_v59_eq _ _).trans
      ((Cert.Agree.on2 Cert.AttFwdRefIdeal.Read.val_main_v59 a0 a1).trans (final4 m c f0 f1).symm)),
      (h c).2.1.trans ((Cert.AttFwdRefIdeal.Read.val_main_v62_eq _ _).trans
      ((Cert.Agree.on2 Cert.AttFwdRefIdeal.Read.val_main_v62 a0 a1).trans (final5 m c f0 f1).symm)),
      (h c).2.2⟩

end Cert.AttFwdIdeal.Own
-- ==== Proof.lean ====
module

public import proofs.«01_k».proof.Proof.Gen.NormBwd.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.NormFwd.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.WadaAdamw.Frame
public import proofs.«01_k».proof.Proof.Gen.WadaAdamwIdeal.Value
public import proofs.«01_k».proof.Proof.Gen.WadaAdamwRefIdeal.Run
public import proofs.«01_k».proof.Proof.Gen.WadaAdamwRefIdeal.Read
public import proofs.«01_k».proof.Proof.Gen.AdamwIn.Frame
public import proofs.«01_k».proof.Proof.Gen.AdamwInIdeal.Value
public import proofs.«01_k».proof.Proof.Gen.AdamwInRefIdeal.Run
public import proofs.«01_k».proof.Proof.Gen.AdamwInRefIdeal.Read
public import proofs.«01_k».proof.Proof.Gen.AdamwSmall.Frame
public import proofs.«01_k».proof.Proof.Gen.AdamwSmallIdeal.Value
public import proofs.«01_k».proof.Proof.Gen.AdamwSmallRefIdeal.Run
public import proofs.«01_k».proof.Proof.Gen.AdamwSmallRefIdeal.Read
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.AdaMod.Frame
public import proofs.«01_k».proof.Proof.Gen.AdaModIdeal.Value
public import proofs.«01_k».proof.Proof.Gen.AdaModRefIdeal.Run
public import proofs.«01_k».proof.Proof.Gen.AdaModRefIdeal.Read
public import proofs.«01_k».proof.Proof.Gen.AttFwd.Frame
public import proofs.«01_k».proof.Proof.Gen.AttFwdIdeal.Value
public import proofs.«01_k».proof.Proof.Gen.AttFwdRefIdeal.Run
public import proofs.«01_k».proof.Proof.Gen.AttFwdRefIdeal.Read
public import proofs.«01_k».proof.Proof.Gen.AdamwOut.Frame
public import proofs.«01_k».proof.Proof.Gen.AdamwOutIdeal.Value
public import proofs.«01_k».proof.Proof.Gen.AdamwOutRefIdeal.Run
public import proofs.«01_k».proof.Proof.Gen.AdamwOutRefIdeal.Read
public import proofs.«01_k».proof.Proof.Gen.AdamwFfIn.Frame
public import proofs.«01_k».proof.Proof.Gen.AdamwFfInIdeal.Value
public import proofs.«01_k».proof.Proof.Gen.AdamwFfInRefIdeal.Run
public import proofs.«01_k».proof.Proof.Gen.AdamwFfInRefIdeal.Read
public import proofs.«01_k».proof.Proof.Gen.AdamwFfOut.Frame
public import proofs.«01_k».proof.Proof.Gen.AdamwFfOutIdeal.Value
public import proofs.«01_k».proof.Proof.Gen.AdamwFfOutRefIdeal.Run
public import proofs.«01_k».proof.Proof.Gen.AdamwFfOutRefIdeal.Read
public import proofs.«01_k».proof.Proof.Gen.Pre_norm_bwd_inputs_finite
public import proofs.«01_k».proof.Proof.Gen.Pre_loss_head_inputs_finite
public import proofs.«01_k».proof.Proof.Gen.Pre_att_fwd_inputs_finite
public import proofs.«01_k».proof.Proof.Gen.Pre_out_proj_dw_inputs_finite
public import proofs.«01_k».proof.Proof.Gen.Pre_ff_out_dw_inputs_finite
public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_merge_inputs_finite
public import proofs.«01_k».proof.Proof.Gen.FfOutDx.Frame
public import proofs.«01_k».proof.Proof.Gen.FfOutDxIdeal.Value
public import proofs.«01_k».proof.Proof.Gen.FfOutDxRefIdeal.Run
public import proofs.«01_k».proof.Proof.Gen.FfOutDxRefIdeal.Read
public import proofs.«01_k».proof.Proof.Gen.FfOutDw.Frame
public import proofs.«01_k».proof.Proof.Gen.FfOutDwIdeal.Value
public import proofs.«01_k».proof.Proof.Gen.FfOutDwRefIdeal.Run
public import proofs.«01_k».proof.Proof.Gen.FfOutDwRefIdeal.Read
public import proofs.«01_k».proof.Proof.Gen.OutProjDw.Frame
public import proofs.«01_k».proof.Proof.Gen.OutProjDwIdeal.Value
public import proofs.«01_k».proof.Proof.Gen.OutProjDwRefIdeal.Run
public import proofs.«01_k».proof.Proof.Gen.OutProjDwRefIdeal.Read
public import proofs.«01_k».proof.Proof.Gen.OutProjDx.Frame
public import proofs.«01_k».proof.Proof.Gen.OutProjDxIdeal.Value
public import proofs.«01_k».proof.Proof.Gen.OutProjDxRefIdeal.Run
public import proofs.«01_k».proof.Proof.Gen.OutProjDxRefIdeal.Read
public import proofs.«01_k».proof.Proof.Gen.FfInDw.Frame
public import proofs.«01_k».proof.Proof.Gen.FfInDwIdeal.Value
public import proofs.«01_k».proof.Proof.Gen.FfInDwRefIdeal.Run
public import proofs.«01_k».proof.Proof.Gen.FfInDwRefIdeal.Read
public import proofs.«01_k».proof.Proof.Gen.FfInDx.Frame
public import proofs.«01_k».proof.Proof.Gen.FfInDxIdeal.Value
public import proofs.«01_k».proof.Proof.Gen.FfInDxRefIdeal.Run
public import proofs.«01_k».proof.Proof.Gen.FfInDxRefIdeal.Read
public import proofs.«01_k».proof.Proof.Gen.InProjDwIdeal.Skeleton
public import proofs.«01_k».proof.Proof.Gen.InProjDw
public import proofs.«01_k».proof.Proof.Gen.InProjDwIdeal.Frame
public import proofs.«01_k».proof.Proof.Gen.InProjDwRefIdeal.Run
public import proofs.«01_k».proof.Proof.Gen.InProjDwRefIdeal.Read
public import proofs.«01_k».proof.Proof.Gen.InProjDx.Frame
public import proofs.«01_k».proof.Proof.Gen.InProjDxIdeal.Value
public import proofs.«01_k».proof.Proof.Gen.InProjDxRefIdeal.Run
public import proofs.«01_k».proof.Proof.Gen.InProjDxRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.FfIn.Frame
public import proofs.«01_k».proof.Proof.Gen.FfInIdeal.Value
public import proofs.«01_k».proof.Proof.Gen.FfInRefIdeal.Run
public import proofs.«01_k».proof.Proof.Gen.FfInRefIdeal.Read
public import proofs.«01_k».proof.Proof.Gen.FfOut.Frame
public import proofs.«01_k».proof.Proof.Gen.FfOutIdeal.Value
public import proofs.«01_k».proof.Proof.Gen.FfOutRefIdeal.Run
public import proofs.«01_k».proof.Proof.Gen.FfOutRefIdeal.Read
public import proofs.«01_k».proof.Proof.Gen.OutProj.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.MergeClaim
public import proofs.«01_k».proof.Proof.FfOutDxValue
public import proofs.«01_k».proof.Proof.FfInDxValue
public import proofs.«01_k».proof.Proof.FfInDwValue
public import proofs.«01_k».proof.Proof.FfOutDwValue
public import proofs.«01_k».proof.Proof.InProjDxValue
public import proofs.«01_k».proof.Proof.InProjDwSame
public import proofs.«01_k».proof.Proof.InProjDwValue
public import proofs.«01_k».proof.Proof.OutProjDwValue
public import proofs.«01_k».proof.Proof.OutProjDxValue
public import proofs.«01_k».proof.Proof.InProjValue
public import proofs.«01_k».proof.Proof.FfInValue
public import proofs.«01_k».proof.Proof.FfOutValue
public import proofs.«01_k».proof.Proof.OutProjValue
public import proofs.«01_k».proof.Proof.NormBwdValue
public import proofs.«01_k».proof.Proof.NormFwdValue
public import proofs.«01_k».proof.Proof.MergeFwdValue
public import proofs.«01_k».proof.Proof.LossHeadValue
public import proofs.«01_k».proof.Proof.WadaAdamwValue
public import proofs.«01_k».proof.Proof.AdamwInValue
public import proofs.«01_k».proof.Proof.AdamwOutValue
public import proofs.«01_k».proof.Proof.AdamwFfInValue
public import proofs.«01_k».proof.Proof.AdamwFfOutValue
public import proofs.«01_k».proof.Proof.AdamwSmallValue
public import proofs.«01_k».proof.Proof.SumSmallValue
public import proofs.«01_k».proof.Proof.AdaModValue
public import proofs.«01_k».proof.Proof.AttFwdValue
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.FfOutDx.Gen.facts, Cert.FfOutDxIdeal.Gen.facts, Cert.FfOutDxRefIdeal.Gen.facts, Cert.FfInDx.Gen.facts, Cert.FfInDxIdeal.Gen.facts, Cert.FfInDxRefIdeal.Gen.facts, Cert.FfInDw.Gen.facts, Cert.FfInDwIdeal.Gen.facts, Cert.FfInDwRefIdeal.Gen.facts, Cert.FfOutDw.Gen.facts, Cert.FfOutDwIdeal.Gen.facts, Cert.FfOutDwRefIdeal.Gen.facts, Cert.InProjDx.Gen.facts, Cert.InProjDxIdeal.Gen.facts, Cert.InProjDxRefIdeal.Gen.facts, Cert.InProjDw.Gen.facts, Cert.InProjDwIdeal.Gen.facts, Cert.InProjDwRefIdeal.Gen.facts, Cert.OutProjDw.Gen.facts, Cert.OutProjDwIdeal.Gen.facts, Cert.OutProjDwRefIdeal.Gen.facts, Cert.OutProjDx.Gen.facts, Cert.OutProjDxIdeal.Gen.facts, Cert.OutProjDxRefIdeal.Gen.facts, Cert.InProj.Gen.facts, Cert.InProjIdeal.Gen.facts, Cert.InProjRefIdeal.Gen.facts, Cert.FfIn.Gen.facts, Cert.FfInIdeal.Gen.facts, Cert.FfInRefIdeal.Gen.facts, Cert.FfOut.Gen.facts, Cert.FfOutIdeal.Gen.facts, Cert.FfOutRefIdeal.Gen.facts, Cert.OutProj.Gen.facts, Cert.OutProjIdeal.Gen.facts, Cert.OutProjRefIdeal.Gen.facts, Cert.NormBwd.Gen.facts, Cert.NormBwdIdeal.Gen.facts, Cert.NormBwdRefIdeal.Gen.facts, Cert.NormFwd.Gen.facts, Cert.NormFwdIdeal.Gen.facts, Cert.NormFwdRefIdeal.Gen.facts, Cert.MergeFwd.Gen.facts, Cert.MergeFwdIdeal.Gen.facts, Cert.MergeFwdRefIdeal.Gen.facts, Cert.LossHead.Gen.facts, Cert.LossHeadIdeal.Gen.facts, Cert.LossHeadRefIdeal.Gen.facts, Cert.WadaAdamw.Gen.facts, Cert.WadaAdamwIdeal.Gen.facts, Cert.WadaAdamwRefIdeal.Gen.facts, Cert.AdamwIn.Gen.facts, Cert.AdamwInIdeal.Gen.facts, Cert.AdamwInRefIdeal.Gen.facts, Cert.AdamwOut.Gen.facts, Cert.AdamwOutIdeal.Gen.facts, Cert.AdamwOutRefIdeal.Gen.facts, Cert.AdamwFfIn.Gen.facts, Cert.AdamwFfInIdeal.Gen.facts, Cert.AdamwFfInRefIdeal.Gen.facts, Cert.AdamwFfOut.Gen.facts, Cert.AdamwFfOutIdeal.Gen.facts, Cert.AdamwFfOutRefIdeal.Gen.facts, Cert.AdamwSmall.Gen.facts, Cert.AdamwSmallIdeal.Gen.facts, Cert.AdamwSmallRefIdeal.Gen.facts, Cert.SumSmall.Gen.facts, Cert.SumSmallIdeal.Gen.facts, Cert.SumSmallRefIdeal.Gen.facts, Cert.AdaMod.Gen.facts, Cert.AdaModIdeal.Gen.facts, Cert.AdaModRefIdeal.Gen.facts, Cert.AttFwd.Gen.facts, Cert.AttFwdIdeal.Gen.facts, Cert.AttFwdRefIdeal.Gen.facts, Cert.Pre_merge_inputs_finite.Gen.facts, Cert.Pre_ff_out_dw_inputs_finite.Gen.facts, Cert.Pre_out_proj_dw_inputs_finite.Gen.facts, Cert.Pre_norm_bwd_inputs_finite.Gen.facts, Cert.Pre_loss_head_inputs_finite.Gen.facts, Cert.Pre_att_fwd_inputs_finite.Gen.facts,
  fun m g _ => Cert.Kernel.Gen.frame m g,
  Cert.MergeClaim.frame_ideal,
  Cert.MergeClaim.frame_ideal_pre,
  Cert.MergeClaim.frame_ref,
  Cert.MergeClaim.frame_ref_pre,
  fun m g _ => Cert.FfOutDx.Gen.frame m g,
  Cert.FfOutDxIdeal.Own.frame_ideal,
  Cert.FfOutDxIdeal.Own.frame_ref,
  fun m g _ => Cert.FfInDx.Gen.frame m g,
  Cert.FfInDxIdeal.Own.frame_ideal,
  Cert.FfInDxIdeal.Own.frame_ref,
  fun m g _ => Cert.FfInDw.Gen.frame m g,
  Cert.FfInDwIdeal.Own.frame_ideal,
  Cert.FfInDwIdeal.Own.frame_ref,
  fun m g _ => Cert.FfOutDw.Gen.frame m g,
  Cert.FfOutDwIdeal.Own.frame_ideal,
  Cert.FfOutDwIdeal.Own.frame_ideal_pre,
  Cert.FfOutDwIdeal.Own.frame_ref,
  Cert.FfOutDwIdeal.Own.frame_ref_pre,
  fun m g _ => Cert.InProjDx.Gen.frame m g,
  Cert.InProjDxIdeal.Own.frame_ideal,
  Cert.InProjDxIdeal.Own.frame_ref,
  Cert.InProjDw.Own.frame,
  Cert.InProjDwIdeal.Own.frame_ideal,
  Cert.InProjDwIdeal.Own.frame_ref,
  fun m g _ => Cert.OutProjDw.Gen.frame m g,
  Cert.OutProjDwIdeal.Own.frame_ideal,
  Cert.OutProjDwIdeal.Own.frame_ideal_pre,
  Cert.OutProjDwIdeal.Own.frame_ref,
  Cert.OutProjDwIdeal.Own.frame_ref_pre,
  fun m g _ => Cert.OutProjDx.Gen.frame m g,
  Cert.OutProjDxIdeal.Own.frame_ideal,
  Cert.OutProjDxIdeal.Own.frame_ref,
  fun m g _ => Cert.InProj.Gen.frame m g,
  Cert.InProjIdeal.Own.frame_ideal,
  Cert.InProjIdeal.Own.frame_ref,
  fun m g _ => Cert.FfIn.Gen.frame m g,
  Cert.FfInIdeal.Own.frame_ideal,
  Cert.FfInIdeal.Own.frame_ref,
  fun m g _ => Cert.FfOut.Gen.frame m g,
  Cert.FfOutIdeal.Own.frame_ideal,
  Cert.FfOutIdeal.Own.frame_ref,
  fun m g _ => Cert.OutProj.Gen.frame m g,
  Cert.OutProjIdeal.Own.frame_ideal,
  Cert.OutProjIdeal.Own.frame_ref,
  fun m g _ => Cert.NormBwd.Gen.frame m g,
  Cert.NormBwdIdeal.Own.frame_ideal,
  Cert.NormBwdIdeal.Own.frame_ideal_pre,
  Cert.NormBwdIdeal.Own.frame_ref,
  Cert.NormBwdIdeal.Own.frame_ref_pre,
  fun m g _ => Cert.NormFwd.Gen.frame m g,
  Cert.NormFwdIdeal.Own.frame_ideal,
  Cert.NormFwdIdeal.Own.frame_ref,
  fun m g _ => Cert.MergeFwd.Gen.frame m g,
  Cert.MergeFwdIdeal.Own.frame_ideal,
  Cert.MergeFwdIdeal.Own.frame_ref,
  fun m g _ => Cert.LossHead.Gen.frame m g,
  Cert.LossHeadIdeal.Own.frame_ideal,
  Cert.LossHeadIdeal.Own.frame_ideal_pre,
  Cert.LossHeadIdeal.Own.frame_ref,
  Cert.LossHeadIdeal.Own.frame_ref_pre,
  fun m g _ => Cert.WadaAdamw.Gen.frame m g,
  Cert.WadaAdamwIdeal.Own.frame_ideal,
  Cert.WadaAdamwIdeal.Own.frame_ref,
  fun m g _ => Cert.AdamwIn.Gen.frame m g,
  Cert.AdamwInIdeal.Own.frame_ideal,
  Cert.AdamwInIdeal.Own.frame_ref,
  fun m g _ => Cert.AdamwOut.Gen.frame m g,
  Cert.AdamwOutIdeal.Own.frame_ideal,
  Cert.AdamwOutIdeal.Own.frame_ref,
  fun m g _ => Cert.AdamwFfIn.Gen.frame m g,
  Cert.AdamwFfInIdeal.Own.frame_ideal,
  Cert.AdamwFfInIdeal.Own.frame_ref,
  fun m g _ => Cert.AdamwFfOut.Gen.frame m g,
  Cert.AdamwFfOutIdeal.Own.frame_ideal,
  Cert.AdamwFfOutIdeal.Own.frame_ref,
  fun m g _ => Cert.AdamwSmall.Gen.frame m g,
  Cert.AdamwSmallIdeal.Own.frame_ideal,
  Cert.AdamwSmallIdeal.Own.frame_ref,
  fun m g _ => Cert.SumSmall.Gen.frame m g,
  Cert.SumSmallIdeal.Own.frame_ideal,
  Cert.SumSmallIdeal.Own.frame_ref,
  fun m g _ => Cert.AdaMod.Gen.frame m g,
  Cert.AdaModIdeal.Own.frame_ideal,
  Cert.AdaModIdeal.Own.frame_ref,
  fun m g _ => Cert.AttFwd.Gen.frame m g,
  Cert.AttFwdIdeal.Own.frame_ideal,
  Cert.AttFwdIdeal.Own.frame_ideal_pre,
  Cert.AttFwdIdeal.Own.frame_ref,
  Cert.AttFwdIdeal.Own.frame_ref_pre,
  trivial,
  Cert.MergeClaim.value,
  trivial,
  Cert.FfOutDxIdeal.Own.value,
  trivial,
  Cert.FfInDxIdeal.Own.value,
  trivial,
  Cert.FfInDwIdeal.Own.value,
  trivial,
  Cert.FfOutDwIdeal.Own.value,
  trivial,
  Cert.InProjDxIdeal.Own.value,
  trivial,
  Cert.InProjDwIdeal.Own.value,
  trivial,
  Cert.OutProjDwIdeal.Own.value,
  trivial,
  Cert.OutProjDxIdeal.Own.value,
  trivial,
  Cert.InProjIdeal.Own.value,
  trivial,
  Cert.FfInIdeal.Own.value,
  trivial,
  Cert.FfOutIdeal.Own.value,
  trivial,
  Cert.OutProjIdeal.Own.value,
  trivial,
  Cert.NormBwdIdeal.Own.value,
  trivial,
  Cert.NormFwdIdeal.Own.value,
  trivial,
  Cert.MergeFwdIdeal.Own.value,
  trivial,
  Cert.LossHeadIdeal.Own.value,
  trivial,
  Cert.WadaAdamwIdeal.Own.value,
  trivial,
  Cert.AdamwInIdeal.Own.value,
  trivial,
  Cert.AdamwOutIdeal.Own.value,
  trivial,
  Cert.AdamwFfInIdeal.Own.value,
  trivial,
  Cert.AdamwFfOutIdeal.Own.value,
  trivial,
  Cert.AdamwSmallIdeal.Own.value,
  trivial,
  Cert.SumSmallIdeal.Own.value,
  trivial,
  Cert.AdaModIdeal.Own.value,
  trivial,
  Cert.AttFwdIdeal.Own.value⟩

end Cert.Proof

end
